-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12)) (m ((c.tc : Thread Cert.Kernel6Ideal.nD Cert.Kernel6Ideal.τ).loc Cert.Kernel6Ideal.main_arg13))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12)) (m ((c.tc : Thread Cert.Reference6Ideal.nD Cert.Reference6Ideal.τ).loc Cert.Reference6Ideal.main_arg13))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "mask" .f32 0xF149F2CA#32 ⊥

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)) (v2 : (c : Dev Cert.Kernel2Ideal.nD) → Buf (Elt Ideal) ((c.tc : Thread Cert.Kernel2Ideal.nD Cert.Kernel2Ideal.τ).loc Cert.Kernel2Ideal.main_v4_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_v4_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v192) = v0 c
          ∧ r.2.mem ((c.tc : Thread Cert.Reference2Ideal.nD Cert.Reference2Ideal.τ).loc Cert.Reference2Ideal.main_v193) = v1 c
          ∧ r.2.mem ((c.tc : Thread Cert.Reference2Ideal.nD Cert.Reference2Ideal.τ).loc Cert.Reference2Ideal.main_v196) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)) (v2 : (c : Dev Cert.Kernel3Ideal.nD) → Buf (Elt Ideal) ((c.tc : Thread Cert.Kernel3Ideal.nD Cert.Kernel3Ideal.τ).loc Cert.Kernel3Ideal.main_v8_2)) (v3 : (c : Dev Cert.Kernel3Ideal.nD) → Buf (Elt Ideal) ((c.tc : Thread Cert.Kernel3Ideal.nD Cert.Kernel3Ideal.τ).loc Cert.Kernel3Ideal.main_v8_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_v8_2) = v2 c
          ∧ r.2.mem ((c.tc : Thread Cert.Kernel3Ideal.nD Cert.Kernel3Ideal.τ).loc Cert.Kernel3Ideal.main_v8_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_v34) = v1 c
          ∧ r.2.mem ((c.tc : Thread Cert.Reference3Ideal.nD Cert.Reference3Ideal.τ).loc Cert.Reference3Ideal.main_v35) = v2 c
          ∧ r.2.mem ((c.tc : Thread Cert.Reference3Ideal.nD Cert.Reference3Ideal.τ).loc Cert.Reference3Ideal.main_v36) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  IdealRules.named_const.Statement Cert.Kernel4Ideal.κ "mask" .f32 0xF149F2CA#32 ⊥

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v100) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v12_0)) (v1 : (c : Dev Cert.Kernel5Ideal.nD) → Buf (Elt Ideal) ((c.tc : Thread Cert.Kernel5Ideal.nD Cert.Kernel5Ideal.τ).loc Cert.Kernel5Ideal.main_v12_1)) (v2 : (c : Dev Cert.Kernel5Ideal.nD) → Buf (Elt Ideal) ((c.tc : Thread Cert.Kernel5Ideal.nD Cert.Kernel5Ideal.τ).loc Cert.Kernel5Ideal.main_v12_2)) (v3 : (c : Dev Cert.Kernel5Ideal.nD) → Buf (Elt Ideal) ((c.tc : Thread Cert.Kernel5Ideal.nD Cert.Kernel5Ideal.τ).loc Cert.Kernel5Ideal.main_v12_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12_0) = v0 c
          ∧ r.2.mem ((c.tc : Thread Cert.Kernel5Ideal.nD Cert.Kernel5Ideal.τ).loc Cert.Kernel5Ideal.main_v12_1) = v1 c
          ∧ r.2.mem ((c.tc : Thread Cert.Kernel5Ideal.nD Cert.Kernel5Ideal.τ).loc Cert.Kernel5Ideal.main_v12_2) = v2 c
          ∧ r.2.mem ((c.tc : Thread Cert.Kernel5Ideal.nD Cert.Kernel5Ideal.τ).loc Cert.Kernel5Ideal.main_v12_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v105) = v0 c
          ∧ r.2.mem ((c.tc : Thread Cert.Reference5Ideal.nD Cert.Reference5Ideal.τ).loc Cert.Reference5Ideal.main_v100) = v1 c
          ∧ r.2.mem ((c.tc : Thread Cert.Reference5Ideal.nD Cert.Reference5Ideal.τ).loc Cert.Reference5Ideal.main_v111) = v2 c
          ∧ r.2.mem ((c.tc : Thread Cert.Reference5Ideal.nD Cert.Reference5Ideal.τ).loc Cert.Reference5Ideal.main_v112) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)) →
    ∃ (v0 : (c : Dev Cert.Kernel6Ideal.nD) → Buf (Elt Ideal) ((c.tc : Thread Cert.Kernel6Ideal.nD Cert.Kernel6Ideal.τ).loc Cert.Kernel6Ideal.main_v21_0)) (v1 : (c : Dev Cert.Kernel6Ideal.nD) → Buf (Elt Ideal) ((c.tc : Thread Cert.Kernel6Ideal.nD Cert.Kernel6Ideal.τ).loc Cert.Kernel6Ideal.main_v21_1)) (v2 : (c : Dev Cert.Kernel6Ideal.nD) → Buf (Elt Ideal) ((c.tc : Thread Cert.Kernel6Ideal.nD Cert.Kernel6Ideal.τ).loc Cert.Kernel6Ideal.main_v21_2)) (v3 : (c : Dev Cert.Kernel6Ideal.nD) → Buf (Elt Ideal) ((c.tc : Thread Cert.Kernel6Ideal.nD Cert.Kernel6Ideal.τ).loc Cert.Kernel6Ideal.main_v21_3)) (v4 : (c : Dev Cert.Kernel6Ideal.nD) → Buf (Elt Ideal) ((c.tc : Thread Cert.Kernel6Ideal.nD Cert.Kernel6Ideal.τ).loc Cert.Kernel6Ideal.main_v21_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v21_0) = v0 c
          ∧ r.2.mem ((c.tc : Thread Cert.Kernel6Ideal.nD Cert.Kernel6Ideal.τ).loc Cert.Kernel6Ideal.main_v21_1) = v1 c
          ∧ r.2.mem ((c.tc : Thread Cert.Kernel6Ideal.nD Cert.Kernel6Ideal.τ).loc Cert.Kernel6Ideal.main_v21_2) = v2 c
          ∧ r.2.mem ((c.tc : Thread Cert.Kernel6Ideal.nD Cert.Kernel6Ideal.τ).loc Cert.Kernel6Ideal.main_v21_3) = v3 c
          ∧ r.2.mem ((c.tc : Thread Cert.Kernel6Ideal.nD Cert.Kernel6Ideal.τ).loc Cert.Kernel6Ideal.main_v21_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v113) = v0 c
          ∧ r.2.mem ((c.tc : Thread Cert.Reference6Ideal.nD Cert.Reference6Ideal.τ).loc Cert.Reference6Ideal.main_v109) = v1 c
          ∧ r.2.mem ((c.tc : Thread Cert.Reference6Ideal.nD Cert.Reference6Ideal.τ).loc Cert.Reference6Ideal.main_v111) = v2 c
          ∧ r.2.mem ((c.tc : Thread Cert.Reference6Ideal.nD Cert.Reference6Ideal.τ).loc Cert.Reference6Ideal.main_v114) = v3 c
          ∧ r.2.mem ((c.tc : Thread Cert.Reference6Ideal.nD Cert.Reference6Ideal.τ).loc Cert.Reference6Ideal.main_v122) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)) →
    ∃ (v0 : (c : Dev Cert.Kernel7Ideal.nD) → Buf (Elt Ideal) ((c.tc : Thread Cert.Kernel7Ideal.nD Cert.Kernel7Ideal.τ).loc Cert.Kernel7Ideal.main_v15_0)) (v1 : (c : Dev Cert.Kernel7Ideal.nD) → Buf (Elt Ideal) ((c.tc : Thread Cert.Kernel7Ideal.nD Cert.Kernel7Ideal.τ).loc Cert.Kernel7Ideal.main_v15_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v15_0) = v0 c
          ∧ r.2.mem ((c.tc : Thread Cert.Kernel7Ideal.nD Cert.Kernel7Ideal.τ).loc Cert.Kernel7Ideal.main_v15_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v92) = v0 c
          ∧ r.2.mem ((c.tc : Thread Cert.Reference7Ideal.nD Cert.Reference7Ideal.τ).loc Cert.Reference7Ideal.main_v99) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)) →
    ∃ (v0 : (c : Dev Cert.Kernel8Ideal.nD) → Buf (Elt Ideal) ((c.tc : Thread Cert.Kernel8Ideal.nD Cert.Kernel8Ideal.τ).loc Cert.Kernel8Ideal.main_v12_0)) (v1 : (c : Dev Cert.Kernel8Ideal.nD) → Buf (Elt Ideal) ((c.tc : Thread Cert.Kernel8Ideal.nD Cert.Kernel8Ideal.τ).loc Cert.Kernel8Ideal.main_v12_1)) (v2 : (c : Dev Cert.Kernel8Ideal.nD) → Buf (Elt Ideal) ((c.tc : Thread Cert.Kernel8Ideal.nD Cert.Kernel8Ideal.τ).loc Cert.Kernel8Ideal.main_v12_2)) (v3 : (c : Dev Cert.Kernel8Ideal.nD) → Buf (Elt Ideal) ((c.tc : Thread Cert.Kernel8Ideal.nD Cert.Kernel8Ideal.τ).loc Cert.Kernel8Ideal.main_v12_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v12_0) = v0 c
          ∧ r.2.mem ((c.tc : Thread Cert.Kernel8Ideal.nD Cert.Kernel8Ideal.τ).loc Cert.Kernel8Ideal.main_v12_1) = v1 c
          ∧ r.2.mem ((c.tc : Thread Cert.Kernel8Ideal.nD Cert.Kernel8Ideal.τ).loc Cert.Kernel8Ideal.main_v12_2) = v2 c
          ∧ r.2.mem ((c.tc : Thread Cert.Kernel8Ideal.nD Cert.Kernel8Ideal.τ).loc Cert.Kernel8Ideal.main_v12_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_v33) = v1 c
          ∧ r.2.mem ((c.tc : Thread Cert.Reference8Ideal.nD Cert.Reference8Ideal.τ).loc Cert.Reference8Ideal.main_v29) = v2 c
          ∧ r.2.mem ((c.tc : Thread Cert.Reference8Ideal.nD Cert.Reference8Ideal.τ).loc Cert.Reference8Ideal.main_v48) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v6_0)) (v1 : (c : Dev Cert.Kernel9Ideal.nD) → Buf (Elt Ideal) ((c.tc : Thread Cert.Kernel9Ideal.nD Cert.Kernel9Ideal.τ).loc Cert.Kernel9Ideal.main_v6_1)) (v2 : (c : Dev Cert.Kernel9Ideal.nD) → Buf (Elt Ideal) ((c.tc : Thread Cert.Kernel9Ideal.nD Cert.Kernel9Ideal.τ).loc Cert.Kernel9Ideal.main_v6_2)) (v3 : (c : Dev Cert.Kernel9Ideal.nD) → Buf (Elt Ideal) ((c.tc : Thread Cert.Kernel9Ideal.nD Cert.Kernel9Ideal.τ).loc Cert.Kernel9Ideal.main_v6_3)) (v4 : (c : Dev Cert.Kernel9Ideal.nD) → Buf (Elt Ideal) ((c.tc : Thread Cert.Kernel9Ideal.nD Cert.Kernel9Ideal.τ).loc Cert.Kernel9Ideal.main_v6_4)) (v5 : (c : Dev Cert.Kernel9Ideal.nD) → Buf (Elt Ideal) ((c.tc : Thread Cert.Kernel9Ideal.nD Cert.Kernel9Ideal.τ).loc Cert.Kernel9Ideal.main_v6_5)) (v6 : (c : Dev Cert.Kernel9Ideal.nD) → Buf (Elt Ideal) ((c.tc : Thread Cert.Kernel9Ideal.nD Cert.Kernel9Ideal.τ).loc Cert.Kernel9Ideal.main_v6_6)) (v7 : (c : Dev Cert.Kernel9Ideal.nD) → Buf (Elt Ideal) ((c.tc : Thread Cert.Kernel9Ideal.nD Cert.Kernel9Ideal.τ).loc Cert.Kernel9Ideal.main_v6_7)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6_0) = v0 c
          ∧ r.2.mem ((c.tc : Thread Cert.Kernel9Ideal.nD Cert.Kernel9Ideal.τ).loc Cert.Kernel9Ideal.main_v6_1) = v1 c
          ∧ r.2.mem ((c.tc : Thread Cert.Kernel9Ideal.nD Cert.Kernel9Ideal.τ).loc Cert.Kernel9Ideal.main_v6_2) = v2 c
          ∧ r.2.mem ((c.tc : Thread Cert.Kernel9Ideal.nD Cert.Kernel9Ideal.τ).loc Cert.Kernel9Ideal.main_v6_3) = v3 c
          ∧ r.2.mem ((c.tc : Thread Cert.Kernel9Ideal.nD Cert.Kernel9Ideal.τ).loc Cert.Kernel9Ideal.main_v6_4) = v4 c
          ∧ r.2.mem ((c.tc : Thread Cert.Kernel9Ideal.nD Cert.Kernel9Ideal.τ).loc Cert.Kernel9Ideal.main_v6_5) = v5 c
          ∧ r.2.mem ((c.tc : Thread Cert.Kernel9Ideal.nD Cert.Kernel9Ideal.τ).loc Cert.Kernel9Ideal.main_v6_6) = v6 c
          ∧ r.2.mem ((c.tc : Thread Cert.Kernel9Ideal.nD Cert.Kernel9Ideal.τ).loc Cert.Kernel9Ideal.main_v6_7) = v7 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v17) = v0 c
          ∧ r.2.mem ((c.tc : Thread Cert.Reference9Ideal.nD Cert.Reference9Ideal.τ).loc Cert.Reference9Ideal.main_v13) = v1 c
          ∧ r.2.mem ((c.tc : Thread Cert.Reference9Ideal.nD Cert.Reference9Ideal.τ).loc Cert.Reference9Ideal.main_v38) = v2 c
          ∧ r.2.mem ((c.tc : Thread Cert.Reference9Ideal.nD Cert.Reference9Ideal.τ).loc Cert.Reference9Ideal.main_v33) = v3 c
          ∧ r.2.mem ((c.tc : Thread Cert.Reference9Ideal.nD Cert.Reference9Ideal.τ).loc Cert.Reference9Ideal.main_v34) = v4 c
          ∧ r.2.mem ((c.tc : Thread Cert.Reference9Ideal.nD Cert.Reference9Ideal.τ).loc Cert.Reference9Ideal.main_v39) = v5 c
          ∧ r.2.mem ((c.tc : Thread Cert.Reference9Ideal.nD Cert.Reference9Ideal.τ).loc Cert.Reference9Ideal.main_v40) = v6 c
          ∧ r.2.mem ((c.tc : Thread Cert.Reference9Ideal.nD Cert.Reference9Ideal.τ).loc Cert.Reference9Ideal.main_v41) = v7 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite2 : Cert.Pre_finite2.Facts) (hPre_finite4 : Cert.Pre_finite4.Facts) (hPre_finite5 : Cert.Pre_finite5.Facts) (hPre_finite6 : Cert.Pre_finite6.Facts) (hPre_finite7 : Cert.Pre_finite7.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite2.lean ====
abbrev S4096x1024 : Shape := ⟨2, ![4096, 1024]⟩
abbrev S4096x128 : Shape := ⟨2, ![4096, 128]⟩
abbrev S16 : Shape := ⟨1, ![16]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S4096x1024 .f32) (main_v3 : IVec S_ 1) (main_v7 : IVec S_ 1) (main_v11 : IVec S_ 1) (main_v15 : IVec S_ 1) : IVec S_ 1 :=
  let main_v16 : FVec F S4096x1024 .f32 := Host.absf main_arg4
  let main_cst_6 : FVec F S_ .f32 := constant S_ .f32 0x7F800000#32
  let main_v17 : FVec F S4096x1024 .f32 := broadcastInDim S4096x1024 ![] bcast_S_S4096x1024 main_cst_6
  let main_v18 : IVec S4096x1024 1 := cmpf .olt main_v16 main_v17
  let main_c_7 : IVec S_ 1 := constantI S_ 1 1#1
  let main_v19 : IVec S_ 1 := (fun x v => Host.reduce IntOp.andi x v reducesTo_S4096x1024_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S4096x1024 .f32) (main_arg1 : FVec F S4096x128 .f32) (main_arg2 : FVec F S4096x128 .f32) (main_arg3 : FVec F S16 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : FVec F S4096x128 .f32 := Host.absf main_arg2
  let main_cst_2 : FVec F S_ .f32 := constant S_ .f32 0x7F800000#32
  let main_v9 : FVec F S4096x128 .f32 := broadcastInDim S4096x128 ![] bcast_S_S4096x128 main_cst_2
  let main_v10 : IVec S4096x128 1 := cmpf .olt main_v8 main_v9
  let main_c_3 : IVec S_ 1 := constantI S_ 1 1#1
  let main_v11 : IVec S_ 1 := (fun x v => Host.reduce IntOp.andi x v reducesTo_S4096x128_S_d0_1 h_S_) main_v10 main_c_3
  let main_v12 : FVec F S16 .f32 := Host.absf main_arg3
  let main_cst_4 : FVec F S_ .f32 := constant S_ .f32 0x7F800000#32
  let main_v13 : FVec F S16 .f32 := broadcastInDim S16 ![] bcast_S_S16 main_cst_4
  let main_v14 : IVec S16 1 := cmpf .olt main_v12 main_v13
  let main_c_5 : IVec S_ 1 := constantI S_ 1 1#1
  let main_v15 : IVec S_ 1 := (fun x v => Host.reduce IntOp.andi x v reducesTo_S16_S_d0 h_S_) main_v14 main_c_5
  fn_part1 (F := F) main_arg4 main_v3 main_v7 main_v11 main_v15
-- ==== Pre_finite4.lean ====
abbrev S4096x1024 : Shape := ⟨2, ![4096, 1024]⟩
abbrev S4096x128 : Shape := ⟨2, ![4096, 128]⟩
abbrev S16 : Shape := ⟨1, ![16]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S4096x1024 .f32) (main_arg1 : FVec F S4096x128 .f32) (main_arg2 : FVec F S4096x128 .f32) (main_arg3 : FVec F S16 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : FVec F S4096x128 .f32 := Host.absf main_arg2
  let main_cst_2 : FVec F S_ .f32 := constant S_ .f32 0x7F800000#32
  let main_v9 : FVec F S4096x128 .f32 := broadcastInDim S4096x128 ![] bcast_S_S4096x128 main_cst_2
  let main_v10 : IVec S4096x128 1 := cmpf .olt main_v8 main_v9
  let main_c_3 : IVec S_ 1 := constantI S_ 1 1#1
  let main_v11 : IVec S_ 1 := (fun x v => Host.reduce IntOp.andi x v reducesTo_S4096x128_S_d0_1 h_S_) main_v10 main_c_3
  let main_v12 : FVec F S16 .f32 := Host.absf main_arg3
  let main_cst_4 : FVec F S_ .f32 := constant S_ .f32 0x7F800000#32
  let main_v13 : FVec F S16 .f32 := broadcastInDim S16 ![] bcast_S_S16 main_cst_4
  let main_v14 : IVec S16 1 := cmpf .olt main_v12 main_v13
  let main_c_5 : IVec S_ 1 := constantI S_ 1 1#1
  let main_v15 : IVec S_ 1 := (fun x v => Host.reduce IntOp.andi x v reducesTo_S16_S_d0 h_S_) main_v14 main_c_5
  fn_part1 (F := F) main_v3 main_v7 main_v11 main_v15
-- ==== Pre_finite5.lean ====
abbrev S4096x1024 : Shape := ⟨2, ![4096, 1024]⟩
abbrev S1024 : Shape := ⟨1, ![1024]⟩
abbrev S1024x4096 : Shape := ⟨2, ![1024, 4096]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_

variable [Facts]

def fn_part3 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) : IVec S_ 1 :=
  let main_v48 : IVec S_ 1 := andi main_v3 main_v7
  let main_v49 : IVec S_ 1 := andi main_v48 main_v11
  let main_v50 : IVec S_ 1 := andi main_v49 main_v15
  let main_v51 : IVec S_ 1 := andi main_v50 main_v19
  let main_v52 : IVec S_ 1 := andi main_v51 main_v23
  let main_v53 : IVec S_ 1 := andi main_v52 main_v27
  let main_v54 : IVec S_ 1 := andi main_v53 main_v31
  let main_v55 : IVec S_ 1 := andi main_v54 main_v35
  let main_v56 : IVec S_ 1 := andi main_v55 main_v39
  let main_v57 : IVec S_ 1 := andi main_v56 main_v43
  let main_v58 : IVec S_ 1 := andi main_v57 main_v47
  main_v58

def fn_part2 {F : FTy → Type} [FloatOps F] (main_arg8 : FVec F S1024 .f32) (main_arg9 : FVec F S1024 .f32) (main_arg10 : FVec F S1024 .f32) (main_arg11 : FVec F S4096x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1024 .f32 := Host.absf main_arg8
  let main_cst_14 : FVec F S_ .f32 := constant S_ .f32 0x7F800000#32
  let main_v33 : FVec F S1024 .f32 := broadcastInDim S1024 ![] bcast_S_S1024 main_cst_14
  let main_v34 : IVec S1024 1 := cmpf .olt main_v32 main_v33
  let main_c_15 : IVec S_ 1 := constantI S_ 1 1#1
  let main_v35 : IVec S_ 1 := (fun x v => Host.reduce IntOp.andi x v reducesTo_S1024_S_d0 h_S_) main_v34 main_c_15
  let main_v36 : FVec F S1024 .f32 := Host.absf main_arg9
  let main_cst_16 : FVec F S_ .f32 := constant S_ .f32 0x7F800000#32
  let main_v37 : FVec F S1024 .f32 := broadcastInDim S1024 ![] bcast_S_S1024 main_cst_16
  let main_v38 : IVec S1024 1 := cmpf .olt main_v36 main_v37
  let main_c_17 : IVec S_ 1 := constantI S_ 1 1#1
  let main_v39 : IVec S_ 1 := (fun x v => Host.reduce IntOp.andi x v reducesTo_S1024_S_d0 h_S_) main_v38 main_c_17
  let main_v40 : FVec F S1024 .f32 := Host.absf main_arg10
  let main_cst_18 : FVec F S_ .f32 := constant S_ .f32 0x7F800000#32
  let main_v41 : FVec F S1024 .f32 := broadcastInDim S1024 ![] bcast_S_S1024 main_cst_18
  let main_v42 : IVec S1024 1 := cmpf .olt main_v40 main_v41
  let main_c_19 : IVec S_ 1 := constantI S_ 1 1#1
  let main_v43 : IVec S_ 1 := (fun x v => Host.reduce IntOp.andi x v reducesTo_S1024_S_d0 h_S_) main_v42 main_c_19
  let main_v44 : FVec F S4096x1024 .f32 := Host.absf main_arg11
  let main_cst_20 : FVec F S_ .f32 := constant S_ .f32 0x7F800000#32
  let main_v45 : FVec F S4096x1024 .f32 := broadcastInDim S4096x1024 ![] bcast_S_S4096x1024 main_cst_20
  let main_v46 : IVec S4096x1024 1 := cmpf .olt main_v44 main_v45
  let main_c_21 : IVec S_ 1 := constantI S_ 1 1#1
  let main_v47 : IVec S_ 1 := (fun x v => Host.reduce IntOp.andi x v reducesTo_S4096x1024_S_d0_1 h_S_) main_v46 main_c_21
  fn_part3 (F := F) main_v3 main_v7 main_v11 main_v15 main_v19 main_v23 main_v27 main_v31 main_v35 main_v39 main_v43 main_v47

def fn_part1 {F : FTy → Type} [FloatOps F] (main_arg4 : FVec F S1024x4096 .f32) (main_arg5 : FVec F S4096 .f32) (main_arg6 : FVec F S4096x1024 .f32) (main_arg7 : FVec F S1024 .f32) (main_arg8 : FVec F S1024 .f32) (main_arg9 : FVec F S1024 .f32) (main_arg10 : FVec F S1024 .f32) (main_arg11 : FVec F S4096x1024 .f32) (main_v3 : IVec S_ 1) (main_v7 : IVec S_ 1) (main_v11 : IVec S_ 1) (main_v15 : IVec S_ 1) : IVec S_ 1 :=
  let main_v16 : FVec F S1024x4096 .f32 := Host.absf main_arg4
  let main_cst_6 : FVec F S_ .f32 := constant S_ .f32 0x7F800000#32
  let main_v17 : FVec F S1024x4096 .f32 := broadcastInDim S1024x4096 ![] bcast_S_S1024x4096 main_cst_6
  let main_v18 : IVec S1024x4096 1 := cmpf .olt main_v16 main_v17
  let main_c_7 : IVec S_ 1 := constantI S_ 1 1#1
  let main_v19 : IVec S_ 1 := (fun x v => Host.reduce IntOp.andi x v reducesTo_S1024x4096_S_d0_1 h_S_) main_v18 main_c_7
  let main_v20 : FVec F S4096 .f32 := Host.absf main_arg5
  let main_cst_8 : FVec F S_ .f32 := constant S_ .f32 0x7F800000#32
  let main_v21 : FVec F S4096 .f32 := broadcastInDim S4096 ![] bcast_S_S4096 main_cst_8
  let main_v22 : IVec S4096 1 := cmpf .olt main_v20 main_v21
  let main_c_9 : IVec S_ 1 := constantI S_ 1 1#1
  let main_v23 : IVec S_ 1 := (fun x v => Host.reduce IntOp.andi x v reducesTo_S4096_S_d0 h_S_) main_v22 main_c_9
  let main_v24 : FVec F S4096x1024 .f32 := Host.absf main_arg6
  let main_cst_10 : FVec F S_ .f32 := constant S_ .f32 0x7F800000#32
  let main_v25 : FVec F S4096x1024 .f32 := broadcastInDim S4096x1024 ![] bcast_S_S4096x1024 main_cst_10
  let main_v26 : IVec S4096x1024 1 := cmpf .olt main_v24 main_v25
  let main_c_11 : IVec S_ 1 := constantI S_ 1 1#1
  let main_v27 : IVec S_ 1 := (fun x v => Host.reduce IntOp.andi x v reducesTo_S4096x1024_S_d0_1 h_S_) main_v26 main_c_11
  let main_v28 : FVec F S1024 .f32 := Host.absf main_arg7
  let main_cst_12 : FVec F S_ .f32 := constant S_ .f32 0x7F800000#32
  let main_v29 : FVec F S1024 .f32 := broadcastInDim S1024 ![] bcast_S_S1024 main_cst_12
  let main_v30 : IVec S1024 1 := cmpf .olt main_v28 main_v29
  let main_c_13 : IVec S_ 1 := constantI S_ 1 1#1
  let main_v31 : IVec S_ 1 := (fun x v => Host.reduce IntOp.andi x v reducesTo_S1024_S_d0 h_S_) main_v30 main_c_13
  fn_part2 (F := F) main_arg8 main_arg9 main_arg10 main_arg11 main_v3 main_v7 main_v11 main_v15 main_v19 main_v23 main_v27 main_v31

def fn {F : FTy → Type} [FloatOps F] (main_arg0 : FVec F S4096x1024 .f32) (main_arg1 : FVec F S4096x1024 .f32) (main_arg2 : FVec F S1024 .f32) (main_arg3 : FVec F S1024 .f32) (main_arg4 : FVec F S1024x4096 .f32) (main_arg5 : FVec F S4096 .f32) (main_arg6 : FVec F S4096x1024 .f32) (main_arg7 : FVec F S1024 .f32) (main_arg8 : FVec F S1024 .f32) (main_arg9 : FVec F S1024 .f32) (main_arg10 : FVec F S1024 .f32) (main_arg11 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : FVec F S1024 .f32 := Host.absf main_arg2
  let main_cst_2 : FVec F S_ .f32 := constant S_ .f32 0x7F800000#32
  let main_v9 : FVec F S1024 .f32 := broadcastInDim S1024 ![] bcast_S_S1024 main_cst_2
  let main_v10 : IVec S1024 1 := cmpf .olt main_v8 main_v9
  let main_c_3 : IVec S_ 1 := constantI S_ 1 1#1
  let main_v11 : IVec S_ 1 := (fun x v => Host.reduce IntOp.andi x v reducesTo_S1024_S_d0 h_S_) main_v10 main_c_3
  let main_v12 : FVec F S1024 .f32 := Host.absf main_arg3
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_arg4 main_arg5 main_arg6 main_arg7 main_arg8 main_arg9 main_arg10 main_arg11 main_v3 main_v7 main_v11 main_v15
-- ==== Pre_finite6.lean ====
abbrev S4096x1024 : Shape := ⟨2, ![4096, 1024]⟩
abbrev S2048x1024 : Shape := ⟨2, ![2048, 1024]⟩
abbrev S1024 : Shape := ⟨1, ![1024]⟩
abbrev S1024x4096 : Shape := ⟨2, ![1024, 4096]⟩
abbrev S4096x4096 : Shape := ⟨2, ![4096, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn_part3 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) : IVec S_ 1 :=
  let main_v48 : IVec S_ 1 := andi main_v3 main_v7
  let main_v49 : IVec S_ 1 := andi main_v48 main_v11
  let main_v50 : IVec S_ 1 := andi main_v49 main_v15
  let main_v51 : IVec S_ 1 := andi main_v50 main_v19
  let main_v52 : IVec S_ 1 := andi main_v51 main_v23
  let main_v53 : IVec S_ 1 := andi main_v52 main_v27
  let main_v54 : IVec S_ 1 := andi main_v53 main_v31
  let main_v55 : IVec S_ 1 := andi main_v54 main_v35
  let main_v56 : IVec S_ 1 := andi main_v55 main_v39
  let main_v57 : IVec S_ 1 := andi main_v56 main_v43
  let main_v58 : IVec S_ 1 := andi main_v57 main_v47
  main_v58

def fn_part2 {F : FTy → Type} [FloatOps F] (main_arg9 : FVec F S1024 .f32) (main_arg11 : FVec F S1024x4096 .f32) (main_arg12 : FVec F S4096x1024 .f32) (main_arg13 : FVec F S4096x4096 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1024 .f32 := Host.absf main_arg9
  let main_cst_14 : FVec F S_ .f32 := constant S_ .f32 0x7F800000#32
  let main_v33 : FVec F S1024 .f32 := broadcastInDim S1024 ![] bcast_S_S1024 main_cst_14
  let main_v34 : IVec S1024 1 := cmpf .olt main_v32 main_v33
  let main_c_15 : IVec S_ 1 := constantI S_ 1 1#1
  let main_v35 : IVec S_ 1 := (fun x v => Host.reduce IntOp.andi x v reducesTo_S1024_S_d0 h_S_) main_v34 main_c_15
  let main_v36 : FVec F S1024x4096 .f32 := Host.absf main_arg11
  let main_cst_16 : FVec F S_ .f32 := constant S_ .f32 0x7F800000#32
  let main_v37 : FVec F S1024x4096 .f32 := broadcastInDim S1024x4096 ![] bcast_S_S1024x4096 main_cst_16
  let main_v38 : IVec S1024x4096 1 := cmpf .olt main_v36 main_v37
  let main_c_17 : IVec S_ 1 := constantI S_ 1 1#1
  let main_v39 : IVec S_ 1 := (fun x v => Host.reduce IntOp.andi x v reducesTo_S1024x4096_S_d0_1 h_S_) main_v38 main_c_17
  let main_v40 : FVec F S4096x1024 .f32 := Host.absf main_arg12
  let main_cst_18 : FVec F S_ .f32 := constant S_ .f32 0x7F800000#32
  let main_v41 : FVec F S4096x1024 .f32 := broadcastInDim S4096x1024 ![] bcast_S_S4096x1024 main_cst_18
  let main_v42 : IVec S4096x1024 1 := cmpf .olt main_v40 main_v41
  let main_c_19 : IVec S_ 1 := constantI S_ 1 1#1
  let main_v43 : IVec S_ 1 := (fun x v => Host.reduce IntOp.andi x v reducesTo_S4096x1024_S_d0_1 h_S_) main_v42 main_c_19
  let main_v44 : FVec F S4096x4096 .f32 := Host.absf main_arg13
  let main_cst_20 : FVec F S_ .f32 := constant S_ .f32 0x7F800000#32
  let main_v45 : FVec F S4096x4096 .f32 := broadcastInDim S4096x4096 ![] bcast_S_S4096x4096 main_cst_20
  let main_v46 : IVec S4096x4096 1 := cmpf .olt main_v44 main_v45
  let main_c_21 : IVec S_ 1 := constantI S_ 1 1#1
  let main_v47 : IVec S_ 1 := (fun x v => Host.reduce IntOp.andi x v reducesTo_S4096x4096_S_d0_1 h_S_) main_v46 main_c_21
  fn_part3 (F := F) main_v3 main_v7 main_v11 main_v15 main_v19 main_v23 main_v27 main_v31 main_v35 main_v39 main_v43 main_v47

def fn_part1 {F : FTy → Type} [FloatOps F] (main_arg4 : FVec F S1024 .f32) (main_arg5 : FVec F S1024 .f32) (main_arg6 : FVec F S1024 .f32) (main_arg7 : FVec F S1024 .f32) (main_arg9 : FVec F S1024 .f32) (main_arg11 : FVec F S1024x4096 .f32) (main_arg12 : FVec F S4096x1024 .f32) (main_arg13 : FVec F S4096x4096 .f32) (main_v3 : IVec S_ 1) (main_v7 : IVec S_ 1) (main_v11 : IVec S_ 1) (main_v15 : IVec S_ 1) : IVec S_ 1 :=
  let main_v16 : FVec F S1024 .f32 := Host.absf main_arg4
  let main_cst_6 : FVec F S_ .f32 := constant S_ .f32 0x7F800000#32
  let main_v17 : FVec F S1024 .f32 := broadcastInDim S1024 ![] bcast_S_S1024 main_cst_6
  let main_v18 : IVec S1024 1 := cmpf .olt main_v16 main_v17
  let main_c_7 : IVec S_ 1 := constantI S_ 1 1#1
  let main_v19 : IVec S_ 1 := (fun x v => Host.reduce IntOp.andi x v reducesTo_S1024_S_d0 h_S_) main_v18 main_c_7
  let main_v20 : FVec F S1024 .f32 := Host.absf main_arg5
  let main_cst_8 : FVec F S_ .f32 := constant S_ .f32 0x7F800000#32
  let main_v21 : FVec F S1024 .f32 := broadcastInDim S1024 ![] bcast_S_S1024 main_cst_8
  let main_v22 : IVec S1024 1 := cmpf .olt main_v20 main_v21
  let main_c_9 : IVec S_ 1 := constantI S_ 1 1#1
  let main_v23 : IVec S_ 1 := (fun x v => Host.reduce IntOp.andi x v reducesTo_S1024_S_d0 h_S_) main_v22 main_c_9
  let main_v24 : FVec F S1024 .f32 := Host.absf main_arg6
  let main_cst_10 : FVec F S_ .f32 := constant S_ .f32 0x7F800000#32
  let main_v25 : FVec F S1024 .f32 := broadcastInDim S1024 ![] bcast_S_S1024 main_cst_10
  let main_v26 : IVec S1024 1 := cmpf .olt main_v24 main_v25
  let main_c_11 : IVec S_ 1 := constantI S_ 1 1#1
  let main_v27 : IVec S_ 1 := (fun x v => Host.reduce IntOp.andi x v reducesTo_S1024_S_d0 h_S_) main_v26 main_c_11
  let main_v28 : FVec F S1024 .f32 := Host.absf main_arg7
  let main_cst_12 : FVec F S_ .f32 := constant S_ .f32 0x7F800000#32
  let main_v29 : FVec F S1024 .f32 := broadcastInDim S1024 ![] bcast_S_S1024 main_cst_12
  let main_v30 : IVec S1024 1 := cmpf .olt main_v28 main_v29
  let main_c_13 : IVec S_ 1 := constantI S_ 1 1#1
  let main_v31 : IVec S_ 1 := (fun x v => Host.reduce IntOp.andi x v reducesTo_S1024_S_d0 h_S_) main_v30 main_c_13
  fn_part2 (F := F) main_arg9 main_arg11 main_arg12 main_arg13 main_v3 main_v7 main_v11 main_v15 main_v19 main_v23 main_v27 main_v31

def fn {F : FTy → Type} [FloatOps F] (main_arg0 : FVec F S4096x1024 .f32) (main_arg1 : FVec F S4096x1024 .f32) (main_arg2 : FVec F S2048x1024 .f32) (main_arg3 : FVec F S4096x1024 .f32) (main_arg4 : FVec F S1024 .f32) (main_arg5 : FVec F S1024 .f32) (main_arg6 : FVec F S1024 .f32) (main_arg7 : FVec F S1024 .f32) (main_arg8 : FVec F S1024 .f32) (main_arg9 : FVec F S1024 .f32) (main_arg10 : FVec F S1024 .f32) (main_arg11 : FVec F S1024x4096 .f32) (main_arg12 : FVec F S4096x1024 .f32) (main_arg13 : FVec F S4096x4096 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : FVec F S2048x1024 .f32 := Host.absf main_arg2
  let main_cst_2 : FVec F S_ .f32 := constant S_ .f32 0x7F800000#32
  let main_v9 : FVec F S2048x1024 .f32 := broadcastInDim S2048x1024 ![] bcast_S_S2048x1024 main_cst_2
  let main_v10 : IVec S2048x1024 1 := cmpf .olt main_v8 main_v9
  let main_c_3 : IVec S_ 1 := constantI S_ 1 1#1
  let main_v11 : IVec S_ 1 := (fun x v => Host.reduce IntOp.andi x v reducesTo_S2048x1024_S_d0_1 h_S_) main_v10 main_c_3
  let main_v12 : FVec F S4096x1024 .f32 := Host.absf main_arg3
  let main_cst_4 : FVec F S_ .f32 := constant S_ .f32 0x7F800000#32
  let main_v13 : FVec F S4096x1024 .f32 := broadcastInDim S4096x1024 ![] bcast_S_S4096x1024 main_cst_4
  let main_v14 : IVec S4096x1024 1 := cmpf .olt main_v12 main_v13
  let main_c_5 : IVec S_ 1 := constantI S_ 1 1#1
  let main_v15 : IVec S_ 1 := (fun x v => Host.reduce IntOp.andi x v reducesTo_S4096x1024_S_d0_1 h_S_) main_v14 main_c_5
  fn_part1 (F := F) main_arg4 main_arg5 main_arg6 main_arg7 main_arg9 main_arg11 main_arg12 main_arg13 main_v3 main_v7 main_v11 main_v15
-- ==== Pre_finite7.lean ====
abbrev S4096x1024 : Shape := ⟨2, ![4096, 1024]⟩
abbrev S1024 : Shape := ⟨1, ![1024]⟩
abbrev S1024x3856 : Shape := ⟨2, ![1024, 3856]⟩
abbrev S4096x1536 : Shape := ⟨2, ![4096, 1536]⟩
abbrev S4096x128 : Shape := ⟨2, ![4096, 128]⟩
abbrev S4096x256 : Shape := ⟨2, ![4096, 256]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x3856 : S_.BroadcastsInDim S1024x3856 (![] : Fin 0 → Fin S1024x3856.rank)
  reducesTo_S1024x3856_S_d0_1 : S1024x3856.ReducesTo [0, 1] S_
  bcast_S_S4096x1536 : S_.BroadcastsInDim S4096x1536 (![] : Fin 0 → Fin S4096x1536.rank)
  reducesTo_S4096x1536_S_d0_1 : S4096x1536.ReducesTo [0, 1] S_
  bcast_S_S4096x128 : S_.BroadcastsInDim S4096x128 (![] : Fin 0 → Fin S4096x128.rank)
  reducesTo_S4096x128_S_d0_1 : S4096x128.ReducesTo [0, 1] S_
  bcast_S_S4096x256 : S_.BroadcastsInDim S4096x256 (![] : Fin 0 → Fin S4096x256.rank)
  reducesTo_S4096x256_S_d0_1 : S4096x256.ReducesTo [0, 1] S_

variable [Facts]

def fn_part2 {F : FTy → Type} [FloatOps F] (main_arg10 : FVec F S4096x256 .f32) (main_arg11 : FVec F S4096x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S4096x256 .f32 := Host.absf main_arg10
  let main_cst_14 : FVec F S_ .f32 := constant S_ .f32 0x7F800000#32
  let main_v33 : FVec F S4096x256 .f32 := broadcastInDim S4096x256 ![] bcast_S_S4096x256 main_cst_14
  let main_v34 : IVec S4096x256 1 := cmpf .olt main_v32 main_v33
  let main_c_15 : IVec S_ 1 := constantI S_ 1 1#1
  let main_v35 : IVec S_ 1 := (fun x v => Host.reduce IntOp.andi x v reducesTo_S4096x256_S_d0_1 h_S_) main_v34 main_c_15
  let main_v36 : FVec F S4096x1024 .f32 := Host.absf main_arg11
  let main_cst_16 : FVec F S_ .f32 := constant S_ .f32 0x7F800000#32
  let main_v37 : FVec F S4096x1024 .f32 := broadcastInDim S4096x1024 ![] bcast_S_S4096x1024 main_cst_16
  let main_v38 : IVec S4096x1024 1 := cmpf .olt main_v36 main_v37
  let main_c_17 : IVec S_ 1 := constantI S_ 1 1#1
  let main_v39 : IVec S_ 1 := (fun x v => Host.reduce IntOp.andi x v reducesTo_S4096x1024_S_d0_1 h_S_) main_v38 main_c_17
  let main_v40 : IVec S_ 1 := andi main_v3 main_v7
  let main_v41 : IVec S_ 1 := andi main_v40 main_v11
  let main_v42 : IVec S_ 1 := andi main_v41 main_v15
  let main_v43 : IVec S_ 1 := andi main_v42 main_v19
  let main_v44 : IVec S_ 1 := andi main_v43 main_v23
  let main_v45 : IVec S_ 1 := andi main_v44 main_v27
  let main_v46 : IVec S_ 1 := andi main_v45 main_v31
  let main_v47 : IVec S_ 1 := andi main_v46 main_v35
  let main_v48 : IVec S_ 1 := andi main_v47 main_v39
  main_v48

def fn_part1 {F : FTy → Type} [FloatOps F] (main_arg6 : FVec F S4096x1024 .f32) (main_arg7 : FVec F S4096x1536 .f32) (main_arg8 : FVec F S4096x128 .f32) (main_arg9 : FVec F S4096x1024 .f32) (main_arg10 : FVec F S4096x256 .f32) (main_arg11 : FVec F S4096x1024 .f32) (main_v3 : IVec S_ 1) (main_v7 : IVec S_ 1) (main_v11 : IVec S_ 1) (main_v15 : IVec S_ 1) : IVec S_ 1 :=
  let main_v16 : FVec F S4096x1024 .f32 := Host.absf main_arg6
  let main_cst_6 : FVec F S_ .f32 := constant S_ .f32 0x7F800000#32
  let main_v17 : FVec F S4096x1024 .f32 := broadcastInDim S4096x1024 ![] bcast_S_S4096x1024 main_cst_6
  let main_v18 : IVec S4096x1024 1 := cmpf .olt main_v16 main_v17
  let main_c_7 : IVec S_ 1 := constantI S_ 1 1#1
  let main_v19 : IVec S_ 1 := (fun x v => Host.reduce IntOp.andi x v reducesTo_S4096x1024_S_d0_1 h_S_) main_v18 main_c_7
  let main_v20 : FVec F S4096x1536 .f32 := Host.absf main_arg7
  let main_cst_8 : FVec F S_ .f32 := constant S_ .f32 0x7F800000#32
  let main_v21 : FVec F S4096x1536 .f32 := broadcastInDim S4096x1536 ![] bcast_S_S4096x1536 main_cst_8
  let main_v22 : IVec S4096x1536 1 := cmpf .olt main_v20 main_v21
  let main_c_9 : IVec S_ 1 := constantI S_ 1 1#1
  let main_v23 : IVec S_ 1 := (fun x v => Host.reduce IntOp.andi x v reducesTo_S4096x1536_S_d0_1 h_S_) main_v22 main_c_9
  let main_v24 : FVec F S4096x128 .f32 := Host.absf main_arg8
  let main_cst_10 : FVec F S_ .f32 := constant S_ .f32 0x7F800000#32
  let main_v25 : FVec F S4096x128 .f32 := broadcastInDim S4096x128 ![] bcast_S_S4096x128 main_cst_10
  let main_v26 : IVec S4096x128 1 := cmpf .olt main_v24 main_v25
  let main_c_11 : IVec S_ 1 := constantI S_ 1 1#1
  let main_v27 : IVec S_ 1 := (fun x v => Host.reduce IntOp.andi x v reducesTo_S4096x128_S_d0_1 h_S_) main_v26 main_c_11
  let main_v28 : FVec F S4096x1024 .f32 := Host.absf main_arg9
  let main_cst_12 : FVec F S_ .f32 := constant S_ .f32 0x7F800000#32
  let main_v29 : FVec F S4096x1024 .f32 := broadcastInDim S4096x1024 ![] bcast_S_S4096x1024 main_cst_12
  let main_v30 : IVec S4096x1024 1 := cmpf .olt main_v28 main_v29
  let main_c_13 : IVec S_ 1 := constantI S_ 1 1#1
  let main_v31 : IVec S_ 1 := (fun x v => Host.reduce IntOp.andi x v reducesTo_S4096x1024_S_d0_1 h_S_) main_v30 main_c_13
  fn_part2 (F := F) main_arg10 main_arg11 main_v3 main_v7 main_v11 main_v15 main_v19 main_v23 main_v27 main_v31

def fn {F : FTy → Type} [FloatOps F] (main_arg0 : FVec F S4096x1024 .f32) (main_arg1 : FVec F S1024 .f32) (main_arg2 : FVec F S1024 .f32) (main_arg3 : FVec F S1024 .f32) (main_arg4 : FVec F S1024 .f32) (main_arg5 : FVec F S1024x3856 .f32) (main_arg6 : FVec F S4096x1024 .f32) (main_arg7 : FVec F S4096x1536 .f32) (main_arg8 : FVec F S4096x128 .f32) (main_arg9 : FVec F S4096x1024 .f32) (main_arg10 : FVec F S4096x256 .f32) (main_arg11 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024 .f32 := Host.absf main_arg3
  let main_cst_2 : FVec F S_ .f32 := constant S_ .f32 0x7F800000#32
  let main_v9 : FVec F S1024 .f32 := broadcastInDim S1024 ![] bcast_S_S1024 main_cst_2
  let main_v10 : IVec S1024 1 := cmpf .olt main_v8 main_v9
  let main_c_3 : IVec S_ 1 := constantI S_ 1 1#1
  let main_v11 : IVec S_ 1 := (fun x v => Host.reduce IntOp.andi x v reducesTo_S1024_S_d0 h_S_) main_v10 main_c_3
  let main_v12 : FVec F S1024x3856 .f32 := Host.absf main_arg5
  let main_cst_4 : FVec F S_ .f32 := constant S_ .f32 0x7F800000#32
  let main_v13 : FVec F S1024x3856 .f32 := broadcastInDim S1024x3856 ![] bcast_S_S1024x3856 main_cst_4
  let main_v14 : IVec S1024x3856 1 := cmpf .olt main_v12 main_v13
  let main_c_5 : IVec S_ 1 := constantI S_ 1 1#1
  let main_v15 : IVec S_ 1 := (fun x v => Host.reduce IntOp.andi x v reducesTo_S1024x3856_S_d0_1 h_S_) main_v14 main_c_5
  fn_part1 (F := F) main_arg6 main_arg7 main_arg8 main_arg9 main_arg10 main_arg11 main_v3 main_v7 main_v11 main_v15
-- ==== Kernel.lean ====
abbrev S4096x1536 : Shape := ⟨2, ![4096, 1536]⟩
abbrev S4x1536 : Shape := ⟨2, ![4, 1536]⟩
abbrev S1536 : Shape := ⟨1, ![1536]⟩
abbrev S8x1536 : Shape := ⟨2, ![8, 1536]⟩
abbrev S512x1536 : Shape := ⟨2, ![512, 1536]⟩
abbrev S520x1536 : Shape := ⟨2, ![520, 1536]⟩
abbrev S32x1536 : Shape := ⟨2, ![32, 1536]⟩
abbrev S1x1536 : Shape := ⟨2, ![1, 1536]⟩

abbrev nBuf : Space → Nat
  | .hbm => 6
  | .vmem => 11
  | .smem => 0
  | _ => 0

abbrev bufTy : (tb : Table) → Fin (tcTables nBuf tb) → BufTy
  | .hbm, ⟨0, _⟩ => ⟨S4096x1536, .f32⟩
  | .hbm, ⟨1, _⟩ => ⟨S4x1536, .f32⟩
  | .hbm, ⟨2, _⟩ => ⟨S1536, .f32⟩
  | .hbm, ⟨3, _⟩ => ⟨S4096x1536, .f32⟩
  | .hbm, ⟨4, _⟩ => ⟨S4096x1536, .bf16⟩
  | .hbm, ⟨5, _⟩ => ⟨S8x1536, .f32⟩
  | .local _ .vmem, ⟨0, _⟩ => ⟨S512x1536, .f32⟩
  | .local _ .vmem, ⟨1, _⟩ => ⟨S512x1536, .f32⟩
  | .local _ .vmem, ⟨2, _⟩ => ⟨S8x1536, .f32⟩
  | .local _ .vmem, ⟨3, _⟩ => ⟨S8x1536, .f32⟩
  | .local _ .vmem, ⟨4, _⟩ => ⟨S512x1536, .f32⟩
  | .local _ .vmem, ⟨5, _⟩ => ⟨S512x1536, .f32⟩
  | .local _ .vmem, ⟨6, _⟩ => ⟨S4x1536, .f32⟩
  | .local _ .vmem, ⟨7, _⟩ => ⟨S512x1536, .bf16⟩
  | .local _ .vmem, ⟨8, _⟩ => ⟨S512x1536, .bf16⟩
  | .local _ .vmem, ⟨9, _⟩ => ⟨S8x1536, .f32⟩
  | .local _ .vmem, ⟨10, _⟩ => ⟨S520x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== ReferenceIdeal.lean ====
abbrev S4096x1536 : Shape := ⟨2, ![4096, 1536]⟩
abbrev S4x1536 : Shape := ⟨2, ![4, 1536]⟩
abbrev S1536 : Shape := ⟨1, ![1536]⟩
abbrev S_ : Shape := ⟨0, ![]⟩
abbrev S3x1536 : Shape := ⟨2, ![3, 1536]⟩
abbrev S4099x1536 : Shape := ⟨2, ![4099, 1536]⟩
abbrev S1x1536 : Shape := ⟨2, ![1, 1536]⟩
abbrev S8x1536 : Shape := ⟨2, ![8, 1536]⟩

abbrev nBuf : Space → Nat
  | .hbm => 110
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4x1536, .f32⟩
  | .hbm, ⟨2, _⟩ => ⟨S1536, .f32⟩
  | .hbm, ⟨3, _⟩ => ⟨S4096x1536, .f32⟩
  | .hbm, ⟨4, _⟩ => ⟨S_, .f32⟩
  | .hbm, ⟨5, _⟩ => ⟨S3x1536, .f32⟩
  | .hbm, ⟨6, _⟩ => ⟨S4099x1536, .f32⟩
  | .hbm, ⟨7, _⟩ => ⟨S_, .f32⟩
  | .hbm, ⟨8, _⟩ => ⟨S3x1536, .f32⟩
  | .hbm, ⟨9, _⟩ => ⟨S1x1536, .f32⟩
  | .hbm, ⟨10, _⟩ => ⟨S1536, .f32⟩
  | .hbm, ⟨11, _⟩ => ⟨S4096x1536, .f32⟩
  | .hbm, ⟨12, _⟩ => ⟨S1x1536, .f32⟩
  | .hbm, ⟨13, _⟩ => ⟨S4096x1536, .f32⟩
  | .hbm, ⟨14, _⟩ => ⟨S4096x1536, .f32⟩
  | .hbm, ⟨15, _⟩ => ⟨S1x1536, .f32⟩
  | .hbm, ⟨16, _⟩ => ⟨S1536, .f32⟩
  | .hbm, ⟨17, _⟩ => ⟨S4096x1536, .f32⟩
  | .hbm, ⟨18, _⟩ => ⟨S1x1536, .f32⟩
  | .hbm, ⟨19, _⟩ => ⟨S4096x1536, .f32⟩
  | .hbm, ⟨20, _⟩ => ⟨S4096x1536, .f32⟩
  | .hbm, ⟨21, _⟩ => ⟨S4096x1536, .f32⟩
  | .hbm, ⟨22, _⟩ => ⟨S1x1536, .f32⟩
  | .hbm, ⟨23, _⟩ => ⟨S1536, .f32⟩
  | .hbm, ⟨24, _⟩ => ⟨S4096x1536, .f32⟩
  | .hbm, ⟨25, _⟩ => ⟨S1x1536, .f32⟩
  | .hbm, ⟨26, _⟩ => ⟨S4096x1536, .f32⟩
  | .hbm, ⟨27, _⟩ => ⟨S4096x1536, .f32⟩
  | .hbm, ⟨28, _⟩ => ⟨S4096x1536, .f32⟩
  | .hbm, ⟨29, _⟩ => ⟨S1x1536, .f32⟩
  | .hbm, ⟨30, _⟩ => ⟨S1536, .f32⟩
  | .hbm, ⟨31, _⟩ => ⟨S4096x1536, .f32⟩
  | .hbm, ⟨32, _⟩ => ⟨S1x1536, .f32⟩
  | .hbm, ⟨33, _⟩ => ⟨S4096x1536, .f32⟩
  | .hbm, ⟨34, _⟩ => ⟨S4096x1536, .f32⟩
  | .hbm, ⟨35, _⟩ => ⟨S4096x1536, .f32⟩
  | .hbm, ⟨36, _⟩ => ⟨S1x1536, .f32⟩
  | .hbm, ⟨37, _⟩ => ⟨S4096x1536, .f32⟩
  | .hbm, ⟨38, _⟩ => ⟨S4096x1536, .f32⟩
  | .hbm, ⟨39, _⟩ => ⟨S4096x1536, .f32⟩
  | .hbm, ⟨40, _⟩ => ⟨S_, .f32⟩
  | .hbm, ⟨41, _⟩ => ⟨S1536, .f32⟩
  | .hbm, ⟨42, _⟩ => ⟨S1x1536, .f32⟩
  | .hbm, ⟨43, _⟩ => ⟨S_, .f32⟩
  | .hbm, ⟨44, _⟩ => ⟨S1536, .f32⟩
  | .hbm, ⟨45, _⟩ => ⟨S4096x1536, .f32⟩
  | .hbm, ⟨46, _⟩ => ⟨S4096x1536, .f32⟩
  | .hbm, ⟨47, _⟩ => ⟨S4096x1536, .f32⟩
  | .hbm, ⟨48, _⟩ => ⟨S_, .f32⟩
  | .hbm, ⟨49, _⟩ => ⟨S1536, .f32⟩
  | .hbm, ⟨50, _⟩ => ⟨S1x1536, .f32⟩
  | .hbm, ⟨51, _⟩ => ⟨S_, .f32⟩
  | .hbm, ⟨52, _⟩ => ⟨S1536, .f32⟩
  | .hbm, ⟨53, _⟩ => ⟨S_, .f32⟩
  | .hbm, ⟨54, _⟩ => ⟨S4099x1536, .f32⟩
  | .hbm, ⟨55, _⟩ => ⟨S1x1536, .f32⟩
  | .hbm, ⟨56, _⟩ => ⟨S_, .f32⟩
  | .hbm, ⟨57, _⟩ => ⟨S4x1536, .f32⟩
  | .hbm, ⟨58, _⟩ => ⟨S4096x1536, .f32⟩
  | .hbm, ⟨59, _⟩ => ⟨S4096x1536, .f32⟩
  | .hbm, ⟨60, _⟩ => ⟨S4096x1536, .f32⟩
  | .hbm, ⟨61, _⟩ => ⟨S_, .f32⟩
  | .hbm, ⟨62, _⟩ => ⟨S1536, .f32⟩
  | .hbm, ⟨63, _⟩ => ⟨S1x1536, .f32⟩
  | .hbm, ⟨64, _⟩ => ⟨S_, .f32⟩
  | .hbm, ⟨65, _⟩ => ⟨S1536, .f32⟩
  | .hbm, ⟨66, _⟩ => ⟨S_, .f32⟩
  | .hbm, ⟨67, _⟩ => ⟨S4099x1536, .f32⟩
  | .hbm, ⟨68, _⟩ => ⟨S4099x1536, .f32⟩
  | .hbm, ⟨69, _⟩ => ⟨S1x1536, .f32⟩
  | .hbm, ⟨70, _⟩ => ⟨S_, .f32⟩
  | .hbm, ⟨71, _⟩ => ⟨S4x1536, .f32⟩
  | .hbm, ⟨72, _⟩ => ⟨S4x1536, .f32⟩
  | .hbm, ⟨73, _⟩ => ⟨S4096x1536, .f32⟩
  | .hbm, ⟨74, _⟩ => ⟨S4096x1536, .f32⟩
  | .hbm, ⟨75, _⟩ => ⟨S4096x1536, .f32⟩
  | .hbm, ⟨76, _⟩ => ⟨S_, .f32⟩
  | .hbm, ⟨77, _⟩ => ⟨S1536, .f32⟩
  | .hbm, ⟨78, _⟩ => ⟨S1x1536, .f32⟩
  | .hbm, ⟨79, _⟩ => ⟨S_, .f32⟩
  | .hbm, ⟨80, _⟩ => ⟨S1536, .f32⟩
  | .hbm, ⟨81, _⟩ => ⟨S_, .f32⟩
  | .hbm, ⟨82, _⟩ => ⟨S4099x1536, .f32⟩
  | .hbm, ⟨83, _⟩ => ⟨S4099x1536, .f32⟩
  | .hbm, ⟨84, _⟩ => ⟨S1x1536, .f32⟩
  | .hbm, ⟨85, _⟩ => ⟨S_, .f32⟩
  | .hbm, ⟨86, _⟩ => ⟨S4x1536, .f32⟩
  | .hbm, ⟨87, _⟩ => ⟨S4x1536, .f32⟩
  | .hbm, ⟨88, _⟩ => ⟨S4096x1536, .f32⟩
  | .hbm, ⟨89, _⟩ => ⟨S4096x1536, .f32⟩
  | .hbm, ⟨90, _⟩ => ⟨S4096x1536, .f32⟩
  | .hbm, ⟨91, _⟩ => ⟨S_, .f32⟩
  | .hbm, ⟨92, _⟩ => ⟨S1536, .f32⟩
  | .hbm, ⟨93, _⟩ => ⟨S1x1536, .f32⟩
  | .hbm, ⟨94, _⟩ => ⟨S_, .f32⟩
  | .hbm, ⟨95, _⟩ => ⟨S1536, .f32⟩
  | .hbm, ⟨96, _⟩ => ⟨S_, .f32⟩
  | .hbm, ⟨97, _⟩ => ⟨S4099x1536, .f32⟩
  | .hbm, ⟨98, _⟩ => ⟨S4099x1536, .f32⟩
  | .hbm, ⟨99, _⟩ => ⟨S1x1536, .f32⟩
  | .hbm, ⟨100, _⟩ => ⟨S_, .f32⟩
  | .hbm, ⟨101, _⟩ => ⟨S4x1536, .f32⟩
  | .hbm, ⟨102, _⟩ => ⟨S4x1536, .f32⟩
  | .hbm, ⟨103, _⟩ => ⟨S3x1536, .f32⟩
  | .hbm, ⟨104, _⟩ => ⟨S4096x1536, .f32⟩
  | .hbm, ⟨105, _⟩ => ⟨S4096x1536, .bf16⟩
  | .hbm, ⟨106, _⟩ => ⟨S1x1536, .f32⟩
  | .hbm, ⟨107, _⟩ => ⟨S_, .f32⟩
  | .hbm, ⟨108, _⟩ => ⟨S3x1536, .f32⟩
  | .hbm, ⟨109, _⟩ => ⟨S8x1536, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_1 : Ref sig .tc := ⟨.hbm, 40, rfl⟩
abbrev main_v34 : Ref sig .tc := ⟨.hbm, 41, rfl⟩
abbrev main_v35 : Ref sig .tc := ⟨.hbm, 42, rfl⟩
abbrev main_cst_2 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_cst_6 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_7 : Ref sig .tc := ⟨.hbm, 61, rfl⟩
abbrev main_v49 : Ref sig .tc := ⟨.hbm, 62, rfl⟩
abbrev main_v50 : Ref sig .tc := ⟨.hbm, 63, rfl⟩
abbrev main_cst_8 : Ref sig .tc := ⟨.hbm, 64, rfl⟩
abbrev main_v51 : Ref sig .tc := ⟨.hbm, 65, rfl⟩
abbrev main_cst_9 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_10 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_11 : Ref sig .tc := ⟨.hbm, 76, rfl⟩
abbrev main_v60 : Ref sig .tc := ⟨.hbm, 77, rfl⟩
abbrev main_v61 : Ref sig .tc := ⟨.hbm, 78, rfl⟩
abbrev main_cst_12 : Ref sig .tc := ⟨.hbm, 79, rfl⟩
abbrev main_v62 : Ref sig .tc := ⟨.hbm, 80, rfl⟩
abbrev main_cst_13 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_14 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_15 : Ref sig .tc := ⟨.hbm, 91, rfl⟩
abbrev main_v71 : Ref sig .tc := ⟨.hbm, 92, rfl⟩
abbrev main_v72 : Ref sig .tc := ⟨.hbm, 93, rfl⟩
abbrev main_cst_16 : Ref sig .tc := ⟨.hbm, 94, rfl⟩
abbrev main_v73 : Ref sig .tc := ⟨.hbm, 95, rfl⟩
abbrev main_cst_17 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_18 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_19 : Ref sig .tc := ⟨.hbm, 107, rfl⟩
abbrev main_v83 : Ref sig .tc := ⟨.hbm, 108, rfl⟩
abbrev main_v84 : Ref sig .tc := ⟨.hbm, 109, rfl⟩

abbrev nD : Nat := 1
abbrev τ : Topo := Topo.v7x

variable {F : FTy → Type} [FloatOps F]
-- ==== Kernel2.lean ====
abbrev S4096x1024 : Shape := ⟨2, ![4096, 1024]⟩
abbrev S4096x128 : Shape := ⟨2, ![4096, 128]⟩
abbrev S16 : Shape := ⟨1, ![16]⟩
abbrev S4096x256 : Shape := ⟨2, ![4096, 256]⟩
abbrev S1x128 : Shape := ⟨2, ![1, 128]⟩
abbrev S128x1024 : Shape := ⟨2, ![128, 1024]⟩
abbrev S128x256 : Shape := ⟨2, ![128, 256]⟩
abbrev S1024x64 : Shape := ⟨2, ![1024, 64]⟩
abbrev S256x1024 : Shape := ⟨2, ![256, 1024]⟩
abbrev S256x128 : Shape := ⟨2, ![256, 128]⟩
abbrev S128x64 : Shape := ⟨2, ![128, 64]⟩
abbrev S256x64 : Shape := ⟨2, ![256, 64]⟩
abbrev S1 : Shape := ⟨1, ![1]⟩
abbrev S128 : Shape := ⟨1, ![128]⟩
abbrev S1x1x128 : Shape := ⟨3, ![1, 1, 128]⟩
abbrev S1x1x1 : Shape := ⟨3, ![1, 1, 1]⟩
abbrev S256x256 : Shape := ⟨2, ![256, 256]⟩

abbrev nBuf : Space → Nat
  | .hbm => 12
  | .vmem => 18
  | .smem => 1
  | _ => 0

abbrev bufTy : (tb : Table) → Fin (tcTables nBuf tb) → BufTy
  | .hbm, ⟨0, _⟩ => ⟨S4096x1024, .f32⟩
  | .hbm, ⟨1, _⟩ => ⟨S4096x128, .f32⟩
  | .hbm, ⟨2, _⟩ => ⟨S4096x128, .f32⟩
  | .hbm, ⟨3, _⟩ => ⟨S16, .f32⟩
  | .hbm, ⟨4, _⟩ => ⟨S4096x1024, .f32⟩
  | .hbm, ⟨5, _⟩ => ⟨S4096x256, .f32⟩
  | .hbm, ⟨6, _⟩ => ⟨S4096x1024, .bf16⟩
  | .hbm, ⟨7, _⟩ => ⟨S4096x256, .bf16⟩
  | .hbm, ⟨8, _⟩ => ⟨S4096x1024, .bf16⟩
  | .hbm, ⟨9, _⟩ => ⟨S4096x1024, .bf16⟩
  | .hbm, ⟨10, _⟩ => ⟨S4096x256, .f32⟩
  | .hbm, ⟨11, _⟩ => ⟨S1x128, .f32⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x256, .f32⟩
  | .local _ .vmem, ⟨11, _⟩ => ⟨S128x256, .f32⟩
  | .local _ .vmem, ⟨12, _⟩ => ⟨S1x128, .f32⟩
  | .local _ .vmem, ⟨13, _⟩ => ⟨S128x256, .f32⟩
  | .local _ .vmem, ⟨14, _⟩ => ⟨S1024x64, .bf16⟩
  | .local _ .vmem, ⟨15, _⟩ => ⟨S1024x64, .bf16⟩
  | .local _ .vmem, ⟨16, _⟩ => ⟨S256x1024, .bf16⟩
  | .local _ .vmem, ⟨17, _⟩ => ⟨S256x1024, .bf16⟩
  | .local _ .smem, ⟨0, _⟩ => ⟨S16, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c32_i32_2 : BitVec 32 := 32#32
  let v6 : BitVec 1 := Scalar.cmpi .eq arg0 c32_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c31_i32 : BitVec 32 := 31#32
  let v1 : BitVec 32 := Scalar.maxsi c0_i32 v0
  let v2 : BitVec 32 := Scalar.minsi c31_i32 v1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Kernel2Ideal.lean ====
variable {F : FTy → Type} [FloatOps F] [Named F]
def κ : String → Option EReal := fun
  | "mask" => some ⊥
  | _ => none
-- ==== Reference2Ideal.lean ====
abbrev S4096x1024 : Shape := ⟨2, ![4096, 1024]⟩
abbrev S4096x128 : Shape := ⟨2, ![4096, 128]⟩
abbrev S16 : Shape := ⟨1, ![16]⟩
abbrev S32x128x2x8x64 : Shape := ⟨5, ![32, 128, 2, 8, 64]⟩
abbrev S32x128x2x64 : Shape := ⟨4, ![32, 128, 2, 64]⟩
abbrev S1x128x2x64 : Shape := ⟨4, ![1, 128, 2, 64]⟩
abbrev S_ : Shape := ⟨0, ![]⟩
abbrev S31x128x2x64 : Shape := ⟨4, ![31, 128, 2, 64]⟩
abbrev S32x256x2x64 : Shape := ⟨4, ![32, 256, 2, 64]⟩
abbrev S32x2x256x128x8 : Shape := ⟨5, ![32, 2, 256, 128, 8]⟩
abbrev S32x2x8x128x256 : Shape := ⟨5, ![32, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S1 : Shape := ⟨1, ![1]⟩
abbrev S2x8 : Shape := ⟨2, ![2, 8]⟩
abbrev S2x8x1x1 : Shape := ⟨4, ![2, 8, 1, 1]⟩
abbrev S1x1x128x256 : Shape := ⟨4, ![1, 1, 128, 256]⟩
abbrev S2x8x128x256 : Shape := ⟨4, ![2, 8, 128, 256]⟩
abbrev S1x2x8x128x256 : Shape := ⟨5, ![1, 2, 8, 128, 256]⟩
abbrev S32x1x1x128x256 : Shape := ⟨5, ![32, 1, 1, 128, 256]⟩
abbrev S2x8x1 : Shape := ⟨3, ![2, 8, 1]⟩
abbrev S32x2x8x128 : Shape := ⟨4, ![32, 2, 8, 128]⟩
abbrev S32x2x8x128x1 : Shape := ⟨5, ![32, 2, 8, 128, 1]⟩
abbrev S1x2x8x1 : Shape := ⟨4, ![1, 2, 8, 1]⟩
abbrev S32x2x64x8x128 : Shape := ⟨5, ![32, 2, 64, 8, 128]⟩
abbrev S32x2x64x256 : Shape := ⟨4, ![32, 2, 64, 256]⟩
abbrev S32x2x128x8x64 : Shape := ⟨5, ![32, 2, 128, 8, 64]⟩
abbrev S32x2x256x64 : Shape := ⟨4, ![32, 2, 256, 64]⟩
abbrev S4096x256 : Shape := ⟨2, ![4096, 256]⟩
abbrev S112 : Shape := ⟨1, ![112]⟩
abbrev S1x128 : Shape := ⟨2, ![1, 128]⟩

abbrev nBuf : Space → Nat
  | .hbm => 260
  | .vmem => 0
  | .smem => 0
  | _ => 0

abbrev hbmTy0_0 (i : Nat) : BufTy := match i % 128 with
  | 0 => ⟨S4096x1024, .f32⟩
  | 1 => ⟨S4096x128, .f32⟩
  | 2 => ⟨S4096x128, .f32⟩
  | 3 => ⟨S16, .f32⟩
  | 4 => ⟨S4096x1024, .f32⟩
  | 5 => ⟨S32x128x2x8x64, .f32⟩
  | 6 => ⟨S32x128x2x64, .f32⟩
  | 7 => ⟨S32x128x2x64, .f32⟩
  | 8 => ⟨S1x128x2x64, .f32⟩
  | 9 => ⟨S_, .f32⟩
  | 10 => ⟨S1x128x2x64, .f32⟩
  | 11 => ⟨S31x128x2x64, .f32⟩
  | 12 => ⟨S32x128x2x64, .f32⟩
  | 13 => ⟨S_, .f32⟩
  | 14 => ⟨S1x128x2x64, .f32⟩
  | 15 => ⟨S32x256x2x64, .f32⟩
  | 16 => ⟨S1x128x2x64, .f32⟩
  | 17 => ⟨S_, .f32⟩
  | 18 => ⟨S1x128x2x64, .f32⟩
  | 19 => ⟨S31x128x2x64, .f32⟩
  | 20 => ⟨S32x128x2x64, .f32⟩
  | 21 => ⟨S_, .f32⟩
  | 22 => ⟨S1x128x2x64, .f32⟩
  | 23 => ⟨S32x256x2x64, .f32⟩
  | 24 => ⟨S32x2x256x128x8, .f32⟩
  | 25 => ⟨S32x2x8x128x256, .f32⟩
  | 26 => ⟨S_, .f32⟩
  | 27 => ⟨S32x2x8x128x256, .f32⟩
  | 28 => ⟨S32x2x8x128x256, .f32⟩
  | 29 => ⟨S128, .i32⟩
  | 30 => ⟨S128x1, .i32⟩
  | 31 => ⟨S_, .i32⟩
  | 32 => ⟨S128x1, .i32⟩
  | 33 => ⟨S128x1, .i32⟩
  | 34 => ⟨S256, .i32⟩
  | 35 => ⟨S1x256, .i32⟩
  | 36 => ⟨S128x256, .i32⟩
  | 37 => ⟨S128x256, .i32⟩
  | 38 => ⟨S128x256, .i32⟩
  | 39 => ⟨S32, .i32⟩
  | 40 => ⟨S32x1, .i32⟩
  | 41 => ⟨S_, .i32⟩
  | 42 => ⟨S32x1, .i32⟩
  | 43 => ⟨S32x1, .i32⟩
  | 44 => ⟨S256, .i32⟩
  | 45 => ⟨S1x256, .i32⟩
  | 46 => ⟨S32x256, .i32⟩
  | 47 => ⟨S32x256, .i32⟩
  | 48 => ⟨S32x256, .i32⟩
  | 49 => ⟨S_, .i32⟩
  | 50 => ⟨S32x256, .i32⟩
  | 51 => ⟨S32x256, .i32⟩
  | 52 => ⟨S_, .i32⟩
  | 53 => ⟨S128x256, .i32⟩
  | 54 => ⟨S128x256, .i1⟩
  | 55 => ⟨S_, .i32⟩
  | 56 => ⟨S128x256, .i32⟩
  | 57 => ⟨S128x256, .i1⟩
  | 58 => ⟨S128x256, .i1⟩
  | 59 => ⟨S1x128x256, .i1⟩
  | 60 => ⟨S_, .i32⟩
  | 61 => ⟨S32x256, .i32⟩
  | 62 => ⟨S32x256, .i1⟩
  | 63 => ⟨S32x1x256, .i1⟩
  | 64 => ⟨S32x128x256, .i1⟩
  | 65 => ⟨S32x128x256, .i1⟩
  | 66 => ⟨S32x128x256, .i1⟩
  | 67 => ⟨S_, .f32⟩
  | 68 => ⟨S1, .f32⟩
  | 69 => ⟨S_, .f32⟩
  | 70 => ⟨S1, .f32⟩
  | 71 => ⟨S_, .f32⟩
  | 72 => ⟨S1, .f32⟩
  | 73 => ⟨S_, .f32⟩
  | 74 => ⟨S1, .f32⟩
  | 75 => ⟨S_, .f32⟩
  | 76 => ⟨S1, .f32⟩
  | 77 => ⟨S_, .f32⟩
  | 78 => ⟨S1, .f32⟩
  | 79 => ⟨S_, .f32⟩
  | 80 => ⟨S1, .f32⟩
  | 81 => ⟨S_, .f32⟩
  | 82 => ⟨S1, .f32⟩
  | 83 => ⟨S_, .f32⟩
  | 84 => ⟨S1, .f32⟩
  | 85 => ⟨S_, .f32⟩
  | 86 => ⟨S1, .f32⟩
  | 87 => ⟨S_, .f32⟩
  | 88 => ⟨S1, .f32⟩
  | 89 => ⟨S_, .f32⟩
  | 90 => ⟨S1, .f32⟩
  | 91 => ⟨S_, .f32⟩
  | 92 => ⟨S1, .f32⟩
  | 93 => ⟨S_, .f32⟩
  | 94 => ⟨S1, .f32⟩
  | 95 => ⟨S_, .f32⟩
  | 96 => ⟨S1, .f32⟩
  | 97 => ⟨S_, .f32⟩
  | 98 => ⟨S1, .f32⟩
  | 99 => ⟨S16, .f32⟩
  | 100 => ⟨S2x8, .f32⟩
  | 101 => ⟨S2x8x1x1, .f32⟩
  | 102 => ⟨S128x256, .f32⟩
  | 103 => ⟨S1x1x128x256, .f32⟩
  | 104 => ⟨S2x8x128x256, .f32⟩
  | 105 => ⟨S2x8x128x256, .f32⟩
  | 106 => ⟨S2x8x128x256, .f32⟩
  | 107 => ⟨S1x2x8x128x256, .f32⟩
  | 108 => ⟨S32x2x8x128x256, .f32⟩
  | 109 => ⟨S32x2x8x128x256, .f32⟩
  | 110 => ⟨S32x1x1x128x256, .i1⟩
  | 111 => ⟨S_, .f32⟩
  | 112 => ⟨S_, .f32⟩
  | 113 => ⟨S32x2x8x128x256, .i1⟩
  | 114 => ⟨S32x2x8x128x256, .f32⟩
  | 115 => ⟨S32x2x8x128x256, .f32⟩
  | 116 => ⟨S_, .f32⟩
  | 117 => ⟨S32x2x8x128x256, .f32⟩
  | 118 => ⟨S2x8, .f32⟩
  | 119 => ⟨S2x8x1, .f32⟩
  | 120 => ⟨S_, .f32⟩
  | 121 => ⟨S32x2x8x128, .f32⟩
  | 122 => ⟨S32x2x8x128x1, .f32⟩
  | 123 => ⟨S32x2x8x128x256, .f32⟩
  | 124 => ⟨S32x2x8x128x256, .i1⟩
  | 125 => ⟨S32x2x8x128x256, .f32⟩
  | 126 => ⟨S_, .f32⟩
  | 127 => ⟨S32x2x8x128, .f32⟩
  | _ => ⟨S4096x1024, .f32⟩

abbrev hbmTy0_1 (i : Nat) : BufTy := match i % 128 with
  | 0 => ⟨S1x2x8x1, .f32⟩
  | 1 => ⟨S32x2x8x128, .f32⟩
  | 2 => ⟨S32x2x8x128, .f32⟩
  | 3 => ⟨S32x2x8x128, .f32⟩
  | 4 => ⟨S32x2x8x128, .i1⟩
  | 5 => ⟨S32x2x8x128, .f32⟩
  | 6 => ⟨S32x2x8x128, .i1⟩
  | 7 => ⟨S_, .f32⟩
  | 8 => ⟨S32x2x8x128, .f32⟩
  | 9 => ⟨S_, .f32⟩
  | 10 => ⟨S32x2x8x128, .f32⟩
  | 11 => ⟨S_, .f32⟩
  | 12 => ⟨S32x2x8x128, .f32⟩
  | 13 => ⟨S32x2x8x128, .f32⟩
  | 14 => ⟨S32x2x8x128, .f32⟩
  | 15 => ⟨S32x2x8x128, .f32⟩
  | 16 => ⟨S32x2x8x128, .i1⟩
  | 17 => ⟨S32x2x8x128, .f32⟩
  | 18 => ⟨S32x2x8x128, .i1⟩
  | 19 => ⟨S_, .f32⟩
  | 20 => ⟨S32x2x8x128, .f32⟩
  | 21 => ⟨S_, .f32⟩
  | 22 => ⟨S32x2x8x128, .f32⟩
  | 23 => ⟨S_, .f32⟩
  | 24 => ⟨S32x2x8x128, .f32⟩
  | 25 => ⟨S32x2x8x128, .f32⟩
  | 26 => ⟨S32x2x8x128, .f32⟩
  | 27 => ⟨S32x2x8x128x1, .f32⟩
  | 28 => ⟨S32x2x8x128x256, .f32⟩
  | 29 => ⟨S32x2x8x128x256, .f32⟩
  | 30 => ⟨S32x2x8x128x256, .f32⟩
  | 31 => ⟨S_, .f32⟩
  | 32 => ⟨S32x2x8x128, .f32⟩
  | 33 => ⟨S1x2x8x1, .f32⟩
  | 34 => ⟨S32x2x8x128, .f32⟩
  | 35 => ⟨S32x2x8x128, .f32⟩
  | 36 => ⟨S32x2x8x128, .f32⟩
  | 37 => ⟨S32x2x8x128, .f32⟩
  | 38 => ⟨S32x2x8x128x1, .f32⟩
  | 39 => ⟨S32x2x8x128x256, .f32⟩
  | 40 => ⟨S32x2x8x128x256, .f32⟩
  | 41 => ⟨S32x2x8x128x1, .f32⟩
  | 42 => ⟨S_, .f32⟩
  | 43 => ⟨S32x2x8x128x1, .f32⟩
  | 44 => ⟨S32x2x8x128x1, .f32⟩
  | 45 => ⟨S32x2x64x8x128, .f32⟩
  | 46 => ⟨S32x128x2x8x64, .f32⟩
  | 47 => ⟨S4096x1024, .f32⟩
  | 48 => ⟨S32x128x2x8x64, .f32⟩
  | 49 => ⟨S32x2x64x8x128, .f32⟩
  | 50 => ⟨S32x2x8x128x256, .f32⟩
  | 51 => ⟨S32x2x64x256, .f32⟩
  | 52 => ⟨S32x256x2x64, .f32⟩
  | 53 => ⟨S32x2x8x128x256, .f32⟩
  | 54 => ⟨S32x2x8x128x256, .f32⟩
  | 55 => ⟨S32x2x8x128x256, .f32⟩
  | 56 => ⟨S_, .f32⟩
  | 57 => ⟨S32x2x8x128, .f32⟩
  | 58 => ⟨S32x2x8x128x1, .f32⟩
  | 59 => ⟨S32x2x8x128x1, .f32⟩
  | 60 => ⟨S32x2x8x128x256, .f32⟩
  | 61 => ⟨S32x2x8x128x256, .f32⟩
  | 62 => ⟨S_, .f32⟩
  | 63 => ⟨S32x2x8x128, .f32⟩
  | 64 => ⟨S32x2x8x128, .f32⟩
  | 65 => ⟨S_, .f32⟩
  | 66 => ⟨S2x8, .f32⟩
  | 67 => ⟨S1x2x8x1, .f32⟩
  | 68 => ⟨S32x2x8x128, .f32⟩
  | 69 => ⟨S_, .f32⟩
  | 70 => ⟨S2x8, .f32⟩
  | 71 => ⟨S2x8x1, .f32⟩
  | 72 => ⟨S32x2x8x128x256, .f32⟩
  | 73 => ⟨S32x2x8x128x256, .f32⟩
  | 74 => ⟨S32x2x8x128x256, .f32⟩
  | 75 => ⟨S32x2x8x128x256, .f32⟩
  | 76 => ⟨S_, .f32⟩
  | 77 => ⟨S32x2x8x128, .f32⟩
  | 78 => ⟨S32x2x8x128x1, .f32⟩
  | 79 => ⟨S_, .f32⟩
  | 80 => ⟨S32x2x8x128, .f32⟩
  | 81 => ⟨S32x2x8x128, .f32⟩
  | 82 => ⟨S32x2x8x128, .f32⟩
  | 83 => ⟨S_, .f32⟩
  | 84 => ⟨S2x8, .f32⟩
  | 85 => ⟨S1x2x8x1, .f32⟩
  | 86 => ⟨S32x2x8x128, .f32⟩
  | 87 => ⟨S_, .f32⟩
  | 88 => ⟨S2x8, .f32⟩
  | 89 => ⟨S2x8x1, .f32⟩
  | 90 => ⟨S2x8x1, .f32⟩
  | 91 => ⟨S32x2x8x128, .f32⟩
  | 92 => ⟨S32x2x8x128x256, .f32⟩
  | 93 => ⟨S32x2x8x128x256, .f32⟩
  | 94 => ⟨S32x2x8x128x256, .f32⟩
  | 95 => ⟨S_, .f32⟩
  | 96 => ⟨S2x8, .f32⟩
  | 97 => ⟨S16, .f32⟩
  | 98 => ⟨S_, .f32⟩
  | 99 => ⟨S32x2x8x128x256, .f32⟩
  | 100 => ⟨S32x2x8x128x256, .f32⟩
  | 101 => ⟨S_, .f32⟩
  | 102 => ⟨S32x2x8x128x256, .f32⟩
  | 103 => ⟨S32x2x8x128x256, .f32⟩
  | 104 => ⟨S32x2x256x128x8, .f32⟩
  | 105 => ⟨S32x2x128x8x64, .f32⟩
  | 106 => ⟨S32x128x2x8x64, .f32⟩
  | 107 => ⟨S32x2x256x64, .f32⟩
  | 108 => ⟨S32x256x2x64, .f32⟩
  | 109 => ⟨S32x128x2x64, .f32⟩
  | 110 => ⟨S32x128x2x64, .f32⟩
  | 111 => ⟨S1x128x2x64, .f32⟩
  | 112 => ⟨S31x128x2x64, .f32⟩
  | 113 => ⟨S_, .f32⟩
  | 114 => ⟨S32x128x2x64, .f32⟩
  | 115 => ⟨S32x128x2x64, .f32⟩
  | 116 => ⟨S32x128x2x64, .f32⟩
  | 117 => ⟨S32x128x2x64, .f32⟩
  | 118 => ⟨S1x128x2x64, .f32⟩
  | 119 => ⟨S31x128x2x64, .f32⟩
  | 120 => ⟨S_, .f32⟩
  | 121 => ⟨S32x128x2x64, .f32⟩
  | 122 => ⟨S32x128x2x64, .f32⟩
  | 123 => ⟨S4096x128, .f32⟩
  | 124 => ⟨S4096x128, .f32⟩
  | 125 => ⟨S4096x1024, .f32⟩
  | 126 => ⟨S4096x1024, .bf16⟩
  | 127 => ⟨S4096x256, .f32⟩
  | _ => ⟨S4096x1024, .f32⟩

abbrev hbmTy0_2 (i : Nat) : BufTy := match i % 128 with
  | 0 => ⟨S_, .f32⟩
  | 1 => ⟨S112, .f32⟩
  | 2 => ⟨S128, .f32⟩
  | 3 => ⟨S1x128, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_5 : Ref sig .tc := ⟨.hbm, 49, rfl⟩
abbrev main_v37 : Ref sig .tc := ⟨.hbm, 50, rfl⟩
abbrev main_v38 : Ref sig .tc := ⟨.hbm, 51, rfl⟩
abbrev main_c_6 : Ref sig .tc := ⟨.hbm, 52, rfl⟩
abbrev main_v39 : Ref sig .tc := ⟨.hbm, 53, rfl⟩
abbrev main_v40 : Ref sig .tc := ⟨.hbm, 54, rfl⟩
abbrev main_c_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_9 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_cst_13 : Ref sig .tc := ⟨.hbm, 75, rfl⟩
abbrev main_v55 : Ref sig .tc := ⟨.hbm, 76, rfl⟩
abbrev main_cst_14 : Ref sig .tc := ⟨.hbm, 77, rfl⟩
abbrev main_v56 : Ref sig .tc := ⟨.hbm, 78, rfl⟩
abbrev main_cst_15 : Ref sig .tc := ⟨.hbm, 79, rfl⟩
abbrev main_v57 : Ref sig .tc := ⟨.hbm, 80, rfl⟩
abbrev main_cst_16 : Ref sig .tc := ⟨.hbm, 81, rfl⟩
abbrev main_v58 : Ref sig .tc := ⟨.hbm, 82, rfl⟩
abbrev main_cst_17 : Ref sig .tc := ⟨.hbm, 83, rfl⟩
abbrev main_v59 : Ref sig .tc := ⟨.hbm, 84, rfl⟩
abbrev main_cst_18 : Ref sig .tc := ⟨.hbm, 85, rfl⟩
abbrev main_v60 : Ref sig .tc := ⟨.hbm, 86, rfl⟩
abbrev main_cst_19 : Ref sig .tc := ⟨.hbm, 87, rfl⟩
abbrev main_v61 : Ref sig .tc := ⟨.hbm, 88, rfl⟩
abbrev main_cst_20 : Ref sig .tc := ⟨.hbm, 89, rfl⟩
abbrev main_v62 : Ref sig .tc := ⟨.hbm, 90, rfl⟩
abbrev main_cst_21 : Ref sig .tc := ⟨.hbm, 91, rfl⟩
abbrev main_v63 : Ref sig .tc := ⟨.hbm, 92, rfl⟩
abbrev main_cst_22 : Ref sig .tc := ⟨.hbm, 93, rfl⟩
abbrev main_v64 : Ref sig .tc := ⟨.hbm, 94, rfl⟩
abbrev main_cst_23 : Ref sig .tc := ⟨.hbm, 95, rfl⟩
abbrev main_v65 : Ref sig .tc := ⟨.hbm, 96, rfl⟩
abbrev main_cst_24 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_25 : Ref sig .tc := ⟨.hbm, 111, rfl⟩
abbrev main_call0_v0 : Ref sig .tc := ⟨.hbm, 112, rfl⟩
abbrev main_v79_1 : Ref sig .tc := ⟨.hbm, 113, rfl⟩
abbrev main_call0_v2 : Ref sig .tc := ⟨.hbm, 114, rfl⟩
abbrev main_v79_0 : Ref sig .tc := ⟨.hbm, 115, rfl⟩
abbrev main_call0_cst : Ref sig .tc := ⟨.hbm, 116, rfl⟩
abbrev main_v79_2 : Ref sig .tc := ⟨.hbm, 117, rfl⟩
abbrev main_v80 : Ref sig .tc := ⟨.hbm, 118, rfl⟩
abbrev main_v81 : Ref sig .tc := ⟨.hbm, 119, rfl⟩
abbrev main_cst_26 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_27 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_28 : Ref sig .tc := ⟨.hbm, 135, rfl⟩
abbrev main_v95 : Ref sig .tc := ⟨.hbm, 136, rfl⟩
abbrev main_cst_29 : Ref sig .tc := ⟨.hbm, 137, rfl⟩
abbrev main_v96 : Ref sig .tc := ⟨.hbm, 138, rfl⟩
abbrev main_cst_30 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_cst_31 : Ref sig .tc := ⟨.hbm, 147, rfl⟩
abbrev main_v104 : Ref sig .tc := ⟨.hbm, 148, rfl⟩
abbrev main_cst_32 : Ref sig .tc := ⟨.hbm, 149, rfl⟩
abbrev main_v105 : Ref sig .tc := ⟨.hbm, 150, rfl⟩
abbrev main_cst_33 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_cst_34 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_cst_35 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_cst_36 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_cst_37 : Ref sig .tc := ⟨.hbm, 190, rfl⟩
abbrev main_v141 : Ref sig .tc := ⟨.hbm, 191, rfl⟩
abbrev main_v142 : Ref sig .tc := ⟨.hbm, 192, rfl⟩
abbrev main_cst_38 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_cst_39 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_cst_40 : Ref sig .tc := ⟨.hbm, 204, rfl⟩
abbrev main_v152 : Ref sig .tc := ⟨.hbm, 205, rfl⟩
abbrev main_v153 : Ref sig .tc := ⟨.hbm, 206, rfl⟩
abbrev main_cst_41 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_cst_42 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_cst_43 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_cst_44 : Ref sig .tc := ⟨.hbm, 223, rfl⟩
abbrev main_v167 : Ref sig .tc := ⟨.hbm, 224, rfl⟩
abbrev main_v168 : Ref sig .tc := ⟨.hbm, 225, rfl⟩
abbrev main_call1_cst : Ref sig .tc := ⟨.hbm, 226, rfl⟩
abbrev main_call1_v0 : Ref sig .tc := ⟨.hbm, 227, rfl⟩
abbrev main_v169 : Ref sig .tc := ⟨.hbm, 228, rfl⟩
abbrev main_cst_45 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_cst_46 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_cst_47 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_cst_48 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩

abbrev nD : Nat := 1
abbrev τ : Topo := Topo.v7x

variable {F : FTy → Type} [FloatOps F]
-- ==== Kernel3.lean ====
abbrev S4096x1024 : Shape := ⟨2, ![4096, 1024]⟩
abbrev S1024x4096 : Shape := ⟨2, ![1024, 4096]⟩
abbrev S4096 : Shape := ⟨1, ![4096]⟩
abbrev S1024 : Shape := ⟨1, ![1024]⟩
abbrev S4096x4096 : Shape := ⟨2, ![4096, 4096]⟩
abbrev S1x4096 : Shape := ⟨2, ![1, 4096]⟩
abbrev S_ : Shape := ⟨0, ![]⟩
abbrev S1x1024 : Shape := ⟨2, ![1, 1024]⟩
abbrev S512x1024 : Shape := ⟨2, ![512, 1024]⟩
abbrev S512x4096 : Shape := ⟨2, ![512, 4096]⟩
abbrev S512x512 : Shape := ⟨2, ![512, 512]⟩
abbrev S1x512 : Shape := ⟨2, ![1, 512]⟩
abbrev S512 : Shape := ⟨1, ![512]⟩

abbrev nBuf : Space → Nat
  | .hbm => 20
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S4096x4096, .f32⟩
  | .hbm, ⟨7, _⟩ => ⟨S1x4096, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .bf16⟩
  | .hbm, ⟨14, _⟩ => ⟨S4096x1024, .bf16⟩
  | .hbm, ⟨15, _⟩ => ⟨S1x1024, .f32⟩
  | .hbm, ⟨16, _⟩ => ⟨S4096x1024, .bf16⟩
  | .hbm, ⟨17, _⟩ => ⟨S4096x4096, .bf16⟩
  | .hbm, ⟨18, _⟩ => ⟨S1x1024, .f32⟩
  | .hbm, ⟨19, _⟩ => ⟨S1x4096, .f32⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S4096x1024, .bf16⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x4096, .bf16⟩
  | .local _ .vmem, ⟨9, _⟩ => ⟨S512x4096, .bf16⟩
  | .local _ .vmem, ⟨10, _⟩ => ⟨S1x1024, .f32⟩
  | .local _ .vmem, ⟨11, _⟩ => ⟨S1x4096, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference3Ideal.lean ====
abbrev S4096x1024 : Shape := ⟨2, ![4096, 1024]⟩
abbrev S1024x4096 : Shape := ⟨2, ![1024, 4096]⟩
abbrev S4096 : Shape := ⟨1, ![4096]⟩
abbrev S1024 : Shape := ⟨1, ![1024]⟩
abbrev S4096x4096 : Shape := ⟨2, ![4096, 4096]⟩
abbrev S1x4096 : Shape := ⟨2, ![1, 4096]⟩
abbrev S_ : Shape := ⟨0, ![]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S4096x4096, .f32⟩
  | .hbm, ⟨7, _⟩ => ⟨S1x4096, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S1024, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .i1⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S_, .f32⟩
  | .hbm, ⟨40, _⟩ => ⟨S1024, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S4096, .f32⟩
  | .hbm, ⟨48, _⟩ => ⟨S1x4096, .f32⟩
  | .hbm, ⟨49, _⟩ => ⟨S_, .f32⟩
  | .hbm, ⟨50, _⟩ => ⟨S4096, .f32⟩
  | .hbm, ⟨51, _⟩ => ⟨S4096x1024, .bf16⟩
  | .hbm, ⟨52, _⟩ => ⟨S4096x4096, .bf16⟩
  | .hbm, ⟨53, _⟩ => ⟨S1x1024, .f32⟩
  | .hbm, ⟨54, _⟩ => ⟨S1x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_cst_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]
-- ==== Kernel4.lean ====
abbrev S4096x1024 : Shape := ⟨2, ![4096, 1024]⟩
abbrev S4096x128 : Shape := ⟨2, ![4096, 128]⟩
abbrev S16 : Shape := ⟨1, ![16]⟩
abbrev S4096x256 : Shape := ⟨2, ![4096, 256]⟩
abbrev S128x1024 : Shape := ⟨2, ![128, 1024]⟩
abbrev S128x256 : Shape := ⟨2, ![128, 256]⟩
abbrev S1024x64 : Shape := ⟨2, ![1024, 64]⟩
abbrev S1024x256 : Shape := ⟨2, ![1024, 256]⟩
abbrev S128x64 : Shape := ⟨2, ![128, 64]⟩
abbrev S256x64 : Shape := ⟨2, ![256, 64]⟩
abbrev S1 : Shape := ⟨1, ![1]⟩
abbrev S128 : Shape := ⟨1, ![128]⟩
abbrev S128x1 : Shape := ⟨2, ![128, 1]⟩

abbrev nBuf : Space → Nat
  | .hbm => 8
  | .vmem => 10
  | .smem => 1
  | _ => 0

abbrev bufTy : (tb : Table) → Fin (tcTables nBuf tb) → BufTy
  | .hbm, ⟨0, _⟩ => ⟨S4096x1024, .f32⟩
  | .hbm, ⟨1, _⟩ => ⟨S4096x128, .f32⟩
  | .hbm, ⟨2, _⟩ => ⟨S4096x128, .f32⟩
  | .hbm, ⟨3, _⟩ => ⟨S16, .f32⟩
  | .hbm, ⟨4, _⟩ => ⟨S4096x256, .f32⟩
  | .hbm, ⟨5, _⟩ => ⟨S4096x1024, .bf16⟩
  | .hbm, ⟨6, _⟩ => ⟨S4096x256, .bf16⟩
  | .hbm, ⟨7, _⟩ => ⟨S4096x1024, .bf16⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x1024, .bf16⟩
  | .local _ .vmem, ⟨7, _⟩ => ⟨S128x1024, .bf16⟩
  | .local _ .vmem, ⟨8, _⟩ => ⟨S1024x64, .bf16⟩
  | .local _ .vmem, ⟨9, _⟩ => ⟨S1024x256, .bf16⟩
  | .local _ .smem, ⟨0, _⟩ => ⟨S16, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel4Ideal.lean ====
variable {F : FTy → Type} [FloatOps F] [Named F]
def κ : String → Option EReal := fun
  | "mask" => some ⊥
  | _ => none
-- ==== Reference4Ideal.lean ====
abbrev S4096x1024 : Shape := ⟨2, ![4096, 1024]⟩
abbrev S4096x128 : Shape := ⟨2, ![4096, 128]⟩
abbrev S16 : Shape := ⟨1, ![16]⟩
abbrev S32x128x2x8x64 : Shape := ⟨5, ![32, 128, 2, 8, 64]⟩
abbrev S32x128x2x64 : Shape := ⟨4, ![32, 128, 2, 64]⟩
abbrev S1x128x2x64 : Shape := ⟨4, ![1, 128, 2, 64]⟩
abbrev S_ : Shape := ⟨0, ![]⟩
abbrev S31x128x2x64 : Shape := ⟨4, ![31, 128, 2, 64]⟩
abbrev S32x256x2x64 : Shape := ⟨4, ![32, 256, 2, 64]⟩
abbrev S32x2x256x128x8 : Shape := ⟨5, ![32, 2, 256, 128, 8]⟩
abbrev S32x2x8x128x256 : Shape := ⟨5, ![32, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S1 : Shape := ⟨1, ![1]⟩
abbrev S2x8 : Shape := ⟨2, ![2, 8]⟩
abbrev S2x8x1x1 : Shape := ⟨4, ![2, 8, 1, 1]⟩
abbrev S1x1x128x256 : Shape := ⟨4, ![1, 1, 128, 256]⟩
abbrev S2x8x128x256 : Shape := ⟨4, ![2, 8, 128, 256]⟩
abbrev S1x2x8x128x256 : Shape := ⟨5, ![1, 2, 8, 128, 256]⟩
abbrev S32x1x1x128x256 : Shape := ⟨5, ![32, 1, 1, 128, 256]⟩
abbrev S2x8x1 : Shape := ⟨3, ![2, 8, 1]⟩
abbrev S32x2x8x128 : Shape := ⟨4, ![32, 2, 8, 128]⟩
abbrev S1x2x8x1 : Shape := ⟨4, ![1, 2, 8, 1]⟩
abbrev S32x2x8x128x1 : Shape := ⟨5, ![32, 2, 8, 128, 1]⟩
abbrev S32x2x64x8x128 : Shape := ⟨5, ![32, 2, 64, 8, 128]⟩

abbrev nBuf : Space → Nat
  | .hbm => 136
  | .vmem => 0
  | .smem => 0
  | _ => 0

abbrev hbmTy0_0 (i : Nat) : BufTy := match i % 128 with
  | 0 => ⟨S4096x1024, .f32⟩
  | 1 => ⟨S4096x128, .f32⟩
  | 2 => ⟨S4096x128, .f32⟩
  | 3 => ⟨S16, .f32⟩
  | 4 => ⟨S32x128x2x8x64, .f32⟩
  | 5 => ⟨S32x128x2x64, .f32⟩
  | 6 => ⟨S32x128x2x64, .f32⟩
  | 7 => ⟨S1x128x2x64, .f32⟩
  | 8 => ⟨S_, .f32⟩
  | 9 => ⟨S1x128x2x64, .f32⟩
  | 10 => ⟨S31x128x2x64, .f32⟩
  | 11 => ⟨S32x128x2x64, .f32⟩
  | 12 => ⟨S32x256x2x64, .f32⟩
  | 13 => ⟨S1x128x2x64, .f32⟩
  | 14 => ⟨S_, .f32⟩
  | 15 => ⟨S1x128x2x64, .f32⟩
  | 16 => ⟨S31x128x2x64, .f32⟩
  | 17 => ⟨S32x128x2x64, .f32⟩
  | 18 => ⟨S32x256x2x64, .f32⟩
  | 19 => ⟨S32x2x256x128x8, .f32⟩
  | 20 => ⟨S32x2x8x128x256, .f32⟩
  | 21 => ⟨S_, .f32⟩
  | 22 => ⟨S32x2x8x128x256, .f32⟩
  | 23 => ⟨S32x2x8x128x256, .f32⟩
  | 24 => ⟨S128, .i32⟩
  | 25 => ⟨S128x1, .i32⟩
  | 26 => ⟨S_, .i32⟩
  | 27 => ⟨S128x1, .i32⟩
  | 28 => ⟨S128x1, .i32⟩
  | 29 => ⟨S256, .i32⟩
  | 30 => ⟨S1x256, .i32⟩
  | 31 => ⟨S128x256, .i32⟩
  | 32 => ⟨S128x256, .i32⟩
  | 33 => ⟨S128x256, .i32⟩
  | 34 => ⟨S32, .i32⟩
  | 35 => ⟨S32x1, .i32⟩
  | 36 => ⟨S_, .i32⟩
  | 37 => ⟨S32x1, .i32⟩
  | 38 => ⟨S32x1, .i32⟩
  | 39 => ⟨S256, .i32⟩
  | 40 => ⟨S1x256, .i32⟩
  | 41 => ⟨S32x256, .i32⟩
  | 42 => ⟨S32x256, .i32⟩
  | 43 => ⟨S32x256, .i32⟩
  | 44 => ⟨S_, .i32⟩
  | 45 => ⟨S32x256, .i32⟩
  | 46 => ⟨S32x256, .i32⟩
  | 47 => ⟨S_, .i32⟩
  | 48 => ⟨S128x256, .i32⟩
  | 49 => ⟨S128x256, .i1⟩
  | 50 => ⟨S_, .i32⟩
  | 51 => ⟨S128x256, .i32⟩
  | 52 => ⟨S128x256, .i1⟩
  | 53 => ⟨S128x256, .i1⟩
  | 54 => ⟨S1x128x256, .i1⟩
  | 55 => ⟨S_, .i32⟩
  | 56 => ⟨S32x256, .i32⟩
  | 57 => ⟨S32x256, .i1⟩
  | 58 => ⟨S32x1x256, .i1⟩
  | 59 => ⟨S32x128x256, .i1⟩
  | 60 => ⟨S32x128x256, .i1⟩
  | 61 => ⟨S32x128x256, .i1⟩
  | 62 => ⟨S_, .f32⟩
  | 63 => ⟨S1, .f32⟩
  | 64 => ⟨S_, .f32⟩
  | 65 => ⟨S1, .f32⟩
  | 66 => ⟨S_, .f32⟩
  | 67 => ⟨S1, .f32⟩
  | 68 => ⟨S_, .f32⟩
  | 69 => ⟨S1, .f32⟩
  | 70 => ⟨S_, .f32⟩
  | 71 => ⟨S1, .f32⟩
  | 72 => ⟨S_, .f32⟩
  | 73 => ⟨S1, .f32⟩
  | 74 => ⟨S_, .f32⟩
  | 75 => ⟨S1, .f32⟩
  | 76 => ⟨S_, .f32⟩
  | 77 => ⟨S1, .f32⟩
  | 78 => ⟨S_, .f32⟩
  | 79 => ⟨S1, .f32⟩
  | 80 => ⟨S_, .f32⟩
  | 81 => ⟨S1, .f32⟩
  | 82 => ⟨S_, .f32⟩
  | 83 => ⟨S1, .f32⟩
  | 84 => ⟨S_, .f32⟩
  | 85 => ⟨S1, .f32⟩
  | 86 => ⟨S_, .f32⟩
  | 87 => ⟨S1, .f32⟩
  | 88 => ⟨S_, .f32⟩
  | 89 => ⟨S1, .f32⟩
  | 90 => ⟨S_, .f32⟩
  | 91 => ⟨S1, .f32⟩
  | 92 => ⟨S_, .f32⟩
  | 93 => ⟨S1, .f32⟩
  | 94 => ⟨S16, .f32⟩
  | 95 => ⟨S2x8, .f32⟩
  | 96 => ⟨S2x8x1x1, .f32⟩
  | 97 => ⟨S128x256, .f32⟩
  | 98 => ⟨S1x1x128x256, .f32⟩
  | 99 => ⟨S2x8x128x256, .f32⟩
  | 100 => ⟨S2x8x128x256, .f32⟩
  | 101 => ⟨S2x8x128x256, .f32⟩
  | 102 => ⟨S1x2x8x128x256, .f32⟩
  | 103 => ⟨S32x2x8x128x256, .f32⟩
  | 104 => ⟨S32x2x8x128x256, .f32⟩
  | 105 => ⟨S32x1x1x128x256, .i1⟩
  | 106 => ⟨S_, .f32⟩
  | 107 => ⟨S_, .f32⟩
  | 108 => ⟨S32x2x8x128x256, .i1⟩
  | 109 => ⟨S32x2x8x128x256, .f32⟩
  | 110 => ⟨S32x2x8x128x256, .f32⟩
  | 111 => ⟨S2x8, .f32⟩
  | 112 => ⟨S2x8x1, .f32⟩
  | 113 => ⟨S_, .f32⟩
  | 114 => ⟨S32x2x8x128, .f32⟩
  | 115 => ⟨S1x2x8x1, .f32⟩
  | 116 => ⟨S32x2x8x128, .f32⟩
  | 117 => ⟨S32x2x8x128, .f32⟩
  | 118 => ⟨S32x2x8x128x1, .f32⟩
  | 119 => ⟨S32x2x8x128x256, .f32⟩
  | 120 => ⟨S32x2x8x128x256, .f32⟩
  | 121 => ⟨S32x2x8x128x256, .f32⟩
  | 122 => ⟨S_, .f32⟩
  | 123 => ⟨S32x2x8x128, .f32⟩
  | 124 => ⟨S1x2x8x1, .f32⟩
  | 125 => ⟨S32x2x8x128, .f32⟩
  | 126 => ⟨S32x2x8x128, .f32⟩
  | 127 => ⟨S32x2x8x128, .f32⟩
  | _ => ⟨S4096x1024, .f32⟩

abbrev hbmTy0_1 (i : Nat) : BufTy := match i % 128 with
  | 0 => ⟨S32x2x8x128, .f32⟩
  | 1 => ⟨S32x2x8x128x1, .f32⟩
  | 2 => ⟨S32x2x8x128x256, .f32⟩
  | 3 => ⟨S32x2x8x128x256, .f32⟩
  | 4 => ⟨S32x2x64x8x128, .f32⟩
  | 5 => ⟨S32x128x2x8x64, .f32⟩
  | 6 => ⟨S4096x1024, .f32⟩
  | 7 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c_3 : Ref sig .tc := ⟨.hbm, 44, rfl⟩
abbrev main_v35 : Ref sig .tc := ⟨.hbm, 45, rfl⟩
abbrev main_v36 : Ref sig .tc := ⟨.hbm, 46, rfl⟩
abbrev main_c_4 : Ref sig .tc := ⟨.hbm, 47, rfl⟩
abbrev main_v37 : Ref sig .tc := ⟨.hbm, 48, rfl⟩
abbrev main_v38 : Ref sig .tc := ⟨.hbm, 49, rfl⟩
abbrev main_c_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_7 : Ref sig .tc := ⟨.hbm, 62, rfl⟩
abbrev main_v49 : Ref sig .tc := ⟨.hbm, 63, rfl⟩
abbrev main_cst_8 : Ref sig .tc := ⟨.hbm, 64, rfl⟩
abbrev main_v50 : Ref sig .tc := ⟨.hbm, 65, rfl⟩
abbrev main_cst_9 : Ref sig .tc := ⟨.hbm, 66, rfl⟩
abbrev main_v51 : Ref sig .tc := ⟨.hbm, 67, rfl⟩
abbrev main_cst_10 : Ref sig .tc := ⟨.hbm, 68, rfl⟩
abbrev main_v52 : Ref sig .tc := ⟨.hbm, 69, rfl⟩
abbrev main_cst_11 : Ref sig .tc := ⟨.hbm, 70, rfl⟩
abbrev main_v53 : Ref sig .tc := ⟨.hbm, 71, rfl⟩
abbrev main_cst_12 : Ref sig .tc := ⟨.hbm, 72, rfl⟩
abbrev main_v54 : Ref sig .tc := ⟨.hbm, 73, rfl⟩
abbrev main_cst_13 : Ref sig .tc := ⟨.hbm, 74, rfl⟩
abbrev main_v55 : Ref sig .tc := ⟨.hbm, 75, rfl⟩
abbrev main_cst_14 : Ref sig .tc := ⟨.hbm, 76, rfl⟩
abbrev main_v56 : Ref sig .tc := ⟨.hbm, 77, rfl⟩
abbrev main_cst_15 : Ref sig .tc := ⟨.hbm, 78, rfl⟩
abbrev main_v57 : Ref sig .tc := ⟨.hbm, 79, rfl⟩
abbrev main_cst_16 : Ref sig .tc := ⟨.hbm, 80, rfl⟩
abbrev main_v58 : Ref sig .tc := ⟨.hbm, 81, rfl⟩
abbrev main_cst_17 : Ref sig .tc := ⟨.hbm, 82, rfl⟩
abbrev main_v59 : Ref sig .tc := ⟨.hbm, 83, rfl⟩
abbrev main_cst_18 : Ref sig .tc := ⟨.hbm, 84, rfl⟩
abbrev main_v60 : Ref sig .tc := ⟨.hbm, 85, rfl⟩
abbrev main_cst_19 : Ref sig .tc := ⟨.hbm, 86, rfl⟩
abbrev main_v61 : Ref sig .tc := ⟨.hbm, 87, rfl⟩
abbrev main_cst_20 : Ref sig .tc := ⟨.hbm, 88, rfl⟩
abbrev main_v62 : Ref sig .tc := ⟨.hbm, 89, rfl⟩
abbrev main_cst_21 : Ref sig .tc := ⟨.hbm, 90, rfl⟩
abbrev main_v63 : Ref sig .tc := ⟨.hbm, 91, rfl⟩
abbrev main_cst_22 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_23 : Ref sig .tc := ⟨.hbm, 106, rfl⟩
abbrev main_call0_v0 : Ref sig .tc := ⟨.hbm, 107, rfl⟩
abbrev main_call0_v1 : Ref sig .tc := ⟨.hbm, 108, rfl⟩
abbrev main_call0_v2 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_24 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_25 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩

abbrev nD : Nat := 1
abbrev τ : Topo := Topo.v7x

variable {F : FTy → Type} [FloatOps F]
-- ==== Kernel5.lean ====
abbrev S4096x1024 : Shape := ⟨2, ![4096, 1024]⟩
abbrev S1024 : Shape := ⟨1, ![1024]⟩
abbrev S1024x4096 : Shape := ⟨2, ![1024, 4096]⟩
abbrev S4096 : Shape := ⟨1, ![4096]⟩
abbrev S1x1024 : Shape := ⟨2, ![1, 1024]⟩
abbrev S_ : Shape := ⟨0, ![]⟩
abbrev S2x1024 : Shape := ⟨2, ![2, 1024]⟩
abbrev S8x1024 : Shape := ⟨2, ![8, 1024]⟩
abbrev S1x4096 : Shape := ⟨2, ![1, 4096]⟩
abbrev S4096x4096 : Shape := ⟨2, ![4096, 4096]⟩
abbrev S1x128 : Shape := ⟨2, ![1, 128]⟩
abbrev S512x1024 : Shape := ⟨2, ![512, 1024]⟩
abbrev S512x4096 : Shape := ⟨2, ![512, 4096]⟩
abbrev S1024x512 : Shape := ⟨2, ![1024, 512]⟩
abbrev S512x512 : Shape := ⟨2, ![512, 512]⟩
abbrev S1x512 : Shape := ⟨2, ![1, 512]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 29
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024x4096, .f32⟩
  | .hbm, ⟨5, _⟩ => ⟨S4096, .f32⟩
  | .hbm, ⟨6, _⟩ => ⟨S4096x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S4096x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S_, .f32⟩
  | .hbm, ⟨19, _⟩ => ⟨S2x1024, .f32⟩
  | .hbm, ⟨20, _⟩ => ⟨S8x1024, .f32⟩
  | .hbm, ⟨21, _⟩ => ⟨S4096x1024, .bf16⟩
  | .hbm, ⟨22, _⟩ => ⟨S1024x4096, .bf16⟩
  | .hbm, ⟨23, _⟩ => ⟨S4096x1024, .bf16⟩
  | .hbm, ⟨24, _⟩ => ⟨S1x4096, .f32⟩
  | .hbm, ⟨25, _⟩ => ⟨S4096x4096, .bf16⟩
  | .hbm, ⟨26, _⟩ => ⟨S4096x1024, .f32⟩
  | .hbm, ⟨27, _⟩ => ⟨S8x1024, .f32⟩
  | .hbm, ⟨28, _⟩ => ⟨S1x128, .f32⟩
  | .local _ .vmem, ⟨0, _⟩ => ⟨S512x1024, .bf16⟩
  | .local _ .vmem, ⟨1, _⟩ => ⟨S512x1024, .bf16⟩
  | .local _ .vmem, ⟨2, _⟩ => ⟨S1024x4096, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S8x1024, .f32⟩
  | .local _ .vmem, ⟨9, _⟩ => ⟨S1x4096, .f32⟩
  | .local _ .vmem, ⟨10, _⟩ => ⟨S512x4096, .bf16⟩
  | .local _ .vmem, ⟨11, _⟩ => ⟨S512x4096, .bf16⟩
  | .local _ .vmem, ⟨12, _⟩ => ⟨S512x1024, .f32⟩
  | .local _ .vmem, ⟨13, _⟩ => ⟨S512x1024, .f32⟩
  | .local _ .vmem, ⟨14, _⟩ => ⟨S8x1024, .f32⟩
  | .local _ .vmem, ⟨15, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12_0 : Ref sig .tc := ⟨.hbm, 25, rfl⟩
abbrev main_v12_1 : Ref sig .tc := ⟨.hbm, 26, rfl⟩
abbrev main_v12_2 : Ref sig .tc := ⟨.hbm, 27, rfl⟩
abbrev main_v12_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference5Ideal.lean ====
abbrev S4096x1024 : Shape := ⟨2, ![4096, 1024]⟩
abbrev S1024 : Shape := ⟨1, ![1024]⟩
abbrev S1024x4096 : Shape := ⟨2, ![1024, 4096]⟩
abbrev S4096 : Shape := ⟨1, ![4096]⟩
abbrev S4096x4096 : Shape := ⟨2, ![4096, 4096]⟩
abbrev S1x4096 : Shape := ⟨2, ![1, 4096]⟩
abbrev S_ : Shape := ⟨0, ![]⟩
abbrev S1x1024 : Shape := ⟨2, ![1, 1024]⟩
abbrev S4096x1 : Shape := ⟨2, ![4096, 1]⟩
abbrev S3x1024 : Shape := ⟨2, ![3, 1024]⟩
abbrev S5x1024 : Shape := ⟨2, ![5, 1024]⟩
abbrev S8x1024 : Shape := ⟨2, ![8, 1024]⟩
abbrev S1x128 : Shape := ⟨2, ![1, 128]⟩

abbrev nBuf : Space → Nat
  | .hbm => 158
  | .vmem => 0
  | .smem => 0
  | _ => 0

abbrev hbmTy0_0 (i : Nat) : BufTy := match i % 128 with
  | 0 => ⟨S4096x1024, .f32⟩
  | 1 => ⟨S4096x1024, .f32⟩
  | 2 => ⟨S1024, .f32⟩
  | 3 => ⟨S1024, .f32⟩
  | 4 => ⟨S1024x4096, .f32⟩
  | 5 => ⟨S4096, .f32⟩
  | 6 => ⟨S4096x1024, .f32⟩
  | 7 => ⟨S1024, .f32⟩
  | 8 => ⟨S1024, .f32⟩
  | 9 => ⟨S1024, .f32⟩
  | 10 => ⟨S1024, .f32⟩
  | 11 => ⟨S4096x1024, .f32⟩
  | 12 => ⟨S4096x4096, .f32⟩
  | 13 => ⟨S1x4096, .f32⟩
  | 14 => ⟨S4096x4096, .f32⟩
  | 15 => ⟨S4096x4096, .f32⟩
  | 16 => ⟨S_, .f32⟩
  | 17 => ⟨S4096x4096, .f32⟩
  | 18 => ⟨S4096x4096, .f32⟩
  | 19 => ⟨S4096x4096, .f32⟩
  | 20 => ⟨S4096x1024, .f32⟩
  | 21 => ⟨S1x1024, .f32⟩
  | 22 => ⟨S4096x1024, .f32⟩
  | 23 => ⟨S4096x1024, .f32⟩
  | 24 => ⟨S1x1024, .f32⟩
  | 25 => ⟨S4096x1024, .f32⟩
  | 26 => ⟨S4096x1024, .f32⟩
  | 27 => ⟨S1x1024, .f32⟩
  | 28 => ⟨S4096x1024, .f32⟩
  | 29 => ⟨S4096x1024, .f32⟩
  | 30 => ⟨S_, .f32⟩
  | 31 => ⟨S4096x1024, .f32⟩
  | 32 => ⟨S4096x1024, .f32⟩
  | 33 => ⟨S_, .f32⟩
  | 34 => ⟨S1024, .f32⟩
  | 35 => ⟨S1024, .f32⟩
  | 36 => ⟨S1x1024, .f32⟩
  | 37 => ⟨S4096x1024, .f32⟩
  | 38 => ⟨S4096x1024, .f32⟩
  | 39 => ⟨S4096x1024, .f32⟩
  | 40 => ⟨S_, .f32⟩
  | 41 => ⟨S4096, .f32⟩
  | 42 => ⟨S4096x1, .f32⟩
  | 43 => ⟨S_, .f32⟩
  | 44 => ⟨S4096x1, .f32⟩
  | 45 => ⟨S4096x1, .f32⟩
  | 46 => ⟨S4096x1024, .f32⟩
  | 47 => ⟨S4096x1024, .f32⟩
  | 48 => ⟨S4096x1024, .f32⟩
  | 49 => ⟨S_, .f32⟩
  | 50 => ⟨S4096x1024, .f32⟩
  | 51 => ⟨S4096x1024, .f32⟩
  | 52 => ⟨S_, .f32⟩
  | 53 => ⟨S4096, .f32⟩
  | 54 => ⟨S4096x1, .f32⟩
  | 55 => ⟨S_, .f32⟩
  | 56 => ⟨S4096x1, .f32⟩
  | 57 => ⟨S4096x1, .f32⟩
  | 58 => ⟨S4096x1024, .f32⟩
  | 59 => ⟨S4096x1024, .f32⟩
  | 60 => ⟨S_, .f32⟩
  | 61 => ⟨S4096x1, .f32⟩
  | 62 => ⟨S4096x1, .f32⟩
  | 63 => ⟨S4096x1, .f32⟩
  | 64 => ⟨S4096x1, .f32⟩
  | 65 => ⟨S_, .f32⟩
  | 66 => ⟨S4096x1, .f32⟩
  | 67 => ⟨S4096x1, .f32⟩
  | 68 => ⟨S4096x1024, .f32⟩
  | 69 => ⟨S4096x1024, .f32⟩
  | 70 => ⟨S1x1024, .f32⟩
  | 71 => ⟨S4096x1024, .f32⟩
  | 72 => ⟨S4096x1024, .f32⟩
  | 73 => ⟨S1x1024, .f32⟩
  | 74 => ⟨S4096x1024, .f32⟩
  | 75 => ⟨S4096x1024, .f32⟩
  | 76 => ⟨S4096x1024, .f32⟩
  | 77 => ⟨S4096x1024, .f32⟩
  | 78 => ⟨S_, .f32⟩
  | 79 => ⟨S4096x1024, .f32⟩
  | 80 => ⟨S4096x1024, .f32⟩
  | 81 => ⟨S_, .f32⟩
  | 82 => ⟨S4096, .f32⟩
  | 83 => ⟨S_, .f32⟩
  | 84 => ⟨S4096, .f32⟩
  | 85 => ⟨S4096, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S4096, .f32⟩
  | 94 => ⟨S_, .f32⟩
  | 95 => ⟨S4096, .f32⟩
  | 96 => ⟨S4096, .f32⟩
  | 97 => ⟨S4096x1024, .f32⟩
  | 98 => ⟨S4096x1024, .f32⟩
  | 99 => ⟨S_, .f32⟩
  | 100 => ⟨S1024, .f32⟩
  | 101 => ⟨S1x1024, .f32⟩
  | 102 => ⟨S_, .f32⟩
  | 103 => ⟨S1024, .f32⟩
  | 104 => ⟨S4096x1024, .f32⟩
  | 105 => ⟨S_, .f32⟩
  | 106 => ⟨S1024, .f32⟩
  | 107 => ⟨S1x1024, .f32⟩
  | 108 => ⟨S4096x1024, .f32⟩
  | 109 => ⟨S4096x1024, .f32⟩
  | 110 => ⟨S_, .f32⟩
  | 111 => ⟨S1024, .f32⟩
  | 112 => ⟨S4096x1024, .f32⟩
  | 113 => ⟨S_, .f32⟩
  | 114 => ⟨S4096, .f32⟩
  | 115 => ⟨S4096x1, .f32⟩
  | 116 => ⟨S4096x1024, .f32⟩
  | 117 => ⟨S4096x1024, .f32⟩
  | 118 => ⟨S4096x1, .f32⟩
  | 119 => ⟨S4096x1024, .f32⟩
  | 120 => ⟨S_, .f32⟩
  | 121 => ⟨S4096, .f32⟩
  | 122 => ⟨S4096x1, .f32⟩
  | 123 => ⟨S_, .f32⟩
  | 124 => ⟨S4096x1, .f32⟩
  | 125 => ⟨S4096x1, .f32⟩
  | 126 => ⟨S_, .f32⟩
  | 127 => ⟨S4096, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S_, .f32⟩
  | 4 => ⟨S4096, .f32⟩
  | 5 => ⟨S4096x1, .f32⟩
  | 6 => ⟨S4096x1024, .f32⟩
  | 7 => ⟨S4096x1, .f32⟩
  | 8 => ⟨S_, .f32⟩
  | 9 => ⟨S4096x1, .f32⟩
  | 10 => ⟨S4096x1, .f32⟩
  | 11 => ⟨S_, .f32⟩
  | 12 => ⟨S4096, .f32⟩
  | 13 => ⟨S4096x1024, .f32⟩
  | 14 => ⟨S4096x1024, .f32⟩
  | 15 => ⟨S4096x1024, .f32⟩
  | 16 => ⟨S_, .f32⟩
  | 17 => ⟨S1024, .f32⟩
  | 18 => ⟨S1x1024, .f32⟩
  | 19 => ⟨S_, .f32⟩
  | 20 => ⟨S1024, .f32⟩
  | 21 => ⟨S4096x4096, .bf16⟩
  | 22 => ⟨S1x1024, .f32⟩
  | 23 => ⟨S1x1024, .f32⟩
  | 24 => ⟨S1x1024, .f32⟩
  | 25 => ⟨S3x1024, .f32⟩
  | 26 => ⟨S_, .f32⟩
  | 27 => ⟨S5x1024, .f32⟩
  | 28 => ⟨S8x1024, .f32⟩
  | 29 => ⟨S1x128, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_cst_0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_1 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_8 : Ref sig .tc := ⟨.hbm, 78, rfl⟩
abbrev main_v55 : Ref sig .tc := ⟨.hbm, 79, rfl⟩
abbrev main_v56 : Ref sig .tc := ⟨.hbm, 80, rfl⟩
abbrev main_cst_9 : Ref sig .tc := ⟨.hbm, 81, rfl⟩
abbrev main_v57 : Ref sig .tc := ⟨.hbm, 82, rfl⟩
abbrev main_cst_10 : Ref sig .tc := ⟨.hbm, 83, rfl⟩
abbrev main_v58 : Ref sig .tc := ⟨.hbm, 84, rfl⟩
abbrev main_v59 : Ref sig .tc := ⟨.hbm, 85, rfl⟩
abbrev main_cst_11 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_cst_13 : Ref sig .tc := ⟨.hbm, 90, rfl⟩
abbrev main_cst_14 : Ref sig .tc := ⟨.hbm, 91, rfl⟩
abbrev main_v62 : Ref sig .tc := ⟨.hbm, 92, rfl⟩
abbrev main_v63 : Ref sig .tc := ⟨.hbm, 93, rfl⟩
abbrev main_cst_15 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_16 : Ref sig .tc := ⟨.hbm, 99, rfl⟩
abbrev main_v68 : Ref sig .tc := ⟨.hbm, 100, rfl⟩
abbrev main_v69 : Ref sig .tc := ⟨.hbm, 101, rfl⟩
abbrev main_cst_17 : Ref sig .tc := ⟨.hbm, 102, rfl⟩
abbrev main_v70 : Ref sig .tc := ⟨.hbm, 103, rfl⟩
abbrev main_v71 : Ref sig .tc := ⟨.hbm, 104, rfl⟩
abbrev main_cst_18 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_19 : Ref sig .tc := ⟨.hbm, 110, rfl⟩
abbrev main_v76 : Ref sig .tc := ⟨.hbm, 111, rfl⟩
abbrev main_v77 : Ref sig .tc := ⟨.hbm, 112, rfl⟩
abbrev main_cst_20 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_21 : Ref sig .tc := ⟨.hbm, 120, rfl⟩
abbrev main_v84 : Ref sig .tc := ⟨.hbm, 121, rfl⟩
abbrev main_v85 : Ref sig .tc := ⟨.hbm, 122, rfl⟩
abbrev main_cst_22 : Ref sig .tc := ⟨.hbm, 123, rfl⟩
abbrev main_v86 : Ref sig .tc := ⟨.hbm, 124, rfl⟩
abbrev main_v87 : Ref sig .tc := ⟨.hbm, 125, rfl⟩
abbrev main_cst_23 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_24 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_25 : Ref sig .tc := ⟨.hbm, 136, rfl⟩
abbrev main_v96 : Ref sig .tc := ⟨.hbm, 137, rfl⟩
abbrev main_v97 : Ref sig .tc := ⟨.hbm, 138, rfl⟩
abbrev main_cst_26 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_27 : Ref sig .tc := ⟨.hbm, 144, rfl⟩
abbrev main_v102 : Ref sig .tc := ⟨.hbm, 145, rfl⟩
abbrev main_v103 : Ref sig .tc := ⟨.hbm, 146, rfl⟩
abbrev main_cst_28 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_29 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩

abbrev nD : Nat := 1
abbrev τ : Topo := Topo.v7x

variable {F : FTy → Type} [FloatOps F]
-- ==== Kernel6.lean ====
abbrev S4096x1024 : Shape := ⟨2, ![4096, 1024]⟩
abbrev S2048x1024 : Shape := ⟨2, ![2048, 1024]⟩
abbrev S1024 : Shape := ⟨1, ![1024]⟩
abbrev S1024x4096 : Shape := ⟨2, ![1024, 4096]⟩
abbrev S4096x4096 : Shape := ⟨2, ![4096, 4096]⟩
abbrev S1x1024 : Shape := ⟨2, ![1, 1024]⟩
abbrev S_ : Shape := ⟨0, ![]⟩
abbrev S8x1024 : Shape := ⟨2, ![8, 1024]⟩
abbrev S4096x1 : Shape := ⟨2, ![4096, 1]⟩
abbrev S512x1024 : Shape := ⟨2, ![512, 1024]⟩
abbrev S512x1 : Shape := ⟨2, ![512, 1]⟩
abbrev S1024x1024 : Shape := ⟨2, ![1024, 1024]⟩
abbrev S512 : Shape := ⟨1, ![512]⟩
abbrev S4x1024 : Shape := ⟨2, ![4, 1024]⟩
abbrev S512x4096 : Shape := ⟨2, ![512, 4096]⟩

abbrev nBuf : Space → Nat
  | .hbm => 45
  | .vmem => 38
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2048x1024, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024x4096, .f32⟩
  | .hbm, ⟨12, _⟩ => ⟨S4096x1024, .f32⟩
  | .hbm, ⟨13, _⟩ => ⟨S4096x4096, .f32⟩
  | .hbm, ⟨14, _⟩ => ⟨S2048x1024, .bf16⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S8x1024, .f32⟩
  | .hbm, ⟨25, _⟩ => ⟨S4096x1024, .bf16⟩
  | .hbm, ⟨26, _⟩ => ⟨S4096x1024, .bf16⟩
  | .hbm, ⟨27, _⟩ => ⟨S4096x1024, .f32⟩
  | .hbm, ⟨28, _⟩ => ⟨S4096x1024, .f32⟩
  | .hbm, ⟨29, _⟩ => ⟨S4096x1, .f32⟩
  | .hbm, ⟨30, _⟩ => ⟨S4096x1024, .bf16⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S_, .f32⟩
  | .hbm, ⟨36, _⟩ => ⟨S4x1024, .f32⟩
  | .hbm, ⟨37, _⟩ => ⟨S8x1024, .f32⟩
  | .hbm, ⟨38, _⟩ => ⟨S4096x4096, .bf16⟩
  | .hbm, ⟨39, _⟩ => ⟨S1024x4096, .bf16⟩
  | .hbm, ⟨40, _⟩ => ⟨S4096x1024, .bf16⟩
  | .hbm, ⟨41, _⟩ => ⟨S4096x1024, .f32⟩
  | .hbm, ⟨42, _⟩ => ⟨S4096x1024, .f32⟩
  | .hbm, ⟨43, _⟩ => ⟨S4096x1024, .bf16⟩
  | .hbm, ⟨44, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | .local _ .vmem, ⟨7, _⟩ => ⟨S8x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1, .f32⟩
  | .local _ .vmem, ⟨13, _⟩ => ⟨S512x1, .f32⟩
  | .local _ .vmem, ⟨14, _⟩ => ⟨S512x1024, .bf16⟩
  | .local _ .vmem, ⟨15, _⟩ => ⟨S512x1024, .bf16⟩
  | .local _ .vmem, ⟨16, _⟩ => ⟨S512x4096, .bf16⟩
  | .local _ .vmem, ⟨17, _⟩ => ⟨S512x4096, .bf16⟩
  | .local _ .vmem, ⟨18, _⟩ => ⟨S1024x4096, .bf16⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1, .f32⟩
  | .local _ .vmem, ⟨24, _⟩ => ⟨S512x1, .f32⟩
  | .local _ .vmem, ⟨25, _⟩ => ⟨S512x1024, .f32⟩
  | .local _ .vmem, ⟨26, _⟩ => ⟨S512x1024, .f32⟩
  | .local _ .vmem, ⟨27, _⟩ => ⟨S2048x1024, .bf16⟩
  | .local _ .vmem, ⟨28, _⟩ => ⟨S8x1024, .f32⟩
  | .local _ .vmem, ⟨29, _⟩ => ⟨S512x1024, .bf16⟩
  | .local _ .vmem, ⟨30, _⟩ => ⟨S512x1024, .bf16⟩
  | .local _ .vmem, ⟨31, _⟩ => ⟨S512x1024, .f32⟩
  | .local _ .vmem, ⟨32, _⟩ => ⟨S512x1024, .f32⟩
  | .local _ .vmem, ⟨33, _⟩ => ⟨S512x1024, .f32⟩
  | .local _ .vmem, ⟨34, _⟩ => ⟨S512x1024, .f32⟩
  | .local _ .vmem, ⟨35, _⟩ => ⟨S512x1024, .bf16⟩
  | .local _ .vmem, ⟨36, _⟩ => ⟨S512x1024, .bf16⟩
  | .local _ .vmem, ⟨37, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12_0 : Ref sig .tc := ⟨.hbm, 27, rfl⟩
abbrev main_v12_1 : Ref sig .tc := ⟨.hbm, 28, rfl⟩
abbrev main_v12_2 : Ref sig .tc := ⟨.hbm, 29, rfl⟩
abbrev main_v12_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21_0 : Ref sig .tc := ⟨.hbm, 40, rfl⟩
abbrev main_v21_1 : Ref sig .tc := ⟨.hbm, 41, rfl⟩
abbrev main_v21_2 : Ref sig .tc := ⟨.hbm, 42, rfl⟩
abbrev main_v21_3 : Ref sig .tc := ⟨.hbm, 43, rfl⟩
abbrev main_v21_4 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg8_0 : Ref sig .tc := ⟨.vmem, 29, rfl⟩
abbrev cc1_stg8_1 : Ref sig .tc := ⟨.vmem, 30, rfl⟩
abbrev cc1_stg9_0 : Ref sig .tc := ⟨.vmem, 31, rfl⟩
abbrev cc1_stg9_1 : Ref sig .tc := ⟨.vmem, 32, rfl⟩
abbrev cc1_stg10_0 : Ref sig .tc := ⟨.vmem, 33, rfl⟩
abbrev cc1_stg10_1 : Ref sig .tc := ⟨.vmem, 34, rfl⟩
abbrev cc1_stg11_0 : Ref sig .tc := ⟨.vmem, 35, rfl⟩
abbrev cc1_stg11_1 : Ref sig .tc := ⟨.vmem, 36, rfl⟩
abbrev cc1_stg12_0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem5_1 : DmaSem sig := 26
abbrev cc1_sem6_0 : DmaSem sig := 27
abbrev cc1_sem7_0 : DmaSem sig := 28
abbrev cc1_sem8_0 : DmaSem sig := 29
abbrev cc1_sem8_1 : DmaSem sig := 30
abbrev cc1_sem9_0 : DmaSem sig := 31
abbrev cc1_sem9_1 : DmaSem sig := 32
abbrev cc1_sem10_0 : DmaSem sig := 33
abbrev cc1_sem10_1 : DmaSem sig := 34
abbrev cc1_sem11_0 : DmaSem sig := 35
abbrev cc1_sem11_1 : DmaSem sig := 36
abbrev cc1_sem12_0 : DmaSem sig := 37

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S2048x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S8x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 1 → Memref sig .tc .vmem S8x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]
-- ==== Reference6Ideal.lean ====
abbrev S4096x1024 : Shape := ⟨2, ![4096, 1024]⟩
abbrev S2048x1024 : Shape := ⟨2, ![2048, 1024]⟩
abbrev S1024 : Shape := ⟨1, ![1024]⟩
abbrev S1024x4096 : Shape := ⟨2, ![1024, 4096]⟩
abbrev S4096x4096 : Shape := ⟨2, ![4096, 4096]⟩
abbrev S1x1024 : Shape := ⟨2, ![1, 1024]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S5x1024 : Shape := ⟨2, ![5, 1024]⟩
abbrev S3x1024 : Shape := ⟨2, ![3, 1024]⟩
abbrev S8x1024 : Shape := ⟨2, ![8, 1024]⟩

abbrev nBuf : Space → Nat
  | .hbm => 168
  | .vmem => 0
  | .smem => 0
  | _ => 0

abbrev hbmTy0_0 (i : Nat) : BufTy := match i % 128 with
  | 0 => ⟨S4096x1024, .f32⟩
  | 1 => ⟨S4096x1024, .f32⟩
  | 2 => ⟨S2048x1024, .f32⟩
  | 3 => ⟨S4096x1024, .f32⟩
  | 4 => ⟨S1024, .f32⟩
  | 5 => ⟨S1024, .f32⟩
  | 6 => ⟨S1024, .f32⟩
  | 7 => ⟨S1024, .f32⟩
  | 8 => ⟨S1024, .f32⟩
  | 9 => ⟨S1024, .f32⟩
  | 10 => ⟨S1024, .f32⟩
  | 11 => ⟨S1024x4096, .f32⟩
  | 12 => ⟨S4096x1024, .f32⟩
  | 13 => ⟨S4096x4096, .f32⟩
  | 14 => ⟨S1x1024, .f32⟩
  | 15 => ⟨S4096x1024, .f32⟩
  | 16 => ⟨S4096x1024, .f32⟩
  | 17 => ⟨S1x1024, .f32⟩
  | 18 => ⟨S4096x1024, .f32⟩
  | 19 => ⟨S4096x1024, .f32⟩
  | 20 => ⟨S4096x2048, .f32⟩
  | 21 => ⟨S4096x1024, .f32⟩
  | 22 => ⟨S_, .f32⟩
  | 23 => ⟨S4096x1024, .f32⟩
  | 24 => ⟨S4096x1024, .f32⟩
  | 25 => ⟨S_, .f32⟩
  | 26 => ⟨S1024, .f32⟩
  | 27 => ⟨S1024, .f32⟩
  | 28 => ⟨S1x1024, .f32⟩
  | 29 => ⟨S4096x1024, .f32⟩
  | 30 => ⟨S4096x1024, .f32⟩
  | 31 => ⟨S4096x1024, .f32⟩
  | 32 => ⟨S_, .f32⟩
  | 33 => ⟨S4096, .f32⟩
  | 34 => ⟨S4096x1, .f32⟩
  | 35 => ⟨S_, .f32⟩
  | 36 => ⟨S4096x1, .f32⟩
  | 37 => ⟨S4096x1, .f32⟩
  | 38 => ⟨S4096x1024, .f32⟩
  | 39 => ⟨S4096x1024, .f32⟩
  | 40 => ⟨S4096x1024, .f32⟩
  | 41 => ⟨S_, .f32⟩
  | 42 => ⟨S4096x1024, .f32⟩
  | 43 => ⟨S4096x1024, .f32⟩
  | 44 => ⟨S_, .f32⟩
  | 45 => ⟨S4096, .f32⟩
  | 46 => ⟨S4096x1, .f32⟩
  | 47 => ⟨S_, .f32⟩
  | 48 => ⟨S4096x1, .f32⟩
  | 49 => ⟨S4096x1, .f32⟩
  | 50 => ⟨S4096x1024, .f32⟩
  | 51 => ⟨S4096x1024, .f32⟩
  | 52 => ⟨S_, .f32⟩
  | 53 => ⟨S4096x1, .f32⟩
  | 54 => ⟨S4096x1, .f32⟩
  | 55 => ⟨S4096x1, .f32⟩
  | 56 => ⟨S4096x1, .f32⟩
  | 57 => ⟨S_, .f32⟩
  | 58 => ⟨S4096x1, .f32⟩
  | 59 => ⟨S4096x1, .f32⟩
  | 60 => ⟨S4096x1024, .f32⟩
  | 61 => ⟨S4096x1024, .f32⟩
  | 62 => ⟨S1x1024, .f32⟩
  | 63 => ⟨S4096x1024, .f32⟩
  | 64 => ⟨S4096x1024, .f32⟩
  | 65 => ⟨S1x1024, .f32⟩
  | 66 => ⟨S4096x1024, .f32⟩
  | 67 => ⟨S4096x1024, .f32⟩
  | 68 => ⟨S_, .f32⟩
  | 69 => ⟨S1024, .f32⟩
  | 70 => ⟨S1024, .f32⟩
  | 71 => ⟨S1x1024, .f32⟩
  | 72 => ⟨S4096x1024, .f32⟩
  | 73 => ⟨S4096x1024, .f32⟩
  | 74 => ⟨S1x1024, .f32⟩
  | 75 => ⟨S4096x1024, .f32⟩
  | 76 => ⟨S4096x1024, .f32⟩
  | 77 => ⟨S_, .f32⟩
  | 78 => ⟨S4096x1024, .f32⟩
  | 79 => ⟨S4096x1024, .f32⟩
  | 80 => ⟨S4096x4096, .f32⟩
  | 81 => ⟨S4096x1024, .f32⟩
  | 82 => ⟨S_, .f32⟩
  | 83 => ⟨S4096x1024, .f32⟩
  | 84 => ⟨S4096x1024, .f32⟩
  | 85 => ⟨S_, .f32⟩
  | 86 => ⟨S1024, .f32⟩
  | 87 => ⟨S1x1024, .f32⟩
  | 88 => ⟨S_, .f32⟩
  | 89 => ⟨S1024, .f32⟩
  | 90 => ⟨S4096x1024, .f32⟩
  | 91 => ⟨S_, .f32⟩
  | 92 => ⟨S1024, .f32⟩
  | 93 => ⟨S1x1024, .f32⟩
  | 94 => ⟨S4096x1024, .f32⟩
  | 95 => ⟨S4096x1024, .f32⟩
  | 96 => ⟨S4096x1024, .f32⟩
  | 97 => ⟨S_, .f32⟩
  | 98 => ⟨S1024, .f32⟩
  | 99 => ⟨S_, .f32⟩
  | 100 => ⟨S1024, .f32⟩
  | 101 => ⟨S1x1024, .f32⟩
  | 102 => ⟨S_, .f32⟩
  | 103 => ⟨S1024, .f32⟩
  | 104 => ⟨S4096x1024, .f32⟩
  | 105 => ⟨S_, .f32⟩
  | 106 => ⟨S1024, .f32⟩
  | 107 => ⟨S1x1024, .f32⟩
  | 108 => ⟨S4096x1024, .f32⟩
  | 109 => ⟨S4096x1024, .f32⟩
  | 110 => ⟨S_, .f32⟩
  | 111 => ⟨S1024, .f32⟩
  | 112 => ⟨S4096x1024, .f32⟩
  | 113 => ⟨S_, .f32⟩
  | 114 => ⟨S4096, .f32⟩
  | 115 => ⟨S4096x1, .f32⟩
  | 116 => ⟨S4096x1024, .f32⟩
  | 117 => ⟨S4096x1024, .f32⟩
  | 118 => ⟨S4096x1, .f32⟩
  | 119 => ⟨S4096x1024, .f32⟩
  | 120 => ⟨S_, .f32⟩
  | 121 => ⟨S4096, .f32⟩
  | 122 => ⟨S4096x1, .f32⟩
  | 123 => ⟨S_, .f32⟩
  | 124 => ⟨S4096x1, .f32⟩
  | 125 => ⟨S4096x1, .f32⟩
  | 126 => ⟨S_, .f32⟩
  | 127 => ⟨S4096, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S_, .f32⟩
  | 4 => ⟨S4096, .f32⟩
  | 5 => ⟨S4096x1, .f32⟩
  | 6 => ⟨S4096x1024, .f32⟩
  | 7 => ⟨S4096x1, .f32⟩
  | 8 => ⟨S_, .f32⟩
  | 9 => ⟨S4096x1, .f32⟩
  | 10 => ⟨S4096x1, .f32⟩
  | 11 => ⟨S_, .f32⟩
  | 12 => ⟨S4096, .f32⟩
  | 13 => ⟨S4096x1024, .f32⟩
  | 14 => ⟨S4096x1024, .f32⟩
  | 15 => ⟨S4096x1024, .f32⟩
  | 16 => ⟨S4096x1024, .f32⟩
  | 17 => ⟨S4096x1024, .f32⟩
  | 18 => ⟨S_, .f32⟩
  | 19 => ⟨S1024, .f32⟩
  | 20 => ⟨S1x1024, .f32⟩
  | 21 => ⟨S_, .f32⟩
  | 22 => ⟨S1024, .f32⟩
  | 23 => ⟨S_, .f32⟩
  | 24 => ⟨S4096x1024, .f32⟩
  | 25 => ⟨S4096x1024, .f32⟩
  | 26 => ⟨S4096x2048, .f32⟩
  | 27 => ⟨S4096x1024, .f32⟩
  | 28 => ⟨S4096x1024, .f32⟩
  | 29 => ⟨S4096x1024, .bf16⟩
  | 30 => ⟨S4096x1024, .bf16⟩
  | 31 => ⟨S1x1024, .f32⟩
  | 32 => ⟨S1x1024, .f32⟩
  | 33 => ⟨S1x1024, .f32⟩
  | 34 => ⟨S1x1024, .f32⟩
  | 35 => ⟨S1x1024, .f32⟩
  | 36 => ⟨S5x1024, .f32⟩
  | 37 => ⟨S_, .f32⟩
  | 38 => ⟨S3x1024, .f32⟩
  | 39 => ⟨S8x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_9 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_10 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_v62 : Ref sig .tc := ⟨.hbm, 90, rfl⟩
abbrev main_cst_13 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_14 : Ref sig .tc := ⟨.hbm, 97, rfl⟩
abbrev main_v68 : Ref sig .tc := ⟨.hbm, 98, rfl⟩
abbrev main_cst_15 : Ref sig .tc := ⟨.hbm, 99, rfl⟩
abbrev main_v69 : Ref sig .tc := ⟨.hbm, 100, rfl⟩
abbrev main_v70 : Ref sig .tc := ⟨.hbm, 101, rfl⟩
abbrev main_cst_16 : Ref sig .tc := ⟨.hbm, 102, rfl⟩
abbrev main_v71 : Ref sig .tc := ⟨.hbm, 103, rfl⟩
abbrev main_v72 : Ref sig .tc := ⟨.hbm, 104, rfl⟩
abbrev main_cst_17 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_18 : Ref sig .tc := ⟨.hbm, 110, rfl⟩
abbrev main_v77 : Ref sig .tc := ⟨.hbm, 111, rfl⟩
abbrev main_v78 : Ref sig .tc := ⟨.hbm, 112, rfl⟩
abbrev main_cst_19 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_20 : Ref sig .tc := ⟨.hbm, 120, rfl⟩
abbrev main_v85 : Ref sig .tc := ⟨.hbm, 121, rfl⟩
abbrev main_v86 : Ref sig .tc := ⟨.hbm, 122, rfl⟩
abbrev main_cst_21 : Ref sig .tc := ⟨.hbm, 123, rfl⟩
abbrev main_v87 : Ref sig .tc := ⟨.hbm, 124, rfl⟩
abbrev main_v88 : Ref sig .tc := ⟨.hbm, 125, rfl⟩
abbrev main_cst_22 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_23 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_24 : Ref sig .tc := ⟨.hbm, 136, rfl⟩
abbrev main_v97 : Ref sig .tc := ⟨.hbm, 137, rfl⟩
abbrev main_v98 : Ref sig .tc := ⟨.hbm, 138, rfl⟩
abbrev main_cst_25 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_cst_26 : Ref sig .tc := ⟨.hbm, 146, rfl⟩
abbrev main_v105 : Ref sig .tc := ⟨.hbm, 147, rfl⟩
abbrev main_v106 : Ref sig .tc := ⟨.hbm, 148, rfl⟩
abbrev main_cst_27 : Ref sig .tc := ⟨.hbm, 149, rfl⟩
abbrev main_v107 : Ref sig .tc := ⟨.hbm, 150, rfl⟩
abbrev main_cst_28 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_cst_29 : Ref sig .tc := ⟨.hbm, 165, rfl⟩
abbrev main_v121 : Ref sig .tc := ⟨.hbm, 166, rfl⟩
abbrev main_v122 : Ref sig .tc := ⟨.hbm, 167, rfl⟩

abbrev nD : Nat := 1
abbrev τ : Topo := Topo.v7x

variable {F : FTy → Type} [FloatOps F]
-- ==== Kernel7.lean ====
abbrev S4096x1024 : Shape := ⟨2, ![4096, 1024]⟩
abbrev S1024 : Shape := ⟨1, ![1024]⟩
abbrev S1024x3856 : Shape := ⟨2, ![1024, 3856]⟩
abbrev S4096x1536 : Shape := ⟨2, ![4096, 1536]⟩
abbrev S4096x128 : Shape := ⟨2, ![4096, 128]⟩
abbrev S4096x256 : Shape := ⟨2, ![4096, 256]⟩
abbrev S3856x1024 : Shape := ⟨2, ![3856, 1024]⟩
abbrev S1x1024 : Shape := ⟨2, ![1, 1024]⟩
abbrev S4096x1 : Shape := ⟨2, ![4096, 1]⟩
abbrev S512x1024 : Shape := ⟨2, ![512, 1024]⟩
abbrev S512x1 : Shape := ⟨2, ![512, 1]⟩
abbrev S512x1536 : Shape := ⟨2, ![512, 1536]⟩
abbrev S512x256 : Shape := ⟨2, ![512, 256]⟩
abbrev S512x128 : Shape := ⟨2, ![512, 128]⟩
abbrev S512 : Shape := ⟨1, ![512]⟩
abbrev S1024x1024 : Shape := ⟨2, ![1024, 1024]⟩
abbrev S1536x1024 : Shape := ⟨2, ![1536, 1024]⟩
abbrev S256x1024 : Shape := ⟨2, ![256, 1024]⟩
abbrev S128x1024 : Shape := ⟨2, ![128, 1024]⟩
abbrev S_ : Shape := ⟨0, ![]⟩
abbrev S5x1024 : Shape := ⟨2, ![5, 1024]⟩
abbrev S8x1024 : Shape := ⟨2, ![8, 1024]⟩

abbrev nBuf : Space → Nat
  | .hbm => 37
  | .vmem => 44
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x3856, .f32⟩
  | .hbm, ⟨6, _⟩ => ⟨S4096x1024, .f32⟩
  | .hbm, ⟨7, _⟩ => ⟨S4096x1536, .f32⟩
  | .hbm, ⟨8, _⟩ => ⟨S4096x128, .f32⟩
  | .hbm, ⟨9, _⟩ => ⟨S4096x1024, .f32⟩
  | .hbm, ⟨10, _⟩ => ⟨S4096x256, .f32⟩
  | .hbm, ⟨11, _⟩ => ⟨S4096x1024, .f32⟩
  | .hbm, ⟨12, _⟩ => ⟨S3856x1024, .f32⟩
  | .hbm, ⟨13, _⟩ => ⟨S3856x1024, .bf16⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S4096x1024, .f32⟩
  | .hbm, ⟨19, _⟩ => ⟨S4096x1, .f32⟩
  | .hbm, ⟨20, _⟩ => ⟨S4096x1024, .bf16⟩
  | .hbm, ⟨21, _⟩ => ⟨S4096x1024, .f32⟩
  | .hbm, ⟨22, _⟩ => ⟨S4096x1536, .f32⟩
  | .hbm, ⟨23, _⟩ => ⟨S4096x1024, .bf16⟩
  | .hbm, ⟨24, _⟩ => ⟨S4096x256, .bf16⟩
  | .hbm, ⟨25, _⟩ => ⟨S4096x128, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S_, .f32⟩
  | .hbm, ⟨30, _⟩ => ⟨S5x1024, .f32⟩
  | .hbm, ⟨31, _⟩ => ⟨S8x1024, .f32⟩
  | .hbm, ⟨32, _⟩ => ⟨S4096x1024, .bf16⟩
  | .hbm, ⟨33, _⟩ => ⟨S4096x1536, .bf16⟩
  | .hbm, ⟨34, _⟩ => ⟨S4096x1024, .bf16⟩
  | .hbm, ⟨35, _⟩ => ⟨S4096x1024, .f32⟩
  | .hbm, ⟨36, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S3856x1024, .bf16⟩
  | .local _ .vmem, ⟨7, _⟩ => ⟨S512x1024, .f32⟩
  | .local _ .vmem, ⟨8, _⟩ => ⟨S512x1024, .f32⟩
  | .local _ .vmem, ⟨9, _⟩ => ⟨S512x1, .f32⟩
  | .local _ .vmem, ⟨10, _⟩ => ⟨S512x1, .f32⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S512x1536, .f32⟩
  | .local _ .vmem, ⟨16, _⟩ => ⟨S512x1536, .f32⟩
  | .local _ .vmem, ⟨17, _⟩ => ⟨S512x1024, .bf16⟩
  | .local _ .vmem, ⟨18, _⟩ => ⟨S512x1024, .bf16⟩
  | .local _ .vmem, ⟨19, _⟩ => ⟨S512x256, .bf16⟩
  | .local _ .vmem, ⟨20, _⟩ => ⟨S512x256, .bf16⟩
  | .local _ .vmem, ⟨21, _⟩ => ⟨S512x128, .f32⟩
  | .local _ .vmem, ⟨22, _⟩ => ⟨S512x128, .f32⟩
  | .local _ .vmem, ⟨23, _⟩ => ⟨S512x1024, .bf16⟩
  | .local _ .vmem, ⟨24, _⟩ => ⟨S512x1024, .bf16⟩
  | .local _ .vmem, ⟨25, _⟩ => ⟨S512x1536, .bf16⟩
  | .local _ .vmem, ⟨26, _⟩ => ⟨S512x1536, .bf16⟩
  | .local _ .vmem, ⟨27, _⟩ => ⟨S512x1024, .bf16⟩
  | .local _ .vmem, ⟨28, _⟩ => ⟨S512x1024, .bf16⟩
  | .local _ .vmem, ⟨29, _⟩ => ⟨S512x256, .f32⟩
  | .local _ .vmem, ⟨30, _⟩ => ⟨S512x256, .f32⟩
  | .local _ .vmem, ⟨31, _⟩ => ⟨S512x128, .f32⟩
  | .local _ .vmem, ⟨32, _⟩ => ⟨S512x128, .f32⟩
  | .local _ .vmem, ⟨33, _⟩ => ⟨S3856x1024, .bf16⟩
  | .local _ .vmem, ⟨34, _⟩ => ⟨S512x1024, .f32⟩
  | .local _ .vmem, ⟨35, _⟩ => ⟨S512x1024, .f32⟩
  | .local _ .vmem, ⟨36, _⟩ => ⟨S512x1, .f32⟩
  | .local _ .vmem, ⟨37, _⟩ => ⟨S512x1, .f32⟩
  | .local _ .vmem, ⟨38, _⟩ => ⟨S512x1024, .f32⟩
  | .local _ .vmem, ⟨39, _⟩ => ⟨S512x1024, .f32⟩
  | .local _ .vmem, ⟨40, _⟩ => ⟨S8x1024, .f32⟩
  | .local _ .vmem, ⟨41, _⟩ => ⟨S512x1024, .f32⟩
  | .local _ .vmem, ⟨42, _⟩ => ⟨S512x1024, .f32⟩
  | .local _ .vmem, ⟨43, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev main_v6_3 : Ref sig .tc := ⟨.hbm, 21, rfl⟩
abbrev main_v6_4 : Ref sig .tc := ⟨.hbm, 22, rfl⟩
abbrev main_v6_5 : Ref sig .tc := ⟨.hbm, 23, rfl⟩
abbrev main_v6_6 : Ref sig .tc := ⟨.hbm, 24, rfl⟩
abbrev main_v6_7 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15_0 : Ref sig .tc := ⟨.hbm, 35, rfl⟩
abbrev main_v15_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc1_stg0_0 : Ref sig .tc := ⟨.vmem, 23, rfl⟩
abbrev cc1_stg0_1 : Ref sig .tc := ⟨.vmem, 24, rfl⟩
abbrev cc1_stg1_0 : Ref sig .tc := ⟨.vmem, 25, rfl⟩
abbrev cc1_stg1_1 : Ref sig .tc := ⟨.vmem, 26, rfl⟩
abbrev cc1_stg2_0 : Ref sig .tc := ⟨.vmem, 27, rfl⟩
abbrev cc1_stg2_1 : Ref sig .tc := ⟨.vmem, 28, rfl⟩
abbrev cc1_stg3_0 : Ref sig .tc := ⟨.vmem, 29, rfl⟩
abbrev cc1_stg3_1 : Ref sig .tc := ⟨.vmem, 30, rfl⟩
abbrev cc1_stg4_0 : Ref sig .tc := ⟨.vmem, 31, rfl⟩
abbrev cc1_stg4_1 : Ref sig .tc := ⟨.vmem, 32, rfl⟩
abbrev cc1_stg5_0 : Ref sig .tc := ⟨.vmem, 33, rfl⟩
abbrev cc1_stg6_0 : Ref sig .tc := ⟨.vmem, 34, rfl⟩
abbrev cc1_stg6_1 : Ref sig .tc := ⟨.vmem, 35, rfl⟩
abbrev cc1_stg7_0 : Ref sig .tc := ⟨.vmem, 36, rfl⟩
abbrev cc1_stg7_1 : Ref sig .tc := ⟨.vmem, 37, rfl⟩
abbrev cc1_stg8_0 : Ref sig .tc := ⟨.vmem, 38, rfl⟩
abbrev cc1_stg8_1 : Ref sig .tc := ⟨.vmem, 39, rfl⟩
abbrev cc1_stg9_0 : Ref sig .tc := ⟨.vmem, 40, rfl⟩
abbrev cc1_stg10_0 : Ref sig .tc := ⟨.vmem, 41, rfl⟩
abbrev cc1_stg10_1 : Ref sig .tc := ⟨.vmem, 42, rfl⟩
abbrev cc1_stg11_0 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc1_sem0_0 : DmaSem sig := 23
abbrev cc1_sem0_1 : DmaSem sig := 24
abbrev cc1_sem1_0 : DmaSem sig := 25
abbrev cc1_sem1_1 : DmaSem sig := 26
abbrev cc1_sem2_0 : DmaSem sig := 27
abbrev cc1_sem2_1 : DmaSem sig := 28
abbrev cc1_sem3_0 : DmaSem sig := 29
abbrev cc1_sem3_1 : DmaSem sig := 30
abbrev cc1_sem4_0 : DmaSem sig := 31
abbrev cc1_sem4_1 : DmaSem sig := 32
abbrev cc1_sem5_0 : DmaSem sig := 33
abbrev cc1_sem6_0 : DmaSem sig := 34
abbrev cc1_sem6_1 : DmaSem sig := 35
abbrev cc1_sem7_0 : DmaSem sig := 36
abbrev cc1_sem7_1 : DmaSem sig := 37
abbrev cc1_sem8_0 : DmaSem sig := 38
abbrev cc1_sem8_1 : DmaSem sig := 39
abbrev cc1_sem9_0 : DmaSem sig := 40
abbrev cc1_sem10_0 : DmaSem sig := 41
abbrev cc1_sem10_1 : DmaSem sig := 42
abbrev cc1_sem11_0 : DmaSem sig := 43

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3856x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1536 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S3856x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S8x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S512x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 1 → Memref sig .tc .vmem S8x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]
-- ==== Reference7Ideal.lean ====
abbrev S4096x1024 : Shape := ⟨2, ![4096, 1024]⟩
abbrev S1024 : Shape := ⟨1, ![1024]⟩
abbrev S1024x3856 : Shape := ⟨2, ![1024, 3856]⟩
abbrev S4096x1536 : Shape := ⟨2, ![4096, 1536]⟩
abbrev S4096x128 : Shape := ⟨2, ![4096, 128]⟩
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3856 : Shape := ⟨2, ![4096, 3856]⟩
abbrev S4096x16 : Shape := ⟨2, ![4096, 16]⟩
abbrev S4x1024 : Shape := ⟨2, ![4, 1024]⟩
abbrev S8x1024 : Shape := ⟨2, ![8, 1024]⟩

abbrev nBuf : Space → Nat
  | .hbm => 138
  | .vmem => 0
  | .smem => 0
  | _ => 0

abbrev hbmTy0_0 (i : Nat) : BufTy := match i % 128 with
  | 0 => ⟨S4096x1024, .f32⟩
  | 1 => ⟨S1024, .f32⟩
  | 2 => ⟨S1024, .f32⟩
  | 3 => ⟨S1024, .f32⟩
  | 4 => ⟨S1024, .f32⟩
  | 5 => ⟨S1024x3856, .f32⟩
  | 6 => ⟨S4096x1024, .f32⟩
  | 7 => ⟨S4096x1536, .f32⟩
  | 8 => ⟨S4096x128, .f32⟩
  | 9 => ⟨S4096x1024, .f32⟩
  | 10 => ⟨S4096x256, .f32⟩
  | 11 => ⟨S4096x1024, .f32⟩
  | 12 => ⟨S_, .f32⟩
  | 13 => ⟨S4096, .f32⟩
  | 14 => ⟨S4096x1, .f32⟩
  | 15 => ⟨S_, .f32⟩
  | 16 => ⟨S4096x1, .f32⟩
  | 17 => ⟨S4096x1, .f32⟩
  | 18 => ⟨S4096x1024, .f32⟩
  | 19 => ⟨S4096x1024, .f32⟩
  | 20 => ⟨S4096x1024, .f32⟩
  | 21 => ⟨S_, .f32⟩
  | 22 => ⟨S4096x1024, .f32⟩
  | 23 => ⟨S4096x1024, .f32⟩
  | 24 => ⟨S_, .f32⟩
  | 25 => ⟨S4096, .f32⟩
  | 26 => ⟨S4096x1, .f32⟩
  | 27 => ⟨S_, .f32⟩
  | 28 => ⟨S4096x1, .f32⟩
  | 29 => ⟨S4096x1, .f32⟩
  | 30 => ⟨S4096x1024, .f32⟩
  | 31 => ⟨S4096x1024, .f32⟩
  | 32 => ⟨S_, .f32⟩
  | 33 => ⟨S4096x1, .f32⟩
  | 34 => ⟨S4096x1, .f32⟩
  | 35 => ⟨S4096x1, .f32⟩
  | 36 => ⟨S4096x1, .f32⟩
  | 37 => ⟨S_, .f32⟩
  | 38 => ⟨S4096x1, .f32⟩
  | 39 => ⟨S4096x1, .f32⟩
  | 40 => ⟨S4096x1024, .f32⟩
  | 41 => ⟨S4096x1024, .f32⟩
  | 42 => ⟨S1x1024, .f32⟩
  | 43 => ⟨S4096x1024, .f32⟩
  | 44 => ⟨S4096x1024, .f32⟩
  | 45 => ⟨S1x1024, .f32⟩
  | 46 => ⟨S4096x1024, .f32⟩
  | 47 => ⟨S4096x1024, .f32⟩
  | 48 => ⟨S_, .f32⟩
  | 49 => ⟨S1024, .f32⟩
  | 50 => ⟨S1024, .f32⟩
  | 51 => ⟨S1x1024, .f32⟩
  | 52 => ⟨S4096x1024, .f32⟩
  | 53 => ⟨S4096x1024, .f32⟩
  | 54 => ⟨S1x1024, .f32⟩
  | 55 => ⟨S4096x1024, .f32⟩
  | 56 => ⟨S4096x1024, .f32⟩
  | 57 => ⟨S4096x3856, .f32⟩
  | 58 => ⟨S4096x1024, .f32⟩
  | 59 => ⟨S4096x1536, .f32⟩
  | 60 => ⟨S4096x16, .f32⟩
  | 61 => ⟨S4096x1024, .f32⟩
  | 62 => ⟨S4096x256, .f32⟩
  | 63 => ⟨S4096x128, .f32⟩
  | 64 => ⟨S_, .f32⟩
  | 65 => ⟨S4096x3856, .f32⟩
  | 66 => ⟨S_, .f32⟩
  | 67 => ⟨S4096x16, .f32⟩
  | 68 => ⟨S4096x3856, .f32⟩
  | 69 => ⟨S4096x3856, .f32⟩
  | 70 => ⟨S4096x1024, .f32⟩
  | 71 => ⟨S_, .f32⟩
  | 72 => ⟨S1024, .f32⟩
  | 73 => ⟨S1x1024, .f32⟩
  | 74 => ⟨S_, .f32⟩
  | 75 => ⟨S1024, .f32⟩
  | 76 => ⟨S4096x1024, .f32⟩
  | 77 => ⟨S_, .f32⟩
  | 78 => ⟨S1024, .f32⟩
  | 79 => ⟨S1x1024, .f32⟩
  | 80 => ⟨S4096x1024, .f32⟩
  | 81 => ⟨S4096x1024, .f32⟩
  | 82 => ⟨S4096x1024, .f32⟩
  | 83 => ⟨S_, .f32⟩
  | 84 => ⟨S1024, .f32⟩
  | 85 => ⟨S4096x1024, .f32⟩
  | 86 => ⟨S_, .f32⟩
  | 87 => ⟨S1024, .f32⟩
  | 88 => ⟨S1x1024, .f32⟩
  | 89 => ⟨S_, .f32⟩
  | 90 => ⟨S1024, .f32⟩
  | 91 => ⟨S4096x1024, .f32⟩
  | 92 => ⟨S_, .f32⟩
  | 93 => ⟨S1024, .f32⟩
  | 94 => ⟨S1x1024, .f32⟩
  | 95 => ⟨S4096x1024, .f32⟩
  | 96 => ⟨S4096x1024, .f32⟩
  | 97 => ⟨S_, .f32⟩
  | 98 => ⟨S1024, .f32⟩
  | 99 => ⟨S4096x1024, .f32⟩
  | 100 => ⟨S_, .f32⟩
  | 101 => ⟨S4096, .f32⟩
  | 102 => ⟨S4096x1, .f32⟩
  | 103 => ⟨S4096x1024, .f32⟩
  | 104 => ⟨S4096x1024, .f32⟩
  | 105 => ⟨S4096x1, .f32⟩
  | 106 => ⟨S4096x1024, .f32⟩
  | 107 => ⟨S_, .f32⟩
  | 108 => ⟨S4096, .f32⟩
  | 109 => ⟨S4096x1, .f32⟩
  | 110 => ⟨S_, .f32⟩
  | 111 => ⟨S4096x1, .f32⟩
  | 112 => ⟨S4096x1, .f32⟩
  | 113 => ⟨S_, .f32⟩
  | 114 => ⟨S4096, .f32⟩
  | 115 => ⟨S4096x1024, .f32⟩
  | 116 => ⟨S4096x1024, .f32⟩
  | 117 => ⟨S4096x1024, .f32⟩
  | 118 => ⟨S_, .f32⟩
  | 119 => ⟨S4096, .f32⟩
  | 120 => ⟨S4096x1, .f32⟩
  | 121 => ⟨S4096x1024, .f32⟩
  | 122 => ⟨S4096x1, .f32⟩
  | 123 => ⟨S_, .f32⟩
  | 124 => ⟨S4096x1, .f32⟩
  | 125 => ⟨S4096x1, .f32⟩
  | 126 => ⟨S_, .f32⟩
  | 127 => ⟨S4096, .f32⟩
  | _ => ⟨S4096x1024, .f32⟩

abbrev hbmTy0_1 (i : Nat) : BufTy := match i % 128 with
  | 0 => ⟨S4096x1024, .f32⟩
  | 1 => ⟨S4096x1024, .f32⟩
  | 2 => ⟨S1x1024, .f32⟩
  | 3 => ⟨S1x1024, .f32⟩
  | 4 => ⟨S1x1024, .f32⟩
  | 5 => ⟨S1x1024, .f32⟩
  | 6 => ⟨S4x1024, .f32⟩
  | 7 => ⟨S_, .f32⟩
  | 8 => ⟨S4x1024, .f32⟩
  | 9 => ⟨S8x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_4 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_12 : Ref sig .tc := ⟨.hbm, 83, rfl⟩
abbrev main_v58 : Ref sig .tc := ⟨.hbm, 84, rfl⟩
abbrev main_v59 : Ref sig .tc := ⟨.hbm, 85, rfl⟩
abbrev main_cst_13 : Ref sig .tc := ⟨.hbm, 86, rfl⟩
abbrev main_v60 : Ref sig .tc := ⟨.hbm, 87, rfl⟩
abbrev main_v61 : Ref sig .tc := ⟨.hbm, 88, rfl⟩
abbrev main_cst_14 : Ref sig .tc := ⟨.hbm, 89, rfl⟩
abbrev main_v62 : Ref sig .tc := ⟨.hbm, 90, rfl⟩
abbrev main_v63 : Ref sig .tc := ⟨.hbm, 91, rfl⟩
abbrev main_cst_15 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_16 : Ref sig .tc := ⟨.hbm, 97, rfl⟩
abbrev main_v68 : Ref sig .tc := ⟨.hbm, 98, rfl⟩
abbrev main_v69 : Ref sig .tc := ⟨.hbm, 99, rfl⟩
abbrev main_cst_17 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_18 : Ref sig .tc := ⟨.hbm, 107, rfl⟩
abbrev main_v76 : Ref sig .tc := ⟨.hbm, 108, rfl⟩
abbrev main_v77 : Ref sig .tc := ⟨.hbm, 109, rfl⟩
abbrev main_cst_19 : Ref sig .tc := ⟨.hbm, 110, rfl⟩
abbrev main_v78 : Ref sig .tc := ⟨.hbm, 111, rfl⟩
abbrev main_v79 : Ref sig .tc := ⟨.hbm, 112, rfl⟩
abbrev main_cst_20 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_21 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_22 : Ref sig .tc := ⟨.hbm, 123, rfl⟩
abbrev main_v88 : Ref sig .tc := ⟨.hbm, 124, rfl⟩
abbrev main_v89 : Ref sig .tc := ⟨.hbm, 125, rfl⟩
abbrev main_cst_23 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_24 : Ref sig .tc := ⟨.hbm, 135, rfl⟩
abbrev main_v98 : Ref sig .tc := ⟨.hbm, 136, rfl⟩
abbrev main_v99 : Ref sig .tc := ⟨.hbm, 137, rfl⟩

abbrev nD : Nat := 1
abbrev τ : Topo := Topo.v7x

variable {F : FTy → Type} [FloatOps F]
-- ==== Kernel8.lean ====
abbrev S4096x1024 : Shape := ⟨2, ![4096, 1024]⟩
abbrev S2048x1024 : Shape := ⟨2, ![2048, 1024]⟩
abbrev S1024 : Shape := ⟨1, ![1024]⟩
abbrev S1x1024 : Shape := ⟨2, ![1, 1024]⟩
abbrev S_ : Shape := ⟨0, ![]⟩
abbrev S8x1024 : Shape := ⟨2, ![8, 1024]⟩
abbrev S4096x1 : Shape := ⟨2, ![4096, 1]⟩
abbrev S512x1024 : Shape := ⟨2, ![512, 1024]⟩
abbrev S512x1 : Shape := ⟨2, ![512, 1]⟩
abbrev S1024x1024 : Shape := ⟨2, ![1024, 1024]⟩
abbrev S512 : Shape := ⟨1, ![512]⟩

abbrev nBuf : Space → Nat
  | .hbm => 28
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2048x1024, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S_, .f32⟩
  | .hbm, ⟨19, _⟩ => ⟨S1x1024, .f32⟩
  | .hbm, ⟨20, _⟩ => ⟨S8x1024, .f32⟩
  | .hbm, ⟨21, _⟩ => ⟨S4096x1024, .bf16⟩
  | .hbm, ⟨22, _⟩ => ⟨S4096x1024, .bf16⟩
  | .hbm, ⟨23, _⟩ => ⟨S2048x1024, .bf16⟩
  | .hbm, ⟨24, _⟩ => ⟨S4096x1024, .f32⟩
  | .hbm, ⟨25, _⟩ => ⟨S4096x1024, .f32⟩
  | .hbm, ⟨26, _⟩ => ⟨S4096x1, .f32⟩
  | .hbm, ⟨27, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | .local _ .vmem, ⟨7, _⟩ => ⟨S8x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1, .f32⟩
  | .local _ .vmem, ⟨13, _⟩ => ⟨S512x1, .f32⟩
  | .local _ .vmem, ⟨14, _⟩ => ⟨S512x1024, .bf16⟩
  | .local _ .vmem, ⟨15, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v12_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S4096x1024 : Shape := ⟨2, ![4096, 1024]⟩
abbrev S2048x1024 : Shape := ⟨2, ![2048, 1024]⟩
abbrev S1024 : Shape := ⟨1, ![1024]⟩
abbrev S4096x2048 : Shape := ⟨2, ![4096, 2048]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 68
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2048x1024, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S4096x2048, .f32⟩
  | .hbm, ⟨12, _⟩ => ⟨S4096x1024, .f32⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1024, .f32⟩
  | .hbm, ⟨61, _⟩ => ⟨S1x1024, .f32⟩
  | .hbm, ⟨62, _⟩ => ⟨S4096x1024, .f32⟩
  | .hbm, ⟨63, _⟩ => ⟨S4096x1024, .f32⟩
  | .hbm, ⟨64, _⟩ => ⟨S1x1024, .f32⟩
  | .hbm, ⟨65, _⟩ => ⟨S4096x1024, .f32⟩
  | .hbm, ⟨66, _⟩ => ⟨S4096x1024, .f32⟩
  | .hbm, ⟨67, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩

abbrev nD : Nat := 1
abbrev τ : Topo := Topo.v7x

variable {F : FTy → Type} [FloatOps F]
-- ==== Kernel9.lean ====
abbrev S4096x1024 : Shape := ⟨2, ![4096, 1024]⟩
abbrev S1024 : Shape := ⟨1, ![1024]⟩
abbrev S1024x3856 : Shape := ⟨2, ![1024, 3856]⟩
abbrev S1x1024 : Shape := ⟨2, ![1, 1024]⟩
abbrev S3856x1024 : Shape := ⟨2, ![3856, 1024]⟩
abbrev S4096x1 : Shape := ⟨2, ![4096, 1]⟩
abbrev S4096x1536 : Shape := ⟨2, ![4096, 1536]⟩
abbrev S4096x256 : Shape := ⟨2, ![4096, 256]⟩
abbrev S4096x128 : Shape := ⟨2, ![4096, 128]⟩
abbrev S512x1024 : Shape := ⟨2, ![512, 1024]⟩
abbrev S512x1 : Shape := ⟨2, ![512, 1]⟩
abbrev S512x1536 : Shape := ⟨2, ![512, 1536]⟩
abbrev S512x256 : Shape := ⟨2, ![512, 256]⟩
abbrev S512x128 : Shape := ⟨2, ![512, 128]⟩
abbrev S512 : Shape := ⟨1, ![512]⟩
abbrev S1024x1024 : Shape := ⟨2, ![1024, 1024]⟩
abbrev S1536x1024 : Shape := ⟨2, ![1536, 1024]⟩
abbrev S256x1024 : Shape := ⟨2, ![256, 1024]⟩
abbrev S128x1024 : Shape := ⟨2, ![128, 1024]⟩

abbrev nBuf : Space → Nat
  | .hbm => 20
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x3856, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S3856x1024, .f32⟩
  | .hbm, ⟨11, _⟩ => ⟨S3856x1024, .bf16⟩
  | .hbm, ⟨12, _⟩ => ⟨S4096x1024, .f32⟩
  | .hbm, ⟨13, _⟩ => ⟨S4096x1, .f32⟩
  | .hbm, ⟨14, _⟩ => ⟨S4096x1024, .bf16⟩
  | .hbm, ⟨15, _⟩ => ⟨S4096x1024, .f32⟩
  | .hbm, ⟨16, _⟩ => ⟨S4096x1536, .f32⟩
  | .hbm, ⟨17, _⟩ => ⟨S4096x1024, .bf16⟩
  | .hbm, ⟨18, _⟩ => ⟨S4096x256, .bf16⟩
  | .hbm, ⟨19, _⟩ => ⟨S4096x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S3856x1024, .bf16⟩
  | .local _ .vmem, ⟨7, _⟩ => ⟨S512x1024, .f32⟩
  | .local _ .vmem, ⟨8, _⟩ => ⟨S512x1024, .f32⟩
  | .local _ .vmem, ⟨9, _⟩ => ⟨S512x1, .f32⟩
  | .local _ .vmem, ⟨10, _⟩ => ⟨S512x1, .f32⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S512x1536, .f32⟩
  | .local _ .vmem, ⟨16, _⟩ => ⟨S512x1536, .f32⟩
  | .local _ .vmem, ⟨17, _⟩ => ⟨S512x1024, .bf16⟩
  | .local _ .vmem, ⟨18, _⟩ => ⟨S512x1024, .bf16⟩
  | .local _ .vmem, ⟨19, _⟩ => ⟨S512x256, .bf16⟩
  | .local _ .vmem, ⟨20, _⟩ => ⟨S512x256, .bf16⟩
  | .local _ .vmem, ⟨21, _⟩ => ⟨S512x128, .f32⟩
  | .local _ .vmem, ⟨22, _⟩ => ⟨S512x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev main_v6_5 : Ref sig .tc := ⟨.hbm, 17, rfl⟩
abbrev main_v6_6 : Ref sig .tc := ⟨.hbm, 18, rfl⟩
abbrev main_v6_7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3856x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference9Ideal.lean ====
abbrev S4096x1024 : Shape := ⟨2, ![4096, 1024]⟩
abbrev S1024 : Shape := ⟨1, ![1024]⟩
abbrev S1024x3856 : Shape := ⟨2, ![1024, 3856]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3856 : Shape := ⟨2, ![4096, 3856]⟩
abbrev S4096x1536 : Shape := ⟨2, ![4096, 1536]⟩
abbrev S4096x16 : Shape := ⟨2, ![4096, 16]⟩
abbrev S4096x256 : Shape := ⟨2, ![4096, 256]⟩
abbrev S4096x128 : Shape := ⟨2, ![4096, 128]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x3856, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S4096x3856, .f32⟩
  | .hbm, ⟨45, _⟩ => ⟨S4096x1024, .f32⟩
  | .hbm, ⟨46, _⟩ => ⟨S4096x1536, .f32⟩
  | .hbm, ⟨47, _⟩ => ⟨S4096x16, .f32⟩
  | .hbm, ⟨48, _⟩ => ⟨S4096x1024, .f32⟩
  | .hbm, ⟨49, _⟩ => ⟨S4096x256, .f32⟩
  | .hbm, ⟨50, _⟩ => ⟨S4096x1024, .bf16⟩
  | .hbm, ⟨51, _⟩ => ⟨S4096x1024, .bf16⟩
  | .hbm, ⟨52, _⟩ => ⟨S4096x256, .bf16⟩
  | .hbm, ⟨53, _⟩ => ⟨S4096x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]
-- ==== Proof.ConvBlock.lean ====
/-
  THE DEPTHWISE CONVOLUTION'S GRADIENT: WHAT ONE GRID POINT COMPUTES. A point holds 512 rows of the cotangent `dp`, the eight
  rows below them, the same 512 rows of the convolution's input `u` and the four taps. Walking its rows in sixteen chunks of 32
  it writes the input's gradient and adds, into the five rows of the accumulator, the taps' and the bias's partial sums.
  Here each of the two outputs is read back from the point's stores as one formula over the whole 512-row tile.
-/
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

noncomputable section

namespace Cert.Conv

open Cert.KernelIdeal Cert.KernelIdeal.Gen Idealize.ShloMosaic Idealize.ShloMosaic.TcCoe Idealize.SL.Sem
open Idealize.ShloMosaic.Pipeline (Dat)

/-! ## The tile with the rows below it -/

/-- One point's tile of the cotangent followed by the eight rows below it (zeros under the last tile). -/
def ext (i : grid0.Coords) (x0 : Vec Ideal S512x1536 .f32) (x1 : Vec Ideal S8x1536 .f32) : Vec Ideal S520x1536 .f32 := fun y =>
  if h : (y 0).val < 512 then x0 (ix2 ⟨(y 0).val, h⟩ (y 1))
  else k0_pay3 i x1 (ix2 ⟨(y 0).val - 512, by have : (y 0).val < 520 := (y 0).isLt; omega⟩ (y 1))

/-- Any load of the scratch after its two stores reads that. -/
theorem readCov_ext (i : grid0.Coords) (x0 : Vec Ideal S512x1536 .f32) (x1 : Vec Ideal S8x1536 .f32)
    (v : View sig .tc .vmem S520x1536 .f32) (h1 h2) (r : Rect S520x1536) :
    v.readCov [⟨Rect.unit ![512, 0] ![8, 1536] h1, k0_pay3 (F := Ideal) i x1⟩, ⟨Rect.unit ![0, 0] ![512, 1536] h2, k0_pay2 (F := Ideal) x0⟩] r.toLoadRect
      = View.ld (ext i x0 x1) r := by
  rw [View.readCov_eq_canon']
  refine funext fun y => (?_ : ∀ z, View.canon _ z = ext i x0 x1 z) _
  intro z
  have hp : View.PiecesOf (ext i x0 x1) [⟨Rect.unit ![512, 0] ![8, 1536] h1, k0_pay3 (F := Ideal) i x1⟩,
      ⟨Rect.unit ![0, 0] ![512, 1536] h2, k0_pay2 (F := Ideal) x0⟩] := by
    refine ⟨fun x => ?_, fun x => ?_, trivial⟩
    · have hx : (x 0).val < 8 := (x 0).isLt
      unfold ext
      rw [dif_neg (by show ¬ 512 + 1 * (x 0).val < 512; omega)]
      refine congrArg _ (funext fun a => Fin.ext ?_)
      match a with
      | ⟨0, _⟩ => show (x 0).val = 512 + 1 * (x 0).val - 512; omega
      | ⟨1, _⟩ => show (x 1).val = 0 + 1 * (x 1).val; omega
    · have hx : (x 0).val < 512 := (x 0).isLt
      unfold ext
      rw [dif_pos (by show 0 + 1 * (x 0).val < 512; omega)]
      unfold k0_pay2
      pointwise
      blk_ext
  refine View.canon_apply_of_pieces (ext i x0 x1) _ hp.mem z ?_
  · have h0 : (z 0).val < 520 := (z 0).isLt
    have hz1 : (z 1).val < 1536 := (z 1).isLt
    by_cases hz : (z 0).val < 512
    · refine ⟨⟨Rect.unit ![0, 0] ![512, 1536] h2, k0_pay2 (F := Ideal) x0⟩, List.mem_cons_of_mem _ (List.mem_cons_self ..), ?_⟩
      rw [Rect.mem_set_unit]
      intro a
      match a with
      | ⟨0, _⟩ => exact ⟨Nat.zero_le _, by show (z 0).val < 0 + 512; omega⟩
      | ⟨1, _⟩ => exact ⟨Nat.zero_le _, by show (z 1).val < 0 + 1536; omega⟩
    · refine ⟨⟨Rect.unit ![512, 0] ![8, 1536] h1, k0_pay3 (F := Ideal) i x1⟩, List.mem_cons_self .., ?_⟩
      rw [Rect.mem_set_unit]
      intro a
      match a with
      | ⟨0, _⟩ => exact ⟨by show 512 ≤ (z 0).val; omega, by show (z 0).val < 512 + 8; omega⟩
      | ⟨1, _⟩ => exact ⟨Nat.zero_le _, by show (z 1).val < 0 + 1536; omega⟩

/-! ## Reading the accumulator's rows -/

/-- A row's store read at that row is the row stored, … -/
theorem row_hit (v : View sig .tc .vmem S8x1536 .f32) (f : v.ty.Contents (Elt Ideal)) (k : ℕ) (h)
    (w : Vec Ideal S1x1536 .f32) (L : List (View.Piece (Elt Ideal) S8x1536 .f32)) (r : Fin 8) (j : Fin 1536) (hk : r.val = k) :
    v.read (Elt Ideal) (v.writes (Elt Ideal) f (⟨Rect.unit ![k, 0] ![1, 1536] h, w⟩ :: L)) (ix2 r j) = w (ix2 0 j) := by
  have e : (ix2 r j : S8x1536.Idx) = (Rect.unit (s := S8x1536) ![k, 0] ![1, 1536] h).emb (ix2 0 j) := funext fun a => Fin.ext (by
    match a with
    | ⟨0, _⟩ => show r.val = k + 1 * 0; omega
    | ⟨1, _⟩ => show j.val = 0 + 1 * j.val; omega)
  rw [View.read_writes_apply_eq_canon v f _ _ ⟨_, List.mem_cons_self .., by rw [e, ← Rect.map_emb_univ]; exact Finset.mem_map_of_mem _ (Finset.mem_univ _)⟩, e, View.canon_cons_emb]

/-- … and read at another row it is what was there before. -/
theorem row_miss (v : View sig .tc .vmem S8x1536 .f32) (f : v.ty.Contents (Elt Ideal)) (k : ℕ) (h)
    (w : Vec Ideal S1x1536 .f32) (L : List (View.Piece (Elt Ideal) S8x1536 .f32)) (r : Fin 8) (j : Fin 1536) (hk : r.val ≠ k) :
    v.read (Elt Ideal) (v.writes (Elt Ideal) f (⟨Rect.unit ![k, 0] ![1, 1536] h, w⟩ :: L)) (ix2 r j) =
      v.read (Elt Ideal) (v.writes (Elt Ideal) f L) (ix2 r j) := by
  have hy : (ix2 r j : S8x1536.Idx) ∉ (Rect.unit (s := S8x1536) ![k, 0] ![1, 1536] h).set := fun hm => by
    have h0 := (Rect.mem_set_unit.mp hm) 0
    have h1 : k ≤ r.val := h0.1
    have h2 : r.val < k + 1 := h0.2
    omega
  rw [View.writes_cons, View.read_slice_write_of_not_mem _ _ _ _ (by rwa [Rect.map_emb_univ])]

/-- A store over the whole accumulator is what it reads. -/
theorem row_fill (v : View sig .tc .vmem S8x1536 .f32) (f : v.ty.Contents (Elt Ideal)) (h)
    (w : Vec Ideal S8x1536 .f32) (L : List (View.Piece (Elt Ideal) S8x1536 .f32)) (r : Fin 8) (j : Fin 1536) :
    v.read (Elt Ideal) (v.writes (Elt Ideal) f (⟨Rect.unit ![0, 0] ![8, 1536] h, w⟩ :: L)) (ix2 r j) = w (ix2 r j) := by
  have e : (ix2 r j : S8x1536.Idx) = (Rect.unit (s := S8x1536) ![0, 0] ![8, 1536] h).emb (ix2 r j) := funext fun a => Fin.ext (by
    match a with
    | ⟨0, _⟩ => show r.val = 0 + 1 * r.val; omega
    | ⟨1, _⟩ => show j.val = 0 + 1 * j.val; omega)
  rw [View.read_writes_apply_eq_canon v f _ _ ⟨_, List.mem_cons_self .., by rw [e, ← Rect.map_emb_univ]; exact Finset.mem_map_of_mem _ (Finset.mem_univ _)⟩]
  conv_lhs => rw [e]
  rw [View.canon_cons_emb]

/-- What one point adds to accumulator row `k` in column `j`: a tap's column sum (the input row against the cotangent row
    `3 - k` below it), the bias's column sum, or nothing. -/
def part (x0 x2 : Vec Ideal S512x1536 .f32) (E : Vec Ideal S520x1536 .f32) (k : Fin 8) (j : Fin 1536) : EReal :=
  if k.val = 0 then ∑ r : Fin 512, x2 (ix2 r j) * E (ix2 ⟨3 + r.val, by omega⟩ j)
  else if k.val = 1 then ∑ r : Fin 512, x2 (ix2 r j) * E (ix2 ⟨2 + r.val, by omega⟩ j)
  else if k.val = 2 then ∑ r : Fin 512, x2 (ix2 r j) * E (ix2 ⟨1 + r.val, by omega⟩ j)
  else if k.val = 3 then ∑ r : Fin 512, x0 (ix2 r j) * x2 (ix2 r j)
  else if k.val = 4 then ∑ r : Fin 512, x0 (ix2 r j)
  else 0

/-- A sum over 512 rows, chunk by chunk onto a start value. -/
theorem sum_chunks (a : EReal) (f : Fin 512 → EReal) :
    a + ∑ r, f r = a + ∑ x : Fin 32, f ⟨x.val, by omega⟩ + ∑ x : Fin 32, f ⟨32 + x.val, by omega⟩ + ∑ x : Fin 32, f ⟨64 + x.val, by omega⟩
      + ∑ x : Fin 32, f ⟨96 + x.val, by omega⟩ + ∑ x : Fin 32, f ⟨128 + x.val, by omega⟩ + ∑ x : Fin 32, f ⟨160 + x.val, by omega⟩
      + ∑ x : Fin 32, f ⟨192 + x.val, by omega⟩ + ∑ x : Fin 32, f ⟨224 + x.val, by omega⟩ + ∑ x : Fin 32, f ⟨256 + x.val, by omega⟩
      + ∑ x : Fin 32, f ⟨288 + x.val, by omega⟩ + ∑ x : Fin 32, f ⟨320 + x.val, by omega⟩ + ∑ x : Fin 32, f ⟨352 + x.val, by omega⟩
      + ∑ x : Fin 32, f ⟨384 + x.val, by omega⟩ + ∑ x : Fin 32, f ⟨416 + x.val, by omega⟩ + ∑ x : Fin 32, f ⟨448 + x.val, by omega⟩
      + ∑ x : Fin 32, f ⟨480 + x.val, by omega⟩ := by
  rw [← Fin.sum_mul_add_fin (S := 16) (n := 32) (f := f)]
  simp only [Fin.sum_univ_castSucc (n := 15), Fin.sum_univ_castSucc (n := 14), Fin.sum_univ_castSucc (n := 13), Fin.sum_univ_castSucc (n := 12),
    Fin.sum_univ_castSucc (n := 11), Fin.sum_univ_castSucc (n := 10), Fin.sum_univ_castSucc (n := 9), Fin.sum_univ_castSucc (n := 8),
    Fin.sum_univ_castSucc (n := 7), Fin.sum_univ_castSucc (n := 6), Fin.sum_univ_castSucc (n := 5), Fin.sum_univ_castSucc (n := 4),
    Fin.sum_univ_castSucc (n := 3), Fin.sum_univ_castSucc (n := 2), Fin.sum_univ_castSucc (n := 1), Fin.sum_univ_castSucc (n := 0), Fin.sum_univ_zero]
  simp only [Fin.val_castSucc, Fin.val_last, Nat.reduceMul, Nat.zero_mul, zero_add, ← add_assoc]

variable (m : (ℓ : Loc nD τ sig) → Buf (Elt Ideal) ℓ)

set_option maxHeartbeats 4000000 in
/-- The accumulator after a point that is not the first: what the point before left, and this point's part. -/
theorem acc_later (c : Dev nD) (t : Fin cfg0.N) (h : ¬ t.val % 8 = 0) (k : Fin 8) (j : Fin 1536) :
    (outsAt0 m c t.val t.isLt).2 (ix2 k j)
      = (outsAt0 m c (t.val - 1) (Nat.lt_of_le_of_lt (Nat.sub_le _ _) t.isLt)).2 (ix2 k j)
        + part (iblk m c 0 t) (iblk m c 2 t) (ext (grid0.coords t) (iblk m c 0 t) (iblk m c 1 t)) k j := by
  rw [outsAt0_B m c t h]
  frame_open
  simp only [↓ readCov_ext]
  simp (disch := decide) only [↓ View.readCov_skip, ↓ View.readCov_cons_toLoadRect, ↓ View.readCov_fill]
  unfold part
  fin_cases k
  all_goals
    simp (disch := decide) only [↓ row_hit, ↓ row_miss, ↓ row_fill]
    simp (maxSteps := 2000000) (disch := decide) only [View.readAt_eq_ld, View.ld_unit_lit', Memref.IsWhole.read_unread,
      Nat.reduceEqDiff, ↓reduceIte, sum_chunks, View.writes_nil, add_zero]
    try unfold_payloads
    try pointwise
    try simp only [← Nat.add_assoc, Nat.reduceAdd]

set_option maxHeartbeats 4000000 in
/-- The accumulator after the first point: this point's part onto zero. -/
theorem acc_first (c : Dev nD) (t : Fin cfg0.N) (h : t.val % 8 = 0) (k : Fin 8) (j : Fin 1536) :
    (outsAt0 m c t.val t.isLt).2 (ix2 k j)
      = 0 + part (iblk m c 0 t) (iblk m c 2 t) (ext (grid0.coords t) (iblk m c 0 t) (iblk m c 1 t)) k j := by
  rw [outsAt0_A m c t h]
  frame_open
  simp only [↓ readCov_ext]
  simp (disch := decide) only [↓ View.readCov_skip, ↓ View.readCov_cons_toLoadRect, ↓ View.readCov_fill]
  unfold part
  fin_cases k
  all_goals
    simp (disch := decide) only [↓ row_hit, ↓ row_miss, ↓ row_fill]
    simp (maxSteps := 2000000) (disch := decide) only [View.readAt_eq_ld, View.ld_unit_lit', Memref.IsWhole.read_unread,
      Nat.reduceEqDiff, ↓reduceIte, sum_chunks, View.writes_nil, add_zero]
    try unfold_payloads
    try pointwise
    try simp only [← Nat.add_assoc, Nat.reduceAdd]

/-- One entry of the gradient of the input, from the rows of the cotangent at and below it. -/
def back (x0 : Vec Ideal S512x1536 .f32) (x3 : Vec Ideal S4x1536 .f32) (E : Vec Ideal S520x1536 .f32) (r : Fin 512) (j : Fin 1536) : EReal :=
  x3 (ix2 3 j) * x0 (ix2 r j) + x3 (ix2 0 j) * E (ix2 ⟨3 + r.val, by omega⟩ j)
    + x3 (ix2 1 j) * E (ix2 ⟨2 + r.val, by omega⟩ j) + x3 (ix2 2 j) * E (ix2 ⟨1 + r.val, by omega⟩ j)

/-- The same as a block. -/
def backV (x0 : Vec Ideal S512x1536 .f32) (x3 : Vec Ideal S4x1536 .f32) (E : Vec Ideal S520x1536 .f32) : Vec Ideal S512x1536 .bf16 :=
  fun y => back x0 x3 E (y 0) (y 1)

/-- A stored chunk of 32 rows is the block's rows if it is so row by row. -/
theorem chunk_of (G : Vec Ideal S512x1536 .bf16) (a : ℕ) (h) (w : Vec Ideal S32x1536 .bf16)
    (hw : ∀ (r : Fin 32) (j : Fin 1536) (hr : a + r.val < 512), w (ix2 r j) = G (ix2 ⟨a + r.val, hr⟩ j)) (x : S32x1536.Idx) :
    w x = G ((Rect.unit (s := S512x1536) ![a, 0] ![32, 1536] h).emb x) := by
  have h0 : a + 32 ≤ 512 := h 0
  have hx : (x 0).val < 32 := (x 0).isLt
  have e1 : x = ix2 (x 0) (x 1) := funext fun i => by match i with | ⟨0, _⟩ => rfl | ⟨1, _⟩ => rfl
  have e2 : (Rect.unit (s := S512x1536) ![a, 0] ![32, 1536] h).emb x = ix2 ⟨a + (x 0).val, by omega⟩ (x 1) := funext fun i => Fin.ext (by
    match i with
    | ⟨0, _⟩ => show a + 1 * (x 0).val = a + (x 0).val; omega
    | ⟨1, _⟩ => show 0 + 1 * (x 1).val = (x 1).val; omega)
  exact (congrArg w e1).trans ((hw (x 0) (x 1) (by omega)).trans (congrArg G e2.symm))

/-- The block of the input's gradient after any point. -/
theorem du_block (c : Dev nD) (t : Fin cfg0.N) (y : S512x1536.Idx) :
    (outsAt0 m c t.val t.isLt).1 y = backV (iblk m c 0 t) (iblk m c 3 t) (ext (grid0.coords t) (iblk m c 0 t) (iblk m c 1 t)) y := by
  by_cases h : t.val % 8 = 0
  · rw [outsAt0_A m c t h]
    dsimp only [out0_A_4]
    rw [View.read_writes_junk_eq_canon]
    refine View.canon_apply_of_pieces (backV (iblk m c 0 t) (iblk m c 3 t) (ext (grid0.coords t) (iblk m c 0 t) (iblk m c 1 t))) _
      (View.PiecesOf.mem ?_) _ (cover0_A_4 ..)
    frame_open
    simp only [↓ readCov_ext]
    refine ⟨?_, ?_, ?_, ?_, ?_, ?_, ?_, ?_, ?_, ?_, ?_, ?_, ?_, ?_, ?_, ?_, trivial⟩
    all_goals
      refine chunk_of _ _ (by decide) _ fun r j hr => ?_
      unfold backV back
      unfold_payloads
      simp (disch := decide) only [View.readAt_eq_ld, View.ld_unit_lit', Memref.IsWhole.read_unread]
      pointwise
      try simp only [← Nat.add_assoc, Nat.reduceAdd]
  · rw [outsAt0_B m c t h]
    dsimp only [out0_B_4]
    rw [View.read_writes_junk_eq_canon]
    refine View.canon_apply_of_pieces (backV (iblk m c 0 t) (iblk m c 3 t) (ext (grid0.coords t) (iblk m c 0 t) (iblk m c 1 t))) _
      (View.PiecesOf.mem ?_) _ (cover0_B_4 ..)
    frame_open
    simp only [↓ readCov_ext]
    refine ⟨?_, ?_, ?_, ?_, ?_, ?_, ?_, ?_, ?_, ?_, ?_, ?_, ?_, ?_, ?_, ?_, trivial⟩
    all_goals
      refine chunk_of _ _ (by decide) _ fun r j hr => ?_
      unfold backV back
      unfold_payloads
      simp (disch := decide) only [View.readAt_eq_ld, View.ld_unit_lit', Memref.IsWhole.read_unread]
      pointwise
      try simp only [← Nat.add_assoc, Nat.reduceAdd]

end Cert.Conv

end
-- ==== Proof.ConvArray.lean ====
/-
  The two arrays the call leaves, each as one function of the argument arrays: the rows of the cotangent below the last
  one count as zero, and a column of the weights' gradient is one sum over all 4096 rows.
-/
module

public import proofs.«01_k».proof.Proof.ConvBlock

@[expose] public section

set_option maxRecDepth 16384

noncomputable section

namespace Cert.Conv

open Cert.KernelIdeal Cert.KernelIdeal.Gen Idealize.ShloMosaic Idealize.ShloMosaic.TcCoe Idealize.SL.Sem Idealize.ShloMosaic.Pointwise
open Idealize.ShloMosaic.Pipeline (Dat)

/-- The cotangent continued by zeros below its last row. -/
def below (ct : Vec Ideal S4096x1536 .f32) (r : ℕ) (j : Fin 1536) : EReal :=
  if h : r < 4096 then ct (ix2 ⟨r, h⟩ j) else 0

variable (m : (ℓ : Loc nD τ sig) → Buf (Elt Ideal) ℓ) (c : Dev nD)

theorem idx0 : ∀ t : Fin grid0.N, win0_0.index t = ![t.val, 0] := by decide +kernel
theorem idx1 : ∀ t : Fin grid0.N, win0_1.index t = ![min ((t.val + 1) * 64) 511, 0] := by decide +kernel
theorem idx2 : ∀ t : Fin grid0.N, win0_2.index t = ![t.val, 0] := by decide +kernel
theorem idx3 : ∀ t : Fin grid0.N, win0_3.index t = ![0, 0] := by decide +kernel
theorem idx4 : ∀ t : Fin grid0.N, win0_4.index t = ![t.val, 0] := by decide +kernel
theorem idx5 : ∀ t : Fin grid0.N, win0_5.index t = ![0, 0] := by decide +kernel
theorem last_tile : ∀ t : Fin grid0.N, ((grid0.coords t) 1).val = t.val := by decide +kernel

theorem lt_N (t : Fin cfg0.N) : t.val < 8 := lt_of_lt_of_eq t.isLt N_0

theorem ct_read (t : Fin cfg0.N) (r : Fin 512) (j : Fin 1536) :
    iblk m c 0 t (ix2 r j) = (m ((c : Thread nD τ).loc main_arg3) : Vec Ideal S4096x1536 .f32) (ix2 ⟨t.val * 512 + r.val, by have := lt_N t; omega⟩ j) := by
  rw [← V_main_arg3 m c]
  blk_ext [iblk, V, idx0 t]

theorem u_read (t : Fin cfg0.N) (r : Fin 512) (j : Fin 1536) :
    iblk m c 2 t (ix2 r j) = (m ((c : Thread nD τ).loc main_arg0) : Vec Ideal S4096x1536 .f32) (ix2 ⟨t.val * 512 + r.val, by have := lt_N t; omega⟩ j) := by
  rw [← V_main_arg0 m c]
  blk_ext [iblk, V, idx2 t]

theorem w_read (t : Fin cfg0.N) (r : Fin 4) (j : Fin 1536) :
    iblk m c 3 t (ix2 r j) = (m ((c : Thread nD τ).loc main_arg1) : Vec Ideal S4x1536 .f32) (ix2 r j) := by
  rw [← V_main_arg1 m c]
  blk_ext [iblk, V, idx3 t]

theorem next_read (t : Fin cfg0.N) (ht : t.val < 7) (r : Fin 8) (j : Fin 1536) :
    iblk m c 1 t (ix2 r j) = (m ((c : Thread nD τ).loc main_arg3) : Vec Ideal S4096x1536 .f32) (ix2 ⟨(t.val + 1) * 512 + r.val, by omega⟩ j) := by
  rw [← V_main_arg3 m c]
  have e : min ((t.val + 1) * 64) 511 = (t.val + 1) * 64 := by omega
  blk_ext [iblk, V, idx1 t, e]

/-- The padded block of a point is the cotangent from that point's first row on. -/
theorem ext_read (t : Fin cfg0.N) (r : ℕ) (hr : r < 520) (j : Fin 1536) :
    ext (grid0.coords t) (iblk m c 0 t) (iblk m c 1 t) (ix2 ⟨r, hr⟩ j)
      = below (m ((c : Thread nD τ).loc main_arg3)) (t.val * 512 + r) j := by
  have ht := lt_N t
  unfold ext below
  by_cases h : r < 512
  · rw [dif_pos (by exact h), dif_pos (by omega)]
    exact ct_read m c t ⟨r, h⟩ j
  · rw [dif_neg (by exact h)]
    have hi := last_tile t
    unfold k0_pay3
    pointwise
    by_cases h7 : t.val = 7
    · rw [dif_neg (by omega)]
      have e : Scalar.cmpi .eq (BitVec.ofNat 32 ((grid0.coords t) 1).val) 7#32 = 1#1 := by rw [hi, h7]; rfl
      simp only [e]
      rfl
    · rw [dif_pos (by omega)]
      have e : Scalar.cmpi .eq (BitVec.ofNat 32 ((grid0.coords t) 1).val) 7#32 = 0#1 := by
        rw [hi]; revert h7 ht; generalize t.val = n; intro ht h7; interval_cases n <;> first | rfl | omega
      simp only [e]
      refine Eq.trans (next_read m c t (by omega) ⟨r - 512, by omega⟩ j) (congrArg _ ?_)
      refine congrArg (fun k => ix2 k j) (Fin.ext ?_)
      show (t.val + 1) * 512 + (r - 512) = t.val * 512 + r
      omega

/-- The gradient of the convolution's input. -/
def duOf (w : Vec Ideal S4x1536 .f32) (ct : Vec Ideal S4096x1536 .f32) : Vec Ideal S4096x1536 .bf16 := fun y =>
  w (ix2 3 (y 1)) * ct y + w (ix2 0 (y 1)) * below ct ((y 0).val + 3) (y 1) + w (ix2 1 (y 1)) * below ct ((y 0).val + 2) (y 1)
    + w (ix2 2 (y 1)) * below ct ((y 0).val + 1) (y 1)

/-- One row's part of the sums over rows. -/
def term (u ct : Vec Ideal S4096x1536 .f32) (k : Fin 8) (j : Fin 1536) (r : Fin 4096) : EReal :=
  if k.val = 0 then u (ix2 r j) * below ct (r.val + 3) j
  else if k.val = 1 then u (ix2 r j) * below ct (r.val + 2) j
  else if k.val = 2 then u (ix2 r j) * below ct (r.val + 1) j
  else if k.val = 3 then ct (ix2 r j) * u (ix2 r j)
  else if k.val = 4 then ct (ix2 r j)
  else 0

/-- The sums over rows: the gradients of the four weights and of the bias, then three rows of zeros. -/
def accOf (u ct : Vec Ideal S4096x1536 .f32) : Vec Ideal S8x1536 .f32 := fun y => ∑ r, term u ct (y 0) (y 1) r

theorem du_array : (dats m 0 c).arrAt 4 cfg0.N = duOf (m ((c : Thread nD τ).loc main_arg1)) (m ((c : Thread nD τ).loc main_arg3)) := by
  refine (dats m 0 c).arrAt_eq_of_covers 4 _ (by decide +kernel) fun t hf y => ?_
  blk_simp
  rw [after0_4]
  idx_vars y
  rw [du_block m c t]
  have ht := lt_N t
  have e : (win0_4.blk t).view.emb (ix2 y0 y1) = (ix2 ⟨t.val * 512 + y0.val, by omega⟩ y1 : S4096x1536.Idx) := by
    blk_ext [idx4 t]
  refine Eq.trans ?_ (congrArg (duOf _ _) e).symm
  show back _ _ _ y0 y1 = duOf _ _ _
  unfold back duOf
  simp only [ct_read, w_read, ext_read]
  rw [Nat.add_comm 3, Nat.add_comm 2, Nat.add_comm 1]
  simp only [← Nat.add_assoc]
  rfl

theorem part_read (t : Fin cfg0.N) (k : Fin 8) (j : Fin 1536) :
    part (iblk m c 0 t) (iblk m c 2 t) (ext (grid0.coords t) (iblk m c 0 t) (iblk m c 1 t)) k j
      = ∑ r : Fin 512, term (m ((c : Thread nD τ).loc main_arg0)) (m ((c : Thread nD τ).loc main_arg3)) k j
          ⟨t.val * 512 + r.val, by have := lt_N t; omega⟩ := by
  unfold part term
  simp only [ct_read, u_read, ext_read]
  fin_cases k <;> simp only [Nat.reduceEqDiff, ↓reduceIte, Finset.sum_const_zero]
  all_goals
    refine Finset.sum_congr rfl fun x _ => ?_
    exact congrArg (fun n => _ * below _ n j) (by omega)

theorem acc_array : (dats m 0 c).arrAt 5 cfg0.N = accOf (m ((c : Thread nD τ).loc main_arg0)) (m ((c : Thread nD τ).loc main_arg3)) := by
  refine (dats m 0 c).arrAt_eq_of_covers 5 _ (by decide +kernel) fun t hf y => ?_
  have ht : t.val % 8 = 7 := (flush0_5 t).mp hf
  have hN := lt_N t
  blk_simp
  rw [after0_5]
  idx_vars y
  have hs := Pipeline.eq_sum_fin_of_reset_step_apply_last (N := cfg0.N) (fun n h => fun i : Fin 8 × Fin 1536 => (outsAt0 m c n h).2 (ix2 i.1 i.2)) 8 (fun _ => 0) _
    (fun t h i => acc_first m c t h i.1 i.2) (fun t h i => acc_later m c t h i.1 i.2) (le_of_eq N_0) t (by have h8 : cfg0.N = 8 := N_0; omega) (y0, y1)
  simp only [zero_add, part_read] at hs
  have e : (win0_5.blk t).view.emb (ix2 y0 y1) = (ix2 y0 y1 : S8x1536.Idx) := by
    blk_ext [idx5 t]
  refine hs.trans (Eq.trans ?_ (congrArg (accOf _ _) e).symm)
  exact Fin.sum_mul_add_fin (S := 8) (n := 512) (f := term (m ((c : Thread nD τ).loc main_arg0)) (m ((c : Thread nD τ).loc main_arg3)) y0 y1)

end Cert.Conv

end
-- ==== Proof.ConvReference.lean ====
/-
  What the reference computes: the derivative of the four shifted products, read at an index.
-/
module

public import proofs.«01_k».proof.Proof.ConvArray
public import proofs.«01_k».proof.Proof.Gen.ReferenceIdeal.Run
public import proofs.«01_k».proof.Proof.Gen.ReferenceIdeal.Read

@[expose] public section

set_option maxRecDepth 16384

noncomputable section

namespace Cert.Conv

open Cert.ReferenceIdeal Cert.ReferenceIdeal.Read Idealize.ShloMosaic Idealize.ShloMosaic.TcCoe Idealize.ShloMosaic.Pointwise

/-- A sum whose last terms are zero is the sum of the others, … -/
theorem sum_tail {N n s : ℕ} (hN : N = n + s) (f : Fin N → EReal) (h0 : ∀ x, n ≤ x.val → f x = 0) :
    ∑ x, f x = ∑ x : Fin n, f ⟨x.val, by omega⟩ := by
  subst hN
  rw [Fin.sum_univ_add, Finset.sum_eq_zero (fun x _ => h0 (Fin.natAdd n x) (by rw [Fin.val_natAdd]; omega)), add_zero]
  rfl

/-- … and so is one whose first terms are zero. -/
theorem sum_head {N n s : ℕ} (hN : N = s + n) (f : Fin N → EReal) (h0 : ∀ x, x.val < s → f x = 0) :
    ∑ x, f x = ∑ x : Fin n, f ⟨s + x.val, by omega⟩ := by
  subst hN
  rw [Fin.sum_univ_add, Finset.sum_eq_zero (fun x _ => h0 (Fin.castAdd n x) (by rw [Fin.val_castAdd]; omega)), zero_add]
  rfl

/-- A sum of products with a shifted row needs only the rows whose shifted row exists, … -/
theorem sum_below {n : ℕ} (s : ℕ) (hs : 4096 = n + s) (u ct : Vec Ideal S4096x1536 .f32) (j : Fin 1536) :
    ∑ x : Fin 4096, u (ix2 x j) * below ct (x.val + s) j
      = ∑ x : Fin n, ct (ix2 ⟨s + x.val, by omega⟩ j) * u (ix2 ⟨x.val, by omega⟩ j) := by
  rw [sum_tail hs _ fun x hx => by rw [below, dif_neg (by omega), mul_zero]]
  refine Finset.sum_congr rfl fun x _ => ?_
  rw [below, dif_pos (by simp only; omega), mul_comm]
  simp only [Nat.add_comm s]

/-- … and so does one with a row shifted the other way. -/
theorem sum_above {n : ℕ} (s k : ℕ) (hs : 4096 = s + n) (hk : k + s = 3) (u ct : Vec Ideal S4096x1536 .f32) (j : Fin 1536)
    (hb : ∀ x : Fin 4096, ¬ k + x.val < 3 → k + x.val - 3 < 4096) :
    (∑ x : Fin 4096, ct (ix2 x j) * if h : k + x.val < 3 then 0 else u (ix2 ⟨k + x.val - 3, hb x h⟩ j))
      = ∑ x : Fin n, ct (ix2 ⟨s + x.val, by omega⟩ j) * u (ix2 ⟨x.val, by omega⟩ j) := by
  rw [sum_head hs _ fun x hx => by rw [dif_pos (by omega), mul_zero]]
  refine Finset.sum_congr rfl fun x _ => ?_
  rw [dif_neg (by simp only; omega)]
  have e : k + (s + x.val) - 3 = x.val := by omega
  simp only [e]

set_option maxHeartbeats 2000000 in
theorem ref_du (w : Vec Ideal S4x1536 .f32) (ct : Vec Ideal S4096x1536 .f32) : val_main_v81 (F := Ideal) w ct = duOf w ct := by
  funext y
  idx_vars y
  unfold duOf below
  pointwise [val_main_v3, val_main_v4, val_main_v6, val_main_v9, val_main_v10, val_main_v12, val_main_v16, val_main_v17, val_main_v19, val_main_v23, val_main_v24, val_main_v26, val_main_v33, val_main_v37, val_main_v38, val_main_cst_5, val_main_v43, val_main_v46, val_main_v47, val_main_cst_9, val_main_v52, val_main_v53, val_main_v57, val_main_v58, val_main_cst_13, val_main_v63, val_main_v64, val_main_v68, val_main_v69, val_main_cst_17, val_main_v74, val_main_v75, val_main_v80, val_main_v81]
  have h2 : 3 + y0.val - 2 = y0.val + 1 := by omega
  have h1 : 3 + y0.val - 1 = y0.val + 2 := by omega
  have c2 : 2 ≤ 3 + y0.val := by omega
  have c1 : 1 ≤ 3 + y0.val := by omega
  simp only [h2, h1, c2, c1, true_and]
  simp only [Nat.add_comm 3, mul_dite, mul_zero]
  ac_rfl

set_option maxHeartbeats 2000000 in
theorem ref_acc (u ct : Vec Ideal S4096x1536 .f32) : val_main_v84 (F := Ideal) u ct = accOf u ct := by
  funext y
  idx_vars y
  fin_cases y0
  all_goals
    unfold accOf term below
    pointwise [val_main_cst, val_main_v0, val_main_v1, val_main_v5, val_main_v11, val_main_v18, val_main_v25, val_main_v33, val_main_cst_1, val_main_v34, val_main_v35, val_main_cst_2, val_main_v36, val_main_v39, val_main_cst_3, val_main_v40, val_main_v41, val_main_cst_4, val_main_v42, val_main_v44, val_main_cst_6, val_main_v45, val_main_v48, val_main_cst_7, val_main_v49, val_main_v50, val_main_cst_8, val_main_v51, val_main_v54, val_main_cst_10, val_main_v55, val_main_v56, val_main_v59, val_main_cst_11, val_main_v60, val_main_v61, val_main_cst_12, val_main_v62, val_main_v65, val_main_cst_14, val_main_v66, val_main_v67, val_main_v70, val_main_cst_15, val_main_v71, val_main_v72, val_main_cst_16, val_main_v73, val_main_v76, val_main_cst_18, val_main_v77, val_main_v78, val_main_v82, val_main_cst_19, val_main_v83, val_main_v84]
  · rw [Fin.sum_univ_one]
    simp only [mul_zero, Finset.sum_const_zero, zero_add]
    exact (sum_below (n := 4093) 3 rfl u ct y1).symm
  · rw [Fin.sum_univ_one]
    exact (sum_above (n := 4094) 2 1 rfl rfl u ct y1 fun x h => by omega).trans (sum_below 2 rfl u ct y1).symm
  · rw [Fin.sum_univ_one]
    exact (sum_above (n := 4095) 1 2 rfl rfl u ct y1 fun x h => by omega).trans (sum_below 1 rfl u ct y1).symm
  · rw [Fin.sum_univ_one]
  · rw [Fin.sum_univ_one]
  all_goals exact Finset.sum_const_zero.symm

end Cert.Conv

end
-- ==== Proof.SwaPoint.lean ====
/-
  The backward pass of the windowed attention: what its three kinds of grid point are, and the buffers a point works on.

  The kernel visits 33 points. Point 0 zeroes the running sums; points 0 ‥ 31 work on one block of 128 queries each; point 32
  only hands over what the last query block left for its own keys.
-/
module

public import proofs.«01_k».proof.Proof.Gen.Kernel2Ideal.Frame
public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Swa

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-! ## The kinds of point -/

/-- The point zeroes the running sums. -/
abbrev Opens (i : grid0.Coords) : Prop := k0_cond1 i = 1#1
/-- The point works on a block of queries. -/
abbrev Works (i : grid0.Coords) : Prop := k0_cond2 i = 1#1
/-- The point only hands over the last keys' gradients. -/
abbrev Closes (i : grid0.Coords) : Prop := k0_cond3 i = 1#1

theorem opens_iff : ∀ t : Fin cfg0.N, Opens (grid0.coords t) ↔ t.val = 0 :=
  (by decide +kernel : ∀ t : Fin grid0.N, Opens (grid0.coords t) ↔ t.val = 0)
theorem works_iff : ∀ t : Fin cfg0.N, Works (grid0.coords t) ↔ t.val < 32 :=
  (by decide +kernel : ∀ t : Fin grid0.N, Works (grid0.coords t) ↔ t.val < 32)
theorem closes_iff : ∀ t : Fin cfg0.N, Closes (grid0.coords t) ↔ t.val = 32 :=
  (by decide +kernel : ∀ t : Fin grid0.N, Closes (grid0.coords t) ↔ t.val = 32)

/-! ## Which outputs a point leaves alone -/

/-- The three outputs: the queries' gradient (5), the keys' and values' (6), the sinks' (7). -/
theorem live5 : ∀ t : Fin cfg0.N, t.val < 32 → cfg0.idle 5 (grid0.coords t) = false := by decide +kernel
theorem live6 : ∀ t : Fin cfg0.N, cfg0.idle 6 (grid0.coords t) = false := by decide +kernel
theorem live7 : ∀ t : Fin cfg0.N, t.val < 32 → cfg0.idle 7 (grid0.coords t) = false := by decide +kernel
/-- At the last point outputs 5 and 7 are untouched and written back. -/
theorem idle5 : ∀ t : Fin cfg0.N, t.val = 32 → cfg0.idle 5 (grid0.coords t) = true := by decide +kernel
theorem idle7 : ∀ t : Fin cfg0.N, t.val = 32 → cfg0.idle 7 (grid0.coords t) = true := by decide +kernel
theorem flush5 : ∀ t : Fin cfg0.N, t.val = 32 → (cfg0.win 5).flush t = true := by decide +kernel
theorem flush7 : ∀ t : Fin cfg0.N, t.val = 32 → (cfg0.win 7).flush t = true := by decide +kernel

/-- Output 5's buffer holds nothing of the kernel's before each of the points up to 31, each of which writes its own block
    back but the last; before point 32 it holds point 31's. -/
def fresh5 : ℕ → Bool := fun n => decide (n ≤ 31 ∨ n = 33)
theorem fresh5_eq (t : Fin cfg0.N) : cfg0.fresh 5 t.val = fresh5 t.val :=
  Pipeline.Cfg.fresh_tab cfg0 5 fresh5 rfl (by decide +kernel) t.val (Nat.le_of_lt t.isLt)
/-- Output 7's buffer is the kernel's from point 0 to the end. -/
def fresh7 : ℕ → Bool := fun n => decide (n = 0 ∨ n = 33)
theorem fresh7_eq (t : Fin cfg0.N) : cfg0.fresh 7 t.val = fresh7 t.val :=
  Pipeline.Cfg.fresh_tab cfg0 7 fresh7 rfl (by decide +kernel) t.val (Nat.le_of_lt t.isLt)

/-! ## The buffers of a point -/

/-- The staging buffers at point `t`, as the pipeline passes them: queries, keys and values, those of the block before, the
    cotangent, the sinks; then the three outputs. -/
abbrev bQ (t : Fin cfg0.N) : Memref sig .tc .vmem S128x1024 .bf16 := win0_0.stage (cfg0.slots t 0)
abbrev bK (t : Fin cfg0.N) : Memref sig .tc .vmem S128x256 .bf16 := win0_1.stage (cfg0.slots t 1)
abbrev bL (t : Fin cfg0.N) : Memref sig .tc .vmem S128x256 .bf16 := win0_2.stage (cfg0.slots t 2)
abbrev bD (t : Fin cfg0.N) : Memref sig .tc .vmem S128x1024 .bf16 := win0_3.stage (cfg0.slots t 3)
abbrev bS (t : Fin cfg0.N) : Memref sig .tc .smem S16 .f32 := win0_4.stage (cfg0.slots t 4)
abbrev bDq (t : Fin cfg0.N) : Memref sig .tc .vmem S128x1024 .bf16 := win0_5.stage (cfg0.slots t 5)
abbrev bDkv (t : Fin cfg0.N) : Memref sig .tc .vmem S128x256 .f32 := win0_6.stage (cfg0.slots t 6)
abbrev bDs (t : Fin cfg0.N) : Memref sig .tc .vmem S1x128 .f32 := win0_7.stage (cfg0.slots t 7)
abbrev wQ (t : Fin cfg0.N) : (bQ t).IsWhole := hstage0_0 ((cfg0.slots t 0).cast nbuf0_0)
abbrev wK (t : Fin cfg0.N) : (bK t).IsWhole := hstage0_1 ((cfg0.slots t 1).cast nbuf0_1)
abbrev wL (t : Fin cfg0.N) : (bL t).IsWhole := hstage0_2 ((cfg0.slots t 2).cast nbuf0_2)
abbrev wD (t : Fin cfg0.N) : (bD t).IsWhole := hstage0_3 ((cfg0.slots t 3).cast nbuf0_3)
abbrev wS (t : Fin cfg0.N) : (bS t).IsWhole := hstage0_4 ((cfg0.slots t 4).cast nbuf0_4)
abbrev wDq (t : Fin cfg0.N) : (bDq t).IsWhole := hstage0_5 ((cfg0.slots t 5).cast nbuf0_5)
abbrev wDkv (t : Fin cfg0.N) : (bDkv t).IsWhole := hstage0_6 ((cfg0.slots t 6).cast nbuf0_6)
abbrev wDs (t : Fin cfg0.N) : (bDs t).IsWhole := hstage0_7 ((cfg0.slots t 7).cast nbuf0_7)

/-- The scratch: what one point leaves for the next (the carry), and four buffers of the point's own. -/
abbrev mC : Memref sig .tc .vmem S128x256 .f32 := Memref.whole cc0_scratch0
abbrev mQ : Memref sig .tc .vmem S1024x64 .bf16 := Memref.whole cc0_scratch1
abbrev mD : Memref sig .tc .vmem S1024x64 .bf16 := Memref.whole cc0_scratch2
abbrev mP : Memref sig .tc .vmem S256x1024 .bf16 := Memref.whole cc0_scratch3
abbrev mT : Memref sig .tc .vmem S256x1024 .bf16 := Memref.whole cc0_scratch4

/-- Views through which an output's contents are stated (any whole buffer would do). -/
abbrev vDq : View sig .tc .vmem S128x1024 .bf16 := (Memref.whole cc0_stg5_0 : Memref sig .tc .vmem S128x1024 .bf16).view
abbrev vDkv : View sig .tc .vmem S128x256 .f32 := (Memref.whole cc0_stg6_0 : Memref sig .tc .vmem S128x256 .f32).view
abbrev vDs : View sig .tc .vmem S1x128 .f32 := (Memref.whole cc0_stg7_0 : Memref sig .tc .vmem S1x128 .f32).view
abbrev vC : View sig .tc .vmem S128x256 .f32 := mC.view

/-- The four scratch buffers of a point's own, at anything. -/
abbrev Spare (c : Dev nD) : sProp 𝕄 :=
  iprop((∃ d, owns (c : Thread nD τ) mQ fullShare d) ∗ (∃ d, owns (c : Thread nD τ) mD fullShare d)
    ∗ (∃ d, owns (c : Thread nD τ) mP fullShare d) ∗ (∃ d, owns (c : Thread nD τ) mT fullShare d))

/-- What the launch hands the region: the scratch at anything, and the generator register at some state. -/
theorem launch_scratch (c : Dev nD) :
    (Pipeline.ΦA spec0 c : sProp 𝕄)
      = iprop(iprop((∃ d, owns (c : Thread nD τ) mC fullShare d) ∗ Spare (F := F) c) ∗ (∃ r, prngReg c r)) := by
  unfold Pipeline.ΦA; rw [scopedRest0_eq]; simp only [Spare, mC, mQ, mD, mP, mT, owns_whole]; try rfl

end Cert.Swa

end
-- ==== Proof.SwaFirst.lean ====
/-
  The backward pass of the windowed attention: the body run at the first point.
-/
module

public import proofs.«01_k».proof.Proof.SwaPoint

@[expose] public section

set_option maxRecDepth 16384

noncomputable section

namespace Cert.Swa

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 1800000 in
/-- The body at the first point: everything it keeps starts from zero. The lists are the stores the run makes into the three outputs and the carry. -/
noncomputable def runFirst (c : Dev nD) (i : grid0.Coords)
    (q : Memref sig .tc .vmem S128x1024 .bf16) (hq : q.IsWhole) (k : Memref sig .tc .vmem S128x256 .bf16) (hk : k.IsWhole)
    (l : Memref sig .tc .vmem S128x256 .bf16) (hl : l.IsWhole) (d : Memref sig .tc .vmem S128x1024 .bf16) (hd : d.IsWhole)
    (s : Memref sig .tc .smem S16 .f32) (hs : s.IsWhole) (dq : Memref sig .tc .vmem S128x1024 .bf16) (hdq : dq.IsWhole)
    (dkv : Memref sig .tc .vmem S128x256 .f32) (hdkv : dkv.IsWhole) (ds : Memref sig .tc .vmem S1x128 .f32) (hds : ds.IsWhole)
    (r : Memref sig .tc .vmem S128x256 .f32) (hr : r.IsWhole) (a : Memref sig .tc .vmem S1024x64 .bf16) (ha : a.IsWhole)
    (b : Memref sig .tc .vmem S1024x64 .bf16) (hb : b.IsWhole) (p : Memref sig .tc .vmem S256x1024 .bf16) (hp : p.IsWhole)
    (w : Memref sig .tc .vmem S256x1024 .bf16) (hw : w.IsWhole)
    (h0 : Opens i) (h1 : Works i) (h2 : ¬Closes i)
    (x0 : Vec F S128x1024 .bf16) (x1 : Vec F S128x256 .bf16) (x2 : Vec F S128x256 .bf16) (x3 : Vec F S128x1024 .bf16)
    (x4 : Vec F S16 .f32) :
    Σ' (L5 : List (View.Piece (Elt F) S128x1024 .bf16)), Σ' (L6 : List (View.Piece (Elt F) S128x256 .f32)),
      Σ' (L7 : List (View.Piece (Elt F) S1x128 .f32)), { LC : List (View.Piece (Elt F) S128x256 .f32) //
      ∀ (E : Set ℕ) (K : PUnit → sProp 𝕄),
        iprop(owns (c : Thread nD τ) q fullShare x0 ∗ owns (c : Thread nD τ) k fullShare x1 ∗ owns (c : Thread nD τ) l fullShare x2 ∗ owns (c : Thread nD τ) d fullShare x3 ∗ owns (c : Thread nD τ) s fullShare x4
            ∗ (∃ f, owns (c : Thread nD τ) dq fullShare f) ∗ (∃ f, owns (c : Thread nD τ) dkv fullShare f)
            ∗ (∃ f, owns (c : Thread nD τ) ds fullShare f) ∗ (∃ f, owns (c : Thread nD τ) r fullShare f)
            ∗ (∃ f, owns (c : Thread nD τ) a fullShare f) ∗ (∃ f, owns (c : Thread nD τ) b fullShare f) ∗ (∃ f, owns (c : Thread nD τ) p fullShare f) ∗ (∃ f, owns (c : Thread nD τ) w fullShare f)
            ∗ (iprop(owns (c : Thread nD τ) q fullShare x0 ∗ owns (c : Thread nD τ) k fullShare x1 ∗ owns (c : Thread nD τ) l fullShare x2 ∗ owns (c : Thread nD τ) d fullShare x3 ∗ owns (c : Thread nD τ) s fullShare x4
              ∗ (∃ f, dq.view.loc (c : Thread nD τ) ↦[dq.view.set]{fullShare} dq.view.writes (Elt F) f L5) ∗ (∃ f, dkv.view.loc (c : Thread nD τ) ↦[dkv.view.set]{fullShare} dkv.view.writes (Elt F) f L6)
              ∗ (∃ f, ds.view.loc (c : Thread nD τ) ↦[ds.view.set]{fullShare} ds.view.writes (Elt F) f L7) ∗ (∃ f, r.view.loc (c : Thread nD τ) ↦[r.view.set]{fullShare} r.view.writes (Elt F) f LC)
              ∗ (∃ f, owns (c : Thread nD τ) a fullShare f) ∗ (∃ f, owns (c : Thread nD τ) b fullShare f) ∗ (∃ f, owns (c : Thread nD τ) p fullShare f) ∗ (∃ f, owns (c : Thread nD τ) w fullShare f)) -∗ K ⟨⟩))
          ⊢ wp frame (wpE (defs₀ (F := F)) Variants.none c none) E
              (cc0_swa_bwd i q hq k hk l hl d hd s hs dq hdq dkv hdkv ds hds r hr a ha b hb p hp w hw) K } := by
  refine ⟨?_, ?_, ?_, ?_, fun E K => ?run⟩
  case run =>
    simp only [cc0_swa_bwd_eq_skeleton]; unfold cc0_swa_bwd_skel
    simp only [k0_part29_eq_skeleton, k0_part1_eq_skeleton, k0_part2_eq_skeleton, k0_part3_eq_skeleton, k0_part4_eq_skeleton,
      k0_part5_eq_skeleton, k0_part6_eq_skeleton, k0_part7_eq_skeleton, k0_part8_eq_skeleton, k0_part9_eq_skeleton,
      k0_part10_eq_skeleton, k0_part11_eq_skeleton, k0_part12_eq_skeleton, k0_part13_eq_skeleton,
      k0_part14_eq_skeleton, k0_part15_eq_skeleton, k0_part16_eq_skeleton, k0_part17_eq_skeleton,
      k0_part18_eq_skeleton, k0_part19_eq_skeleton, k0_part20_eq_skeleton, k0_part21_eq_skeleton,
      k0_part22_eq_skeleton, k0_part23_eq_skeleton, k0_part24_eq_skeleton, k0_part25_eq_skeleton,
      k0_part26_eq_skeleton, k0_part27_eq_skeleton, k0_part28_eq_skeleton]
    unfold owns
    iintro ⟨⟨%f0, %hf0, Hq⟩, ⟨%f1, %hf1, Hk⟩, ⟨%f2, %hf2, Hl⟩, ⟨%f3, %hf3, Hd⟩, ⟨%f4, %hf4, Hs⟩, ⟨%d5, %f5, -, H5⟩, ⟨%d6, %f6, -, H6⟩, ⟨%d7, %f7, -, H7⟩, ⟨%dc, %fc, -, HC⟩, ⟨%s1, %fs1, -, Ha⟩, ⟨%s2, %fs2, -, Hb⟩, ⟨%s3, %fs3, -, Hp⟩, ⟨%s4, %fs4, -, Hw⟩, Hcont⟩
    obtain rfl := hq.eq_unread hf0; obtain rfl := hk.eq_unread hf1; obtain rfl := hl.eq_unread hf2
    obtain rfl := hd.eq_unread hf3; obtain rfl := hs.eq_unread hf4
    sl_exec (disch := first | sl_exact h0 | sl_exact h1 | sl_exact h2)
    sl_step
    iapply Hcont
    isplitl [Hq]
    · iexists _; isplitr; · ipureintro; exact hq.read_unread _
      iexact Hq
    isplitl [Hk]
    · iexists _; isplitr; · ipureintro; exact hk.read_unread _
      iexact Hk
    isplitl [Hl]
    · iexists _; isplitr; · ipureintro; exact hl.read_unread _
      iexact Hl
    isplitl [Hd]
    · iexists _; isplitr; · ipureintro; exact hd.read_unread _
      iexact Hd
    isplitl [Hs]
    · iexists _; isplitr; · ipureintro; exact hs.read_unread _
      iexact Hs
    isplitl [H5]; · iexists _; iexact H5
    isplitl [H6]; · iexists _; iexact H6
    isplitl [H7]; · iexists _; iexact H7
    isplitl [HC]; · iexists _; iexact HC
    isplitl [Ha]
    · iexists _, _; isplitr; swap; · iexact Ha
      ipureintro; rfl
    isplitl [Hb]
    · iexists _, _; isplitr; swap; · iexact Hb
      ipureintro; rfl
    isplitl [Hp]
    · iexists _, _; isplitr; swap; · iexact Hp
      ipureintro; rfl
    iexists _, _; isplitr; swap; · iexact Hw
    ipureintro; rfl

end Cert.Swa

end
-- ==== Proof.SwaMid.lean ====
/-
  The backward pass of the windowed attention: the body run at a point in the middle.
-/
module

public import proofs.«01_k».proof.Proof.SwaFirst

@[expose] public section

set_option maxRecDepth 16384

noncomputable section

namespace Cert.Swa

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 1800000 in
/-- The body at points 1 ‥ 31: the sinks' gradient so far `y` and the carry `z` of the point before go in. The lists are the stores the run makes into the three outputs and the carry. -/
noncomputable def runMid (c : Dev nD) (i : grid0.Coords)
    (q : Memref sig .tc .vmem S128x1024 .bf16) (hq : q.IsWhole) (k : Memref sig .tc .vmem S128x256 .bf16) (hk : k.IsWhole)
    (l : Memref sig .tc .vmem S128x256 .bf16) (hl : l.IsWhole) (d : Memref sig .tc .vmem S128x1024 .bf16) (hd : d.IsWhole)
    (s : Memref sig .tc .smem S16 .f32) (hs : s.IsWhole) (dq : Memref sig .tc .vmem S128x1024 .bf16) (hdq : dq.IsWhole)
    (dkv : Memref sig .tc .vmem S128x256 .f32) (hdkv : dkv.IsWhole) (ds : Memref sig .tc .vmem S1x128 .f32) (hds : ds.IsWhole)
    (r : Memref sig .tc .vmem S128x256 .f32) (hr : r.IsWhole) (a : Memref sig .tc .vmem S1024x64 .bf16) (ha : a.IsWhole)
    (b : Memref sig .tc .vmem S1024x64 .bf16) (hb : b.IsWhole) (p : Memref sig .tc .vmem S256x1024 .bf16) (hp : p.IsWhole)
    (w : Memref sig .tc .vmem S256x1024 .bf16) (hw : w.IsWhole)
    (h0 : ¬Opens i) (h1 : Works i) (h2 : ¬Closes i)
    (x0 : Vec F S128x1024 .bf16) (x1 : Vec F S128x256 .bf16) (x2 : Vec F S128x256 .bf16) (x3 : Vec F S128x1024 .bf16)
    (x4 : Vec F S16 .f32) (y : Vec F S1x128 .f32) (z : Vec F S128x256 .f32) :
    Σ' (L5 : List (View.Piece (Elt F) S128x1024 .bf16)), Σ' (L6 : List (View.Piece (Elt F) S128x256 .f32)),
      Σ' (L7 : List (View.Piece (Elt F) S1x128 .f32)), { LC : List (View.Piece (Elt F) S128x256 .f32) //
      ∀ (E : Set ℕ) (K : PUnit → sProp 𝕄),
        iprop(owns (c : Thread nD τ) q fullShare x0 ∗ owns (c : Thread nD τ) k fullShare x1 ∗ owns (c : Thread nD τ) l fullShare x2 ∗ owns (c : Thread nD τ) d fullShare x3 ∗ owns (c : Thread nD τ) s fullShare x4
            ∗ (∃ f, owns (c : Thread nD τ) dq fullShare f) ∗ (∃ f, owns (c : Thread nD τ) dkv fullShare f)
            ∗ owns (c : Thread nD τ) ds fullShare y ∗ owns (c : Thread nD τ) r fullShare z
            ∗ (∃ f, owns (c : Thread nD τ) a fullShare f) ∗ (∃ f, owns (c : Thread nD τ) b fullShare f) ∗ (∃ f, owns (c : Thread nD τ) p fullShare f) ∗ (∃ f, owns (c : Thread nD τ) w fullShare f)
            ∗ (iprop(owns (c : Thread nD τ) q fullShare x0 ∗ owns (c : Thread nD τ) k fullShare x1 ∗ owns (c : Thread nD τ) l fullShare x2 ∗ owns (c : Thread nD τ) d fullShare x3 ∗ owns (c : Thread nD τ) s fullShare x4
              ∗ (∃ f, dq.view.loc (c : Thread nD τ) ↦[dq.view.set]{fullShare} dq.view.writes (Elt F) f L5) ∗ (∃ f, dkv.view.loc (c : Thread nD τ) ↦[dkv.view.set]{fullShare} dkv.view.writes (Elt F) f L6)
              ∗ (∃ f, ds.view.loc (c : Thread nD τ) ↦[ds.view.set]{fullShare} ds.view.writes (Elt F) f L7) ∗ (∃ f, r.view.loc (c : Thread nD τ) ↦[r.view.set]{fullShare} r.view.writes (Elt F) f LC)
              ∗ (∃ f, owns (c : Thread nD τ) a fullShare f) ∗ (∃ f, owns (c : Thread nD τ) b fullShare f) ∗ (∃ f, owns (c : Thread nD τ) p fullShare f) ∗ (∃ f, owns (c : Thread nD τ) w fullShare f)) -∗ K ⟨⟩))
          ⊢ wp frame (wpE (defs₀ (F := F)) Variants.none c none) E
              (cc0_swa_bwd i q hq k hk l hl d hd s hs dq hdq dkv hdkv ds hds r hr a ha b hb p hp w hw) K } := by
  refine ⟨?_, ?_, ?_, ?_, fun E K => ?run⟩
  case run =>
    simp only [cc0_swa_bwd_eq_skeleton]; unfold cc0_swa_bwd_skel
    simp only [k0_part29_eq_skeleton, k0_part1_eq_skeleton, k0_part2_eq_skeleton, k0_part3_eq_skeleton, k0_part4_eq_skeleton,
      k0_part5_eq_skeleton, k0_part6_eq_skeleton, k0_part7_eq_skeleton, k0_part8_eq_skeleton, k0_part9_eq_skeleton,
      k0_part10_eq_skeleton, k0_part11_eq_skeleton, k0_part12_eq_skeleton, k0_part13_eq_skeleton,
      k0_part14_eq_skeleton, k0_part15_eq_skeleton, k0_part16_eq_skeleton, k0_part17_eq_skeleton,
      k0_part18_eq_skeleton, k0_part19_eq_skeleton, k0_part20_eq_skeleton, k0_part21_eq_skeleton,
      k0_part22_eq_skeleton, k0_part23_eq_skeleton, k0_part24_eq_skeleton, k0_part25_eq_skeleton,
      k0_part26_eq_skeleton, k0_part27_eq_skeleton, k0_part28_eq_skeleton]
    unfold owns
    iintro ⟨⟨%f0, %hf0, Hq⟩, ⟨%f1, %hf1, Hk⟩, ⟨%f2, %hf2, Hl⟩, ⟨%f3, %hf3, Hd⟩, ⟨%f4, %hf4, Hs⟩, ⟨%d5, %f5, -, H5⟩, ⟨%d6, %f6, -, H6⟩, ⟨%f7, %hf7, H7⟩, ⟨%fc, %hfc, HC⟩, ⟨%s1, %fs1, -, Ha⟩, ⟨%s2, %fs2, -, Hb⟩, ⟨%s3, %fs3, -, Hp⟩, ⟨%s4, %fs4, -, Hw⟩, Hcont⟩
    obtain rfl := hq.eq_unread hf0; obtain rfl := hk.eq_unread hf1; obtain rfl := hl.eq_unread hf2
    obtain rfl := hd.eq_unread hf3; obtain rfl := hs.eq_unread hf4; obtain rfl := hds.eq_unread hf7; obtain rfl := hr.eq_unread hfc
    sl_exec (disch := first | sl_exact h0 | sl_exact h1 | sl_exact h2)
    sl_step
    iapply Hcont
    isplitl [Hq]
    · iexists _; isplitr; · ipureintro; exact hq.read_unread _
      iexact Hq
    isplitl [Hk]
    · iexists _; isplitr; · ipureintro; exact hk.read_unread _
      iexact Hk
    isplitl [Hl]
    · iexists _; isplitr; · ipureintro; exact hl.read_unread _
      iexact Hl
    isplitl [Hd]
    · iexists _; isplitr; · ipureintro; exact hd.read_unread _
      iexact Hd
    isplitl [Hs]
    · iexists _; isplitr; · ipureintro; exact hs.read_unread _
      iexact Hs
    isplitl [H5]; · iexists _; iexact H5
    isplitl [H6]; · iexists _; iexact H6
    isplitl [H7]; · iexists _; iexact H7
    isplitl [HC]; · iexists _; iexact HC
    isplitl [Ha]
    · iexists _, _; isplitr; swap; · iexact Ha
      ipureintro; rfl
    isplitl [Hb]
    · iexists _, _; isplitr; swap; · iexact Hb
      ipureintro; rfl
    isplitl [Hp]
    · iexists _, _; isplitr; swap; · iexact Hp
      ipureintro; rfl
    iexists _, _; isplitr; swap; · iexact Hw
    ipureintro; rfl

end Cert.Swa

end
-- ==== Proof.SwaLast.lean ====
/-
  The backward pass of the windowed attention: the body run at the last point.
-/
module

public import proofs.«01_k».proof.Proof.SwaMid

@[expose] public section

set_option maxRecDepth 16384

noncomputable section

namespace Cert.Swa

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The body at point 32: it stores the carry `z` over the keys' and values' gradient, and leaves everything else alone. -/
noncomputable def runLast (c : Dev nD) (i : grid0.Coords)
    (q : Memref sig .tc .vmem S128x1024 .bf16) (hq : q.IsWhole) (k : Memref sig .tc .vmem S128x256 .bf16) (hk : k.IsWhole)
    (l : Memref sig .tc .vmem S128x256 .bf16) (hl : l.IsWhole) (d : Memref sig .tc .vmem S128x1024 .bf16) (hd : d.IsWhole)
    (s : Memref sig .tc .smem S16 .f32) (hs : s.IsWhole) (dq : Memref sig .tc .vmem S128x1024 .bf16) (hdq : dq.IsWhole)
    (dkv : Memref sig .tc .vmem S128x256 .f32) (hdkv : dkv.IsWhole) (ds : Memref sig .tc .vmem S1x128 .f32) (hds : ds.IsWhole)
    (r : Memref sig .tc .vmem S128x256 .f32) (hr : r.IsWhole) (a : Memref sig .tc .vmem S1024x64 .bf16) (ha : a.IsWhole)
    (b : Memref sig .tc .vmem S1024x64 .bf16) (hb : b.IsWhole) (p : Memref sig .tc .vmem S256x1024 .bf16) (hp : p.IsWhole)
    (w : Memref sig .tc .vmem S256x1024 .bf16) (hw : w.IsWhole)
    (h0 : ¬Opens i) (h1 : ¬Works i) (h2 : Closes i)
    (x0 : Vec F S128x1024 .bf16) (x1 : Vec F S128x256 .bf16) (x2 : Vec F S128x256 .bf16) (x3 : Vec F S128x1024 .bf16)
    (x4 : Vec F S16 .f32) (x5 : Vec F S128x1024 .bf16) (y : Vec F S1x128 .f32) (z : Vec F S128x256 .f32) :
    { L6 : List (View.Piece (Elt F) S128x256 .f32) //
      ∀ (E : Set ℕ) (K : PUnit → sProp 𝕄),
        iprop(owns (c : Thread nD τ) q fullShare x0 ∗ owns (c : Thread nD τ) k fullShare x1 ∗ owns (c : Thread nD τ) l fullShare x2 ∗ owns (c : Thread nD τ) d fullShare x3 ∗ owns (c : Thread nD τ) s fullShare x4
            ∗ owns (c : Thread nD τ) dq fullShare x5 ∗ (∃ f, owns (c : Thread nD τ) dkv fullShare f)
            ∗ owns (c : Thread nD τ) ds fullShare y ∗ owns (c : Thread nD τ) r fullShare z
            ∗ (∃ f, owns (c : Thread nD τ) a fullShare f) ∗ (∃ f, owns (c : Thread nD τ) b fullShare f) ∗ (∃ f, owns (c : Thread nD τ) p fullShare f) ∗ (∃ f, owns (c : Thread nD τ) w fullShare f)
            ∗ (iprop(owns (c : Thread nD τ) q fullShare x0 ∗ owns (c : Thread nD τ) k fullShare x1 ∗ owns (c : Thread nD τ) l fullShare x2 ∗ owns (c : Thread nD τ) d fullShare x3 ∗ owns (c : Thread nD τ) s fullShare x4
              ∗ owns (c : Thread nD τ) dq fullShare x5 ∗ (∃ f, dkv.view.loc (c : Thread nD τ) ↦[dkv.view.set]{fullShare} dkv.view.writes (Elt F) f L6)
              ∗ owns (c : Thread nD τ) ds fullShare y ∗ owns (c : Thread nD τ) r fullShare z
              ∗ (∃ f, owns (c : Thread nD τ) a fullShare f) ∗ (∃ f, owns (c : Thread nD τ) b fullShare f) ∗ (∃ f, owns (c : Thread nD τ) p fullShare f) ∗ (∃ f, owns (c : Thread nD τ) w fullShare f)) -∗ K ⟨⟩))
          ⊢ wp frame (wpE (defs₀ (F := F)) Variants.none c none) E
              (cc0_swa_bwd i q hq k hk l hl d hd s hs dq hdq dkv hdkv ds hds r hr a ha b hb p hp w hw) K } := by
  refine ⟨?_, fun E K => ?run⟩
  case run =>
    simp only [cc0_swa_bwd_eq_skeleton]; unfold cc0_swa_bwd_skel
    unfold owns
    iintro ⟨⟨%f0, %hf0, Hq⟩, ⟨%f1, %hf1, Hk⟩, ⟨%f2, %hf2, Hl⟩, ⟨%f3, %hf3, Hd⟩, ⟨%f4, %hf4, Hs⟩, ⟨%f5, %hf5, H5⟩, ⟨%d6, %f6, -, H6⟩, ⟨%f7, %hf7, H7⟩, ⟨%fc, %hfc, HC⟩, ⟨%s1, %fs1, -, Ha⟩, ⟨%s2, %fs2, -, Hb⟩, ⟨%s3, %fs3, -, Hp⟩, ⟨%s4, %fs4, -, Hw⟩, Hcont⟩
    obtain rfl := hq.eq_unread hf0; obtain rfl := hk.eq_unread hf1; obtain rfl := hl.eq_unread hf2
    obtain rfl := hd.eq_unread hf3; obtain rfl := hs.eq_unread hf4; obtain rfl := hdq.eq_unread hf5
    obtain rfl := hds.eq_unread hf7; obtain rfl := hr.eq_unread hfc
    sl_exec (disch := first | sl_exact h0 | sl_exact h1 | sl_exact h2)
    sl_step
    iapply Hcont
    isplitl [Hq]
    · iexists _; isplitr; · ipureintro; exact hq.read_unread _
      iexact Hq
    isplitl [Hk]
    · iexists _; isplitr; · ipureintro; exact hk.read_unread _
      iexact Hk
    isplitl [Hl]
    · iexists _; isplitr; · ipureintro; exact hl.read_unread _
      iexact Hl
    isplitl [Hd]
    · iexists _; isplitr; · ipureintro; exact hd.read_unread _
      iexact Hd
    isplitl [Hs]
    · iexists _; isplitr; · ipureintro; exact hs.read_unread _
      iexact Hs
    isplitl [H5]
    · iexists _; isplitr; · ipureintro; exact hdq.read_unread _
      iexact H5
    isplitl [H6]; · iexists _; iexact H6
    isplitl [H7]
    · iexists _; isplitr; · ipureintro; exact hds.read_unread _
      iexact H7
    isplitl [HC]
    · iexists _; isplitr; · ipureintro; exact hr.read_unread _
      iexact HC
    isplitl [Ha]
    · iexists _, _; isplitr; swap; · iexact Ha
      ipureintro; rfl
    isplitl [Hb]
    · iexists _, _; isplitr; swap; · iexact Hb
      ipureintro; rfl
    isplitl [Hp]
    · iexists _, _; isplitr; swap; · iexact Hp
      ipureintro; rfl
    iexists _, _; isplitr; swap; · iexact Hw
    ipureintro; rfl

end Cert.Swa

end
-- ==== Proof.SwaFrame.lean ====
/-
  The backward pass of the windowed attention: what each point leaves in the outputs and the carry, and the run of the whole
  program from it. Stated over any values, so that it serves the program on words and on extended reals alike.
-/
module

public import proofs.«01_k».proof.Proof.SwaLast
public import Idealize.ShloMosaic.Lib.Claim

@[expose] public section

set_option maxRecDepth 16384

noncomputable section

namespace Cert.Swa

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## One point's run on the blocks it is given -/

theorem opens_zero {t : Fin cfg0.N} (h : t.val = 0) : Opens (grid0.coords t) := (opens_iff t).mpr h
theorem opens_pos {t : Fin cfg0.N} (h : t.val ≠ 0) : ¬Opens (grid0.coords t) := fun x => h ((opens_iff t).mp x)
theorem works_lt {t : Fin cfg0.N} (h : t.val < 32) : Works (grid0.coords t) := (works_iff t).mpr h
theorem works_not {t : Fin cfg0.N} (h : ¬t.val < 32) : ¬Works (grid0.coords t) := fun x => h ((works_iff t).mp x)
theorem closes_not {t : Fin cfg0.N} (h : t.val < 32) : ¬Closes (grid0.coords t) :=
  fun x => absurd ((closes_iff t).mp x) (by omega)
theorem closes_last {t : Fin cfg0.N} (h : ¬t.val < 32) : Closes (grid0.coords t) :=
  (closes_iff t).mpr (by have := t.isLt; have e : cfg0.N = 33 := N_0; omega)

/-- The run at point 0, -/
abbrev atFirst (c : Dev nD) (t : Fin cfg0.N) (h : t.val = 0) :=
  runFirst (F := F) c (grid0.coords t) (bQ t) (wQ t) (bK t) (wK t) (bL t) (wL t) (bD t) (wD t) (bS t) (wS t) (bDq t) (wDq t)
    (bDkv t) (wDkv t) (bDs t) (wDs t) mC (Memref.isWhole_whole _) mQ (Memref.isWhole_whole _) mD (Memref.isWhole_whole _)
    mP (Memref.isWhole_whole _) mT (Memref.isWhole_whole _) (opens_zero h) (works_lt (by omega)) (closes_not (by omega))
    (iblk m c 0 t) (iblk m c 1 t) (iblk m c 2 t) (iblk m c 3 t) (iblk m c 4 t)
/-- at a point in the middle, the sinks' gradient so far and the carry given, -/
abbrev atMid (c : Dev nD) (t : Fin cfg0.N) (h : t.val ≠ 0) (h' : t.val < 32) (y : Vec F S1x128 .f32) (z : Vec F S128x256 .f32) :=
  runMid (F := F) c (grid0.coords t) (bQ t) (wQ t) (bK t) (wK t) (bL t) (wL t) (bD t) (wD t) (bS t) (wS t) (bDq t) (wDq t)
    (bDkv t) (wDkv t) (bDs t) (wDs t) mC (Memref.isWhole_whole _) mQ (Memref.isWhole_whole _) mD (Memref.isWhole_whole _)
    mP (Memref.isWhole_whole _) mT (Memref.isWhole_whole _) (opens_pos h) (works_lt h') (closes_not h')
    (iblk m c 0 t) (iblk m c 1 t) (iblk m c 2 t) (iblk m c 3 t) (iblk m c 4 t) y z
/-- and at the last point. -/
abbrev atLast (c : Dev nD) (t : Fin cfg0.N) (h : ¬t.val < 32) (x : Vec F S128x1024 .bf16) (y : Vec F S1x128 .f32)
    (z : Vec F S128x256 .f32) :=
  runLast (F := F) c (grid0.coords t) (bQ t) (wQ t) (bK t) (wK t) (bL t) (wL t) (bD t) (wD t) (bS t) (wS t) (bDq t) (wDq t)
    (bDkv t) (wDkv t) (bDs t) (wDs t) mC (Memref.isWhole_whole _) mQ (Memref.isWhole_whole _) mD (Memref.isWhole_whole _)
    mP (Memref.isWhole_whole _) mT (Memref.isWhole_whole _) (opens_pos (by omega)) (works_not h) (closes_last h)
    (iblk m c 0 t) (iblk m c 1 t) (iblk m c 2 t) (iblk m c 3 t) (iblk m c 4 t) x y z

/-! The stores of a run cover what they are made into. -/

theorem first_dq (c : Dev nD) (t : Fin cfg0.N) (h : t.val = 0) (y) : ∃ pc ∈ (atFirst m c t h).1, y ∈ pc.1.set :=
  View.cover_of_tiledL (atFirst m c t h).1 S128x64.size (by sl_kernel_rfl) y
theorem first_dkv (c : Dev nD) (t : Fin cfg0.N) (h : t.val = 0) (y) : ∃ pc ∈ (atFirst m c t h).2.1, y ∈ pc.1.set :=
  View.cover_of_tiledL _ S128x256.size (by sl_kernel_rfl) y
theorem first_ds (c : Dev nD) (t : Fin cfg0.N) (h : t.val = 0) (y) : ∃ pc ∈ (atFirst m c t h).2.2.1, y ∈ pc.1.set :=
  View.cover_of_tiledL _ S1x128.size (by sl_kernel_rfl) y
theorem first_carry (c : Dev nD) (t : Fin cfg0.N) (h : t.val = 0) (y) : ∃ pc ∈ (atFirst m c t h).2.2.2.1, y ∈ pc.1.set :=
  View.cover_of_tiledL _ S128x256.size (by sl_kernel_rfl) y

theorem mid_dq (c : Dev nD) (t : Fin cfg0.N) (h h' y' z) (y) : ∃ pc ∈ (atMid m c t h h' y' z).1, y ∈ pc.1.set :=
  View.cover_of_tiledL (atMid m c t h h' y' z).1 S128x64.size (by sl_kernel_rfl) y
theorem mid_dkv (c : Dev nD) (t : Fin cfg0.N) (h h' y' z) (y) : ∃ pc ∈ (atMid m c t h h' y' z).2.1, y ∈ pc.1.set :=
  View.cover_of_tiledL _ S128x256.size (by sl_kernel_rfl) y
theorem mid_ds (c : Dev nD) (t : Fin cfg0.N) (h h' y' z) (y) : ∃ pc ∈ (atMid m c t h h' y' z).2.2.1, y ∈ pc.1.set :=
  View.cover_of_tiledL _ S1x128.size (by sl_kernel_rfl) y
theorem mid_carry (c : Dev nD) (t : Fin cfg0.N) (h h' y' z) (y) : ∃ pc ∈ (atMid m c t h h' y' z).2.2.2.1, y ∈ pc.1.set :=
  View.cover_of_tiledL _ S128x256.size (by sl_kernel_rfl) y

theorem last_dkv (c : Dev nD) (t : Fin cfg0.N) (h x y' z) (y) : ∃ pc ∈ (atLast m c t h x y' z).1, y ∈ pc.1.set :=
  View.cover_of_tiledL _ S128x256.size (by sl_kernel_rfl) y

/-! What a run leaves: its stores read back. -/

def firstDq (c : Dev nD) (t : Fin cfg0.N) (h : t.val = 0) : Vec F S128x1024 .bf16 :=
  vDq.read (Elt F) (vDq.writes (Elt F) vDq.junk (atFirst m c t h).1)
def firstDkv (c : Dev nD) (t : Fin cfg0.N) (h : t.val = 0) : Vec F S128x256 .f32 :=
  vDkv.read (Elt F) (vDkv.writes (Elt F) vDkv.junk (atFirst m c t h).2.1)
def firstDs (c : Dev nD) (t : Fin cfg0.N) (h : t.val = 0) : Vec F S1x128 .f32 :=
  vDs.read (Elt F) (vDs.writes (Elt F) vDs.junk (atFirst m c t h).2.2.1)
def firstC (c : Dev nD) (t : Fin cfg0.N) (h : t.val = 0) : Vec F S128x256 .f32 :=
  vC.read (Elt F) (vC.writes (Elt F) vC.junk (atFirst m c t h).2.2.2.1)
def midDq (c : Dev nD) (t : Fin cfg0.N) (h : t.val ≠ 0) (h' : t.val < 32) (y : Vec F S1x128 .f32) (z : Vec F S128x256 .f32) :
    Vec F S128x1024 .bf16 := vDq.read (Elt F) (vDq.writes (Elt F) vDq.junk (atMid m c t h h' y z).1)
def midDkv (c : Dev nD) (t : Fin cfg0.N) (h : t.val ≠ 0) (h' : t.val < 32) (y : Vec F S1x128 .f32) (z : Vec F S128x256 .f32) :
    Vec F S128x256 .f32 := vDkv.read (Elt F) (vDkv.writes (Elt F) vDkv.junk (atMid m c t h h' y z).2.1)
def midDs (c : Dev nD) (t : Fin cfg0.N) (h : t.val ≠ 0) (h' : t.val < 32) (y : Vec F S1x128 .f32) (z : Vec F S128x256 .f32) :
    Vec F S1x128 .f32 := vDs.read (Elt F) (vDs.writes (Elt F) vDs.junk (atMid m c t h h' y z).2.2.1)
def midC (c : Dev nD) (t : Fin cfg0.N) (h : t.val ≠ 0) (h' : t.val < 32) (y : Vec F S1x128 .f32) (z : Vec F S128x256 .f32) :
    Vec F S128x256 .f32 := vC.read (Elt F) (vC.writes (Elt F) vC.junk (atMid m c t h h' y z).2.2.2.1)
def lastDkv (c : Dev nD) (t : Fin cfg0.N) (h : ¬t.val < 32) (x : Vec F S128x1024 .bf16) (y : Vec F S1x128 .f32)
    (z : Vec F S128x256 .f32) : Vec F S128x256 .f32 :=
  vDkv.read (Elt F) (vDkv.writes (Elt F) vDkv.junk (atLast m c t h x y z).1)

/-! ## Point by point -/

/-- What the outputs and the carry hold after point `n`: the queries' gradient, the keys' and values', the sinks', the carry. -/
def left (c : Dev nD) : (n : ℕ) → n < cfg0.N → Vec F S128x1024 .bf16 × Vec F S128x256 .f32 × Vec F S1x128 .f32 × Vec F S128x256 .f32
  | 0, hn => (firstDq m c ⟨0, hn⟩ rfl, firstDkv m c ⟨0, hn⟩ rfl, firstDs m c ⟨0, hn⟩ rfl, firstC m c ⟨0, hn⟩ rfl)
  | n + 1, hn =>
    let b := left c n (Nat.lt_of_succ_lt hn)
    if h : n + 1 < 32 then
      (midDq m c ⟨n + 1, hn⟩ (Nat.succ_ne_zero n) h b.2.2.1 b.2.2.2, midDkv m c ⟨n + 1, hn⟩ (Nat.succ_ne_zero n) h b.2.2.1 b.2.2.2,
        midDs m c ⟨n + 1, hn⟩ (Nat.succ_ne_zero n) h b.2.2.1 b.2.2.2, midC m c ⟨n + 1, hn⟩ (Nat.succ_ne_zero n) h b.2.2.1 b.2.2.2)
    else (b.1, lastDkv m c ⟨n + 1, hn⟩ h b.1 b.2.2.1 b.2.2.2, b.2.2.1, b.2.2.2)

/-- After the point before. -/
abbrev prior (c : Dev nD) (t : Fin cfg0.N) := left m c (t.val - 1) (Nat.lt_of_le_of_lt (Nat.sub_le _ _) t.isLt)

theorem left_first (c : Dev nD) (t : Fin cfg0.N) (h : t.val = 0) :
    left m c t.val t.isLt = (firstDq m c t h, firstDkv m c t h, firstDs m c t h, firstC m c t h) := by
  obtain ⟨n, hn⟩ := t; cases n with
  | zero => rfl
  | succ n => exact absurd h (Nat.succ_ne_zero n)

theorem left_mid (c : Dev nD) (t : Fin cfg0.N) (h : t.val ≠ 0) (h' : t.val < 32) :
    left m c t.val t.isLt = (midDq m c t h h' (prior m c t).2.2.1 (prior m c t).2.2.2, midDkv m c t h h' (prior m c t).2.2.1 (prior m c t).2.2.2,
      midDs m c t h h' (prior m c t).2.2.1 (prior m c t).2.2.2, midC m c t h h' (prior m c t).2.2.1 (prior m c t).2.2.2) := by
  obtain ⟨n, hn⟩ := t; cases n with
  | zero => exact absurd rfl h
  | succ n => exact dif_pos h'

theorem left_last (c : Dev nD) (t : Fin cfg0.N) (h : ¬t.val < 32) :
    left m c t.val t.isLt = ((prior m c t).1, lastDkv m c t h (prior m c t).1 (prior m c t).2.2.1 (prior m c t).2.2.2,
      (prior m c t).2.2.1, (prior m c t).2.2.2) := by
  obtain ⟨n, hn⟩ := t; cases n with
  | zero => exact absurd (by decide : 0 < 32) h
  | succ n => exact dif_neg h

/-- Before point `n`: at the start the scratch at anything, then the carry at what the point before left. -/
def Inv (c : Dev nD) : (n : ℕ) → n ≤ cfg0.N → sProp 𝕄
  | 0, _ => Pipeline.ΦA spec0 c
  | n + 1, hn => iprop(iprop(owns (c : Thread nD τ) mC fullShare (left m c n hn).2.2.2 ∗ Spare c) ∗ (∃ r, prngReg c r))

theorem Inv_pos (c : Dev nD) (n : ℕ) (h : n ≤ cfg0.N) (hz : n ≠ 0) :
    Inv m c n h = iprop(iprop(owns (c : Thread nD τ) mC fullShare (left m c (n - 1) (by omega)).2.2.2 ∗ Spare c)
      ∗ (∃ r, prngReg c r)) := by
  cases n with
  | zero => exact absurd rfl hz
  | succ n => rfl

/-- The pipeline's proof data: each input's buffer keeps its block, the outputs' hold `left`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (left m c t.val t.isLt).1
    | ⟨6, _⟩ => (left m c t.val t.isLt).2.1
    | ⟨7, _⟩ => (left m c t.val t.isLt).2.2.1
  Φ t := Inv m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]
theorem Inv_castSucc (c : Dev nD) (t : Fin cfg0.N) : (dats m 0 c).Φ t.castSucc = Inv m c t.val (Nat.le_of_lt t.isLt) := by
  dsimp only [dats]; exact Pipeline.Dat.Φ_castSucc (Inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (left m c t.val t.isLt).1 := by dsimp only [dats]
theorem after6 (c : Dev nD) (t : Fin cfg0.N) : (dats m 0 c).after 6 t = (left m c t.val t.isLt).2.1 := by dsimp only [dats]
theorem after7 (c : Dev nD) (t : Fin cfg0.N) : (dats m 0 c).after 7 t = (left m c t.val t.isLt).2.2.1 := by dsimp only [dats]

/-- An output a point leaves alone keeps what it held. -/
theorem keeps5 (c : Dev nD) (t : Fin cfg0.N) (_ : t.val ≠ 0) (hi : cfg0.idle 5 (grid0.coords t) = true)
    (_ : cfg0.fresh 5 t.val = false) : (dats m 0 c).after 5 t = (dats m 0 c).after 5 ⟨t.val - 1, by omega⟩ := by
  have h : ¬t.val < 32 := fun h => by rw [live5 t h] at hi; exact Bool.false_ne_true hi
  rw [after5, after5, left_last m c t h]
theorem keeps7 (c : Dev nD) (t : Fin cfg0.N) (_ : t.val ≠ 0) (hi : cfg0.idle 7 (grid0.coords t) = true)
    (_ : cfg0.fresh 7 t.val = false) : (dats m 0 c).after 7 t = (dats m 0 c).after 7 ⟨t.val - 1, by omega⟩ := by
  have h : ¬t.val < 32 := fun h => by rw [live7 t h] at hi; exact Bool.false_ne_true hi
  rw [after7, after7, left_last m c t h]

/-- What the body finds in the outputs it keeps. -/
theorem before5 (c : Dev nD) (t : Fin cfg0.N) (h : ¬t.val < 32) (d) : (dats m 0 c).before 5 t d = (prior m c t).1 := by
  have hN := t.isLt; have e : cfg0.N = 33 := N_0
  rw [Dat.before_out_traj _ 5 rfl (fun _ _ => rfl) (keeps5 m c) t.val t rfl d,
    if_neg (by rw [fresh5_eq t, fresh5, decide_eq_true_eq]; omega)]
  dsimp only [dats]
theorem before7 (c : Dev nD) (t : Fin cfg0.N) (h : t.val ≠ 0) (d) : (dats m 0 c).before 7 t d = (prior m c t).2.2.1 := by
  have hN := t.isLt; have e : cfg0.N = 33 := N_0
  rw [Dat.before_out_traj _ 7 rfl (fun _ _ => rfl) (keeps7 m c) t.val t rfl d,
    if_neg (by rw [fresh7_eq t, fresh7, decide_eq_true_eq]; omega)]
  dsimp only [dats]

/-! ## The body at any point -/

/-- What the body is called with, window by window, -/
def bodyPre (c : Dev nD) (t : Fin cfg0.N) : sProp 𝕄 :=
  iprop((dats m 0 c).Φ t.castSucc ∗ (dats m 0 c).owesAt () t.castSucc
    ∗ (∃ d, owns (c : Thread nD τ) (bQ t) fullShare ((dats m 0 c).before 0 t d))
    ∗ (∃ d, owns (c : Thread nD τ) (bK t) fullShare ((dats m 0 c).before 1 t d))
    ∗ (∃ d, owns (c : Thread nD τ) (bL t) fullShare ((dats m 0 c).before 2 t d))
    ∗ (∃ d, owns (c : Thread nD τ) (bD t) fullShare ((dats m 0 c).before 3 t d))
    ∗ (∃ d, owns (c : Thread nD τ) (bS t) fullShare ((dats m 0 c).before 4 t d))
    ∗ (∃ d, owns (c : Thread nD τ) (bDq t) fullShare ((dats m 0 c).before 5 t d))
    ∗ (∃ d, owns (c : Thread nD τ) (bDkv t) fullShare ((dats m 0 c).before 6 t d))
    ∗ (∃ d, owns (c : Thread nD τ) (bDs t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t)

/-- Whatever a point does with an output, it hands it back at `left`: stored into, or kept and written back. -/
theorem leaves0 (c : Dev nD) (t : Fin cfg0.N) : (dats m 0 c).leavesExact 0 t = owns (c : Thread nD τ) (bQ t) fullShare (iblk m c 0 t) := rfl
theorem leaves1 (c : Dev nD) (t : Fin cfg0.N) : (dats m 0 c).leavesExact 1 t = owns (c : Thread nD τ) (bK t) fullShare (iblk m c 1 t) := rfl
theorem leaves2 (c : Dev nD) (t : Fin cfg0.N) : (dats m 0 c).leavesExact 2 t = owns (c : Thread nD τ) (bL t) fullShare (iblk m c 2 t) := rfl
theorem leaves3 (c : Dev nD) (t : Fin cfg0.N) : (dats m 0 c).leavesExact 3 t = owns (c : Thread nD τ) (bD t) fullShare (iblk m c 3 t) := rfl
theorem leaves4 (c : Dev nD) (t : Fin cfg0.N) : (dats m 0 c).leavesExact 4 t = owns (c : Thread nD τ) (bS t) fullShare (iblk m c 4 t) := rfl
theorem leaves5 (c : Dev nD) (t : Fin cfg0.N) :
    (dats m 0 c).leavesExact 5 t = owns (c : Thread nD τ) (bDq t) fullShare (left m c t.val t.isLt).1 := by
  have hN := t.isLt; have e : cfg0.N = 33 := N_0
  rw [← after5]; unfold Dat.leavesExact
  by_cases h : t.val < 32
  · rw [live5 t h]
  · rw [idle5 t (by omega), flush5 t (by omega)]
theorem leaves6 (c : Dev nD) (t : Fin cfg0.N) :
    (dats m 0 c).leavesExact 6 t = owns (c : Thread nD τ) (bDkv t) fullShare (left m c t.val t.isLt).2.1 := by
  rw [← after6]; unfold Dat.leavesExact; rw [live6 t]
theorem leaves7 (c : Dev nD) (t : Fin cfg0.N) :
    (dats m 0 c).leavesExact 7 t = owns (c : Thread nD τ) (bDs t) fullShare (left m c t.val t.isLt).2.2.1 := by
  have hN := t.isLt; have e : cfg0.N = 33 := N_0
  rw [← after7]; unfold Dat.leavesExact
  by_cases h : t.val < 32
  · rw [live7 t h]
  · rw [idle7 t (by omega), flush7 t (by omega)]

set_option maxHeartbeats 4000000 in
/-- The body at any point takes what it is called with to what it returns. -/
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after0 m c), before0_1_of m (dats m 0 c) (A_eq m c 1) (after1 m c),
    before0_2_of m (dats m 0 c) (A_eq m c 2) (after2 m c), before0_3_of m (dats m 0 c) (A_eq m c 3) (after3 m c),
    before0_4_of m (dats m 0 c) (A_eq m c 4) (after4 m c)]
  rw [show (dats m 0 c).owesAt () t.succ = (dats m 0 c).owesAt () t.castSucc from rfl, Inv_castSucc m c t,
    show (dats m 0 c).Φ t.succ = iprop(iprop(owns (c : Thread nD τ) mC fullShare (left m c t.val t.isLt).2.2.2 ∗ Spare c)
      ∗ (∃ r, prngReg c r)) from rfl,
    leaves0, leaves1, leaves2, leaves3, leaves4, leaves5, leaves6, leaves7]
  by_cases hz : t.val = 0
  · rw [show Inv m c t.val (Nat.le_of_lt t.isLt) = Pipeline.ΦA spec0 c from by
        obtain ⟨n, hn⟩ := t; subst hz; rfl, launch_scratch, left_first m c t hz]
    unfold firstDq firstDkv firstDs firstC; dsimp only
    iintro ⟨⟨⟨HC, Ha, Hb, Hp, Hw⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((atFirst m c t hz).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HC]; · iexact HC
    isplitl [Ha]; · iexact Ha
    isplitl [Hb]; · iexact Hb
    isplitl [Hp]; · iexact Hp
    isplitl [Hw]; · iexact Hw
    iintro ⟨H0, H1, H2, H3, H4, ⟨%e5, H5⟩, ⟨%e6, H6⟩, ⟨%e7, H7⟩, ⟨%ec, HC⟩, Ha, Hb, Hp, Hw⟩
    isplitl [HC Ha Hb Hp Hw Hg]
    · isplitl [HC Ha Hb Hp Hw]
      · isplitl [HC]
        · unfold owns; iexists _; isplitr
          swap; · iexact HC
          ipureintro; exact View.read_writes_of_cover _ _ _ _ _ (first_carry m c t hz)
        isplitl [Ha]; · iexact Ha
        isplitl [Hb]; · iexact Hb
        isplitl [Hp]; · iexact Hp
        iexact Hw
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (first_dq m c t hz)
    isplitl [H6]
    · unfold owns; iexists _; isplitr
      swap; · iexact H6
      ipureintro; exact View.read_writes_of_cover _ _ _ _ _ (first_dkv m c t hz)
    unfold owns; iexists _; isplitr
    swap; · iexact H7
    ipureintro; exact View.read_writes_of_cover _ _ _ _ _ (first_ds m c t hz)
  · rw [Inv_pos m c _ _ hz]
    simp only [before7 m c t hz]
    by_cases h : t.val < 32
    · rw [left_mid m c t hz h]
      unfold midDq midDkv midDs midC; dsimp only
      iintro ⟨⟨⟨HC, Ha, Hb, Hp, Hw⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((atMid m c t hz h (prior m c t).2.2.1 (prior m c t).2.2.2).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [HC]; · iexact HC
      isplitl [Ha]; · iexact Ha
      isplitl [Hb]; · iexact Hb
      isplitl [Hp]; · iexact Hp
      isplitl [Hw]; · iexact Hw
      iintro ⟨H0, H1, H2, H3, H4, ⟨%e5, H5⟩, ⟨%e6, H6⟩, ⟨%e7, H7⟩, ⟨%ec, HC⟩, Ha, Hb, Hp, Hw⟩
      isplitl [HC Ha Hb Hp Hw Hg]
      · isplitl [HC Ha Hb Hp Hw]
        · isplitl [HC]
          · unfold owns; iexists _; isplitr
            swap; · iexact HC
            ipureintro; exact View.read_writes_of_cover _ _ _ _ _ (mid_carry m c t hz h _ _)
          isplitl [Ha]; · iexact Ha
          isplitl [Hb]; · iexact Hb
          isplitl [Hp]; · iexact Hp
          iexact Hw
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (mid_dq m c t hz h _ _)
      isplitl [H6]
      · unfold owns; iexists _; isplitr
        swap; · iexact H6
        ipureintro; exact View.read_writes_of_cover _ _ _ _ _ (mid_dkv m c t hz h _ _)
      unfold owns; iexists _; isplitr
      swap; · iexact H7
      ipureintro; exact View.read_writes_of_cover _ _ _ _ _ (mid_ds m c t hz h _ _)
    · simp only [before5 m c t h]
      rw [left_last m c t h]
      unfold lastDkv; dsimp only
      iintro ⟨⟨⟨HC, Ha, Hb, Hp, Hw⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((atLast m c t h (prior m c t).1 (prior m c t).2.2.1 (prior m c t).2.2.2).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HC]; · iexact HC
      isplitl [Ha]; · iexact Ha
      isplitl [Hb]; · iexact Hb
      isplitl [Hp]; · iexact Hp
      isplitl [Hw]; · iexact Hw
      iintro ⟨H0, H1, H2, H3, H4, H5, ⟨%e6, H6⟩, H7, HC, Ha, Hb, Hp, Hw⟩
      isplitl [HC Ha Hb Hp Hw Hg]
      · isplitl [HC Ha Hb Hp Hw]
        · isplitl [HC]; · iexact HC
          isplitl [Ha]; · iexact Ha
          isplitl [Hb]; · iexact Hb
          isplitl [Hp]; · iexact Hp
          iexact Hw
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (last_dkv m c t h _ _ _)
      iexact H7

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (body_sound m c t) rfl .rfl fun _ => .rfl

theorem enter (c : Dev nD) : Pipeline.ΦA spec0 c ⊢ (dats m 0 c).Φ 0 := by
  rw [show (dats m 0 c).Φ 0 = Pipeline.ΦA spec0 c from rfl]

theorem leave (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl,
    Inv_pos m c _ _ (by rw [Fin.val_last]; have : cfg0.N = 33 := N_0; omega), launch_scratch]
  iintro ⟨⟨HC, Ha, Hb, Hp, Hw⟩, Hg⟩
  isplitl [HC Ha Hb Hp Hw]
  · isplitl [HC]; · iexists _; iexact HC
    isplitl [Ha]; · iexact Ha
    isplitl [Hb]; · iexact Hb
    isplitl [Hp]; · iexact Hp
    iexact Hw
  iexact Hg

/-! ## The program's run -/

set_option backward.isDefEq.respectTransparency.types false in
/-- Every fair execution ends, with every array of the pipeline as the proof data say and every semaphore at zero. -/
theorem run_quiet : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := enter m) (hout := leave m)

theorem run : θ_run defs (onTc (τ := τ) (main (F := F))) (s₀ m ρ) (Pipeline.FramePost cfgs (dats m) 0 (V m)) :=
  (θ_run defs _ _).mono (fun _ h => h.1) (run_quiet m ρ)

/-- The frame, over any values: the arguments end unchanged and no semaphore is left raised. -/
theorem kernel_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run m ρ)) ((θ_run defs _ _).mono (fun _ h => h.2) (run_quiet m ρ))

end Cert.Swa

end
-- ==== Proof.SwaModel.lean ====
/-
  The backward pass of the windowed attention: what the body computes at one point, written once for all sixteen heads, and the
  proof that a run at any point stores exactly that. A head's columns of scores are one slice of its group's product of the keys
  and the queries; what it makes of them is the same text for every head but for its slope, its sink and its slice.
-/
module

public import proofs.«01_k».proof.Proof.SwaFrame

@[expose] public section

set_option maxRecDepth 16384

noncomputable section

namespace Cert.Swa

open Cert.Kernel2Ideal Cert.Kernel2Ideal.Gen
open Idealize.ShloMosaic Idealize.ShloMosaic.TcCoe Idealize.ShloMosaic.Tactic

variable {F : FTy → Type} [FloatOps F] [Named F]

/-- What a point works on: which keys a query sees, the two groups' keys and values (the block before, then its own), the sixteen
    heads' queries and output gradients, the heads' sinks. -/
structure Given (F : FTy → Type) where
  valid : IVec S256x128 1
  kk : Fin 2 → FVec F S256x64 .bf16
  vv : Fin 2 → FVec F S256x64 .bf16
  q : Fin 16 → FVec F S128x64 .bf16
  d : Fin 16 → FVec F S128x64 .bf16
  s : Fin 16 → F .f32

/-- Head `r` of group `g`. -/
def head (g : Fin 2) (r : Fin 8) : Fin 16 := ⟨8 * g.val + r.val, by omega⟩

/-! ## Eight heads side by side -/

theorem rowFits (r : Fin 8) : ∀ a, (![128 * r.val, 0] : Fin 2 → ℕ) a + S128x64.size a ≤ S1024x64.size a := by
  intro a; fin_cases a
  · show 128 * r.val + 128 ≤ 1024; omega
  · show 0 + 64 ≤ 64; omega
theorem colFits (r : Fin 8) : ∀ a, (![0, 128 * r.val] : Fin 2 → ℕ) a + S256x128.size a ≤ S256x1024.size a := by
  intro a; fin_cases a
  · show 0 + 256 ≤ 256; omega
  · show 128 * r.val + 128 ≤ 1024; omega
theorem headFits (h : Fin 16) : ∀ a, (![0, 64 * h.val] : Fin 2 → ℕ) a + S128x64.size a ≤ S128x1024.size a := by
  intro a; fin_cases a
  · show 0 + 128 ≤ 128; omega
  · show 64 * h.val + 64 ≤ 1024; omega

/-- The band of rows of head `r`, -/
def rowBand (f : Fin 8 → Vec F S128x64 .bf16) (r : Fin 8) : View.Piece (Elt F) S1024x64 .bf16 :=
  ⟨Rect.unit (s := S1024x64) ![128 * r.val, 0] S128x64.size (rowFits r), f r⟩
/-- the band of columns of head `r`, -/
def colBand (f : Fin 8 → Vec F S256x128 .bf16) (r : Fin 8) : View.Piece (Elt F) S256x1024 .bf16 :=
  ⟨Rect.unit (s := S256x1024) ![0, 128 * r.val] S256x128.size (colFits r), f r⟩
/-- and the columns of head `h` of an output block. -/
def headBand (f : Fin 16 → Vec F S128x64 .bf16) (h : Fin 16) : View.Piece (Elt F) S128x1024 .bf16 :=
  ⟨Rect.unit (s := S128x1024) ![0, 64 * h.val] S128x64.size (headFits h), f h⟩

/-- Eight bands of rows over what was stored before, -/
def rowBands (f : Fin 8 → Vec F S128x64 .bf16) (L : List (View.Piece (Elt F) S1024x64 .bf16)) : List (View.Piece (Elt F) S1024x64 .bf16) :=
  rowBand f 7 :: rowBand f 6 :: rowBand f 5 :: rowBand f 4 :: rowBand f 3 :: rowBand f 2 :: rowBand f 1 :: rowBand f 0 :: L
/-- eight bands of columns, -/
def colBands (f : Fin 8 → Vec F S256x128 .bf16) (L : List (View.Piece (Elt F) S256x1024 .bf16)) : List (View.Piece (Elt F) S256x1024 .bf16) :=
  colBand f 7 :: colBand f 6 :: colBand f 5 :: colBand f 4 :: colBand f 3 :: colBand f 2 :: colBand f 1 :: colBand f 0 :: L
/-- sixteen heads of an output block. -/
def headBands (f : Fin 16 → Vec F S128x64 .bf16) : List (View.Piece (Elt F) S128x1024 .bf16) :=
  [headBand f 15, headBand f 14, headBand f 13, headBand f 12, headBand f 11, headBand f 10, headBand f 9, headBand f 8,
   headBand f 7, headBand f 6, headBand f 5, headBand f 4, headBand f 3, headBand f 2, headBand f 1, headBand f 0]

/-- Bands of rows read as one array, -/
def readRows (L : List (View.Piece (Elt F) S1024x64 .bf16)) : Vec F S1024x64 .bf16 :=
  mQ.view.readCov L (Rect.unit (s := S1024x64) ![0, 0] S1024x64.size inb_S1024x64_S1024x64_0_0).toLoadRect
/-- and the output gradients', in their own buffer, -/
def readRows' (L : List (View.Piece (Elt F) S1024x64 .bf16)) : Vec F S1024x64 .bf16 :=
  mD.view.readCov L (Rect.unit (s := S1024x64) ![0, 0] S1024x64.size inb_S1024x64_S1024x64_0_0).toLoadRect
/-- bands of columns, the probabilities', -/
def readCols (L : List (View.Piece (Elt F) S256x1024 .bf16)) : Vec F S256x1024 .bf16 :=
  mP.view.readCov L (Rect.unit (s := S256x1024) ![0, 0] S256x1024.size inb_S256x1024_S256x1024_0_0).toLoadRect
/-- and the scores' gradients'. -/
def readCols' (L : List (View.Piece (Elt F) S256x1024 .bf16)) : Vec F S256x1024 .bf16 :=
  mT.view.readCov L (Rect.unit (s := S256x1024) ![0, 0] S256x1024.size inb_S256x1024_S256x1024_0_0).toLoadRect

theorem slicesCol (r : Fin 8) : S256x1024.Slices ![0, 128 * r.val] S256x128 := by
  revert r; decide
theorem slicesRow (r : Fin 8) : S1024x64.Slices ![128 * r.val, 0] S128x64 := by
  revert r; decide

/-! ## One head -/

/-- The heads' slopes. -/
def slope : Fin 16 → BitVec 32 :=
  ![0x3F3504F3#32, 0x3F000000#32, 0x3EB504F3#32, 0x3E800000#32, 0x3E3504F3#32, 0x3E000000#32, 0x3DB504F3#32, 0x3D800000#32,
    0x3D3504F3#32, 0x3D000000#32, 0x3CB504F3#32, 0x3C800000#32, 0x3C3504F3#32, 0x3C000000#32, 0x3BB504F3#32, 0x3B800000#32]

/-- Columns of head `r` of a group's product, -/
def column (x : FVec F S256x1024 .f32) (r : Fin 8) : FVec F S256x128 .f32 :=
  extractStridedSlice S256x128 ![0, 128 * r.val] x (slicesCol r)

/-- a head's scores, its slope times the distance taken off, the unseen keys at the mask's constant, -/
def scores (valid : IVec S256x128 1) (w : BitVec 32) (st : FVec F S256x128 .f32) : FVec F S256x128 .f32 :=
  select valid
    (subf (mulf st (broadcast S256x128 (Scalar.ofBits .f32 0x3E000000#32))) (mulf (broadcast S256x128 (Scalar.ofBits .f32 w)) k0_pay6))
    (broadcast S256x128 (Named.named κ "mask" 0xF149F2CA#32))
/-- the greatest of them and of the sink, -/
def top (sc : FVec F S256x128 .f32) (s : F .f32) : FVec F S1x128 .f32 :=
  maximumf (shapeCast S1x128 (multiReduction .maximumf [0] S128 sc 0xFF800000#32 reduces_S256x128_S128 (.inl rfl) rfl) shapeCasts_S128_S1x128)
    (broadcast S1x128 s)
/-- the exponentials, -/
def expo (sc : FVec F S256x128 .f32) (s : F .f32) : FVec F S256x128 .f32 :=
  exp (subf sc (broadcastTo S256x128 (top sc s) broadcasts_S1x128_S256x128))
/-- the sink's, -/
def expoSink (sc : FVec F S256x128 .f32) (s : F .f32) : FVec F S1x128 .f32 := exp (subf (broadcast S1x128 s) (top sc s))
/-- a column's sum, -/
def colSum (x : FVec F S256x128 .f32) : FVec F S1x128 .f32 :=
  shapeCast S1x128 (multiReduction .add [0] S128 x 0x00000000#32 reduces_S256x128_S128 (.inl rfl) rfl) shapeCasts_S128_S1x128
/-- one over the sum of all the exponentials, -/
def inverse (sc : FVec F S256x128 .f32) (s : F .f32) : FVec F S1x128 .f32 :=
  divf (broadcast S1x128 (Scalar.ofBits .f32 0x3F800000#32)) (addf (colSum (expo sc s)) (expoSink sc s))
/-- the probabilities, -/
def probs (sc : FVec F S256x128 .f32) (s : F .f32) : FVec F S256x128 .f32 :=
  mulf (expo sc s) (broadcastTo S256x128 (inverse sc s) broadcasts_S1x128_S256x128)
/-- the sum of the probabilities' gradients `dp` weighted by them, -/
def delta (sc : FVec F S256x128 .f32) (s : F .f32) (dp : FVec F S256x128 .f32) : FVec F S1x128 .f32 := colSum (mulf (probs sc s) dp)
/-- the scores' gradients, -/
def dscores (sc : FVec F S256x128 .f32) (s : F .f32) (dp : FVec F S256x128 .f32) : FVec F S256x128 .f32 :=
  mulf (probs sc s) (subf dp (broadcastTo S256x128 (delta sc s dp) broadcasts_S1x128_S256x128))
/-- and the sink's. -/
def dsink (sc : FVec F S256x128 .f32) (s : F .f32) (dp : FVec F S256x128 .f32) : F .f32 :=
  Scalar.subf (Scalar.ofBits .f32 0x00000000#32)
    (extractAt ![0, 0, 0] (shapeCast S1x1x1 (multiReduction .add [1, 2] S1
      (shapeCast S1x1x128 (mulf (mulf (expoSink sc s) (inverse sc s)) (delta sc s dp)) shapeCasts_S1x128_S1x1x128)
      0x00000000#32 reduces_S1x1x128_S1 (.inl rfl) rfl) shapeCasts_S1_S1x1x1) inpos_S1x1x1_p0_0_0)

/-! ## One point -/

namespace Given
variable (P : Given F)

/-- A group's queries and output gradients, head under head: the first group's, then the second's over them. -/
def qBands : Fin 2 → List (View.Piece (Elt F) S1024x64 .bf16)
  | 0 => rowBands (fun r => P.q (head 0 r)) []
  | 1 => rowBands (fun r => P.q (head 1 r)) (rowBands (fun r => P.q (head 0 r)) [])
def dBands : Fin 2 → List (View.Piece (Elt F) S1024x64 .bf16)
  | 0 => rowBands (fun r => P.d (head 0 r)) []
  | 1 => rowBands (fun r => P.d (head 1 r)) (rowBands (fun r => P.d (head 0 r)) [])
def qg (g : Fin 2) : Vec F S1024x64 .bf16 := readRows (P.qBands g)
def dg (g : Fin 2) : Vec F S1024x64 .bf16 := readRows' (P.dBands g)

/-- A group's products of the keys and the queries, and of the values and the output gradients. -/
def st (g : Fin 2) : FVec F S256x1024 .f32 :=
  matmul dot_S256x64_S1024x64_S256x1024_1_1_0_0_n_n none (P.kk g) (P.qg g) (constant S256x1024 .f32 0x00000000#32)
def dpt (g : Fin 2) : FVec F S256x1024 .f32 :=
  matmul dot_S256x64_S1024x64_S256x1024_1_1_0_0_n_n none (P.vv g) (P.dg g) (constant S256x1024 .f32 0x00000000#32)

/-- A head's scores, probabilities, and its scores' and sink's gradients. -/
def sc (g : Fin 2) (r : Fin 8) : FVec F S256x128 .f32 := scores P.valid (slope (head g r)) (column (P.st g) r)
def p (g : Fin 2) (r : Fin 8) : Vec F S256x128 .bf16 :=
  shapeCast S256x128 (truncf .bf16 (probs (P.sc g r) (P.s (head g r))) bitsLt_bf16_f32) shapeCasts_S256x128_S256x128
def ds (g : Fin 2) (r : Fin 8) : Vec F S256x128 .bf16 :=
  shapeCast S256x128 (truncf .bf16 (dscores (P.sc g r) (P.s (head g r)) (column (P.dpt g) r)) bitsLt_bf16_f32) shapeCasts_S256x128_S256x128
def dsk (g : Fin 2) (r : Fin 8) : F .f32 := dsink (P.sc g r) (P.s (head g r)) (column (P.dpt g) r)

def pBands : Fin 2 → List (View.Piece (Elt F) S256x1024 .bf16)
  | 0 => colBands (P.p 0) []
  | 1 => colBands (P.p 1) (colBands (P.p 0) [])
def dsBands : Fin 2 → List (View.Piece (Elt F) S256x1024 .bf16)
  | 0 => colBands (P.ds 0) []
  | 1 => colBands (P.ds 1) (colBands (P.ds 0) [])
def pg (g : Fin 2) : Vec F S256x1024 .bf16 := readCols (P.pBands g)
def dsg (g : Fin 2) : Vec F S256x1024 .bf16 := readCols' (P.dsBands g)

/-- A group's gradients of the keys, of the values and of the queries. -/
def dk (g : Fin 2) : FVec F S256x64 .f32 :=
  mulf (matmul dot_S256x1024_S1024x64_S256x64_1_0_0_1_n_n none (P.dsg g) (P.qg g) (constant S256x64 .f32 0x00000000#32))
    (broadcast S256x64 (Scalar.ofBits .f32 0x3E000000#32))
def dv (g : Fin 2) : FVec F S256x64 .f32 :=
  matmul dot_S256x1024_S1024x64_S256x64_1_0_0_1_n_n none (P.pg g) (P.dg g) (constant S256x64 .f32 0x00000000#32)
def dqg (g : Fin 2) : FVec F S1024x64 .f32 :=
  mulf (matmul dot_S256x1024_S256x64_S1024x64_0_0_1_1_n_n none (P.dsg g) (P.kk g) (constant S1024x64 .f32 0x00000000#32))
    (broadcast S1024x64 (Scalar.ofBits .f32 0x3E000000#32))
/-- The rows of one head of the queries' gradient, -/
def dqh (g : Fin 2) (r : Fin 8) : Vec F S128x64 .bf16 :=
  truncf .bf16 (extractStridedSlice S128x64 ![128 * r.val, 0] (P.dqg g) (slicesRow r)) bitsLt_bf16_f32
/-- over the sixteen heads. -/
def dq (h : Fin 16) : Vec F S128x64 .bf16 :=
  P.dqh ⟨h.val / 8, by omega⟩ ⟨h.val % 8, by omega⟩
/-- The keys' and values' gradients, of the block before and of its own. -/
def dkv : FVec F S256x256 .f32 := k0_pay274 (P.dk 0) (P.dv 0) (P.dk 1) (P.dv 1)

/-- The sinks' gradients, head `h` at lane `h`: the first `n` heads added up. -/
def sinks : ℕ → FVec F S1x128 .f32
  | 0 => k0_pay7
  | n + 1 => addf (sinks n) (select (cmpi .eq (iota .tc S1x128 32 [1] iota_S1x128_d1_w32) (broadcast S1x128 (BitVec.ofNat 32 n)))
      (broadcast S1x128 (P.dsk ⟨n / 8 % 2, Nat.mod_lt _ (by decide)⟩ ⟨n % 8, Nat.mod_lt _ (by decide)⟩))
      (broadcast S1x128 (Scalar.ofBits .f32 0x00000000#32)))

end Given

/-! ## The point's inputs -/

variable (m : (ℓ : Loc nD τ sig) → Buf (Elt F) ℓ) (c : Dev nD) (t : Fin cfg0.N)

/-- One head's columns of a block, -/
def part (b : Memref sig .tc .vmem S128x1024 .bf16) (w : b.IsWhole) (x : Vec F S128x1024 .bf16) (h : Fin 16) : FVec F S128x64 .bf16 :=
  shapeCast S128x64 (shapeCast S128x64 (View.readAt (Elt F) b.view
    (Rect.unit (s := S128x1024) ![0, 64 * h.val] S128x64.size (headFits h)).toLoadRect (w.unread x)) shapeCasts_S128x64_S128x64)
    shapeCasts_S128x64_S128x64

theorem keyFits (o : Fin 4) : ∀ a, (![0, 64 * o.val] : Fin 2 → ℕ) a + S128x64.size a ≤ S128x256.size a := by
  intro a; fin_cases a
  · show 0 + 128 ≤ 128; omega
  · show 64 * o.val + 64 ≤ 256; omega

/-- a group's columns of the block before and of its own, one under the other, -/
def both (b : Memref sig .tc .vmem S128x256 .bf16) (w : b.IsWhole) (x : Vec F S128x256 .bf16)
    (b' : Memref sig .tc .vmem S128x256 .bf16) (w' : b'.IsWhole) (x' : Vec F S128x256 .bf16) (o : Fin 4) : FVec F S256x64 .bf16 :=
  k0_pay8 (View.readAt (Elt F) b.view (Rect.unit (s := S128x256) ![0, 64 * o.val] S128x64.size (keyFits o)).toLoadRect (w.unread x))
    (View.readAt (Elt F) b'.view (Rect.unit (s := S128x256) ![0, 64 * o.val] S128x64.size (keyFits o)).toLoadRect (w'.unread x'))

theorem sinkFits (h : Fin 16) : ∀ a, (![h.val] : Fin 1 → ℕ) a + S1.size a ≤ S16.size a := by
  intro a; fin_cases a; show h.val + 1 ≤ 16; omega

/-- and all of them. -/
def given : Given F where
  valid := k0_pay5 (BitVec.ofNat 32 (grid0.coords t 0).val)
  kk g := both (bL t) (wL t) (iblk m c 2 t) (bK t) (wK t) (iblk m c 1 t) ⟨g.val, by omega⟩
  vv g := both (bL t) (wL t) (iblk m c 2 t) (bK t) (wK t) (iblk m c 1 t) ⟨g.val + 2, by omega⟩
  q h := part (bQ t) (wQ t) (iblk m c 0 t) h
  d h := part (bD t) (wD t) (iblk m c 3 t) h
  s h := View.readAt (Elt F) (bS t).view (Rect.unit (s := S16) ![h.val] S1.size (sinkFits h)).toLoadRect ((wS t).unread (iblk m c 4 t))
    (Shape.Idx.first (show 0 < S1.numel by decide))

/-! ## What a run stores -/

/-- The whole of a row of lanes, of a block of keys' and values' gradients. -/
abbrev laneRect := Rect.unit (s := S1x128) ![0, 0] S1x128.size inb_S1x128_S1x128_0_0
abbrev kvRect := Rect.unit (s := S128x256) ![0, 0] S128x256.size inb_S128x256_S128x256_0_0

/-- A point's gradient of the keys and values that a block is finished with: the carry plus the upper half of the point's own. -/
def finished (P : Given F) (z : Vec F S128x256 .f32) : FVec F S128x256 .f32 := k0_pay276 (P.dk 0) (P.dv 0) (P.dk 1) (P.dv 1) z

section First
variable (h : t.val = 0)
theorem first_pieces_dq : (atFirst m c t h).1 = headBands (given m c t).dq := by sl_kernel_rfl
theorem first_pieces_dkv : (atFirst m c t h).2.1 = [⟨kvRect, finished (given m c t) (mC.view.readCov [⟨kvRect, k0_pay1⟩] kvRect.toLoadRect)⟩] := by
  sl_kernel_rfl
theorem first_pieces_ds : (atFirst m c t h).2.2.1 = [⟨laneRect, k0_pay275 ((given m c t).sinks 16)
    ((bDs t).view.readCov [⟨laneRect, k0_pay2⟩] laneRect.toLoadRect)⟩, ⟨laneRect, k0_pay2⟩] := by sl_kernel_rfl
theorem first_pieces_carry : (atFirst m c t h).2.2.2.1 = [⟨kvRect, k0_pay3 (given m c t).dkv⟩, ⟨kvRect, k0_pay1⟩] := by sl_kernel_rfl
end First

section Mid
variable (h : t.val ≠ 0) (h' : t.val < 32) (y : Vec F S1x128 .f32) (z : Vec F S128x256 .f32)
theorem mid_pieces_dq : (atMid m c t h h' y z).1 = headBands (given m c t).dq := by sl_kernel_rfl
theorem mid_pieces_dkv : (atMid m c t h h' y z).2.1 = [⟨kvRect, finished (given m c t)
    (View.readAt (Elt F) mC.view kvRect.toLoadRect ((Memref.isWhole_whole _ : mC.IsWhole).unread z))⟩] := by sl_kernel_rfl
theorem mid_pieces_ds : (atMid m c t h h' y z).2.2.1 = [⟨laneRect, k0_pay275 ((given m c t).sinks 16)
    (View.readAt (Elt F) (bDs t).view laneRect.toLoadRect ((wDs t).unread y))⟩] := by sl_kernel_rfl
theorem mid_pieces_carry : (atMid m c t h h' y z).2.2.2.1 = [⟨kvRect, k0_pay3 (given m c t).dkv⟩] := by sl_kernel_rfl
end Mid

theorem last_pieces_dkv (h : ¬t.val < 32) (x : Vec F S128x1024 .bf16) (y : Vec F S1x128 .f32) (z : Vec F S128x256 .f32) :
    (atLast m c t h x y z).1 = [⟨kvRect, View.readAt (Elt F) mC.view kvRect.toLoadRect
      ((Memref.isWhole_whole _ : mC.IsWhole).unread z)⟩] := by sl_kernel_rfl

end Cert.Swa

end
-- ==== Proof.SwaRow.lean ====
/-
  One query of one head in the backward pass of the windowed attention: its scores against 256 keys and its sink, the gradient
  of its output against the keys' values. The kernel's way of writing the softmax's gradient and the derivative taken mechanically
  are the same reals when the inputs are finite. A key that is not seen has the score −∞ and so the weight 0.
-/
module

public import Idealize.ShloMosaic.PureOps.Ideal
public import Idealize.ShloMosaic.PureOps.Ideal.Laws
public import Idealize.ShloMosaic.Lib.IdealHost

@[expose] public section

noncomputable section

namespace Cert.Swa

open Idealize.ShloMosaic

/-- A finite pattern of 32 bits denotes a real. -/
theorem ofBits_real (w : BitVec 32) (h : (w.extractLsb' 23 8).toNat ≠ 255) : ∃ r : ℝ, Ideal.ofBits .f32 w = (r : EReal) := by
  unfold Ideal.ofBits Ideal.ieee
  simp only
  rw [if_neg (by simpa using h)]
  split
  · exact ⟨_, rfl⟩
  · exact ⟨_, rfl⟩

theorem ofBits_bot : Ideal.ofBits .f32 0xFF800000#32 = ⊥ := by simp [Ideal.ofBits, Ideal.ieee]

/-- A sum of reals is a real. -/
theorem sum_coe {ι : Type*} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- A sum of terms that are reals is a real. -/
theorem sum_real {ι : Type*} (s : Finset ι) (f : ι → EReal) (h : ∀ i, ∃ r : ℝ, f i = r) : ∃ r : ℝ, ∑ i ∈ s, f i = (r : EReal) := by
  choose g hg using h
  exact ⟨_, (Finset.sum_congr rfl fun i _ => hg i).trans (sum_coe s g)⟩

theorem mul_real {x y : EReal} (hx : ∃ r : ℝ, x = r) (hy : ∃ r : ℝ, y = r) : ∃ r : ℝ, x * y = (r : EReal) := by
  obtain ⟨a, rfl⟩ := hx; obtain ⟨b, rfl⟩ := hy; exact ⟨a * b, (EReal.coe_mul a b).symm⟩
theorem sub_real {x y : EReal} (hx : ∃ r : ℝ, x = r) (hy : ∃ r : ℝ, y = r) : ∃ r : ℝ, x - y = (r : EReal) := by
  obtain ⟨a, rfl⟩ := hx; obtain ⟨b, rfl⟩ := hy; exact ⟨a - b, (EReal.coe_sub a b).symm⟩

/-- A real factor comes out of a sum of reals. -/
theorem sum_mul_real {ι : Type*} (s : Finset ι) (f : ι → EReal) (c : EReal) (h : ∀ i, ∃ r : ℝ, f i = r) (hc : ∃ r : ℝ, c = r) :
    (∑ i ∈ s, f i) * c = ∑ i ∈ s, f i * c := by
  choose g hg using h
  obtain ⟨r, rfl⟩ := hc
  simp only [hg, sum_coe, ← EReal.coe_mul, Finset.sum_mul]

/-! ## A query's row as the kernel writes it -/

section Row
variable (S : Fin 256 → EReal) (s : EReal) (dp : Fin 256 → EReal)

/-- The greatest score, the sink's with them, -/
def rTop : EReal := max (Finset.univ.fold max (Ideal.ofBits .f32 0xFF800000#32) S) s
/-- the exponentials and the sink's, -/
def rExp (l : Fin 256) : EReal := Ideal.exp (S l - rTop S s)
def rExpSink : EReal := Ideal.exp (s - rTop S s)
/-- their sum, -/
def rDen : EReal := ∑ l, rExp S s l + rExpSink S s
/-- the probabilities, -/
def rProb (l : Fin 256) : EReal := rExp S s l * Ideal.div 1 (rDen S s)
/-- their gradients' weighted sum, -/
def rDelta : EReal := ∑ l, rProb S s l * dp l
/-- the scores' gradients, -/
def rDs (l : Fin 256) : EReal := rProb S s l * (dp l - rDelta S s dp)
/-- the sink's, but for the sign. -/
def rSink : EReal := rExpSink S s * Ideal.div 1 (rDen S s) * rDelta S s dp

/-! ## And as the derivative has it -/

/-- What the sum in the denominator passes back, -/
def rBack : EReal := -∑ l, dp l * Ideal.div 1 (rDen S s * rDen S s) * rExp S s l
/-- what reaches a score through its exponential, -/
def rThrough (l : Fin 256) : EReal := (Ideal.div (dp l) (rDen S s) + rBack S s dp) * rExp S s l
/-- what reaches the greatest score. -/
def rTopGrad : EReal := -(rBack S s dp * rExpSink S s) + ∑ l, -rThrough S s dp l

variable {S s}

/-- The exponentials are reals, the sink's positive; a score −∞ has the exponential 0. -/
theorem exp_real (hS : ∀ l, S l ≠ ⊤) (hs : ∃ r : ℝ, s = r) : ∃ (e : Fin 256 → ℝ) (f : ℝ),
    (∀ l, rExp S s l = e l) ∧ rExpSink S s = f ∧ (∀ l, 0 ≤ e l) ∧ 0 < f ∧ ∀ l, S l = ⊥ → e l = 0 := by
  obtain ⟨r, rfl⟩ := hs
  have h1 : rTop S r ≠ ⊤ := by
    refine ne_of_lt (max_lt ?_ (EReal.coe_lt_top r))
    rw [Finset.fold_max_lt, ofBits_bot]
    exact ⟨bot_lt_top, fun l _ => lt_top_iff_ne_top.mpr (hS l)⟩
  have h2 : rTop S r ≠ ⊥ := ne_of_gt (lt_of_lt_of_le (EReal.bot_lt_coe r) (le_max_right _ _))
  obtain ⟨t, ht⟩ : ∃ t : ℝ, rTop S r = t := ⟨(rTop S r).toReal, (EReal.coe_toReal h1 h2).symm⟩
  have key : ∀ l, ∃ x : ℝ, rExp S r l = x ∧ 0 ≤ x ∧ (S l = ⊥ → x = 0) := by
    intro l
    unfold rExp
    rw [ht]
    by_cases hb : S l = ⊥
    · refine ⟨0, ?_, le_refl _, fun _ => rfl⟩
      rw [hb, EReal.bot_sub]
      rfl
    · obtain ⟨x, hx⟩ : ∃ x : ℝ, S l = x := ⟨(S l).toReal, (EReal.coe_toReal (hS l) hb).symm⟩
      refine ⟨Real.exp (x - t), ?_, (Real.exp_pos _).le, fun h => absurd h hb⟩
      rw [hx, ← EReal.coe_sub]
      rfl
  choose e he h0 hz using key
  refine ⟨e, Real.exp (r - t), he, ?_, h0, Real.exp_pos _, hz⟩
  unfold rExpSink
  rw [ht, ← EReal.coe_sub]
  rfl

/-- Everything about a row whose scores are reals or −∞, whose sink is a real and whose outputs' gradients are reals: `dp` on the
    kernel's side and `dp'` on the derivative's may differ at the keys that are not seen. -/
theorem row (hS : ∀ l, S l ≠ ⊤) (hs : ∃ r : ℝ, s = r) {dp dp' : Fin 256 → EReal} (hd : ∀ l, ∃ r : ℝ, dp l = r)
    (hd' : ∀ l, ∃ r : ℝ, dp' l = r) (hag : ∀ l, S l ≠ ⊥ → dp l = dp' l) :
    (∀ l, Ideal.div (rExp S s l) (rDen S s) = rProb S s l) ∧ (∀ l, ∃ r : ℝ, rProb S s l = r) ∧ (∀ l, ∃ r : ℝ, rDs S s dp l = r)
      ∧ (∀ l, rThrough S s dp' l = rDs S s dp l) ∧ (∃ r : ℝ, rSink S s dp = r) ∧ rBack S s dp' * rExpSink S s = -rSink S s dp
      ∧ rTopGrad S s dp' = 0 ∧ (∀ l, S l = ⊥ → rProb S s l = 0 ∧ rDs S s dp l = 0) := by
  obtain ⟨e, f, he, hf, h0, hpos, hz⟩ := exp_real hS hs
  choose a ha using hd
  choose a' ha' using hd'
  have hD : rDen S s = ((∑ l, e l + f : ℝ) : EReal) := by
    rw [rDen, hf, Finset.sum_congr rfl fun l _ => he l, sum_coe, EReal.coe_add]
  set D : ℝ := ∑ l, e l + f with hDd
  have hDp : 0 < D := add_pos_of_nonneg_of_pos (Finset.sum_nonneg fun l _ => h0 l) hpos
  have hDn : D ≠ 0 := hDp.ne'
  have hinv : Ideal.div 1 (rDen S s) = ((1 / D : ℝ) : EReal) := by rw [hD, Ideal.div_coe hDn, one_mul]
  have hprob : ∀ l, rProb S s l = ((e l / D : ℝ) : EReal) := fun l => by
    rw [rProb, hinv, he, ← EReal.coe_mul, mul_one_div]
  have hea : ∀ l, e l * a l = e l * a' l := fun l => by
    by_cases hb : S l = ⊥
    · rw [hz l hb, zero_mul, zero_mul]
    · have := hag l hb
      rw [ha, ha', EReal.coe_eq_coe_iff] at this
      rw [this]
  set A : ℝ := ∑ l, e l * a' l with hA
  have hdelta : rDelta S s dp = ((A / D : ℝ) : EReal) := by
    rw [rDelta, Finset.sum_congr rfl fun l _ => show rProb S s l * dp l = ((e l * a' l / D : ℝ) : EReal) by
      rw [hprob, ha, ← EReal.coe_mul, div_mul_eq_mul_div, hea], sum_coe, hA, Finset.sum_div]
  have hds : ∀ l, rDs S s dp l = ((e l / D * (a l - A / D) : ℝ) : EReal) := fun l => by
    rw [rDs, hprob, ha, hdelta, ← EReal.coe_sub, ← EReal.coe_mul]
  have hsink : rSink S s dp = ((f / D * (A / D) : ℝ) : EReal) := by
    rw [rSink, hinv, hf, hdelta, ← EReal.coe_mul, ← EReal.coe_mul, mul_one_div]
  have hback : rBack S s dp' = ((-(A / (D * D)) : ℝ) : EReal) := by
    rw [rBack, Finset.sum_congr rfl fun l _ => show dp' l * Ideal.div 1 (rDen S s * rDen S s) * rExp S s l = ((e l * a' l / (D * D) : ℝ) : EReal) by
      rw [hD, ← EReal.coe_mul, Ideal.div_coe (mul_ne_zero hDn hDn), one_mul, he, ha', ← EReal.coe_mul, ← EReal.coe_mul]
      congr 1; ring, sum_coe, ← EReal.coe_neg, hA, Finset.sum_div]
  have hthr : ∀ l, rThrough S s dp' l = ((e l / D * (a' l - A / D) : ℝ) : EReal) := fun l => by
    rw [rThrough, hback, hD, Ideal.div_coe hDn, he, ha', ← EReal.coe_mul, ← EReal.coe_add, ← EReal.coe_mul]
    congr 1; field_simp; try ring
  refine ⟨fun l => ?_, fun l => ⟨_, hprob l⟩, fun l => ⟨_, hds l⟩, fun l => ?_, ⟨_, hsink⟩, ?_, ?_, fun l hb => ⟨?_, ?_⟩⟩
  · rw [hprob, hD, Ideal.div_coe hDn, he, ← EReal.coe_mul, mul_one_div]
  · rw [hthr, hds]
    congr 1
    rw [mul_sub, mul_sub, div_mul_eq_mul_div, div_mul_eq_mul_div (e l) D (a l), hea]
  · rw [hback, hf, hsink, ← EReal.coe_mul, ← EReal.coe_neg]
    congr 1; field_simp
  · rw [rTopGrad, hback, hf, Finset.sum_congr rfl fun l _ => show -rThrough S s dp' l = ((e l * (A / D) / D - e l * a' l / D : ℝ) : EReal) by
      rw [hthr, ← EReal.coe_neg]; congr 1; ring, sum_coe, ← EReal.coe_mul, ← EReal.coe_neg, ← EReal.coe_add,
      Finset.sum_sub_distrib, ← Finset.sum_div, ← Finset.sum_div, ← Finset.sum_mul, ← hA, ← EReal.coe_zero]
    congr 1
    have hE : ∑ l, e l = D - f := by rw [hDd]; ring
    rw [hE]
    field_simp
    ring
  · rw [hprob, hz l hb, zero_div, EReal.coe_zero]
  · rw [hds, hz l hb, zero_div, zero_mul, EReal.coe_zero]

end Row

end Cert.Swa

end
-- ==== Proof.SwaHead.lean ====
/-
  The backward pass of the windowed attention at one point, read entry by entry: eight bands side by side are one array, and each
  stage is a sum or a row's softmax.
-/
module

public import proofs.«01_k».proof.Proof.SwaModel
public import proofs.«01_k».proof.Proof.SwaRow
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Swa

open Cert.Kernel2Ideal Cert.Kernel2Ideal.Gen
open Idealize.ShloMosaic Idealize.ShloMosaic.TcCoe Idealize.ShloMosaic.Tactic Idealize.ShloMosaic.Pointwise

/-! ## Bands side by side -/

/-- Eight bands of rows as one array, -/
def rowsOf (f : Fin 8 → Vec Ideal S128x64 .bf16) : Vec Ideal S1024x64 .bf16 := fun y =>
  f ⟨(y 0).val / 128, by have : (y 0).val < 1024 := (y 0).isLt; omega⟩ (ix2 ⟨(y 0).val % 128, Nat.mod_lt _ (by decide)⟩ (y 1))
/-- eight bands of columns, -/
def colsOf (f : Fin 8 → Vec Ideal S256x128 .bf16) : Vec Ideal S256x1024 .bf16 := fun y =>
  f ⟨(y 1).val / 128, by have : (y 1).val < 1024 := (y 1).isLt; omega⟩ (ix2 (y 0) ⟨(y 1).val % 128, Nat.mod_lt _ (by decide)⟩)
/-- sixteen bands of columns. -/
def headsOf (f : Fin 16 → Vec Ideal S128x64 .bf16) : Vec Ideal S128x1024 .bf16 := fun y =>
  f ⟨(y 1).val / 64, by have : (y 1).val < 1024 := (y 1).isLt; omega⟩ (ix2 (y 0) ⟨(y 1).val % 64, Nat.mod_lt _ (by decide)⟩)

theorem rowBand_of (f : Fin 8 → Vec Ideal S128x64 .bf16) (r : Fin 8) (x : (rowBand f r).1.shape.Idx) :
    (rowBand f r).2 x = rowsOf f ((rowBand f r).1.emb x) := by
  have h0 : (x 0).val < 128 := (x 0).isLt
  have e0 : (((rowBand f r).1.emb x) 0).val = 128 * r.val + (x 0).val := by show 128 * r.val + 1 * (x 0).val = _; omega
  have e1 : ((rowBand f r).1.emb x) 1 = x 1 := Fin.ext (by show 0 + 1 * (x 1).val = _; omega)
  show f r x = _
  unfold rowsOf
  refine congr (congrArg f (Fin.ext ?_)) (funext fun a => ?_)
  · show r.val = _; simp only [e0]; omega
  · match a with
    | ⟨0, _⟩ => refine Fin.ext ?_; show (x 0).val = _ % 128; rw [e0]; omega
    | ⟨1, _⟩ => exact e1.symm

theorem colBand_of (f : Fin 8 → Vec Ideal S256x128 .bf16) (r : Fin 8) (x : (colBand f r).1.shape.Idx) :
    (colBand f r).2 x = colsOf f ((colBand f r).1.emb x) := by
  have h0 : (x 1).val < 128 := (x 1).isLt
  have e0 : (((colBand f r).1.emb x) 1).val = 128 * r.val + (x 1).val := by show 128 * r.val + 1 * (x 1).val = _; omega
  have e1 : ((colBand f r).1.emb x) 0 = x 0 := Fin.ext (by show 0 + 1 * (x 0).val = _; omega)
  show f r x = _
  unfold colsOf
  refine congr (congrArg f (Fin.ext ?_)) (funext fun a => ?_)
  · show r.val = _; simp only [e0]; omega
  · match a with
    | ⟨0, _⟩ => exact e1.symm
    | ⟨1, _⟩ => refine Fin.ext ?_; show (x 1).val = _ % 128; rw [e0]; omega

theorem headBand_of (f : Fin 16 → Vec Ideal S128x64 .bf16) (r : Fin 16) (x : (headBand f r).1.shape.Idx) :
    (headBand f r).2 x = headsOf f ((headBand f r).1.emb x) := by
  have h0 : (x 1).val < 64 := (x 1).isLt
  have e0 : (((headBand f r).1.emb x) 1).val = 64 * r.val + (x 1).val := by show 64 * r.val + 1 * (x 1).val = _; omega
  have e1 : ((headBand f r).1.emb x) 0 = x 0 := Fin.ext (by show 0 + 1 * (x 0).val = _; omega)
  show f r x = _
  unfold headsOf
  refine congr (congrArg f (Fin.ext ?_)) (funext fun a => ?_)
  · show r.val = _; simp only [e0]; omega
  · match a with
    | ⟨0, _⟩ => exact e1.symm
    | ⟨1, _⟩ => refine Fin.ext ?_; show (x 1).val = _ % 64; rw [e0]; omega

theorem canon_rows (f : Fin 8 → Vec Ideal S128x64 .bf16) (L : List (View.Piece (Elt Ideal) S1024x64 .bf16)) (y : S1024x64.Idx) :
    View.canon (rowBands f L) y = rowsOf f y :=
  View.canon_append_of_piecesOf (rowsOf f) L (rowBands f [])
    ⟨rowBand_of f 7, rowBand_of f 6, rowBand_of f 5, rowBand_of f 4, rowBand_of f 3, rowBand_of f 2, rowBand_of f 1, rowBand_of f 0, trivial⟩
    y (View.cover_of_tiledL (rowBands f []) S128x64.size (by sl_kernel_rfl) y)

theorem canon_cols (f : Fin 8 → Vec Ideal S256x128 .bf16) (L : List (View.Piece (Elt Ideal) S256x1024 .bf16)) (y : S256x1024.Idx) :
    View.canon (colBands f L) y = colsOf f y :=
  View.canon_append_of_piecesOf (colsOf f) L (colBands f [])
    ⟨colBand_of f 7, colBand_of f 6, colBand_of f 5, colBand_of f 4, colBand_of f 3, colBand_of f 2, colBand_of f 1, colBand_of f 0, trivial⟩
    y (View.cover_of_tiledL (colBands f []) S256x128.size (by sl_kernel_rfl) y)

theorem canon_heads (f : Fin 16 → Vec Ideal S128x64 .bf16) (y : S128x1024.Idx) : View.canon (headBands f) y = headsOf f y :=
  View.canon_append_of_piecesOf (headsOf f) [] (headBands f)
    ⟨headBand_of f 15, headBand_of f 14, headBand_of f 13, headBand_of f 12, headBand_of f 11, headBand_of f 10, headBand_of f 9, headBand_of f 8,
     headBand_of f 7, headBand_of f 6, headBand_of f 5, headBand_of f 4, headBand_of f 3, headBand_of f 2, headBand_of f 1, headBand_of f 0, trivial⟩
    y (View.cover_of_tiledL (headBands f) S128x64.size (by sl_kernel_rfl) y)

theorem whole_rows (y : S1024x64.Idx) : (Rect.unit (s := S1024x64) ![0, 0] S1024x64.size inb_S1024x64_S1024x64_0_0).toLoadRect.idx y = y := by
  idx_vars y
  refine funext fun a => Fin.ext ?_
  match a with
  | ⟨0, _⟩ => exact (Nat.zero_add _).trans (Nat.one_mul _)
  | ⟨1, _⟩ => exact (Nat.zero_add _).trans (Nat.one_mul _)
theorem whole_cols (y : S256x1024.Idx) : (Rect.unit (s := S256x1024) ![0, 0] S256x1024.size inb_S256x1024_S256x1024_0_0).toLoadRect.idx y = y := by
  idx_vars y
  refine funext fun a => Fin.ext ?_
  match a with
  | ⟨0, _⟩ => exact (Nat.zero_add _).trans (Nat.one_mul _)
  | ⟨1, _⟩ => exact (Nat.zero_add _).trans (Nat.one_mul _)

theorem readRows_eq (f : Fin 8 → Vec Ideal S128x64 .bf16) (L) : readRows (rowBands f L) = rowsOf f := by
  unfold readRows; rw [View.readCov_eq_canon']; funext y; exact (congrArg _ (whole_rows y)).trans (canon_rows f L y)
theorem readRows'_eq (f : Fin 8 → Vec Ideal S128x64 .bf16) (L) : readRows' (rowBands f L) = rowsOf f := by
  unfold readRows'; rw [View.readCov_eq_canon']; funext y; exact (congrArg _ (whole_rows y)).trans (canon_rows f L y)
theorem readCols_eq (f : Fin 8 → Vec Ideal S256x128 .bf16) (L) : readCols (colBands f L) = colsOf f := by
  unfold readCols; rw [View.readCov_eq_canon']; funext y; exact (congrArg _ (whole_cols y)).trans (canon_cols f L y)
theorem readCols'_eq (f : Fin 8 → Vec Ideal S256x128 .bf16) (L) : readCols' (colBands f L) = colsOf f := by
  unfold readCols'; rw [View.readCov_eq_canon']; funext y; exact (congrArg _ (whole_cols y)).trans (canon_cols f L y)

/-! ## The stages at a point -/

namespace Given
variable (P : Given Ideal)

theorem qg_eq (g : Fin 2) : P.qg g = rowsOf (fun r => P.q (head g r)) := by
  unfold qg; fin_cases g
  · exact readRows_eq _ _
  · exact readRows_eq _ _
theorem dg_eq (g : Fin 2) : P.dg g = rowsOf (fun r => P.d (head g r)) := by
  unfold dg; fin_cases g
  · exact readRows'_eq _ _
  · exact readRows'_eq _ _
theorem pg_eq (g : Fin 2) : P.pg g = colsOf (P.p g) := by
  unfold pg; fin_cases g
  · exact readCols_eq _ _
  · exact readCols_eq _ _
theorem dsg_eq (g : Fin 2) : P.dsg g = colsOf (P.ds g) := by
  unfold dsg; fin_cases g
  · exact readCols'_eq _ _
  · exact readCols'_eq _ _

/-- Row `b` of head `r` among the rows of its group. -/
def at8 (r : Fin 8) (b : Fin 128) : Fin 1024 := ⟨128 * r.val + b.val, by omega⟩

theorem rowsOf_at (f : Fin 8 → Vec Ideal S128x64 .bf16) (r : Fin 8) (b : Fin 128) (d : Fin 64) : rowsOf f (ix2 (at8 r b) d) = f r (ix2 b d) := by
  unfold rowsOf at8
  refine congr (congrArg f (Fin.ext ?_)) (congrArg (fun x => ix2 x d) (Fin.ext ?_))
  · show (128 * r.val + b.val) / 128 = r.val; omega
  · show (128 * r.val + b.val) % 128 = b.val; omega
theorem colsOf_at (f : Fin 8 → Vec Ideal S256x128 .bf16) (r : Fin 8) (b : Fin 128) (l : Fin 256) : colsOf f (ix2 l (at8 r b)) = f r (ix2 l b) := by
  unfold colsOf at8
  refine congr (congrArg f (Fin.ext ?_)) (congrArg (fun x => ix2 l x) (Fin.ext ?_))
  · show (128 * r.val + b.val) / 128 = r.val; omega
  · show (128 * r.val + b.val) % 128 = b.val; omega

theorem sum_at8 (f : Fin 1024 → EReal) : ∑ x, f x = ∑ r : Fin 8, ∑ b : Fin 128, f (at8 r b) := by
  rw [← Fin.sum_mul_add_fin 8 128 f]
  refine Finset.sum_congr rfl fun r _ => Finset.sum_congr rfl fun b _ => congrArg f (Fin.ext ?_)
  show r.val * 128 + b.val = 128 * r.val + b.val
  omega

/-- A head's scores and the gradients of its probabilities, key by key at one query. -/
def scoreRow (g : Fin 2) (r : Fin 8) (b : Fin 128) (l : Fin 256) : EReal := P.sc g r (ix2 l b)
def dpRow (g : Fin 2) (r : Fin 8) (b : Fin 128) (l : Fin 256) : EReal := P.dpt g (ix2 l (at8 r b))

set_option maxHeartbeats 1000000 in
theorem st_at (g : Fin 2) (r : Fin 8) (b : Fin 128) (l : Fin 256) :
    P.st g (ix2 l (at8 r b)) = ∑ x, P.kk g (ix2 l x) * P.q (head g r) (ix2 b x) := by
  have h : P.st g (ix2 l (at8 r b)) = ∑ x, P.kk g (ix2 l x) * P.qg g (ix2 (at8 r b) x) := by
    unfold st; pointwise
  rw [h, qg_eq]
  simp only [rowsOf_at]

set_option maxHeartbeats 1000000 in
theorem dpt_at (g : Fin 2) (r : Fin 8) (b : Fin 128) (l : Fin 256) :
    P.dpRow g r b l = ∑ x, P.vv g (ix2 l x) * P.d (head g r) (ix2 b x) := by
  have h : P.dpt g (ix2 l (at8 r b)) = ∑ x, P.vv g (ix2 l x) * P.dg g (ix2 (at8 r b) x) := by
    unfold dpt; pointwise
  rw [dpRow, h, dg_eq]
  simp only [rowsOf_at]

theorem one_f32 : Ideal.ofBits .f32 0x3F800000#32 = 1 := by simp

set_option maxHeartbeats 1000000 in
theorem p_at (g : Fin 2) (r : Fin 8) (b : Fin 128) (l : Fin 256) :
    P.p g r (ix2 l b) = rProb (P.scoreRow g r b) (P.s (head g r)) l := by
  unfold p probs inverse colSum expo expoSink top rProb rDen rExp rExpSink rTop scoreRow
  generalize P.sc g r = S
  generalize P.s (head g r) = s
  pointwise

set_option maxHeartbeats 1000000 in
theorem ds_at (g : Fin 2) (r : Fin 8) (b : Fin 128) (l : Fin 256) :
    P.ds g r (ix2 l b) = rDs (P.scoreRow g r b) (P.s (head g r)) (P.dpRow g r b) l := by
  unfold ds dscores delta probs inverse colSum expo expoSink top rDs rDelta rProb rDen rExp rExpSink rTop scoreRow dpRow at8 column
  generalize P.sc g r = S
  generalize P.dpt g = D
  generalize P.s (head g r) = s
  pointwise

set_option maxHeartbeats 1000000 in
theorem dsk_at (g : Fin 2) (r : Fin 8) :
    P.dsk g r = 0 - ∑ b : Fin 128, rSink (P.scoreRow g r b) (P.s (head g r)) (P.dpRow g r b) := by
  unfold dsk dsink delta probs inverse colSum expo expoSink top rSink rDelta rProb rDen rExp rExpSink rTop scoreRow dpRow at8 column
  generalize P.sc g r = S
  generalize P.dpt g = D
  generalize P.s (head g r) = s
  pointwise
  rw [Fin.sum_univ_one]

/-- One eighth, the scores' scale. -/
def eighth : EReal := Ideal.ofBits .f32 0x3E000000#32

set_option maxHeartbeats 1000000 in
theorem dk_at (g : Fin 2) (l : Fin 256) (d : Fin 64) : P.dk g (ix2 l d) =
    (∑ r : Fin 8, ∑ b : Fin 128, rDs (P.scoreRow g r b) (P.s (head g r)) (P.dpRow g r b) l * P.q (head g r) (ix2 b d)) * eighth := by
  have h : P.dk g (ix2 l d) = (∑ x, P.dsg g (ix2 l x) * P.qg g (ix2 x d)) * eighth := by
    unfold dk eighth; pointwise
  rw [h, sum_at8, qg_eq, dsg_eq]
  simp only [rowsOf_at, colsOf_at, ds_at]

set_option maxHeartbeats 1000000 in
theorem dv_at (g : Fin 2) (l : Fin 256) (d : Fin 64) : P.dv g (ix2 l d) =
    ∑ r : Fin 8, ∑ b : Fin 128, rProb (P.scoreRow g r b) (P.s (head g r)) l * P.d (head g r) (ix2 b d) := by
  have h : P.dv g (ix2 l d) = ∑ x, P.pg g (ix2 l x) * P.dg g (ix2 x d) := by
    unfold dv; pointwise
  rw [h, sum_at8, dg_eq, pg_eq]
  simp only [rowsOf_at, colsOf_at, p_at]

set_option maxHeartbeats 1000000 in
theorem dqh_at (g : Fin 2) (r : Fin 8) (b : Fin 128) (d : Fin 64) : P.dqh g r (ix2 b d) =
    (∑ l : Fin 256, rDs (P.scoreRow g r b) (P.s (head g r)) (P.dpRow g r b) l * P.kk g (ix2 l d)) * eighth := by
  have h : P.dqh g r (ix2 b d) = (∑ x, P.dsg g (ix2 x (at8 r b)) * P.kk g (ix2 x d)) * eighth := by
    unfold dqh dqg eighth at8; pointwise
  rw [h, dsg_eq]
  simp only [colsOf_at, ds_at]

set_option maxHeartbeats 1000000 in
theorem sc_at (g : Fin 2) (r : Fin 8) (b : Fin 128) (l : Fin 256) : P.scoreRow g r b l =
    Scalar.select (P.valid (ix2 l b)) ((∑ x, P.kk g (ix2 l x) * P.q (head g r) (ix2 b x)) * eighth
      - Ideal.ofBits .f32 (slope (head g r)) * k0_pay6 (F := Ideal) (ix2 l b)) ⊥ := by
  rw [← st_at]
  unfold scoreRow sc scores column eighth at8
  generalize P.st g = S
  generalize slope (head g r) = w
  have hb : Named.named (F := Ideal) (φ := .f32) κ "mask" 0xF149F2CA#32 = (⊥ : EReal) := by
    simp [Named.named, κ]
  rw [hb]
  generalize P.valid = v
  generalize k0_pay6 (F := Ideal) = D
  pointwise

/-- The heads' sinks added up, each at its lane. -/
theorem sinks_at (n : ℕ) (hn : n ≤ 16) (j : Fin 128) : P.sinks n (ix2 0 j)
    = if h : j.val < n then P.dsk ⟨j.val / 8, by omega⟩ ⟨j.val % 8, by omega⟩ else 0 := by
  induction n with
  | zero =>
    rw [dif_neg (Nat.not_lt_zero _), show P.sinks 0 = k0_pay7 from rfl]
    unfold k0_pay7
    pointwise
  | succ n ih =>
    have e : P.sinks (n + 1) (ix2 0 j) = P.sinks n (ix2 0 j) + Scalar.select (IntOp.cmpi .eq (BitVec.ofNat 32 j.val) (BitVec.ofNat 32 n))
        (P.dsk ⟨n / 8 % 2, Nat.mod_lt _ (by decide)⟩ ⟨n % 8, Nat.mod_lt _ (by decide)⟩) 0 := by
      rw [show P.sinks (n + 1) = addf (P.sinks n) (select (cmpi .eq (iota .tc S1x128 32 [1] iota_S1x128_d1_w32) (broadcast S1x128 (BitVec.ofNat 32 n)))
        (broadcast S1x128 (P.dsk ⟨n / 8 % 2, Nat.mod_lt _ (by decide)⟩ ⟨n % 8, Nat.mod_lt _ (by decide)⟩))
        (broadcast S1x128 (Scalar.ofBits .f32 0x00000000#32))) from rfl]
      generalize P.sinks n = A
      generalize P.dsk ⟨n / 8 % 2, Nat.mod_lt _ (by decide)⟩ ⟨n % 8, Nat.mod_lt _ (by decide)⟩ = B
      pointwise
    rw [e, ih (by omega)]
    have hc : ∀ (n : Fin 16) (j : Fin 128), IntOp.cmpi .eq (BitVec.ofNat 32 j.val) (BitVec.ofNat 32 n.val) = if j.val = n.val then 1#1 else 0#1 := by
      decide +kernel
    rw [hc ⟨n, by omega⟩ j]
    by_cases h : j.val = n
    · rw [if_pos h, dif_neg (by omega), dif_pos (by omega), zero_add]
      show P.dsk _ _ = P.dsk _ _
      refine congr (congrArg P.dsk (Fin.ext ?_)) (Fin.ext ?_)
      · show n / 8 % 2 = j.val / 8; omega
      · show n % 8 = j.val % 8; omega
    · rw [if_neg h]
      refine (add_zero _).trans ?_
      by_cases h' : j.val < n
      · rw [dif_pos h', dif_pos (by omega)]
      · rw [dif_neg h', dif_neg (by omega)]

end Given

end Cert.Swa

end
-- ==== Proof.SwaSpec.lean ====
/-
  The gradients of the windowed attention, entry by entry, as functions of the queries, the keys, the values, the sinks and the
  output's gradient: block `n` of 128 queries sees the 128 keys of the block before and its own; a key group has eight heads.
-/
module

public import proofs.«01_k».proof.Proof.SwaHead

@[expose] public section

set_option maxRecDepth 16384

noncomputable section

namespace Cert.Swa

open Cert.Kernel2Ideal Cert.Kernel2Ideal.Gen
open Idealize.ShloMosaic Idealize.ShloMosaic.TcCoe Idealize.ShloMosaic.Tactic Idealize.ShloMosaic.Pointwise
open Given (eighth)

/-- Entry `d` of query `b` of block `n`, head `r` of group `g`. -/
def rowAt (x : Vec Ideal S4096x1024 .f32) (n : Fin 32) (g : Fin 2) (r : Fin 8) (b : Fin 128) (d : Fin 64) : EReal :=
  x (ix2 ⟨n.val * 128 + b.val, by omega⟩ ⟨g.val * 512 + r.val * 64 + d.val, by omega⟩)

/-- Entry `d` of key `l` of group `g` as block `n` sees it; the first block has nothing before it and is shown its own, unseen. -/
def keyAt (x : Vec Ideal S4096x128 .f32) (n : Fin 32) (g : Fin 2) (l : Fin 256) (d : Fin 64) : EReal :=
  if h : l.val < 128 then x (ix2 ⟨(n.val - 1) * 128 + l.val, by omega⟩ ⟨g.val * 64 + d.val, by omega⟩)
  else x (ix2 ⟨n.val * 128 + (l.val - 128), by omega⟩ ⟨g.val * 64 + d.val, by omega⟩)

/-- The keys query `b` of block `n` sees: itself and the 127 before it, from the first row on. -/
def Seen (n : Fin 32) (b : Fin 128) (l : Fin 256) : Prop := (b.val < l.val ∧ l.val ≤ b.val + 128) ∧ (0 < n.val ∨ 128 ≤ l.val)

instance (n : Fin 32) (b : Fin 128) (l : Fin 256) : Decidable (Seen n b l) := by unfold Seen; infer_instance

/-- How far back a key is. -/
def dist (b : Fin 128) (l : Fin 256) : EReal := k0_pay6 (F := Ideal) (ix2 l b)

variable (q : Vec Ideal S4096x1024 .f32) (k v : Vec Ideal S4096x128 .f32) (s : Vec Ideal S16 .f32) (ct : Vec Ideal S4096x1024 .f32)

/-- A head's sink. -/
def sinkAt (g : Fin 2) (r : Fin 8) : EReal := s (ix1 (head g r))

/-- The scores of a query, key by key, -/
def scoreAt (n : Fin 32) (g : Fin 2) (r : Fin 8) (b : Fin 128) (l : Fin 256) : EReal :=
  if Seen n b l then (∑ x, keyAt k n g l x * rowAt q n g r b x) * eighth - Ideal.ofBits .f32 (slope (head g r)) * dist b l else ⊥
/-- the gradients of its probabilities, -/
def dpAt (n : Fin 32) (g : Fin 2) (r : Fin 8) (b : Fin 128) (l : Fin 256) : EReal := ∑ x, keyAt v n g l x * rowAt ct n g r b x
/-- its probabilities, -/
def pAt (n : Fin 32) (g : Fin 2) (r : Fin 8) (b : Fin 128) (l : Fin 256) : EReal :=
  rProb (scoreAt q k n g r b) (sinkAt s g r) l
/-- the gradients of its scores, -/
def dsAt (n : Fin 32) (g : Fin 2) (r : Fin 8) (b : Fin 128) (l : Fin 256) : EReal :=
  rDs (scoreAt q k n g r b) (sinkAt s g r) (dpAt v ct n g r b) l
/-- and of the sink from one block. -/
def dskAt (n : Fin 32) (g : Fin 2) (r : Fin 8) : EReal :=
  0 - ∑ b : Fin 128, rSink (scoreAt q k n g r b) (sinkAt s g r) (dpAt v ct n g r b)

/-- What block `n` gives to the keys and to the values it sees, -/
def dkAt (n : Fin 32) (g : Fin 2) (l : Fin 256) (d : Fin 64) : EReal :=
  (∑ r : Fin 8, ∑ b : Fin 128, dsAt q k v s ct n g r b l * rowAt q n g r b d) * eighth
def dvAt (n : Fin 32) (g : Fin 2) (l : Fin 256) (d : Fin 64) : EReal :=
  ∑ r : Fin 8, ∑ b : Fin 128, pAt q k s n g r b l * rowAt ct n g r b d
/-- side by side, the keys' two groups and the values' two; -/
def dkvAt (n : Fin 32) (l : Fin 256) (j : Fin 256) : EReal :=
  if h : j.val < 128 then dkAt q k v s ct n ⟨j.val / 64, by omega⟩ l ⟨j.val % 64, Nat.mod_lt _ (by decide)⟩
  else dvAt q k s ct n ⟨(j.val - 128) / 64, by omega⟩ l ⟨(j.val - 128) % 64, Nat.mod_lt _ (by decide)⟩
/-- and to its queries. -/
def dqAt (n : Fin 32) (g : Fin 2) (r : Fin 8) (b : Fin 128) (d : Fin 64) : EReal :=
  (∑ l : Fin 256, dsAt q k v s ct n g r b l * keyAt k n g l d) * eighth

/-- The gradient of the queries, -/
def dqOf : Vec Ideal S4096x1024 .bf16 := fun y =>
  have h0 : (y 0).val < 4096 := (y 0).isLt
  have h1 : (y 1).val < 1024 := (y 1).isLt
  dqAt q k v s ct ⟨(y 0).val / 128, by omega⟩ ⟨(y 1).val / 512, by omega⟩ ⟨(y 1).val / 64 % 8, by omega⟩ ⟨(y 0).val % 128, by omega⟩
    ⟨(y 1).val % 64, by omega⟩
/-- of the keys and the values: a key's own block and the block after it, -/
def dkvOf : Vec Ideal S4096x256 .f32 := fun y =>
  have h0 : (y 0).val < 4096 := (y 0).isLt
  dkvAt q k v s ct ⟨(y 0).val / 128, by omega⟩ ⟨128 + (y 0).val % 128, by omega⟩ (y 1)
    + if h : (y 0).val / 128 < 31 then dkvAt q k v s ct ⟨(y 0).val / 128 + 1, by omega⟩ ⟨(y 0).val % 128, by omega⟩ (y 1) else 0
/-- and of the sinks, one lane a head. -/
def dsinksOf : Vec Ideal S1x128 .f32 := fun y =>
  if h : (y 1).val < 16 then ∑ n : Fin 32, dskAt q k v s ct n ⟨(y 1).val / 8, by omega⟩ ⟨(y 1).val % 8, by omega⟩ else 0

/-! ## Read at an entry -/

theorem dqOf_at (i : Fin 4096) (j : Fin 1024) : dqOf q k v s ct (ix2 i j) = dqAt q k v s ct ⟨i.val / 128, by omega⟩ ⟨j.val / 512, by omega⟩
    ⟨j.val / 64 % 8, by omega⟩ ⟨i.val % 128, by omega⟩ ⟨j.val % 64, by omega⟩ := rfl
theorem dkvOf_at (i : Fin 4096) (j : Fin 256) : dkvOf q k v s ct (ix2 i j)
    = dkvAt q k v s ct ⟨i.val / 128, by omega⟩ ⟨128 + i.val % 128, by omega⟩ j
      + if h : i.val / 128 < 31 then dkvAt q k v s ct ⟨i.val / 128 + 1, by omega⟩ ⟨i.val % 128, by omega⟩ j else 0 := rfl
theorem dsinksOf_at (i : Fin 1) (j : Fin 128) : dsinksOf q k v s ct (ix2 i j)
    = if h : j.val < 16 then ∑ n : Fin 32, dskAt q k v s ct n ⟨j.val / 8, by omega⟩ ⟨j.val % 8, by omega⟩ else 0 := rfl

end Cert.Swa

end
-- ==== Proof.SwaSeen.lean ====
/-
  The windowed attention's mask: the bit both programs compute from the positions of a query and a key says whether the query sees
  the key. Checked position by position.
-/
module

public import proofs.«01_k».proof.Proof.SwaRow

@[expose] public section

set_option maxRecDepth 16384

namespace Cert.Swa

open Idealize.ShloMosaic

/-- Near enough: from the query itself back to 127 before it. -/
theorem near : ∀ (b : Fin 128) (l : Fin 256), IntOp.andi
      (IntOp.cmpi CmpIPredicate.sge (IntOp.subi (IntOp.addi (BitVec.ofNat 32 b.val) 128#32) (BitVec.ofNat 32 l.val)) 0#32)
      (IntOp.cmpi CmpIPredicate.slt (IntOp.subi (IntOp.addi (BitVec.ofNat 32 b.val) 128#32) (BitVec.ofNat 32 l.val)) 128#32)
    = if b.val < l.val ∧ l.val ≤ b.val + 128 then 1#1 else 0#1 := by decide +kernel
/-- Not before the first row. -/
theorem there : ∀ (n : Fin 32) (l : Fin 256), IntOp.ori (IntOp.cmpi CmpIPredicate.sge (BitVec.ofNat 32 l.val) 128#32)
        (Scalar.cmpi CmpIPredicate.sgt (BitVec.ofNat 32 n.val) 0#32)
    = if 0 < n.val ∨ 128 ≤ l.val then 1#1 else 0#1 := by decide +kernel
theorem andi_ite (p p' : Prop) [Decidable p] [Decidable p'] : IntOp.andi (if p then 1#1 else 0#1) (if p' then 1#1 else 0#1)
    = if p ∧ p' then 1#1 else 0#1 := by
  by_cases h : p <;> by_cases h' : p' <;> simp [h, h', IntOp.andi]

end Cert.Swa

end
-- ==== Proof.SwaGiven.lean ====
/-
  The backward pass of the windowed attention: a point's inputs read off the arrays, and so everything it computes.
-/
module

public import proofs.«01_k».proof.Proof.SwaSpec
public import proofs.«01_k».proof.Proof.SwaSeen

@[expose] public section

set_option maxRecDepth 16384

noncomputable section

namespace Cert.Swa

open Cert.Kernel2Ideal Cert.Kernel2Ideal.Gen
open Idealize.ShloMosaic Idealize.ShloMosaic.TcCoe Idealize.ShloMosaic.Tactic Idealize.ShloMosaic.Pointwise Idealize.SL.Sem
open Given (eighth)

variable (m : (ℓ : Loc nD τ sig) → Buf (Elt Ideal) ℓ) (c : Dev nD)

/-- The arguments. -/
abbrev inQ : Vec Ideal S4096x1024 .f32 := m ((c : Thread nD τ).loc main_arg0)
abbrev inK : Vec Ideal S4096x128 .f32 := m ((c : Thread nD τ).loc main_arg1)
abbrev inV : Vec Ideal S4096x128 .f32 := m ((c : Thread nD τ).loc main_arg2)
abbrev inS : Vec Ideal S16 .f32 := m ((c : Thread nD τ).loc main_arg3)
abbrev inD : Vec Ideal S4096x1024 .f32 := m ((c : Thread nD τ).loc main_arg4)

/-! ## The arrays the call is handed -/

theorem V_q : (V m c main_v1 : Vec Ideal S4096x1024 .bf16) = inQ m c := by
  unfold V hostOps0
  after_results
  rfl
theorem V_d : (V m c main_v3 : Vec Ideal S4096x1024 .bf16) = inD m c := by
  unfold V hostOps0
  after_results
  rfl
theorem V_kv (i : Fin 4096) (j : Fin 256) : (V m c main_v2 : Vec Ideal S4096x256 .bf16) (ix2 i j)
    = if h : j.val < 128 then inK m c (ix2 i ⟨j.val, h⟩) else inV m c (ix2 i ⟨j.val - 128, by omega⟩) := by
  have e : (V m c main_v2 : Vec Ideal S4096x256 .bf16) = (truncf (F := Ideal) .bf16 (concatenate S4096x256 1 [⟨S4096x128, inK m c⟩, ⟨S4096x128, inV m c⟩] concatenates_S4096x128_S4096x128_S4096x256_d1) bitsLt_bf16_f32 : Vec Ideal S4096x256 .bf16) := by
    unfold V hostOps0
    after_results
  rw [e]
  pointwise

theorem idx0 : ∀ t : Fin grid0.N, win0_0.index t = ![min t.val 31, 0] := by decide +kernel
theorem idx1 : ∀ t : Fin grid0.N, win0_1.index t = ![min t.val 31, 0] := by decide +kernel
theorem idx2 : ∀ t : Fin grid0.N, win0_2.index t = ![t.val - 1, 0] := by decide +kernel
theorem idx3 : ∀ t : Fin grid0.N, win0_3.index t = ![min t.val 31, 0] := by decide +kernel
theorem idx4 : ∀ t : Fin grid0.N, win0_4.index t = ![0] := by decide +kernel
theorem idx5 : ∀ t : Fin grid0.N, win0_5.index t = ![min t.val 31, 0] := by decide +kernel
theorem idx6 : ∀ t : Fin grid0.N, win0_6.index t = ![t.val - 1, 0] := by decide +kernel
theorem idx7 : ∀ t : Fin grid0.N, win0_7.index t = ![0, 0] := by decide +kernel
theorem coords0 : ∀ t : Fin grid0.N, ((grid0.coords t) 0).val = t.val := by decide +kernel
theorem lt_N (t : Fin cfg0.N) : t.val < 33 := lt_of_lt_of_eq t.isLt N_0

variable (t : Fin cfg0.N) (ht : t.val < 32)

/-- The block of queries a point works on. -/
abbrev blockOf : Fin 32 := ⟨t.val, ht⟩

include ht

theorem q_read (i : Fin 128) (j : Fin 1024) : iblk m c 0 t (ix2 i j) = inQ m c (ix2 ⟨t.val * 128 + i.val, by omega⟩ j) := by
  rw [← V_q m c]
  have e : min t.val 31 = t.val := by omega
  blk_ext [iblk, V, idx0 t, e]
theorem d_read (i : Fin 128) (j : Fin 1024) : iblk m c 3 t (ix2 i j) = inD m c (ix2 ⟨t.val * 128 + i.val, by omega⟩ j) := by
  rw [← V_d m c]
  have e : min t.val 31 = t.val := by omega
  blk_ext [iblk, V, idx3 t, e]
theorem own_read (i : Fin 128) (j : Fin 256) : iblk m c 1 t (ix2 i j)
    = (V m c main_v2 : Vec Ideal S4096x256 .bf16) (ix2 ⟨t.val * 128 + i.val, by omega⟩ j) := by
  have e : min t.val 31 = t.val := by omega
  blk_ext [iblk, V, idx1 t, e]
theorem before_read (i : Fin 128) (j : Fin 256) : iblk m c 2 t (ix2 i j)
    = (V m c main_v2 : Vec Ideal S4096x256 .bf16) (ix2 ⟨(t.val - 1) * 128 + i.val, by omega⟩ j) := by
  blk_ext [iblk, V, idx2 t]
omit ht in
theorem s_read (i : Fin 16) : iblk m c 4 t (ix1 i) = inS m c (ix1 i) := by
  refine Eq.trans ?_ (congrFun (V_main_arg3 m c) _)
  blk_ext [iblk, V, idx4 t]

/-! ## A point's inputs -/

theorem given_q (g : Fin 2) (r : Fin 8) (b : Fin 128) (d : Fin 64) :
    (given m c t).q (head g r) (ix2 b d) = rowAt (inQ m c) ⟨t.val, ht⟩ g r b d := by
  have h : (given m c t).q (head g r) (ix2 b d) = iblk m c 0 t (ix2 b ⟨64 * (8 * g.val + r.val) + d.val, by omega⟩) := by
    unfold given part head
    dsimp only
    simp only [View.readAt_eq_ld, Memref.IsWhole.read_unread]
    pointwise
  rw [h, q_read m c t ht]
  unfold rowAt
  exact congrArg (fun x => inQ m c (ix2 _ x)) (Fin.ext (by show 64 * (8 * g.val + r.val) + d.val = g.val * 512 + r.val * 64 + d.val; omega))

theorem given_d (g : Fin 2) (r : Fin 8) (b : Fin 128) (d : Fin 64) :
    (given m c t).d (head g r) (ix2 b d) = rowAt (inD m c) ⟨t.val, ht⟩ g r b d := by
  have h : (given m c t).d (head g r) (ix2 b d) = iblk m c 3 t (ix2 b ⟨64 * (8 * g.val + r.val) + d.val, by omega⟩) := by
    unfold given part head
    dsimp only
    simp only [View.readAt_eq_ld, Memref.IsWhole.read_unread]
    pointwise
  rw [h, d_read m c t ht]
  unfold rowAt
  exact congrArg (fun x => inD m c (ix2 _ x)) (Fin.ext (by show 64 * (8 * g.val + r.val) + d.val = g.val * 512 + r.val * 64 + d.val; omega))

theorem given_kk (g : Fin 2) (l : Fin 256) (d : Fin 64) :
    (given m c t).kk g (ix2 l d) = keyAt (inK m c) ⟨t.val, ht⟩ g l d := by
  unfold given both k0_pay8
  dsimp only
  simp only [View.readAt_eq_ld, Memref.IsWhole.read_unread]
  pointwise
  unfold keyAt
  by_cases h : l.val < 128
  · rw [dif_pos h, dif_pos h, before_read m c t ht, V_kv, dif_pos (by show 64 * g.val + d.val < 128; omega)]
    exact congrArg (fun x => inK m c (ix2 _ x)) (Fin.ext (by show 64 * g.val + d.val = g.val * 64 + d.val; omega))
  · rw [dif_neg h, dif_neg h, own_read m c t ht, V_kv, dif_pos (by show 64 * g.val + d.val < 128; omega)]
    exact congrArg (fun x => inK m c (ix2 _ x)) (Fin.ext (by show 64 * g.val + d.val = g.val * 64 + d.val; omega))

theorem given_vv (g : Fin 2) (l : Fin 256) (d : Fin 64) :
    (given m c t).vv g (ix2 l d) = keyAt (inV m c) ⟨t.val, ht⟩ g l d := by
  unfold given both k0_pay8
  dsimp only
  simp only [View.readAt_eq_ld, Memref.IsWhole.read_unread]
  pointwise
  unfold keyAt
  by_cases h : l.val < 128
  · rw [dif_pos h, dif_pos h, before_read m c t ht, V_kv, dif_neg (by show ¬ 64 * (g.val + 2) + d.val < 128; omega)]
    exact congrArg (fun x => inV m c (ix2 _ x)) (Fin.ext (by show 64 * (g.val + 2) + d.val - 128 = g.val * 64 + d.val; omega))
  · rw [dif_neg h, dif_neg h, own_read m c t ht, V_kv, dif_neg (by show ¬ 64 * (g.val + 2) + d.val < 128; omega)]
    exact congrArg (fun x => inV m c (ix2 _ x)) (Fin.ext (by show 64 * (g.val + 2) + d.val - 128 = g.val * 64 + d.val; omega))

omit ht in
theorem given_s (g : Fin 2) (r : Fin 8) : (given m c t).s (head g r) = sinkAt (inS m c) g r := by
  unfold given sinkAt
  dsimp only
  simp only [View.readAt_eq_ld, Memref.IsWhole.read_unread]
  rw [← s_read m c t]
  refine congrArg (iblk m c 4 t) (funext fun a => Fin.ext ?_)
  match a with
  | ⟨0, _⟩ => exact (Nat.add_zero _ : (head g r).val + 1 * 0 = _)

theorem given_valid (l : Fin 256) (b : Fin 128) : (given m c t).valid (ix2 l b) = if Seen ⟨t.val, ht⟩ b l then 1#1 else 0#1 := by
  unfold given k0_pay5 k0_pay4
  dsimp only
  rw [coords0 t]
  pointwise
  rw [near, there ⟨t.val, ht⟩ l, andi_ite]
  rfl

/-! ## What a point computes -/

theorem score_eq (g : Fin 2) (r : Fin 8) (b : Fin 128) :
    (given m c t).scoreRow g r b = scoreAt (inQ m c) (inK m c) ⟨t.val, ht⟩ g r b := by
  funext l
  rw [Given.sc_at, given_valid m c t ht]
  unfold scoreAt dist
  simp only [given_kk m c t ht, given_q m c t ht]
  by_cases h : Seen ⟨t.val, ht⟩ b l
  · rw [if_pos h, if_pos h]; rfl
  · rw [if_neg h, if_neg h]; rfl

theorem dp_eq (g : Fin 2) (r : Fin 8) (b : Fin 128) :
    (given m c t).dpRow g r b = dpAt (inV m c) (inD m c) ⟨t.val, ht⟩ g r b := by
  funext l
  rw [Given.dpt_at]
  unfold dpAt
  simp only [given_vv m c t ht, given_d m c t ht]

theorem dk_eq (g : Fin 2) (l : Fin 256) (d : Fin 64) : (given m c t).dk g (ix2 l d)
    = dkAt (inQ m c) (inK m c) (inV m c) (inS m c) (inD m c) ⟨t.val, ht⟩ g l d := by
  rw [Given.dk_at]
  unfold dkAt dsAt
  simp only [score_eq m c t ht, dp_eq m c t ht, given_s m c t, given_q m c t ht]

theorem dv_eq (g : Fin 2) (l : Fin 256) (d : Fin 64) : (given m c t).dv g (ix2 l d)
    = dvAt (inQ m c) (inK m c) (inS m c) (inD m c) ⟨t.val, ht⟩ g l d := by
  rw [Given.dv_at]
  unfold dvAt pAt
  simp only [score_eq m c t ht, given_s m c t, given_d m c t ht]

theorem dqh_eq (g : Fin 2) (r : Fin 8) (b : Fin 128) (d : Fin 64) : (given m c t).dqh g r (ix2 b d)
    = dqAt (inQ m c) (inK m c) (inV m c) (inS m c) (inD m c) ⟨t.val, ht⟩ g r b d := by
  rw [Given.dqh_at]
  unfold dqAt dsAt
  simp only [score_eq m c t ht, dp_eq m c t ht, given_s m c t, given_kk m c t ht]

theorem dsk_eq (g : Fin 2) (r : Fin 8) : (given m c t).dsk g r
    = dskAt (inQ m c) (inK m c) (inV m c) (inS m c) (inD m c) ⟨t.val, ht⟩ g r := by
  rw [Given.dsk_at]
  unfold dskAt
  simp only [score_eq m c t ht, dp_eq m c t ht, given_s m c t]

theorem dkv_eq (l : Fin 256) (j : Fin 256) : (given m c t).dkv (ix2 l j)
    = dkvAt (inQ m c) (inK m c) (inV m c) (inS m c) (inD m c) ⟨t.val, ht⟩ l j := by
  have h : (given m c t).dkv (ix2 l j) = if h : j.val < 64 then (given m c t).dk 0 (ix2 l ⟨j.val, h⟩) else
      if h : j.val - 64 < 64 then (given m c t).dk 1 (ix2 l ⟨j.val - 64, h⟩) else
      if h : j.val - 64 - 64 < 64 then (given m c t).dv 0 (ix2 l ⟨j.val - 64 - 64, h⟩)
        else (given m c t).dv 1 (ix2 l ⟨j.val - 64 - 64 - 64, by omega⟩) := by
    unfold Given.dkv k0_pay274
    generalize (given m c t).dk 0 = a
    generalize (given m c t).dv 0 = a'
    generalize (given m c t).dk 1 = b
    generalize (given m c t).dv 1 = b'
    pointwise
  rw [h]
  simp only [dk_eq m c t ht, dv_eq m c t ht]
  unfold dkvAt
  have hj := j.isLt
  split_ifs
  · exact congr (congrArg (fun g => dkAt _ _ _ _ _ _ g l) (Fin.ext (by show 0 = j.val / 64; omega))) (Fin.ext (by show j.val = j.val % 64; omega))
  · omega
  · exact congr (congrArg (fun g => dkAt _ _ _ _ _ _ g l) (Fin.ext (by show 1 = j.val / 64; omega))) (Fin.ext (by show j.val - 64 = j.val % 64; omega))
  · omega
  · omega
  · exact congr (congrArg (fun g => dvAt _ _ _ _ _ g l) (Fin.ext (by show 0 = (j.val - 128) / 64; omega)))
      (Fin.ext (by show j.val - 64 - 64 = (j.val - 128) % 64; omega))
  · omega
  · exact congr (congrArg (fun g => dvAt _ _ _ _ _ g l) (Fin.ext (by show 1 = (j.val - 128) / 64; omega)))
      (Fin.ext (by show j.val - 64 - 64 - 64 = (j.val - 128) % 64; omega))

end Cert.Swa

end
-- ==== Proof.SwaArray.lean ====
/-
  The three arrays the windowed attention's backward pass leaves, each as one function of the arguments. A point leaves its queries'
  gradient; the keys' and values' gradient of a block is finished one point later, from the carry and that point's own; the sinks'
  gradients add up over the points.
-/
module

public import proofs.«01_k».proof.Proof.SwaGiven

@[expose] public section

set_option maxRecDepth 16384

noncomputable section

namespace Cert.Swa

open Cert.Kernel2Ideal Cert.Kernel2Ideal.Gen
open Idealize.ShloMosaic Idealize.ShloMosaic.TcCoe Idealize.ShloMosaic.Tactic Idealize.ShloMosaic.Pointwise Idealize.SL.Sem
open Idealize.ShloMosaic.Pipeline (Dat)

variable (m : (ℓ : Loc nD τ sig) → Buf (Elt Ideal) ℓ) (c : Dev nD) (t : Fin cfg0.N)

/-! ## After a point -/

theorem left_dq (ht : t.val < 32) : (left m c t.val t.isLt).1 = headsOf (given m c t).dq := by
  by_cases h : t.val = 0
  · rw [left_first m c t h]
    dsimp only
    unfold firstDq
    rw [View.read_writes_junk_eq_canon, first_pieces_dq]
    exact funext (canon_heads _)
  · rw [left_mid m c t h ht]
    dsimp only
    unfold midDq
    rw [View.read_writes_junk_eq_canon, mid_pieces_dq]
    exact funext (canon_heads _)

theorem left_carry (ht : t.val < 32) : (left m c t.val t.isLt).2.2.2 = k0_pay3 (given m c t).dkv := by
  by_cases h : t.val = 0
  · rw [left_first m c t h]
    dsimp only
    unfold firstC
    rw [View.read_writes_junk_eq_canon, first_pieces_carry]
    exact View.canon_cons_unit_lit' _ _ _ (by decide)
  · rw [left_mid m c t h ht]
    dsimp only
    unfold midC
    rw [View.read_writes_junk_eq_canon, mid_pieces_carry]
    exact View.canon_cons_unit_lit' _ _ _ (by decide)

theorem left_dkv (h : t.val ≠ 0) (ht : t.val < 32) : (left m c t.val t.isLt).2.1 = finished (given m c t) (prior m c t).2.2.2 := by
  rw [left_mid m c t h ht]
  dsimp only
  unfold midDkv
  rw [View.read_writes_junk_eq_canon, mid_pieces_dkv, View.canon_cons_unit_lit' _ _ _ (by decide), View.readAt_eq_ld,
    Memref.IsWhole.read_unread]
  exact congrArg _ (View.ld_unit_lit' _ _ (by decide))

theorem left_dkv_last (ht : ¬t.val < 32) : (left m c t.val t.isLt).2.1 = (prior m c t).2.2.2 := by
  rw [left_last m c t ht]
  dsimp only
  unfold lastDkv
  rw [View.read_writes_junk_eq_canon, last_pieces_dkv, View.canon_cons_unit_lit' _ _ _ (by decide), View.readAt_eq_ld,
    Memref.IsWhole.read_unread]
  exact View.ld_unit_lit' _ _ (by decide)

theorem left_ds_first (h : t.val = 0) : (left m c t.val t.isLt).2.2.1 = k0_pay275 ((given m c t).sinks 16) (k0_pay2 (F := Ideal)) := by
  rw [left_first m c t h]
  dsimp only
  unfold firstDs
  rw [View.read_writes_junk_eq_canon, first_pieces_ds, View.canon_cons_unit_lit' _ _ _ (by decide)]
  exact congrArg _ (View.readCov_unit_lit' _ _ _ (by decide))

theorem left_ds (h : t.val ≠ 0) (ht : t.val < 32) : (left m c t.val t.isLt).2.2.1
    = k0_pay275 ((given m c t).sinks 16) (prior m c t).2.2.1 := by
  rw [left_mid m c t h ht]
  dsimp only
  unfold midDs
  rw [View.read_writes_junk_eq_canon, mid_pieces_ds, View.canon_cons_unit_lit' _ _ _ (by decide), View.readAt_eq_ld,
    Memref.IsWhole.read_unread]
  exact congrArg _ (View.ld_unit_lit' _ _ (by decide))

theorem lanes_eq (P y : FVec Ideal S1x128 .f32) (j : Fin 128) : k0_pay275 P y (ix2 0 j) = y (ix2 0 j) + P (ix2 0 j) := by
  unfold k0_pay275
  pointwise
theorem carry_eq (x : FVec Ideal S256x256 .f32) (b : Fin 128) (j : Fin 256) : k0_pay3 x (ix2 b j) = x (ix2 ⟨128 + b.val, by omega⟩ j) := by
  unfold k0_pay3
  pointwise
theorem finished_eq (P : Given Ideal) (z : Vec Ideal S128x256 .f32) (b : Fin 128) (j : Fin 256) :
    finished P z (ix2 b j) = z (ix2 b j) + P.dkv (ix2 ⟨b.val, by omega⟩ j) := by
  unfold finished k0_pay276 Given.dkv
  generalize k0_pay274 (P.dk 0) (P.dv 0) (P.dk 1) (P.dv 1) = x
  pointwise

/-! ## The arrays -/

/-- The arrays of this run's arguments. -/
abbrev dqA : Vec Ideal S4096x1024 .bf16 := dqOf (inQ m c) (inK m c) (inV m c) (inS m c) (inD m c)
abbrev dkvA : Vec Ideal S4096x256 .f32 := dkvOf (inQ m c) (inK m c) (inV m c) (inS m c) (inD m c)
abbrev dsA : Vec Ideal S1x128 .f32 := dsinksOf (inQ m c) (inK m c) (inV m c) (inS m c) (inD m c)

/-- A block of the queries' gradient. -/
theorem dq_block (ht : t.val < 32) (i : Fin 128) (j : Fin 1024) :
    (left m c t.val t.isLt).1 (ix2 i j) = dqA m c (ix2 ⟨t.val * 128 + i.val, by omega⟩ j) := by
  rw [left_dq m c t ht]
  show (given m c t).dqh ⟨(j.val / 64) / 8, _⟩ ⟨(j.val / 64) % 8, _⟩ (ix2 i ⟨j.val % 64, _⟩) = _
  rw [dqh_eq m c t ht]
  rw [dqA, dqOf_at]
  have e1 : (⟨(j.val / 64) / 8, by omega⟩ : Fin 2) = ⟨j.val / 512, by omega⟩ := Fin.ext (by show j.val / 64 / 8 = j.val / 512; omega)
  have e2 : (⟨(t.val * 128 + i.val) / 128, by omega⟩ : Fin 32) = ⟨t.val, ht⟩ := Fin.ext (by show (t.val * 128 + i.val) / 128 = t.val; omega)
  have e3 : (⟨(t.val * 128 + i.val) % 128, by omega⟩ : Fin 128) = i := Fin.ext (by show (t.val * 128 + i.val) % 128 = i.val; omega)
  rw [e1, e2, e3]

theorem dq_array : (dats m 0 c).arrAt 5 cfg0.N = dqA m c := by
  refine (dats m 0 c).arrAt_eq_of_covers 5 _ (by decide +kernel) fun t hf y => ?_
  blk_simp
  rw [after5]
  idx_vars y
  have hN := lt_N t
  have e : (win0_5.blk t).view.emb (ix2 y0 y1) = (ix2 ⟨min t.val 31 * 128 + y0.val, by omega⟩ y1 : S4096x1024.Idx) := by
    blk_ext [idx5 t]
  refine Eq.trans ?_ (congrArg (dqA m c) e).symm
  by_cases ht : t.val < 32
  · rw [dq_block m c t ht]
    exact congrArg (fun x => dqA m c (ix2 x y1)) (Fin.ext (by show t.val * 128 + y0.val = min t.val 31 * 128 + y0.val; omega))
  · rw [left_last m c t ht]
    have h31 : t.val - 1 = 31 := by omega
    refine (dq_block m c ⟨t.val - 1, by omega⟩ (by show t.val - 1 < 32; omega) y0 y1).trans ?_
    exact congrArg (fun x => dqA m c (ix2 x y1)) (Fin.ext (by show (t.val - 1) * 128 + y0.val = min t.val 31 * 128 + y0.val; omega))

theorem flush6 : ∀ t : Fin cfg0.N, (cfg0.win 6).flush t = true → t.val ≠ 0 := by decide +kernel

/-- The carry before a point that is not the first. -/
theorem carry_before (h : t.val ≠ 0) (b : Fin 128) (j : Fin 256) : (prior m c t).2.2.2 (ix2 b j)
    = dkvAt (inQ m c) (inK m c) (inV m c) (inS m c) (inD m c) ⟨t.val - 1, by have := lt_N t; omega⟩ ⟨128 + b.val, by omega⟩ j := by
  have hN := lt_N t
  have hl : t.val - 1 < 32 := by omega
  have := left_carry m c ⟨t.val - 1, by omega⟩ hl
  refine (congrFun this (ix2 b j)).trans ?_
  rw [carry_eq, dkv_eq m c ⟨t.val - 1, by omega⟩ hl]

theorem dkv_array : (dats m 0 c).arrAt 6 cfg0.N = dkvA m c := by
  refine (dats m 0 c).arrAt_eq_of_covers 6 _ (by decide +kernel) fun t hf y => ?_
  have h0 := flush6 t hf
  blk_simp
  rw [after6]
  idx_vars y
  have hN := lt_N t
  have e : (win0_6.blk t).view.emb (ix2 y0 y1) = (ix2 ⟨(t.val - 1) * 128 + y0.val, by omega⟩ y1 : S4096x256.Idx) := by
    blk_ext [idx6 t]
  refine Eq.trans ?_ (congrArg (dkvA m c) e).symm
  have d1 : ((t.val - 1) * 128 + y0.val) / 128 = t.val - 1 := by omega
  have d2 : ((t.val - 1) * 128 + y0.val) % 128 = y0.val := by omega
  have hr : (dkvA m c) (ix2 ⟨(t.val - 1) * 128 + y0.val, by omega⟩ y1)
      = dkvAt (inQ m c) (inK m c) (inV m c) (inS m c) (inD m c) ⟨t.val - 1, by omega⟩ ⟨128 + y0.val, by omega⟩ y1
        + if h : t.val - 1 < 31 then dkvAt (inQ m c) (inK m c) (inV m c) (inS m c) (inD m c) ⟨t.val - 1 + 1, by omega⟩ ⟨y0.val, by omega⟩ y1 else 0 := by
    rw [dkvA, dkvOf_at]
    simp only [d1, d2]
  rw [hr]
  by_cases ht : t.val < 32
  · rw [left_dkv m c t h0 ht, finished_eq, carry_before m c t h0, dkv_eq m c t ht, dif_pos (by omega)]
    refine congrArg _ (congrArg (fun n => dkvAt _ _ _ _ _ n _ y1) (Fin.ext ?_))
    show t.val = t.val - 1 + 1
    omega
  · rw [left_dkv_last m c t ht, carry_before m c t h0, dif_neg (by omega), add_zero]

/-- The sinks' gradients after point `n`. -/
theorem ds_after (n : ℕ) (hn : n < 32) (j : Fin 128) : (left m c n (by have : cfg0.N = 33 := N_0; omega)).2.2.1 (ix2 0 j)
    = ∑ a : Fin (n + 1), (given m c ⟨a.val, by have : cfg0.N = 33 := N_0; omega⟩).sinks 16 (ix2 0 j) := by
  have hN : cfg0.N = 33 := N_0
  induction n with
  | zero =>
    rw [left_ds_first m c ⟨0, by omega⟩ rfl, lanes_eq]
    rw [Fin.sum_univ_one]
    unfold k0_pay2
    pointwise
  | succ n ih =>
    rw [left_ds m c ⟨n + 1, by omega⟩ (Nat.succ_ne_zero n) hn, lanes_eq, Fin.sum_univ_castSucc]
    exact congrArg (· + _) (ih (by omega))

theorem ds_total (j : Fin 128) : ∑ a : Fin 32, ((given m c ⟨a.val, by have : cfg0.N = 33 := N_0; omega⟩).sinks 16 (ix2 0 j) : EReal)
    = dsA m c (ix2 0 j) := by
  rw [dsA, dsinksOf_at]
  refine (Finset.sum_congr rfl fun a _ => Given.sinks_at _ 16 (le_refl _) j).trans ?_
  by_cases hj : j.val < 16
  · simp only [dif_pos hj]
    exact Finset.sum_congr rfl fun n _ => dsk_eq m c ⟨n.val, by have : cfg0.N = 33 := N_0; omega⟩ n.isLt _ _
  · simp only [dif_neg hj]
    exact Finset.sum_const_zero

theorem ds_array : (dats m 0 c).arrAt 7 cfg0.N = dsA m c := by
  refine (dats m 0 c).arrAt_eq_of_covers 7 _ (by decide +kernel) fun t hf y => ?_
  have hm : t.val % 33 = 32 := (flush0_7 t).mp hf
  have hN := lt_N t
  have hN' : cfg0.N = 33 := N_0
  blk_simp
  rw [after7]
  idx_vars y
  have e : (win0_7.blk t).view.emb (ix2 y0 y1) = (ix2 y0 y1 : S1x128.Idx) := by
    blk_ext [idx7 t]
  refine Eq.trans ?_ (congrArg (dsA m c) e).symm
  rw [left_last m c t (by omega)]
  dsimp only
  have hy : y0 = 0 := Subsingleton.elim _ _
  subst hy
  have h31 : t.val - 1 = 31 := by omega
  have key := ds_after m c 31 (by omega) y1
  have hp : (prior m c t).2.2.1 = (left m c 31 (by omega)).2.2.1 := by
    unfold prior
    simp only [h31]
  rw [hp]
  exact key.trans (ds_total m c y1)

end Cert.Swa

end
-- ==== Proof.SwaScores.lean ====
/-
  The reference's scores and the gradients of its probabilities, read at an index: they are the entries `scoreAt` and, where a query
  sees a key, `dpAt`.
-/
module

public import proofs.«01_k».proof.Proof.SwaSeen
public import proofs.«01_k».proof.Proof.SwaSpec
public import proofs.«01_k».proof.Proof.Gen.Reference2Ideal.Run
public import proofs.«01_k».proof.Proof.Gen.Reference2Ideal.Read

@[expose] public section

set_option maxRecDepth 16384

noncomputable section

namespace Cert.Swa

open Cert.Reference2Ideal Cert.Reference2Ideal.Read
open Idealize.ShloMosaic Idealize.ShloMosaic.TcCoe Idealize.ShloMosaic.Tactic Idealize.ShloMosaic.Pointwise
open Given (eighth)

set_option maxHeartbeats 2000000

variable (q : Vec Ideal S4096x1024 .f32) (k v : Vec Ideal S4096x128 .f32) (s : Vec Ideal S16 .f32) (ct : Vec Ideal S4096x1024 .f32)
variable (n : Fin 32) (g : Fin 2) (r : Fin 8) (b : Fin 128) (l : Fin 256)

/-! ## Keys and values -/

/-- What the reference shows a block of the keys (or values): zero before the first row. -/
def seenKey (x : Vec Ideal S4096x128 .f32) (n : Fin 32) (g : Fin 2) (l : Fin 256) (d : Fin 64) : EReal :=
  if 0 < n.val ∨ 128 ≤ l.val then keyAt x n g l d else 0

theorem ref_key (d : Fin 64) : val_main_v8 (F := Ideal) k (ix4 n l g d) = seenKey k n g l d := by
  pointwise [val_main_v1, val_main_cst, val_main_v4, val_main_v5, val_main_v6, val_main_v8]
  unfold seenKey keyAt
  by_cases hl : l.val < 128
  · by_cases hn : n.val < 1
    · have hs : ¬ (0 < n.val ∨ 128 ≤ l.val) := by omega
      simp only [hl, hn, hs, if_false, dite_true]
    · have hs : 0 < n.val ∨ 128 ≤ l.val := by omega
      simp only [hl, hn, hs, if_true, dite_true, dite_false]
  · have hs : 0 < n.val ∨ 128 ≤ l.val := by omega
    simp only [hl, hs, if_true, dite_false]

theorem ref_value (d : Fin 64) : val_main_v14 (F := Ideal) v (ix4 n l g d) = seenKey v n g l d := by
  pointwise [val_main_v2, val_main_cst_1, val_main_v10, val_main_v11, val_main_v12, val_main_v14]
  unfold seenKey keyAt
  by_cases hl : l.val < 128
  · by_cases hn : n.val < 1
    · have hs : ¬ (0 < n.val ∨ 128 ≤ l.val) := by omega
      simp only [hl, hn, hs, if_false, dite_true]
    · have hs : 0 < n.val ∨ 128 ≤ l.val := by omega
      simp only [hl, hn, hs, if_true, dite_true, dite_false]
  · have hs : 0 < n.val ∨ 128 ≤ l.val := by omega
    simp only [hl, hs, if_true, dite_false]

theorem ref_slope (h : Fin 16) : val_main_v67 (F := Ideal) (ix1 h) = Ideal.ofBits .f32 (slope h) := by
  fin_cases h
  all_goals
    pointwise [val_main_cst_9, val_main_v51, val_main_cst_10, val_main_v52, val_main_cst_11, val_main_v53, val_main_cst_12, val_main_v54, val_main_cst_13, val_main_v55, val_main_cst_14, val_main_v56, val_main_cst_15, val_main_v57, val_main_cst_16, val_main_v58, val_main_cst_17, val_main_v59, val_main_cst_18, val_main_v60, val_main_cst_19, val_main_v61, val_main_cst_20, val_main_v62, val_main_cst_21, val_main_v63, val_main_cst_22, val_main_v64, val_main_cst_23, val_main_v65, val_main_cst_24, val_main_v66, val_main_v67]
    rfl

/-- Not before the first row, as the reference says it. -/
theorem from_first : ∀ (n : Fin 32) (l : Fin 256), IntOp.cmpi CmpIPredicate.sge
      (IntOp.subi (IntOp.addi (IntOp.muli (BitVec.ofNat 32 n.val) 128#32) (BitVec.ofNat 32 l.val)) 128#32) 0#32
    = if 0 < n.val ∨ 128 ≤ l.val then 1#1 else 0#1 := by decide +kernel

theorem ref_bit : val_main_v79_1 (F := Ideal) (ix5 n g r b l) = if Seen n b l then 1#1 else 0#1 := by
  pointwise [val_main_v19, val_main_v20, val_main_c, val_main_v21, val_main_v22, val_main_v23, val_main_v24, val_main_v25, val_main_v26, val_main_v27, val_main_v28, val_main_v29, val_main_c_4, val_main_v30, val_main_v31, val_main_v32, val_main_v33, val_main_v34, val_main_v35, val_main_v36, val_main_c_5, val_main_v37, val_main_v38, val_main_c_6, val_main_v39, val_main_v40, val_main_c_7, val_main_v41, val_main_v42, val_main_v43, val_main_v44, val_main_c_8, val_main_v45, val_main_v46, val_main_v47, val_main_v48, val_main_v49, val_main_v50, val_main_v78, val_main_v79_1]
  rw [near, from_first, andi_ite]
  rfl

theorem dist_eq : dist b l = FloatOps.sitofp (F := Ideal) .f32 (IntOp.subi (IntOp.addi (BitVec.ofNat 32 b.val) 128#32) (BitVec.ofNat 32 l.val)) := by
  unfold dist Cert.Kernel2Ideal.Gen.k0_pay6 Cert.Kernel2Ideal.Gen.k0_pay4
  pointwise

theorem ref_score : val_main_v79_0 (F := Ideal) q k (ix5 n g r b l) = scoreAt q k n g r b l := by
  pointwise [val_main_v0, val_main_v15, val_main_v16, val_main_cst_3, val_main_v17, val_main_v18, val_main_v19, val_main_v20, val_main_c, val_main_v21, val_main_v22, val_main_v23, val_main_v24, val_main_v25, val_main_v26, val_main_v27, val_main_v68, val_main_v69, val_main_v70, val_main_v71, val_main_v72, val_main_v73, val_main_v74, val_main_v75, val_main_v76, val_main_v77, val_main_cst_25, val_main_call0_v0, val_main_call0_v2, val_main_v79_0]
  rw [ref_bit, ref_slope]
  unfold scoreAt
  by_cases h : Seen n b l
  · rw [if_pos h, if_pos h]
    have hk : ∀ x, val_main_v8 (F := Ideal) k (ix4 n l g x) = keyAt k n g l x := fun x => by
      rw [ref_key, seenKey, if_pos h.2]
    simp only [hk]
    have e : (⟨g.val * 8 + r.val, by omega⟩ : Fin 16) = head g r := Fin.ext (congrArg (· + r.val) (Nat.mul_comm g.val 8))
    rw [e, ← dist_eq]
    rfl
  · rw [if_neg h, if_neg h]
    exact ofBits_bot

theorem ref_dp : val_main_v130 (F := Ideal) v ct (ix5 n g r b l) = ∑ x, seenKey v n g l x * rowAt ct n g r b x := by
  pointwise [val_main_v128, val_main_v129, val_main_v130]
  exact Finset.sum_congr rfl fun x _ => by rw [ref_value, mul_comm]; rfl

end Cert.Swa

end
-- ==== Proof.SwaRefRow.lean ====
/-
  The reference's rows: its softmax with a sink, the derivative it takes through the quotient and the maximum, read at an index and
  brought to the row functions.
-/
module

public import proofs.«01_k».proof.Proof.SwaScores

@[expose] public section

set_option maxRecDepth 16384

noncomputable section

namespace Cert.Swa

open Cert.Reference2Ideal Cert.Reference2Ideal.Read
open Idealize.ShloMosaic Idealize.ShloMosaic.TcCoe Idealize.ShloMosaic.Tactic Idealize.ShloMosaic.Pointwise
open Given (eighth)

set_option maxHeartbeats 2000000

variable (q : Vec Ideal S4096x1024 .f32) (k v : Vec Ideal S4096x128 .f32) (s : Vec Ideal S16 .f32) (ct : Vec Ideal S4096x1024 .f32)
variable (n : Fin 32) (g : Fin 2) (r : Fin 8) (b : Fin 128) (l : Fin 256)

/-- The gradients of a row's probabilities as the reference has them: nothing comes from before the first row. -/
def dpSeen (n : Fin 32) (g : Fin 2) (r : Fin 8) (b : Fin 128) (l : Fin 256) : EReal := ∑ x, seenKey v n g l x * rowAt ct n g r b x

theorem group_head : (⟨g.val * 8 + r.val, by omega⟩ : Fin 16) = head g r := Fin.ext (congrArg (· + r.val) (Nat.mul_comm g.val 8))

theorem ref_sink : val_main_v89 (F := Ideal) s (ix4 n g r b) = sinkAt s g r := by
  pointwise [val_main_v80, val_main_v81, val_main_v88, val_main_v89]
  rw [group_head]
  rfl

theorem ref_top : val_main_v90 (F := Ideal) q k s (ix4 n g r b) = rTop (scoreAt q k n g r b) (sinkAt s g r) := by
  rw [val_main_v90_apply, ref_sink]
  have h : val_main_v82 (F := Ideal) q k (ix4 n g r b)
      = Finset.univ.fold max (Ideal.ofBits .f32 0xFF800000#32) (scoreAt q k n g r b) := by
    pointwise [val_main_v82, val_main_cst_26]
    simp only [ref_score]
  rw [h]
  exact Ideal.maximumf_def _ _

theorem ref_exp : val_main_v112 (F := Ideal) q k s (ix5 n g r b l) = rExp (scoreAt q k n g r b) (sinkAt s g r) l := by
  pointwise [val_main_v109, val_main_v110, val_main_v111, val_main_v112]
  rw [ref_score, ref_top]
  rfl

theorem ref_exp_sink : val_main_v117 (F := Ideal) q k s (ix4 n g r b) = rExpSink (scoreAt q k n g r b) (sinkAt s g r) := by
  pointwise [val_main_v80, val_main_v81, val_main_v114, val_main_v115, val_main_v116, val_main_v117]
  rw [ref_top, group_head]
  rfl

theorem ref_den : val_main_v118 (F := Ideal) q k s (ix4 n g r b) = rDen (scoreAt q k n g r b) (sinkAt s g r) := by
  pointwise [val_main_cst_34, val_main_v113, val_main_v118]
  simp only [ref_exp, ref_exp_sink]
  rfl

theorem ref_prob : val_main_v121 (F := Ideal) q k s (ix5 n g r b l)
    = Ideal.div (rExp (scoreAt q k n g r b) (sinkAt s g r) l) (rDen (scoreAt q k n g r b) (sinkAt s g r)) := by
  pointwise [val_main_v119, val_main_v120, val_main_v121]
  rw [ref_exp, ref_den]

theorem ref_back : val_main_v141 (F := Ideal) q k v s ct (ix4 n g r b)
    = rBack (scoreAt q k n g r b) (sinkAt s g r) (dpSeen v ct n g r b) := by
  pointwise [val_main_v119, val_main_v122, val_main_cst_35, val_main_v123, val_main_v124, val_main_v133, val_main_v134, val_main_v135, val_main_cst_36, val_main_v136, val_main_v137, val_main_v138, val_main_cst_37, val_main_v141]
  simp only [ref_exp, ref_den, ref_dp]
  rw [Fin.sum_univ_one]
  rfl

theorem ref_sink_grad : val_main_v142 (F := Ideal) q k v s ct (ix4 n g r b)
    = rBack (scoreAt q k n g r b) (sinkAt s g r) (dpSeen v ct n g r b) * rExpSink (scoreAt q k n g r b) (sinkAt s g r) := by
  rw [val_main_v142_apply, ref_back, ref_exp_sink]
  rfl

theorem ref_through : val_main_v150 (F := Ideal) q k v s ct (ix5 n g r b l)
    = rThrough (scoreAt q k n g r b) (sinkAt s g r) (dpSeen v ct n g r b) l := by
  pointwise [val_main_v119, val_main_v139, val_main_v140, val_main_v148, val_main_v149, val_main_v150]
  rw [ref_exp, ref_den, ref_dp, ref_back]
  rfl

theorem ref_top_grad : val_main_v155 (F := Ideal) q k v s ct (ix4 n g r b)
    = rTopGrad (scoreAt q k n g r b) (sinkAt s g r) (dpSeen v ct n g r b) := by
  pointwise [val_main_v142, val_main_v145, val_main_v151, val_main_cst_40, val_main_v152, val_main_v153, val_main_cst_41, val_main_v154, val_main_v155]
  simp only [ref_back, ref_exp_sink, ref_through]
  rw [Fin.sum_univ_one]
  rfl

/-- Where a key attains the maximum. -/
theorem ref_tie_sum : val_main_v87 (F := Ideal) q k (ix4 n g r b) = ∑ l, val_main_v86 (F := Ideal) q k (ix5 n g r b l) := by
  pointwise [val_main_v87, val_main_cst_27]
theorem ref_tie : val_main_v86 (F := Ideal) q k (ix5 n g r b l) = 0 ∨ val_main_v86 (F := Ideal) q k (ix5 n g r b l) = 1 := by
  pointwise [val_main_v83, val_main_v84, val_main_v85, val_main_v86]
  by_cases h : val_main_v79_0 (F := Ideal) q k (ix5 n g r b l) = val_main_v82 (F := Ideal) q k (ix4 n g r b)
  · refine Or.inr ?_
    simp only [h, decide_true, BitVec.ofBool_true]
    simp [FloatOps.uitofp]
  · refine Or.inl ?_
    simp only [h, decide_false, BitVec.ofBool_false]
    simp [FloatOps.uitofp]

/-- What the reference's maximum would pass on is shared among the keys that attain it; of nothing each gets nothing. -/
theorem ref_share : Ideal.div 0 (val_main_v87 (F := Ideal) q k (ix4 n g r b)) * val_main_v86 (F := Ideal) q k (ix5 n g r b l) = 0 := by
  rcases ref_tie q k n g r b l with h | h
  · rw [h, mul_zero]
  · have h1 : (1 : EReal) ≤ val_main_v87 (F := Ideal) q k (ix4 n g r b) := by
      rw [ref_tie_sum, ← h]
      refine Finset.single_le_sum (f := fun l => val_main_v86 (F := Ideal) q k (ix5 n g r b l)) (fun l' _ => ?_) (Finset.mem_univ l)
      rcases ref_tie q k n g r b l' with h' | h' <;> rw [h']
      exact zero_le_one
    have h0 : val_main_v87 (F := Ideal) q k (ix4 n g r b) ≠ 0 := fun e => by
      rw [e] at h1
      exact absurd h1 (not_le.mpr zero_lt_one)
    rw [Ideal.div, if_neg h0, zero_mul, zero_mul]

theorem ref_ds (h0 : rTopGrad (scoreAt q k n g r b) (sinkAt s g r) (dpSeen v ct n g r b) = 0) :
    val_main_v169 (F := Ideal) q k v s ct (ix5 n g r b l)
      = if Seen n b l then rThrough (scoreAt q k n g r b) (sinkAt s g r) (dpSeen v ct n g r b) l else 0 := by
  pointwise [val_main_v159, val_main_v163, val_main_v164, val_main_v165, val_main_v166, val_main_call1_cst, val_main_call1_v0, val_main_v169]
  rw [ref_top_grad, h0, zero_mul, ref_share, add_zero, ref_through, ref_bit]
  by_cases h : Seen n b l
  · rw [if_pos h, if_pos h]; rfl
  · rw [if_neg h, if_neg h]; rfl

end Cert.Swa

end
-- ==== Proof.SwaReal.lean ====
/-
  Rows of finite inputs: scores are reals or −∞, gradients are reals, and the reference's probabilities and score gradients are the
  kernel's.
-/
module

public import proofs.«01_k».proof.Proof.SwaRefRow

@[expose] public section

set_option maxRecDepth 16384

noncomputable section

namespace Cert.Swa

open Cert.Reference2Ideal Cert.Reference2Ideal.Read
open Idealize.ShloMosaic Idealize.ShloMosaic.TcCoe Idealize.ShloMosaic.Tactic Idealize.ShloMosaic.Pointwise
open Given (eighth)

/-- Every entry is a real. -/
def Finite {S : Shape} (x : Vec Ideal S .f32) : Prop := ∀ i, ∃ a : ℝ, x i = (a : EReal)

variable {q : Vec Ideal S4096x1024 .f32} {k v : Vec Ideal S4096x128 .f32} {s : Vec Ideal S16 .f32} {ct : Vec Ideal S4096x1024 .f32}
variable (hq : Finite q) (hk : Finite k) (hv : Finite v) (hs : Finite s) (hd : Finite ct)
variable (n : Fin 32) (g : Fin 2) (r : Fin 8) (b : Fin 128) (l : Fin 256)

theorem rowAt_real {x : Vec Ideal S4096x1024 .f32} (hx : Finite x) (d : Fin 64) : ∃ a : ℝ, rowAt x n g r b d = a := hx _
theorem keyAt_real {x : Vec Ideal S4096x128 .f32} (hx : Finite x) (d : Fin 64) : ∃ a : ℝ, keyAt x n g l d = a := by
  unfold keyAt
  by_cases h : l.val < 128
  · rw [dif_pos h]; exact hx _
  · rw [dif_neg h]; exact hx _
theorem seenKey_real {x : Vec Ideal S4096x128 .f32} (hx : Finite x) (d : Fin 64) : ∃ a : ℝ, seenKey x n g l d = a := by
  unfold seenKey
  by_cases h : 0 < n.val ∨ 128 ≤ l.val
  · rw [if_pos h]; exact keyAt_real n g l hx d
  · rw [if_neg h]; exact ⟨0, EReal.coe_zero.symm⟩

theorem eighth_real : ∃ a : ℝ, eighth = a := ofBits_real _ (by decide)
theorem slope_real (h : Fin 16) : ∃ a : ℝ, Ideal.ofBits .f32 (slope h) = (a : EReal) :=
  ofBits_real _ (by revert h; decide +kernel)
theorem dist_real : ∃ a : ℝ, dist b l = a := by
  rw [dist_eq]
  exact ⟨_, rfl⟩

include hq hk in
theorem score_ne_top : scoreAt q k n g r b l ≠ ⊤ := by
  unfold scoreAt
  by_cases h : Seen n b l
  · rw [if_pos h]
    obtain ⟨a, ha⟩ := sub_real (mul_real (sum_real Finset.univ _ fun x => mul_real (keyAt_real n g l hk x) (rowAt_real n g r b hq x)) eighth_real)
      (mul_real (slope_real (head g r)) (dist_real b l))
    rw [ha]
    exact EReal.coe_ne_top a
  · rw [if_neg h]; exact bot_ne_top

include hv hd in
theorem dp_real : ∃ a : ℝ, dpAt v ct n g r b l = a :=
  sum_real Finset.univ _ fun x => mul_real (keyAt_real n g l hv x) (rowAt_real n g r b hd x)
include hv hd in
theorem dpSeen_real : ∃ a : ℝ, dpSeen v ct n g r b l = a :=
  sum_real Finset.univ _ fun x => mul_real (seenKey_real n g l hv x) (rowAt_real n g r b hd x)

theorem score_unseen (h : ¬ Seen n b l) : scoreAt q k n g r b l = ⊥ := if_neg h
theorem dp_agree (h : scoreAt q k n g r b l ≠ ⊥) : dpAt v ct n g r b l = dpSeen v ct n g r b l := by
  by_cases hS : Seen n b l
  · unfold dpAt dpSeen
    exact Finset.sum_congr rfl fun x _ => by rw [seenKey, if_pos hS.2]
  · exact absurd (score_unseen n g r b l hS) h

include hq hk hv hs hd in
theorem row_at :
    (∀ l, Ideal.div (rExp (scoreAt q k n g r b) (sinkAt s g r) l) (rDen (scoreAt q k n g r b) (sinkAt s g r)) = pAt q k s n g r b l)
      ∧ (∀ l, ∃ a : ℝ, pAt q k s n g r b l = a) ∧ (∀ l, ∃ a : ℝ, dsAt q k v s ct n g r b l = a)
      ∧ (∀ l, rThrough (scoreAt q k n g r b) (sinkAt s g r) (dpSeen v ct n g r b) l = dsAt q k v s ct n g r b l)
      ∧ (∃ a : ℝ, rSink (scoreAt q k n g r b) (sinkAt s g r) (dpAt v ct n g r b) = a)
      ∧ rBack (scoreAt q k n g r b) (sinkAt s g r) (dpSeen v ct n g r b) * rExpSink (scoreAt q k n g r b) (sinkAt s g r)
        = -rSink (scoreAt q k n g r b) (sinkAt s g r) (dpAt v ct n g r b)
      ∧ rTopGrad (scoreAt q k n g r b) (sinkAt s g r) (dpSeen v ct n g r b) = 0
      ∧ (∀ l, scoreAt q k n g r b l = ⊥ → pAt q k s n g r b l = 0 ∧ dsAt q k v s ct n g r b l = 0) :=
  row (fun l => score_ne_top hq hk n g r b l) (hs _) (fun l => dp_real hv hd n g r b l) (fun l => dpSeen_real hv hd n g r b l)
    (fun l => dp_agree n g r b l)

include hq hk hs in
theorem prob_at : val_main_v121 (F := Ideal) q k s (ix5 n g r b l) = pAt q k s n g r b l := by
  rw [ref_prob]
  have hz : Finite (fun _ => 0 : Vec Ideal S4096x128 .f32) := fun _ => ⟨0, EReal.coe_zero.symm⟩
  have hz' : Finite (fun _ => 0 : Vec Ideal S4096x1024 .f32) := fun _ => ⟨0, EReal.coe_zero.symm⟩
  exact (row_at hq hk hz hs hz' n g r b).1 l
include hq hk hv hs hd in
theorem ds_real : ∃ a : ℝ, dsAt q k v s ct n g r b l = a := (row_at hq hk hv hs hd n g r b).2.2.1 l
include hq hk hv hs hd in
theorem ds_unseen (h : ¬ Seen n b l) : dsAt q k v s ct n g r b l = 0 :=
  ((row_at hq hk hv hs hd n g r b).2.2.2.2.2.2.2 l (score_unseen n g r b l h)).2
include hq hk hv hs hd in
theorem ds_at : val_main_v169 (F := Ideal) q k v s ct (ix5 n g r b l) = dsAt q k v s ct n g r b l := by
  rw [ref_ds q k v s ct n g r b l (row_at hq hk hv hs hd n g r b).2.2.2.2.2.2.1]
  by_cases h : Seen n b l
  · rw [if_pos h]; exact (row_at hq hk hv hs hd n g r b).2.2.2.1 l
  · rw [if_neg h, ds_unseen hq hk hv hs hd n g r b l h]
include hq hk hv hs hd in
theorem sink_real : ∃ a : ℝ, rSink (scoreAt q k n g r b) (sinkAt s g r) (dpAt v ct n g r b) = a :=
  (row_at hq hk hv hs hd n g r b).2.2.2.2.1
include hq hk hv hs hd in
theorem sink_grad_at : val_main_v142 (F := Ideal) q k v s ct (ix4 n g r b)
    = -rSink (scoreAt q k n g r b) (sinkAt s g r) (dpAt v ct n g r b) := by
  rw [ref_sink_grad]
  exact (row_at hq hk hv hs hd n g r b).2.2.2.2.2.1
include hq hk hv hs hd in
theorem top_grad_at : val_main_v155 (F := Ideal) q k v s ct (ix4 n g r b) = 0 := by
  rw [ref_top_grad]
  exact (row_at hq hk hv hs hd n g r b).2.2.2.2.2.2.1

end Cert.Swa

end
-- ==== Proof.SwaGrads.lean ====
/-
  The reference's gradients, read at an index, are the entries of `dqOf`, `dkvOf` and `dsinksOf`.
-/
module

public import proofs.«01_k».proof.Proof.SwaReal

@[expose] public section

set_option maxRecDepth 16384

noncomputable section

namespace Cert.Swa

open Cert.Reference2Ideal Cert.Reference2Ideal.Read
open Idealize.ShloMosaic Idealize.ShloMosaic.TcCoe Idealize.ShloMosaic.Tactic Idealize.ShloMosaic.Pointwise
open Given (eighth)

set_option maxHeartbeats 2000000

/-! ## A sum over the first and the last of four axes -/

theorem outer_fiber {n0 n1 n2 n3 : ℕ} (h : (⟨4, ![n0, n1, n2, n3]⟩ : Shape).ReducesTo [0, 3] ⟨2, ![n1, n2]⟩) (g : Fin n1) (r : Fin n2)
    (i : (⟨4, ![n0, n1, n2, n3]⟩ : Shape).Idx) : h.drop i = ix2 g r ↔ ∃ p : Fin n0 × Fin n3, ix4 p.1 g r p.2 = i := by
  constructor
  · intro e
    refine ⟨(i 0, i 3), ?_⟩
    funext a
    apply Fin.ext
    match a with
    | ⟨0, _⟩ => rfl
    | ⟨1, _⟩ => exact (congrArg Fin.val (congrFun e ⟨0, by show 0 < 2; decide⟩)).symm
    | ⟨2, _⟩ => exact (congrArg Fin.val (congrFun e ⟨1, by show 1 < 2; decide⟩)).symm
    | ⟨3, _⟩ => rfl
  · rintro ⟨p, rfl⟩
    funext a
    apply Fin.ext
    match a with
    | ⟨0, _⟩ => rfl
    | ⟨1, _⟩ => rfl

theorem outer_sum {n0 n1 n2 n3 : ℕ} (h : (⟨4, ![n0, n1, n2, n3]⟩ : Shape).ReducesTo [0, 3] ⟨2, ![n1, n2]⟩)
    (x : (⟨4, ![n0, n1, n2, n3]⟩ : Shape).Idx → EReal) (c : EReal) (g : Fin n1) (r : Fin n2) :
    Ideal.hostReduceAdd h x c (ix2 g r) = c + ∑ a : Fin n0, ∑ b : Fin n3, x (ix4 a g r b) := by
  show c + _ = _
  rw [Finset.sum_filter_eq_sum_of_fiber _ (fun p : Fin n0 × Fin n3 => ix4 p.1 g r p.2)
    (fun _ _ e => Prod.ext (congrFun e 0) (congrFun e 3)) (outer_fiber h g r) x, Fintype.sum_prod_type]

variable {q : Vec Ideal S4096x1024 .f32} {k v : Vec Ideal S4096x128 .f32} {s : Vec Ideal S16 .f32} {ct : Vec Ideal S4096x1024 .f32}
variable (hq : Finite q) (hk : Finite k) (hv : Finite v) (hs : Finite s) (hd : Finite ct)

/-! ## The sinks -/

theorem zero_word : FloatOps.ofBits (F := Ideal) .f32 0x00000000#32 = 0 := by pointwise

section
variable (g : Fin 2) (r : Fin 8)

theorem v143_at : val_main_v143 (F := Ideal) q k v s ct (ix2 g r) = ∑ n : Fin 32, ∑ b : Fin 128, val_main_v142 (F := Ideal) q k v s ct (ix4 n g r b) := by
  refine (outer_sum _ _ _ g r).trans ?_
  rw [show val_main_cst_38 (F := Ideal) (Shape.Idx.first Gen.h_S_) = 0 from zero_word, zero_add]

theorem v146_at : val_main_v146 (F := Ideal) q k v s ct (ix2 g r) = val_main_v143 (F := Ideal) q k v s ct (ix2 g r) := by
  refine (outer_sum _ _ _ g r).trans ?_
  rw [Fin.sum_univ_one, Fin.sum_univ_one, show val_main_cst_39 (F := Ideal) (Shape.Idx.first Gen.h_S_) = 0 from zero_word, zero_add]
  pointwise [val_main_v144]

theorem v157_at : val_main_v157 (F := Ideal) q k v s ct (ix2 g r) = ∑ n : Fin 32, ∑ b : Fin 128, val_main_v156 (F := Ideal) q k v s ct (ix4 n g r b) := by
  refine (outer_sum _ _ _ g r).trans ?_
  rw [show val_main_cst_42 (F := Ideal) (Shape.Idx.first Gen.h_S_) = 0 from zero_word, zero_add]

theorem v160_at : val_main_v160 (F := Ideal) q k v s ct (ix2 g r) = val_main_v157 (F := Ideal) q k v s ct (ix2 g r) := by
  refine (outer_sum _ _ _ g r).trans ?_
  rw [Fin.sum_univ_one, Fin.sum_univ_one, show val_main_cst_43 (F := Ideal) (Shape.Idx.first Gen.h_S_) = 0 from zero_word, zero_add]
  pointwise [val_main_v158]

/-- The sign comes out of a sum of reals. -/
theorem sum_neg {ι : Type*} [Fintype ι] (f : ι → EReal) (h : ∀ i, ∃ a : ℝ, f i = a) : ∑ i, -f i = 0 - ∑ i, f i := by
  choose a ha using h
  simp only [ha, ← EReal.coe_neg]
  rw [sum_coe, sum_coe, zero_sub, ← EReal.coe_neg, Finset.sum_neg_distrib]

include hq hk hv hs hd in
/-- Nothing comes back through the maximum. -/
theorem v157_zero : val_main_v157 (F := Ideal) q k v s ct (ix2 g r) = 0 := by
  rw [v157_at]
  refine Finset.sum_eq_zero fun n _ => Finset.sum_eq_zero fun b _ => ?_
  rw [val_main_v156_apply, top_grad_at hq hk hv hs hd n g r b]
  exact zero_mul _

include hq hk hv hs hd in
theorem v168_at (j : Fin 16) : val_main_v168 (F := Ideal) q k v s ct (ix1 j)
    = ∑ n : Fin 32, dskAt q k v s ct n ⟨j.val / 8, by omega⟩ ⟨j.val % 8, by omega⟩ := by
  pointwise [val_main_v147, val_main_v161, val_main_v162, val_main_cst_44, val_main_v167, val_main_v168]
  rw [Fin.sum_univ_one, v146_at, v160_at, v157_zero hq hk hv hs hd, add_zero, v143_at]
  refine Finset.sum_congr rfl fun n _ => ?_
  rw [Finset.sum_congr rfl fun b _ => sink_grad_at hq hk hv hs hd n _ _ b]
  exact sum_neg _ fun b => sink_real hq hk hv hs hd n _ _ b
end

include hq hk hv hs hd in
theorem ref_dsinks : val_main_v196 (F := Ideal) q k v s ct = dsinksOf q k v s ct := by
  funext y
  idx_vars y
  rw [dsinksOf_at]
  pointwise [val_main_cst_48, val_main_v194, val_main_v195, val_main_v196]
  by_cases h : y1.val < 16
  · simp only [h, dite_true]
    exact v168_at hq hk hv hs hd ⟨y1.val, h⟩
  · simp only [h, dite_false]

/-! ## Keys and values -/

section
variable (n : Fin 32) (g : Fin 2) (l : Fin 256) (d : Fin 64)

include hq hk hs in
theorem dv_at : val_main_v131 (F := Ideal) q k s ct (ix4 n g d l) = dvAt q k s ct n g l d := by
  pointwise [val_main_v128, val_main_v129, val_main_v131]
  refine Finset.sum_congr rfl fun r _ => Finset.sum_congr rfl fun b _ => ?_
  rw [prob_at hq hk hs, mul_comm]
  rfl

include hq hk hv hs hd in
theorem dk_at : val_main_v175 (F := Ideal) q k v s ct (ix4 n g l d) = dkAt q k v s ct n g l d := by
  have hr : ∀ (r : Fin 8) (b : Fin 128), ∃ a : ℝ, dsAt q k v s ct n g r b l * rowAt q n g r b d = a := fun r b =>
    mul_real (ds_real hq hk hv hs hd n g r b l) (rowAt_real n g r b hq d)
  pointwise [val_main_v0, val_main_cst_45, val_main_v170, val_main_v171, val_main_v172, val_main_v175]
  rw [Finset.sum_comm, dkAt, sum_mul_real _ _ _ (fun r => sum_real _ _ fun b => hr r b) eighth_real]
  refine Finset.sum_congr rfl fun r _ => ?_
  rw [sum_mul_real _ _ _ (fun b => hr r b) eighth_real]
  refine Finset.sum_congr rfl fun b _ => ?_
  rw [ds_at hq hk hv hs hd, mul_right_comm]
  rfl

end

/-- A block's own rows and what the next block gives back. -/
theorem both_blocks (f : Fin 32 → Fin 256 → EReal) (i : Fin 4096) (P : Prop) [Decidable P] (hP : P ↔ i.val / 128 < 31) (h1 : P → 1 + i.val / 128 < 32)
    : (f ⟨i.val / 128, by omega⟩ ⟨128 + i.val % 128, by omega⟩ + if h : P then f ⟨1 + i.val / 128, h1 h⟩ ⟨i.val % 128, by omega⟩ else 0)
      = f ⟨i.val / 128, by omega⟩ ⟨128 + i.val % 128, by omega⟩
        + if h : i.val / 128 < 31 then f ⟨i.val / 128 + 1, by omega⟩ ⟨i.val % 128, by omega⟩ else 0 := by
  by_cases h : i.val / 128 < 31
  · rw [dif_pos h, dif_pos (hP.mpr h)]
    simp only [Nat.add_comm 1]
  · rw [dif_neg h, dif_neg fun e => h (hP.mp e)]

include hq hk hv hs hd in
theorem v190_at (i : Fin 4096) (j : Fin 128) : val_main_v190 (F := Ideal) q k v s ct (ix2 i j)
    = dkvOf q k v s ct (ix2 i ⟨j.val, by omega⟩) := by
  rw [dkvOf_at]
  pointwise [val_main_v176, val_main_v183, val_main_v184, val_main_v186, val_main_cst_47, val_main_v187, val_main_v188, val_main_v190]
  simp only [dk_at hq hk hv hs hd]
  refine (both_blocks (fun n l => dkAt q k v s ct n ⟨j.val / 64, by omega⟩ l ⟨j.val % 64, Nat.mod_lt _ (by decide)⟩) i _
    ⟨fun h => h.1, fun h => ⟨h, by omega, by omega, by omega⟩⟩ (fun h => by omega)).trans ?_
  simp only [dkvAt, j.isLt, dite_true]

include hq hk hs in
theorem v189_at (i : Fin 4096) (j : Fin 128) : val_main_v189 (F := Ideal) q k s ct (ix2 i j)
    = dkvOf q k v s ct (ix2 i ⟨j.val + 128, by omega⟩) := by
  have hj : ¬ j.val + 128 < 128 := by omega
  rw [dkvOf_at]
  pointwise [val_main_v132, val_main_v177, val_main_v178, val_main_v180, val_main_cst_46, val_main_v181, val_main_v182, val_main_v189]
  simp only [dv_at hq hk hs]
  refine (both_blocks (fun n l => dvAt q k s ct n ⟨j.val / 64, by omega⟩ l ⟨j.val % 64, Nat.mod_lt _ (by decide)⟩) i _
    ⟨fun h => h.1, fun h => ⟨h, by omega, by omega, by omega⟩⟩ (fun h => by omega)).trans ?_
  simp only [dkvAt, hj, dite_false, Nat.add_sub_cancel]

include hq hk hv hs hd in
theorem ref_dkv : val_main_v193 (F := Ideal) q k v s ct = dkvOf q k v s ct := by
  funext y
  idx_vars y
  pointwise [val_main_v193]
  by_cases h : y1.val < 128
  · simp only [h, dite_true]
    exact v190_at hq hk hv hs hd y0 ⟨y1.val, h⟩
  · simp only [h, dite_false]
    refine (v189_at (v := v) hq hk hs y0 ⟨y1.val - 128, by omega⟩).trans ?_
    have e : (⟨y1.val - 128 + 128, by omega⟩ : Fin 256) = y1 := Fin.ext (by show y1.val - 128 + 128 = y1.val; omega)
    rw [e]

/-! ## Queries -/

include hq hk hv hs hd in
theorem dq_term (n : Fin 32) (g : Fin 2) (r : Fin 8) (b : Fin 128) (l : Fin 256) (d : Fin 64) :
    dsAt q k v s ct n g r b l * eighth * seenKey k n g l d = dsAt q k v s ct n g r b l * keyAt k n g l d * eighth := by
  by_cases h : Seen n b l
  · rw [seenKey, if_pos h.2, mul_right_comm]
  · rw [ds_unseen hq hk hv hs hd n g r b l h, zero_mul, zero_mul, zero_mul, zero_mul]

include hq hk hv hs hd in
theorem ref_dq : val_main_v192 (F := Ideal) q k v s ct = dqOf q k v s ct := by
  funext y
  idx_vars y
  rw [dqOf_at]
  pointwise [val_main_cst_45, val_main_v170, val_main_v171, val_main_v172, val_main_v173, val_main_v174, val_main_v191, val_main_v192]
  rw [dqAt, sum_mul_real _ _ _ (fun l => mul_real (ds_real hq hk hv hs hd _ _ _ _ l) (keyAt_real _ _ l hk _)) eighth_real]
  refine Finset.sum_congr rfl fun l _ => ?_
  rw [ds_at hq hk hv hs hd, ref_key]
  exact dq_term hq hk hv hs hd _ _ _ _ l _

end Cert.Swa

end
-- ==== Proof.SwaClaims.lean ====
/-
  The backward pass of the windowed attention: what is claimed of each of its three programs alone.
-/
module

public import proofs.«01_k».proof.Defs
public import proofs.«01_k».proof.Proof.SwaFrame
public import proofs.«01_k».proof.Proof.Gen.Kernel2
public import proofs.«01_k».proof.Proof.Gen.Reference2Ideal
public import proofs.«01_k».proof.Proof.Gen.Reference2Ideal.Run
public import Idealize.ShloMosaic.Lib.Quiescent

@[expose] public section

set_option maxRecDepth 16384

noncomputable section

namespace Cert.Swa

open Idealize.ShloMosaic Idealize.SL.Sem

/-- The kernel, and its idealization: one run serves both, since the named mask on words is the word it was. -/
abbrev plainMask : Named Bits where
  named _ _ {φ} bits := FloatOps.ofBits (F := Bits) φ bits

theorem frame_words : Cert.quiescent_Kernel2 := fun m ρ _ => by
  have h := @kernel_frame Bits _ plainMask m ρ
  exact Eq.mp (by sl_kernel_rfl) h

theorem frame_ideal : Cert.quiescent_Kernel2Ideal := fun m ρ _ => kernel_frame (F := Ideal) m ρ

/-- The reference ends with the arguments unchanged; it declares no semaphore. -/
theorem frame_reference : Cert.quiescent_Reference2Ideal := fun m ρ _ =>
  (θ_run Cert.Reference2Ideal.defs _ _).mono (fun r h => ⟨fun c => (h c).2.2.2,
      Idealize.ShloMosaic.sem_eq_zero_of_no_sems (by decide) r.2⟩)
    (Cert.Reference2Ideal.Value.run (F := Ideal) m ρ)

/-- Every named mask is read as −∞. -/
theorem masks : Cert.preserves_Kernel2_Kernel2Ideal :=
  IdealRules.named_const.statement _ _ _ _ _ rfl

end Cert.Swa

end
-- ==== Proof.SwaValue.lean ====
/-
  The backward pass of the windowed attention: of finite arguments kernel and reference leave the same three arrays.
-/
module

public import proofs.«01_k».proof.Proof.SwaArray
public import proofs.«01_k».proof.Proof.SwaGrads
public import proofs.«01_k».proof.Proof.SwaClaims
public import Idealize.ShloMosaic.Lib.ReduceAll

@[expose] public section

set_option maxRecDepth 16384

noncomputable section

namespace Cert.Swa

open Idealize.ShloMosaic Idealize.SL.Sem Idealize.ShloMosaic.Tactic Idealize.ShloMosaic.Pointwise

/-! ## What the precondition says -/

theorem ofBits_top : Ideal.ofBits .f32 0x7F800000#32 = ⊤ := by simp [Ideal.ofBits, Ideal.ieee]

/-- An extended real whose absolute value is below ∞ is a real. -/
theorem real_of_lt (x : EReal) (h : FloatOps.cmpf (F := Ideal) (φ := .f32) .olt (max x (-x)) (Ideal.ofBits .f32 0x7F800000#32) = 1#1) :
    ∃ a : ℝ, x = a := by
  have hlt : max x (-x) < ⊤ := by
    by_contra hn
    rw [ofBits_top] at h
    simp [FloatOps.cmpf, Ideal.cmp, hn] at h
  refine ⟨x.toReal, (EReal.coe_toReal (fun e => ?_) (fun e => ?_)).symm⟩
  · rw [e] at hlt; simp at hlt
  · rw [e] at hlt; simp at hlt

theorem andi_left {x y : BitVec 1} (h : IntOp.andi x y = 1#1) : x = 1#1 ∧ y = 1#1 := IntOp.andi_eq_one.1 h

/-- The precondition's side conditions. -/
theorem pre_facts : Cert.Pre_finite2.Facts where
  bcast_S_S4096x1024 := by decide
  reducesTo_S4096x1024_S_d0_1 := by decide
  h_S_ := by decide
  bcast_S_S4096x128 := by decide
  reducesTo_S4096x128_S_d0_1 := by decide
  bcast_S_S16 := by decide
  reducesTo_S16_S_d0 := by decide

/-- The precondition: every entry of every argument is a real. -/
theorem finite_of_pre [Cert.Pre_finite2.Facts] (q : Vec Ideal Cert.Pre_finite2.S4096x1024 .f32) (k v : Vec Ideal Cert.Pre_finite2.S4096x128 .f32)
    (s : Vec Ideal Cert.Pre_finite2.S16 .f32) (ct : Vec Ideal Cert.Pre_finite2.S4096x1024 .f32)
    (h : Cert.Pre_finite2.fn (F := Ideal) q k v s ct = fun _ => 1#1) : Finite q ∧ Finite k ∧ Finite v ∧ Finite s ∧ Finite ct := by
  have h := congrFun h ix0
  unfold Cert.Pre_finite2.fn Cert.Pre_finite2.fn_part1 at h
  dsimp only at h
  obtain ⟨h, h4⟩ := andi_left h
  obtain ⟨h, h3⟩ := andi_left h
  obtain ⟨h, h2⟩ := andi_left h
  obtain ⟨h0, h1⟩ := andi_left h
  haveI : Subsingleton Cert.Pre_finite2.S_.Idx := ⟨fun a b => funext fun i => i.elim0⟩
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i), fun i => real_of_lt _ (Host.reduce_andi_all _ _ _ _ _ h3 i),
    fun i => real_of_lt _ (Host.reduce_andi_all _ _ _ _ _ h4 i)⟩

/-! ## The value -/

theorem five {A B C D E R : Type*} (f : A → B → C → D → E → R) {a a' : A} {b b' : B} {c c' : C} {d d' : D} {e e' : E}
    (h0 : a = a') (h1 : b = b') (h2 : c = c') (h3 : d = d') (h4 : e = e') : f a b c d e = f a' b' c' d' e' := by
  rw [h0, h1, h2, h3, h4]

open Cert.Kernel2Ideal.Gen in
theorem equal : Cert.algebraic_Kernel2Ideal_Reference2Ideal_pre_finite2 (hPre_finite2 := pre_facts) := by
  haveI := pre_facts
  intro m g m' g' hpre hagree
  refine ⟨fun c => dqA m c, fun c => dkvA m c, fun c => dsA m c, ?_, ?_⟩
  · exact (θ_run _ _ _).mono (fun r h c => ⟨((h.1 c).1 5).trans (dq_array m c), ((h.1 c).1 6).trans (dkv_array m c),
      ((h.1 c).1 7).trans (ds_array m c), h.2.1 c⟩) (θ_run_and (run m g) (kernel_frame m g))
  · refine (θ_run _ _ _).mono (fun r h c => ?_) (Cert.Reference2Ideal.Value.run (F := Ideal) m' g')
    obtain ⟨e0, e1, e2, e3, e4⟩ := hagree c
    obtain ⟨hq, hk, hv, hs, hd⟩ := finite_of_pre _ _ _ _ _ (hpre c)
    have h := h c
    refine ⟨h.1.trans ((Cert.Reference2Ideal.Read.val_main_v192_eq _).trans ?_),
      h.2.1.trans ((Cert.Reference2Ideal.Read.val_main_v193_eq _).trans ?_),
      h.2.2.1.trans ((Cert.Reference2Ideal.Read.val_main_v196_eq _).trans ?_), h.2.2.2⟩
    · exact (five (Cert.Reference2Ideal.Read.val_main_v192 (F := Ideal)) e0 e1 e2 e3 e4).trans (ref_dq hq hk hv hs hd)
    · exact (five (Cert.Reference2Ideal.Read.val_main_v193 (F := Ideal)) e0 e1 e2 e3 e4).trans (ref_dkv hq hk hv hs hd)
    · exact (five (Cert.Reference2Ideal.Read.val_main_v196 (F := Ideal)) e0 e1 e2 e3 e4).trans (ref_dsinks hq hk hv hs hd)

end Cert.Swa

end
-- ==== Proof.MlpBlock.lean ====
/-
  THE FIRST HALF OF THE FEED-FORWARD'S BACKWARD PASS: WHAT ONE GRID POINT COMPUTES. A point holds 512 rows of the cotangent and of
  the ReLU's values, and the whole of the second weight. It writes the rows of the cotangent behind the gate, the rows of the
  cotangent before the square in eight chunks of 512 columns, and adds the column sums of both to two one-row accumulators.
-/
module

public import proofs.«01_k».proof.Proof.Gen.Kernel3Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Mlp

open Cert.Kernel3Ideal Cert.Kernel3Ideal.Gen Idealize.ShloMosaic Idealize.ShloMosaic.TcCoe Idealize.SL.Sem
open Idealize.ShloMosaic.Pipeline (Dat)

/-- The cotangent behind the gate at one entry. -/
def gate (x0 : Vec Ideal S512x1024 .f32) (x3 : Vec Ideal S1x1024 .f32) (r : Fin 512) (j : Fin 1024) : EReal :=
  (Ideal.ofBits .f32 0x3F800000#32 + x3 (ix2 0 j)) * x0 (ix2 r j)

/-- The cotangent before the square at one entry. -/
def pre (x0 : Vec Ideal S512x1024 .f32) (x1 : Vec Ideal S512x4096 .bf16) (x2 : Vec Ideal S4096x1024 .bf16) (x3 : Vec Ideal S1x1024 .f32)
    (r : Fin 512) (l : Fin 4096) : EReal :=
  (∑ j : Fin 1024, gate x0 x3 r j * x2 (ix2 l j)) * (Ideal.ofBits .f32 0x40000000#32 * x1 (ix2 r l))

/-- Both as blocks. -/
def gateV (x0 : Vec Ideal S512x1024 .f32) (x3 : Vec Ideal S1x1024 .f32) : Vec Ideal S512x1024 .bf16 := fun y => gate x0 x3 (y 0) (y 1)
def preV (x0 : Vec Ideal S512x1024 .f32) (x1 : Vec Ideal S512x4096 .bf16) (x2 : Vec Ideal S4096x1024 .bf16) (x3 : Vec Ideal S1x1024 .f32) :
    Vec Ideal S512x4096 .bf16 := fun y => pre x0 x1 x2 x3 (y 0) (y 1)

/-- A stored chunk of columns is the block's columns if it is so entry by entry. -/
theorem chunk_of {h w a n : ℕ} {e : EltTy} (G : Vec Ideal (⟨2, ![h, w]⟩ : Shape) e) (hin) (v : Vec Ideal (⟨2, ![h, n]⟩ : Shape) e)
    (hv : ∀ (r : Fin h) (j : Fin n) (hj : a + j.val < w), v (ix2 r j) = G (ix2 r ⟨a + j.val, hj⟩)) (x : (⟨2, ![h, n]⟩ : Shape).Idx) :
    v x = G ((Rect.unit (s := ⟨2, ![h, w]⟩) ![0, a] ![h, n] hin).emb x) := by
  have h0 : a + n ≤ w := hin 1
  have hx : (x 1).val < n := (x 1).isLt
  have e1 : x = ix2 (x 0) (x 1) := funext fun i => by match i with | ⟨0, _⟩ => rfl | ⟨1, _⟩ => rfl
  have e2 : (Rect.unit (s := ⟨2, ![h, w]⟩) ![0, a] ![h, n] hin).emb x = ix2 (x 0) ⟨a + (x 1).val, by omega⟩ := funext fun i => Fin.ext (by
    match i with
    | ⟨0, _⟩ => show 0 + 1 * (x 0).val = (x 0).val; omega
    | ⟨1, _⟩ => show a + 1 * (x 1).val = a + (x 1).val; omega)
  exact (congrArg v e1).trans ((hv (x 0) (x 1) (by omega)).trans (congrArg G e2.symm))

variable (m : (ℓ : Loc nD τ sig) → Buf (Elt Ideal) ℓ)

set_option maxHeartbeats 2000000 in
/-- The rows behind the gate after any point. -/
theorem gate_block (c : Dev nD) (t : Fin cfg0.N) (r : Fin 512) (j : Fin 1024) :
    (outsAt0 m c t.val t.isLt).1 (ix2 r j) = gate (iblk m c 0 t) (iblk m c 3 t) r j := by
  by_cases h : t.val % 8 = 0
  · rw [outsAt0_A m c t h]
    frame_open
    simp (disch := decide) only [View.read_writes_junk_eq_canon, View.canon_cons_unit_lit', View.readAt_eq_ld, View.ld_unit_lit', Memref.IsWhole.read_unread]
    unfold_payloads
    unfold gate
    pointwise
  · rw [outsAt0_B m c t h]
    frame_open
    simp (disch := decide) only [View.read_writes_junk_eq_canon, View.canon_cons_unit_lit', View.readAt_eq_ld, View.ld_unit_lit', Memref.IsWhole.read_unread]
    unfold_payloads
    unfold gate
    pointwise

set_option maxHeartbeats 4000000 in
/-- The rows before the square after any point. -/
theorem pre_block (c : Dev nD) (t : Fin cfg0.N) (y : S512x4096.Idx) :
    (outsAt0 m c t.val t.isLt).2.1 y = preV (iblk m c 0 t) (iblk m c 1 t) (iblk m c 2 t) (iblk m c 3 t) y := by
  by_cases h : t.val % 8 = 0
  · rw [outsAt0_A m c t h]
    dsimp only [out0_A_5]
    rw [View.read_writes_junk_eq_canon]
    refine View.canon_apply_of_pieces (preV (iblk m c 0 t) (iblk m c 1 t) (iblk m c 2 t) (iblk m c 3 t)) _
      (View.PiecesOf.mem ?_) _ (cover0_A_5 ..)
    frame_open
    refine ⟨?_, ?_, ?_, ?_, ?_, ?_, ?_, ?_, trivial⟩
    all_goals
      refine chunk_of _ (by decide) _ fun r j hj => ?_
      unfold preV pre gate
      unfold_payloads
      simp (disch := decide) only [View.readAt_eq_ld, View.ld_unit_lit', Memref.IsWhole.read_unread]
      pointwise
  · rw [outsAt0_B m c t h]
    dsimp only [out0_B_5]
    rw [View.read_writes_junk_eq_canon]
    refine View.canon_apply_of_pieces (preV (iblk m c 0 t) (iblk m c 1 t) (iblk m c 2 t) (iblk m c 3 t)) _
      (View.PiecesOf.mem ?_) _ (cover0_B_5 ..)
    frame_open
    refine ⟨?_, ?_, ?_, ?_, ?_, ?_, ?_, ?_, trivial⟩
    all_goals
      refine chunk_of _ (by decide) _ fun r j hj => ?_
      unfold preV pre gate
      unfold_payloads
      simp (disch := decide) only [View.readAt_eq_ld, View.ld_unit_lit', Memref.IsWhole.read_unread]
      pointwise

/-! ## The accumulators -/

/-- What one point adds to the sums of the rows behind the gate, … -/
def gateSum (x0 : Vec Ideal S512x1024 .f32) (x3 : Vec Ideal S1x1024 .f32) (j : Fin 1024) : EReal := ∑ r : Fin 512, gate x0 x3 r j

/-- … and to those of the rows before the square. -/
def preSum (x0 : Vec Ideal S512x1024 .f32) (x1 : Vec Ideal S512x4096 .bf16) (x2 : Vec Ideal S4096x1024 .bf16) (x3 : Vec Ideal S1x1024 .f32)
    (l : Fin 4096) : EReal := ∑ r : Fin 512, pre x0 x1 x2 x3 r l

set_option maxHeartbeats 2000000 in
theorem gateSum_later (c : Dev nD) (t : Fin cfg0.N) (h : ¬ t.val % 8 = 0) (j : Fin 1024) :
    (outsAt0 m c t.val t.isLt).2.2.1 (ix2 0 j)
      = (outsAt0 m c (t.val - 1) (Nat.lt_of_le_of_lt (Nat.sub_le _ _) t.isLt)).2.2.1 (ix2 0 j) + gateSum (iblk m c 0 t) (iblk m c 3 t) j := by
  rw [outsAt0_B m c t h]
  frame_open
  simp (disch := decide) only [View.read_writes_junk_eq_canon, View.canon_cons_unit_lit', View.readAt_eq_ld, View.ld_unit_lit', Memref.IsWhole.read_unread]
  unfold_payloads
  unfold gateSum gate
  pointwise

set_option maxHeartbeats 2000000 in
theorem gateSum_first (c : Dev nD) (t : Fin cfg0.N) (h : t.val % 8 = 0) (j : Fin 1024) :
    (outsAt0 m c t.val t.isLt).2.2.1 (ix2 0 j) = 0 + gateSum (iblk m c 0 t) (iblk m c 3 t) j := by
  rw [outsAt0_A m c t h]
  frame_open
  simp (disch := decide) only [View.read_writes_junk_eq_canon, View.canon_cons_unit_lit', View.readCov_unit_lit', View.readCov_cons_unit_lit', View.readAt_eq_ld, View.ld_unit_lit', Memref.IsWhole.read_unread]
  unfold_payloads
  unfold gateSum gate
  pointwise

/-- A row of sums onto another. -/
def onto (a : Vec Ideal S1x4096 .f32) (f : Fin 4096 → EReal) : Vec Ideal S1x4096 .f32 := fun y => a y + f (y 1)

set_option maxHeartbeats 4000000 in
theorem preSum_later (c : Dev nD) (t : Fin cfg0.N) (h : ¬ t.val % 8 = 0) (y : S1x4096.Idx) :
    (outsAt0 m c t.val t.isLt).2.2.2 y
      = onto (outsAt0 m c (t.val - 1) (Nat.lt_of_le_of_lt (Nat.sub_le _ _) t.isLt)).2.2.2
          (preSum (iblk m c 0 t) (iblk m c 1 t) (iblk m c 2 t) (iblk m c 3 t)) y := by
  rw [outsAt0_B m c t h]
  dsimp only [out0_B_7]
  rw [View.read_writes_junk_eq_canon]
  refine View.canon_apply_of_pieces (onto (outsAt0 m c (t.val - 1) (Nat.lt_of_le_of_lt (Nat.sub_le _ _) t.isLt)).2.2.2
    (preSum (iblk m c 0 t) (iblk m c 1 t) (iblk m c 2 t) (iblk m c 3 t))) _ (View.PiecesOf.mem ?_) _ (cover0_B_7 ..)
  frame_open
  refine ⟨?_, ?_, ?_, ?_, ?_, ?_, ?_, ?_, trivial⟩
  all_goals
    refine chunk_of _ (by decide) _ fun r j hj => ?_
    obtain rfl : r = 0 := Subsingleton.elim _ _
    unfold onto preSum pre gate
    unfold_payloads
    simp (disch := decide) only [View.readAt_eq_ld, View.ld_unit_lit', Memref.IsWhole.read_unread]
    pointwise

/-- The last `n` stores decide an index they cover. -/
theorem canon_take {S : Shape} {e : EltTy} (G : S.Idx → Elt Ideal e) (n : ℕ) (L : List (View.Piece (Elt Ideal) S e))
    (h : View.PiecesOf G (L.take n)) (y : S.Idx) (hc : ∃ p ∈ L.take n, y ∈ p.1.set) : View.canon L y = G y := by
  have e := View.canon_append_of_piecesOf G (L.drop n) (L.take n) h y hc
  rwa [List.take_append_drop] at e

set_option maxHeartbeats 4000000 in
theorem preSum_first (c : Dev nD) (t : Fin cfg0.N) (h : t.val % 8 = 0) (y : S1x4096.Idx) :
    (outsAt0 m c t.val t.isLt).2.2.2 y
      = onto (fun _ => (0 : EReal)) (preSum (iblk m c 0 t) (iblk m c 1 t) (iblk m c 2 t) (iblk m c 3 t)) y := by
  rw [outsAt0_A m c t h]
  dsimp only [out0_A_7]
  rw [View.read_writes_junk_eq_canon]
  refine canon_take (onto (fun _ => (0 : EReal)) (preSum (iblk m c 0 t) (iblk m c 1 t) (iblk m c 2 t) (iblk m c 3 t))) 8 _ ?_ _
    (View.cover_of_tiledL (s := S1x4096) _ S1x512.size (by sl_kernel_rfl) y)
  frame_open
  simp only [List.take_succ_cons, List.take_zero]
  refine ⟨?_, ?_, ?_, ?_, ?_, ?_, ?_, ?_, trivial⟩
  all_goals
    refine chunk_of _ (by decide) _ fun r j hj => ?_
    obtain rfl : r = 0 := Subsingleton.elim _ _
    simp (disch := decide) only [↓ View.readCov_skip, ↓ View.readCov_fill]
    unfold onto preSum pre gate
    unfold_payloads
    simp (disch := decide) only [View.readAt_eq_ld, View.ld_unit_lit', Memref.IsWhole.read_unread]
    pointwise

end Cert.Mlp

end
-- ==== Proof.MlpValue.lean ====
/-
  The four arrays of the feed-forward's first backward call, each as one function of the arguments, and that the reference leaves
  the same ones: where the ReLU is cut off its value is zero, so the product with it is the derivative's zero.
-/
module

public import proofs.«01_k».proof.Defs
public import proofs.«01_k».proof.Proof.MlpBlock
public import proofs.«01_k».proof.Proof.Gen.Reference3Ideal.Run
public import proofs.«01_k».proof.Proof.Gen.Reference3Ideal.Read

@[expose] public section

set_option maxRecDepth 16384

noncomputable section

namespace Cert.Mlp

open Cert.Kernel3Ideal Cert.Kernel3Ideal.Gen Idealize.ShloMosaic Idealize.ShloMosaic.TcCoe Idealize.SL.Sem Idealize.ShloMosaic.Pointwise
  Idealize.ShloMosaic.Tactic
open Idealize.ShloMosaic.Pipeline (Dat)
open Cert.Reference3Ideal.Read

/-! ## The arrays as functions of the arguments -/

/-- The cotangent behind the gate. -/
def dfAt (g2 : Vec Ideal S1024 .f32) (ct : Vec Ideal S4096x1024 .f32) (i : Fin 4096) (j : Fin 1024) : EReal :=
  (Ideal.ofBits .f32 0x3F800000#32 + g2 (ix1 j)) * ct (ix2 i j)

/-- The ReLU's values. -/
abbrev reluOf (u : Vec Ideal S4096x1024 .f32) (w1 : Vec Ideal S1024x4096 .f32) (b1 : Vec Ideal S4096 .f32) : Vec Ideal S4096x4096 .f32 :=
  val_main_v5 (F := Ideal) u w1 b1

/-- The cotangent before the square. -/
def daAt (u : Vec Ideal S4096x1024 .f32) (w1 : Vec Ideal S1024x4096 .f32) (b1 : Vec Ideal S4096 .f32) (w2 : Vec Ideal S4096x1024 .f32)
    (g2 : Vec Ideal S1024 .f32) (ct : Vec Ideal S4096x1024 .f32) (i l : Fin 4096) : EReal :=
  (∑ j : Fin 1024, dfAt g2 ct i j * w2 (ix2 l j)) * (Ideal.ofBits .f32 0x40000000#32 * reluOf u w1 b1 (ix2 i l))

section Kernel

variable (m : (ℓ : Loc nD τ sig) → Buf (Elt Ideal) ℓ) (c : Dev nD)

/-- The arguments. -/
abbrev inU : Vec Ideal S4096x1024 .f32 := m ((c : Thread nD τ).loc main_arg0)
abbrev inW1 : Vec Ideal S1024x4096 .f32 := m ((c : Thread nD τ).loc main_arg1)
abbrev inB1 : Vec Ideal S4096 .f32 := m ((c : Thread nD τ).loc main_arg2)
abbrev inW2 : Vec Ideal S4096x1024 .f32 := m ((c : Thread nD τ).loc main_arg3)
abbrev inG2 : Vec Ideal S1024 .f32 := m ((c : Thread nD τ).loc main_arg4)
abbrev inCt : Vec Ideal S4096x1024 .f32 := m ((c : Thread nD τ).loc main_arg5)

theorem V_rr : (V m c main_v5 : Vec Ideal S4096x4096 .bf16) = reluOf (inU m c) (inW1 m c) (inB1 m c) := by
  unfold V hostOps0 hostOps0_1 hostOps0_2
  after_results
  rfl
theorem V_w2 : (V m c main_v6 : Vec Ideal S4096x1024 .bf16) = inW2 m c := by
  unfold V hostOps0 hostOps0_1 hostOps0_2
  after_results
  rfl
theorem V_g2 (j : Fin 1024) : (V m c main_v7 : Vec Ideal S1x1024 .f32) (ix2 0 j) = inG2 m c (ix1 j) := by
  have e : (V m c main_v7 : Vec Ideal S1x1024 .f32) = shapeCast S1x1024 (inG2 m c) shapeCasts_S1024_S1x1024 := by
    unfold V hostOps0 hostOps0_1 hostOps0_2
    after_results
    rfl
  rw [e]
  pointwise

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![0, 0] := by decide +kernel
theorem idx7 : ∀ t : Fin grid0.N, win0_7.index t = ![0, 0] := by decide +kernel
theorem lt_N (t : Fin cfg0.N) : t.val < 8 := lt_of_lt_of_eq t.isLt N_0

variable (t : Fin cfg0.N)

theorem ct_read (r : Fin 512) (j : Fin 1024) :
    iblk m c 0 t (ix2 r j) = inCt m c (ix2 ⟨t.val * 512 + r.val, by have := lt_N t; omega⟩ j) := by
  refine Eq.trans ?_ (congrFun (V_main_arg5 m c) _)
  blk_ext [iblk, V, idx0 t]
theorem rr_read (r : Fin 512) (l : Fin 4096) :
    iblk m c 1 t (ix2 r l) = reluOf (inU m c) (inW1 m c) (inB1 m c) (ix2 ⟨t.val * 512 + r.val, by have := lt_N t; omega⟩ l) := by
  rw [← V_rr m c]
  blk_ext [iblk, V, idx1 t]
theorem w2_read (l : Fin 4096) (j : Fin 1024) : iblk m c 2 t (ix2 l j) = inW2 m c (ix2 l j) := by
  rw [← V_w2 m c]
  blk_ext [iblk, V, idx2 t]
theorem g2_read (j : Fin 1024) : iblk m c 3 t (ix2 0 j) = inG2 m c (ix1 j) := by
  rw [← V_g2 m c]
  blk_ext [iblk, V, idx3 t]

theorem gate_eq (r : Fin 512) (j : Fin 1024) : gate (iblk m c 0 t) (iblk m c 3 t) r j
    = dfAt (inG2 m c) (inCt m c) ⟨t.val * 512 + r.val, by have := lt_N t; omega⟩ j := by
  unfold gate dfAt
  rw [ct_read m c t, g2_read m c t]

theorem pre_eq (r : Fin 512) (l : Fin 4096) : pre (iblk m c 0 t) (iblk m c 1 t) (iblk m c 2 t) (iblk m c 3 t) r l
    = daAt (inU m c) (inW1 m c) (inB1 m c) (inW2 m c) (inG2 m c) (inCt m c) ⟨t.val * 512 + r.val, by have := lt_N t; omega⟩ l := by
  unfold pre daAt
  rw [rr_read m c t]
  simp only [gate_eq m c t, w2_read m c t]

/-- The four results. -/
abbrev dfA : Vec Ideal S4096x1024 .bf16 := fun y => dfAt (inG2 m c) (inCt m c) (y 0) (y 1)
abbrev daA : Vec Ideal S4096x4096 .bf16 := fun y => daAt (inU m c) (inW1 m c) (inB1 m c) (inW2 m c) (inG2 m c) (inCt m c) (y 0) (y 1)
abbrev gb2A : Vec Ideal S1x1024 .f32 := fun y => ∑ i, dfAt (inG2 m c) (inCt m c) i (y 1)
abbrev gb1A : Vec Ideal S1x4096 .f32 := fun y => ∑ i, daAt (inU m c) (inW1 m c) (inB1 m c) (inW2 m c) (inG2 m c) (inCt m c) i (y 1)

theorem df_array : (dats m 0 c).arrAt 4 cfg0.N = dfA m c := by
  refine (dats m 0 c).arrAt_eq_of_covers 4 _ (by decide +kernel) fun t hf y => ?_
  blk_simp
  rw [after0_4]
  idx_vars y
  have hN := lt_N t
  have e : (win0_4.blk t).view.emb (ix2 y0 y1) = (ix2 ⟨t.val * 512 + y0.val, by omega⟩ y1 : S4096x1024.Idx) := by
    blk_ext [idx4 t]
  exact ((gate_block m c t y0 y1).trans (gate_eq m c t y0 y1)).trans (congrArg (dfA m c) e).symm

theorem da_array : (dats m 0 c).arrAt 5 cfg0.N = daA m c := by
  refine (dats m 0 c).arrAt_eq_of_covers 5 _ (by decide +kernel) fun t hf y => ?_
  blk_simp
  rw [after0_5]
  idx_vars y
  have hN := lt_N t
  have e : (win0_5.blk t).view.emb (ix2 y0 y1) = (ix2 ⟨t.val * 512 + y0.val, by omega⟩ y1 : S4096x4096.Idx) := by
    blk_ext [idx5 t]
  exact ((pre_block m c t (ix2 y0 y1)).trans (pre_eq m c t y0 y1)).trans (congrArg (daA m c) e).symm

theorem gb2_array : (dats m 0 c).arrAt 6 cfg0.N = gb2A m c := by
  refine (dats m 0 c).arrAt_eq_of_covers 6 _ (by decide +kernel) fun t hf y => ?_
  have ht : t.val % 8 = 7 := (flush0_6 t).mp hf
  have hN := lt_N t
  blk_simp
  rw [after0_6]
  idx_vars y
  obtain rfl : y0 = 0 := Subsingleton.elim _ _
  have hs := Pipeline.eq_sum_fin_of_reset_step_apply_last (N := cfg0.N) (fun n h => fun i : Fin 1024 => (outsAt0 m c n h).2.2.1 (ix2 0 i)) 8 (fun _ => 0) _
    (fun t h i => gateSum_first m c t h i) (fun t h i => gateSum_later m c t h i) (le_of_eq N_0) t (by have h8 : cfg0.N = 8 := N_0; omega) y1
  simp only [zero_add, gateSum, gate_eq] at hs
  have e : (win0_6.blk t).view.emb (ix2 0 y1) = (ix2 0 y1 : S1x1024.Idx) := by
    blk_ext [idx6 t]
  refine hs.trans (Eq.trans ?_ (congrArg (gb2A m c) e).symm)
  exact Fin.sum_mul_add_fin (S := 8) (n := 512) (f := fun i => dfAt (inG2 m c) (inCt m c) i y1)

/-- A sum tile by tile is the sum. -/
theorem tiles (f : Fin 4096 → EReal) : ∑ s : Fin 8, ∑ r : Fin 512, f ⟨s.val * 512 + r.val, by omega⟩ = ∑ i, f i :=
  Fin.sum_mul_add_fin (S := 8) (n := 512) (f := f)

/-- The running sums before the square, after the last point. -/
theorem gb1_last (ht : t.val % 8 = 7) (l : Fin 4096) : (outsAt0 m c t.val t.isLt).2.2.2 (ix2 0 l)
    = ∑ i, daAt (inU m c) (inW1 m c) (inB1 m c) (inW2 m c) (inG2 m c) (inCt m c) i l := by
  have hN := lt_N t
  have hs := Pipeline.eq_sum_fin_of_reset_step_apply_last (N := cfg0.N) (fun n h => fun i : Fin 4096 => (outsAt0 m c n h).2.2.2 (ix2 0 i)) 8 (fun _ => 0)
    (fun t i => preSum (iblk m c 0 t) (iblk m c 1 t) (iblk m c 2 t) (iblk m c 3 t) i)
    (fun t h i => preSum_first m c t h (ix2 0 i)) (fun t h i => preSum_later m c t h (ix2 0 i)) (le_of_eq N_0) t (by have h8 : cfg0.N = 8 := N_0; omega) l
  simp only [zero_add, preSum, pre_eq] at hs
  exact hs.trans (tiles fun i => daAt (inU m c) (inW1 m c) (inB1 m c) (inW2 m c) (inG2 m c) (inCt m c) i l)

theorem gb1_array : (dats m 0 c).arrAt 7 cfg0.N = gb1A m c := by
  refine (dats m 0 c).arrAt_eq_of_covers 7 _ (by decide +kernel) fun t hf y => ?_
  blk_simp
  rw [after0_7]
  idx_vars y
  obtain rfl : y0 = 0 := Subsingleton.elim _ _
  have e : (win0_7.blk t).view.emb (ix2 0 y1) = (ix2 0 y1 : S1x4096.Idx) := by
    blk_ext [idx7 t]
  exact (gb1_last m c t ((flush0_7 t).mp hf) y1).trans (congrArg (gb1A m c) e).symm

end Kernel

/-! ## The reference -/

section Reference

variable (u : Vec Ideal S4096x1024 .f32) (w1 : Vec Ideal S1024x4096 .f32) (b1 : Vec Ideal S4096 .f32) (w2 : Vec Ideal S4096x1024 .f32)
  (g2 : Vec Ideal S1024 .f32) (ct : Vec Ideal S4096x1024 .f32)

theorem ref_df (i : Fin 4096) (j : Fin 1024) : val_main_v22 (F := Ideal) g2 ct (ix2 i j) = dfAt g2 ct i j := by
  unfold dfAt
  pointwise [val_main_cst_3, val_main_v16, val_main_v17, val_main_v18, val_main_v21, val_main_v22]

/-- Where the ReLU is cut off it is zero. -/
theorem cut (a x : EReal) : (if 0 < a then x * (Ideal.ofBits .f32 0x40000000#32 * max a 0) else 0)
    = x * (Ideal.ofBits .f32 0x40000000#32 * max a 0) := by
  by_cases h : 0 < a
  · rw [if_pos h]
  · rw [if_neg h, max_eq_right (not_lt.mp h), mul_zero, mul_zero]

theorem ref_da (i l : Fin 4096) : val_main_v29 (F := Ideal) u w1 b1 w2 g2 ct (ix2 i l) = daAt u w1 b1 w2 g2 ct i l := by
  unfold daAt reluOf
  simp only [← ref_df]
  pointwise [val_main_cst_1, val_main_v6, val_main_cst_0, val_main_v7, val_main_cst_2, val_main_v10, val_main_v11, val_main_v26, val_main_v27, val_main_cst_6,
    val_main_v28, val_main_v29, val_main_v5, val_main_call0_v0, val_main_call0_cst]
  exact cut _ _

theorem ref_gb2 (j : Fin 1024) : val_main_v35 (F := Ideal) g2 ct (ix2 0 j) = ∑ i, dfAt g2 ct i j := by
  simp only [← ref_df]
  pointwise [val_main_cst_4, val_main_v23, val_main_v24, val_main_cst_5, val_main_v25, val_main_v35]
  exact Fin.sum_univ_one _

theorem ref_gb1 (l : Fin 4096) : val_main_v36 (F := Ideal) u w1 b1 w2 g2 ct (ix2 0 l) = ∑ i, daAt u w1 b1 w2 g2 ct i l := by
  simp only [← ref_da]
  pointwise [val_main_cst_7, val_main_v30, val_main_v31, val_main_cst_8, val_main_v32, val_main_v36]
  exact Fin.sum_univ_one _

end Reference

/-- Kernel and reference leave the same four arrays, whatever the arguments. -/
theorem equal : Cert.algebraic_Kernel3Ideal_Reference3Ideal := by
  intro m g m' g' _ hagree
  refine ⟨fun c => dfA m c, fun c => daA m c, fun c => gb2A m c, fun c => gb1A m c, ?_, ?_⟩
  · exact (θ_run _ _ _).mono (fun r h c => ⟨(h c).1.trans (df_array m c), (h c).2.1.trans (da_array m c), (h c).2.2.1.trans (gb2_array m c),
      (h c).2.2.2.1.trans (gb1_array m c), (h c).2.2.2.2⟩) (Cert.Kernel3Ideal.Value.run_blocks (F := Ideal) m g)
  · refine (θ_run _ _ _).mono (fun r h c => ?_) (Cert.Reference3Ideal.Value.run (F := Ideal) m' g')
    obtain ⟨e0, e1, e2, e3, e4, e5⟩ := hagree c
    have h := h c
    refine ⟨h.1.trans ((val_main_v33_eq ..).trans ?_), h.2.1.trans ((val_main_v34_eq ..).trans ?_),
      h.2.2.1.trans ((val_main_v35_eq ..).trans ?_), h.2.2.2.1.trans ((val_main_v36_eq ..).trans ?_), h.2.2.2.2⟩
    · rw [e4, e5]; funext y; idx_vars y; exact ref_df _ _ y0 y1
    · rw [e0, e1, e2, e3, e4, e5]; funext y; idx_vars y; exact ref_da _ _ _ _ _ _ y0 y1
    · rw [e4, e5]; funext y; idx_vars y
      obtain rfl : y0 = 0 := Subsingleton.elim _ _
      exact ref_gb2 _ _ y1
    · rw [e0, e1, e2, e3, e4, e5]; funext y; idx_vars y
      obtain rfl : y0 = 0 := Subsingleton.elim _ _
      exact ref_gb1 _ _ _ _ _ _ y1

end Cert.Mlp

end
-- ==== Proof.FwdModel.lean ====
/-
  The forward pass of the windowed attention: what the body computes at one point, written once for all sixteen heads, and the proof
  that a run at any point stores exactly that. A head's scores are one slice of rows of its group's product of the queries and the
  keys; what it makes of them is the same text for every head but for its slope, its sink and its slice.
-/
module

public import proofs.«01_k».proof.Proof.Gen.Kernel4Ideal.Value
public import proofs.«01_k».proof.Proof.SwaHead

@[expose] public section

set_option maxRecDepth 16384

noncomputable section

namespace Cert.Fwd

open Cert.Kernel4Ideal Cert.Kernel4Ideal.Gen
open Idealize.ShloMosaic Idealize.ShloMosaic.TcCoe Idealize.ShloMosaic.Tactic
open Cert.Swa (head slope rowBands headBands rowFits headFits slicesRow)

variable {F : FTy → Type} [FloatOps F] [Named F]

/-- What a point works on: which keys a query sees, the two groups' keys and values (the block before, then its own), the sixteen
    heads' queries and sinks. -/
structure Given (F : FTy → Type) where
  valid : IVec S128x256 1
  kk : Fin 2 → FVec F S256x64 .bf16
  vv : Fin 2 → FVec F S256x64 .bf16
  q : Fin 16 → FVec F S128x64 .bf16
  s : Fin 16 → F .f32

theorem probFits (r : Fin 8) : ∀ a, (![128 * r.val, 0] : Fin 2 → ℕ) a + S128x256.size a ≤ S1024x256.size a := by
  intro a; fin_cases a
  · show 128 * r.val + 128 ≤ 1024; omega
  · show 0 + 256 ≤ 256; omega
theorem slicesProb (r : Fin 8) : S1024x256.Slices ![128 * r.val, 0] S128x256 := by
  revert r; decide

/-- The rows of probabilities of head `r`, -/
def probBand (f : Fin 8 → Vec F S128x256 .bf16) (r : Fin 8) : View.Piece (Elt F) S1024x256 .bf16 :=
  ⟨Rect.unit (s := S1024x256) ![128 * r.val, 0] S128x256.size (probFits r), f r⟩
/-- and of eight heads, over what was stored before. -/
def probBands (f : Fin 8 → Vec F S128x256 .bf16) (L : List (View.Piece (Elt F) S1024x256 .bf16)) : List (View.Piece (Elt F) S1024x256 .bf16) :=
  probBand f 7 :: probBand f 6 :: probBand f 5 :: probBand f 4 :: probBand f 3 :: probBand f 2 :: probBand f 1 :: probBand f 0 :: L

/-- The eight heads' queries read as one array, -/
def readQueries (L : List (View.Piece (Elt F) S1024x64 .bf16)) : Vec F S1024x64 .bf16 :=
  scM0_0.view.readCov L (Rect.unit (s := S1024x64) ![0, 0] S1024x64.size inb_S1024x64_S1024x64_0_0).toLoadRect
/-- and their probabilities. -/
def readProbs (L : List (View.Piece (Elt F) S1024x256 .bf16)) : Vec F S1024x256 .bf16 :=
  scM0_1.view.readCov L (Rect.unit (s := S1024x256) ![0, 0] S1024x256.size inb_S1024x256_S1024x256_0_0).toLoadRect

/-! ## One head -/

/-- A head's scores, its slope times the distance taken off, the unseen keys at the mask's constant, -/
def scores (valid : IVec S128x256 1) (w : BitVec 32) (st : FVec F S128x256 .f32) : FVec F S128x256 .f32 :=
  select valid
    (subf (mulf st (broadcast S128x256 (Scalar.ofBits .f32 0x3E000000#32))) (mulf (broadcast S128x256 (Scalar.ofBits .f32 w)) k0_pay5))
    (broadcast S128x256 (Named.named κ "mask" 0xF149F2CA#32))
/-- the greatest of them and of the sink, -/
def top (sc : FVec F S128x256 .f32) (s : F .f32) : FVec F S128x1 .f32 :=
  maximumf (shapeCast S128x1 (multiReduction .maximumf [1] S128 sc 0xFF800000#32 reduces_S128x256_S128 (.inl rfl) rfl) shapeCasts_S128_S128x1)
    (broadcast S128x1 s)
/-- the exponentials, -/
def expo (sc : FVec F S128x256 .f32) (s : F .f32) : FVec F S128x256 .f32 :=
  exp (subf sc (broadcastTo S128x256 (top sc s) broadcasts_S128x1_S128x256))
/-- one over the sum of all the exponentials, the sink's with them, -/
def inverse (sc : FVec F S128x256 .f32) (s : F .f32) : FVec F S128x1 .f32 :=
  divf (broadcast S128x1 (Scalar.ofBits .f32 0x3F800000#32))
    (addf (shapeCast S128x1 (multiReduction .add [1] S128 (expo sc s) 0x00000000#32 reduces_S128x256_S128 (.inl rfl) rfl) shapeCasts_S128_S128x1)
      (exp (subf (broadcast S128x1 s) (top sc s))))
/-- and the probabilities. -/
def probs (sc : FVec F S128x256 .f32) (s : F .f32) : FVec F S128x256 .f32 :=
  mulf (expo sc s) (broadcastTo S128x256 (inverse sc s) broadcasts_S128x1_S128x256)

/-! ## One point -/

namespace Given
variable (P : Given F)

/-- A group's queries, head under head: the first group's, then the second's over them. -/
def qBands : Fin 2 → List (View.Piece (Elt F) S1024x64 .bf16)
  | 0 => rowBands (fun r => P.q (head 0 r)) []
  | 1 => rowBands (fun r => P.q (head 1 r)) (rowBands (fun r => P.q (head 0 r)) [])
def qg (g : Fin 2) : Vec F S1024x64 .bf16 := readQueries (P.qBands g)

/-- A group's products of the queries and the keys, -/
def st (g : Fin 2) : FVec F S1024x256 .f32 :=
  matmul dot_S1024x64_S256x64_S1024x256_1_1_0_0_n_n none (P.qg g) (P.kk g) (constant S1024x256 .f32 0x00000000#32)
/-- a head's scores -/
def sc (g : Fin 2) (r : Fin 8) : FVec F S128x256 .f32 :=
  scores P.valid (slope (head g r)) (extractStridedSlice S128x256 ![128 * r.val, 0] (P.st g) (slicesProb r))
/-- and probabilities, -/
def p (g : Fin 2) (r : Fin 8) : Vec F S128x256 .bf16 :=
  shapeCast S128x256 (truncf .bf16 (probs (P.sc g r) (P.s (head g r))) bitsLt_bf16_f32) shapeCasts_S128x256_S128x256
def pBands : Fin 2 → List (View.Piece (Elt F) S1024x256 .bf16)
  | 0 => probBands (P.p 0) []
  | 1 => probBands (P.p 1) (probBands (P.p 0) [])
def pg (g : Fin 2) : Vec F S1024x256 .bf16 := readProbs (P.pBands g)
/-- a group's outputs, -/
def og (g : Fin 2) : FVec F S1024x64 .f32 :=
  matmul dot_S1024x256_S256x64_S1024x64_1_0_0_1_n_n none (P.pg g) (P.vv g) (constant S1024x64 .f32 0x00000000#32)
/-- the rows of one head of them, -/
def oh (g : Fin 2) (r : Fin 8) : Vec F S128x64 .bf16 :=
  truncf .bf16 (extractStridedSlice S128x64 ![128 * r.val, 0] (P.og g) (slicesRow r)) bitsLt_bf16_f32
/-- over the sixteen heads. -/
def o (h : Fin 16) : Vec F S128x64 .bf16 :=
  P.oh ⟨h.val / 8, by omega⟩ ⟨h.val % 8, by omega⟩

end Given

/-! ## The point's inputs -/

variable (m : (ℓ : Loc nD τ sig) → Buf (Elt F) ℓ) (c : Dev nD) (t : Fin cfg0.N)

/-- One head's columns of the queries, -/
def part (h : Fin 16) : FVec F S128x64 .bf16 :=
  shapeCast S128x64 (shapeCast S128x64 (View.readAt (Elt F) (ms0_0 t).view
    (Rect.unit (s := S128x1024) ![0, 64 * h.val] S128x64.size (headFits h)).toLoadRect ((hs0_0 t).unread (iblk m c 0 t))) shapeCasts_S128x64_S128x64)
    shapeCasts_S128x64_S128x64

theorem keyFits (o : Fin 4) : ∀ a, (![0, 64 * o.val] : Fin 2 → ℕ) a + S128x64.size a ≤ S128x256.size a := by
  intro a; fin_cases a
  · show 0 + 128 ≤ 128; omega
  · show 64 * o.val + 64 ≤ 256; omega

/-- a group's columns of the block before and of its own, one under the other, -/
def both (o : Fin 4) : FVec F S256x64 .bf16 :=
  k0_pay6 (View.readAt (Elt F) (ms0_2 t).view (Rect.unit (s := S128x256) ![0, 64 * o.val] S128x64.size (keyFits o)).toLoadRect ((hs0_2 t).unread (iblk m c 2 t)))
    (View.readAt (Elt F) (ms0_1 t).view (Rect.unit (s := S128x256) ![0, 64 * o.val] S128x64.size (keyFits o)).toLoadRect ((hs0_1 t).unread (iblk m c 1 t)))

theorem sinkFits (h : Fin 16) : ∀ a, (![h.val] : Fin 1 → ℕ) a + S1.size a ≤ S16.size a := by
  intro a; fin_cases a; show h.val + 1 ≤ 16; omega

/-- and all of them. -/
def given : Given F where
  valid := k0_pay4 (grid0.coords t)
  kk g := both m c t ⟨g.val, by omega⟩
  vv g := both m c t ⟨g.val + 2, by omega⟩
  q h := part m c t h
  s h := View.readAt (Elt F) (ms0_3 t).view (Rect.unit (s := S16) ![h.val] S1.size (sinkFits h)).toLoadRect ((hs0_3 t).unread (iblk m c 3 t))
    (Shape.Idx.first (show 0 < S1.numel by decide))

/-- A run stores the sixteen heads' outputs. -/
theorem pieces : (kernelRun0_A c (grid0.coords t) (ms0_0 t) (hs0_0 t) (ms0_1 t) (hs0_1 t) (ms0_2 t) (hs0_2 t) (ms0_3 t) (hs0_3 t)
    (ms0_4 t) (hs0_4 t) scM0_0 (Memref.isWhole_whole _) scM0_1 (Memref.isWhole_whole _) (iblk m c 0 t) (iblk m c 1 t) (iblk m c 2 t)
    (iblk m c 3 t)).1 = headBands (given m c t).o := by sl_kernel_rfl

end Cert.Fwd

end
-- ==== Proof.FwdValue.lean ====
/-
  The forward pass of the windowed attention: the array it leaves, entry by entry, and that the reference leaves the same one. The
  reference's probabilities are the text the backward pass's reference computes them by.
-/
module

public import proofs.«01_k».proof.Proof.FwdModel
public import proofs.«01_k».proof.Proof.SwaValue
public import proofs.«01_k».proof.Proof.Gen.Reference4Ideal.Run
public import proofs.«01_k».proof.Proof.Gen.Reference4Ideal.Read

@[expose] public section

set_option maxRecDepth 16384

noncomputable section

namespace Cert.Fwd

open Cert.Kernel4Ideal Cert.Kernel4Ideal.Gen
open Idealize.ShloMosaic Idealize.ShloMosaic.TcCoe Idealize.ShloMosaic.Tactic Idealize.ShloMosaic.Pointwise Idealize.SL.Sem
open Cert.Swa (head slope rowBands headBands rowsOf headsOf canon_rows canon_heads whole_rows rProb rDen rExp rExpSink rTop rowAt keyAt sinkAt
  scoreAt pAt dist Seen near there andi_ite seenKey Finite prob_at row_at ref_value
  score_unseen real_of_lt andi_left)
open Cert.Swa.Given (eighth at8 rowsOf_at)

/-! ## Bands of probabilities side by side -/

/-- Eight heads' probabilities as one array. -/
def probsOf (f : Fin 8 → Vec Ideal S128x256 .bf16) : Vec Ideal S1024x256 .bf16 := fun y =>
  f ⟨(y 0).val / 128, by have : (y 0).val < 1024 := (y 0).isLt; omega⟩ (ix2 ⟨(y 0).val % 128, Nat.mod_lt _ (by decide)⟩ (y 1))

theorem probBand_of (f : Fin 8 → Vec Ideal S128x256 .bf16) (r : Fin 8) (x : (probBand f r).1.shape.Idx) :
    (probBand f r).2 x = probsOf f ((probBand f r).1.emb x) := by
  have h0 : (x 0).val < 128 := (x 0).isLt
  have e0 : (((probBand f r).1.emb x) 0).val = 128 * r.val + (x 0).val := by show 128 * r.val + 1 * (x 0).val = _; omega
  have e1 : ((probBand f r).1.emb x) 1 = x 1 := Fin.ext (by show 0 + 1 * (x 1).val = _; omega)
  show f r x = _
  unfold probsOf
  refine congr (congrArg f (Fin.ext ?_)) (funext fun a => ?_)
  · show r.val = _; simp only [e0]; omega
  · match a with
    | ⟨0, _⟩ => refine Fin.ext ?_; show (x 0).val = _ % 128; rw [e0]; omega
    | ⟨1, _⟩ => exact e1.symm

theorem canon_probs (f : Fin 8 → Vec Ideal S128x256 .bf16) (L : List (View.Piece (Elt Ideal) S1024x256 .bf16)) (y : S1024x256.Idx) :
    View.canon (probBands f L) y = probsOf f y :=
  View.canon_append_of_piecesOf (probsOf f) L (probBands f [])
    ⟨probBand_of f 7, probBand_of f 6, probBand_of f 5, probBand_of f 4, probBand_of f 3, probBand_of f 2, probBand_of f 1, probBand_of f 0, trivial⟩
    y (View.cover_of_tiledL (probBands f []) S128x256.size (by sl_kernel_rfl) y)

theorem whole_probs (y : S1024x256.Idx) : (Rect.unit (s := S1024x256) ![0, 0] S1024x256.size inb_S1024x256_S1024x256_0_0).toLoadRect.idx y = y := by
  idx_vars y
  refine funext fun a => Fin.ext ?_
  match a with
  | ⟨0, _⟩ => exact (Nat.zero_add _).trans (Nat.one_mul _)
  | ⟨1, _⟩ => exact (Nat.zero_add _).trans (Nat.one_mul _)

theorem readQueries_eq (f : Fin 8 → Vec Ideal S128x64 .bf16) (L) : readQueries (rowBands f L) = rowsOf f := by
  unfold readQueries; rw [View.readCov_eq_canon']; funext y; exact (congrArg _ (whole_rows y)).trans (canon_rows f L y)
theorem readProbs_eq (f : Fin 8 → Vec Ideal S128x256 .bf16) (L) : readProbs (probBands f L) = probsOf f := by
  unfold readProbs; rw [View.readCov_eq_canon']; funext y; exact (congrArg _ (whole_probs y)).trans (canon_probs f L y)

theorem probsOf_at (f : Fin 8 → Vec Ideal S128x256 .bf16) (r : Fin 8) (b : Fin 128) (l : Fin 256) :
    probsOf f (ix2 (at8 r b) l) = f r (ix2 b l) := by
  unfold probsOf at8
  refine congr (congrArg f (Fin.ext ?_)) (congrArg (fun x => ix2 x l) (Fin.ext ?_))
  · show (128 * r.val + b.val) / 128 = r.val; omega
  · show (128 * r.val + b.val) % 128 = b.val; omega

/-! ## The stages at a point -/

namespace Given
variable (P : Given Ideal)

theorem qg_eq (g : Fin 2) : P.qg g = rowsOf (fun r => P.q (head g r)) := by
  unfold qg; fin_cases g
  · exact readQueries_eq _ _
  · exact readQueries_eq _ _
theorem pg_eq (g : Fin 2) : P.pg g = probsOf (P.p g) := by
  unfold pg; fin_cases g
  · exact readProbs_eq _ _
  · exact readProbs_eq _ _

/-- A head's scores, key by key at one query. -/
def scoreRow (g : Fin 2) (r : Fin 8) (b : Fin 128) (l : Fin 256) : EReal := P.sc g r (ix2 b l)

set_option maxHeartbeats 1000000 in
theorem st_at (g : Fin 2) (r : Fin 8) (b : Fin 128) (l : Fin 256) :
    P.st g (ix2 (at8 r b) l) = ∑ x, P.q (head g r) (ix2 b x) * P.kk g (ix2 l x) := by
  have h : P.st g (ix2 (at8 r b) l) = ∑ x, P.qg g (ix2 (at8 r b) x) * P.kk g (ix2 l x) := by
    unfold st; pointwise
  rw [h, qg_eq]
  simp only [rowsOf_at]

set_option maxHeartbeats 1000000 in
theorem p_at (g : Fin 2) (r : Fin 8) (b : Fin 128) (l : Fin 256) :
    P.p g r (ix2 b l) = rProb (P.scoreRow g r b) (P.s (head g r)) l := by
  unfold p probs inverse expo top rProb rDen rExp rExpSink rTop scoreRow
  generalize P.sc g r = S
  generalize P.s (head g r) = s
  pointwise

set_option maxHeartbeats 1000000 in
theorem oh_at (g : Fin 2) (r : Fin 8) (b : Fin 128) (d : Fin 64) : P.oh g r (ix2 b d) =
    ∑ l : Fin 256, rProb (P.scoreRow g r b) (P.s (head g r)) l * P.vv g (ix2 l d) := by
  have h : P.oh g r (ix2 b d) = ∑ x, P.pg g (ix2 (at8 r b) x) * P.vv g (ix2 x d) := by
    unfold oh og at8; pointwise
  rw [h, pg_eq]
  simp only [probsOf_at, p_at]

set_option maxHeartbeats 1000000 in
theorem sc_at (g : Fin 2) (r : Fin 8) (b : Fin 128) (l : Fin 256) : P.scoreRow g r b l =
    Scalar.select (P.valid (ix2 b l)) ((∑ x, P.q (head g r) (ix2 b x) * P.kk g (ix2 l x)) * eighth
      - Ideal.ofBits .f32 (slope (head g r)) * k0_pay5 (F := Ideal) (ix2 b l)) ⊥ := by
  rw [← st_at]
  unfold scoreRow sc scores eighth at8
  generalize P.st g = S
  generalize slope (head g r) = w
  have hb : Named.named (F := Ideal) (φ := .f32) κ "mask" 0xF149F2CA#32 = (⊥ : EReal) := by
    simp [Named.named, κ]
  rw [hb]
  generalize P.valid = v
  generalize k0_pay5 (F := Ideal) = D
  pointwise

end Given

/-! ## The arrays the call is handed -/

variable (m : (ℓ : Loc nD τ sig) → Buf (Elt Ideal) ℓ) (c : Dev nD)

/-- The arguments. -/
abbrev inQ : Vec Ideal S4096x1024 .f32 := m ((c : Thread nD τ).loc main_arg0)
abbrev inK : Vec Ideal S4096x128 .f32 := m ((c : Thread nD τ).loc main_arg1)
abbrev inV : Vec Ideal S4096x128 .f32 := m ((c : Thread nD τ).loc main_arg2)
abbrev inS : Vec Ideal S16 .f32 := m ((c : Thread nD τ).loc main_arg3)

theorem V_q : (V m c (Pipeline.arrRef spec0 0) : Vec Ideal S4096x1024 .bf16) = inQ m c := by
  show (V m c main_v1 : Vec Ideal S4096x1024 .bf16) = inQ m c
  unfold V hostOps0
  after_results
  rfl
theorem V_kv (i : Fin 4096) (j : Fin 256) : (V m c main_v2 : Vec Ideal S4096x256 .bf16) (ix2 i j)
    = if h : j.val < 128 then inK m c (ix2 i ⟨j.val, h⟩) else inV m c (ix2 i ⟨j.val - 128, by omega⟩) := by
  have e : (V m c main_v2 : Vec Ideal S4096x256 .bf16) = (truncf (F := Ideal) .bf16 (concatenate S4096x256 1 [⟨S4096x128, inK m c⟩, ⟨S4096x128, inV m c⟩] concatenates_S4096x128_S4096x128_S4096x256_d1) bitsLt_bf16_f32 : Vec Ideal S4096x256 .bf16) := by
    unfold V hostOps0
    after_results
  rw [e]
  pointwise

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val - 1, 0] := by decide +kernel
theorem idx3 : ∀ t : Fin grid0.N, win0_3.index t = ![0] := by decide +kernel
theorem idx4 : ∀ t : Fin grid0.N, win0_4.index t = ![t.val, 0] := by decide +kernel
theorem coords0 : ∀ t : Fin grid0.N, ((grid0.coords t) 0).val = t.val := by decide +kernel
theorem lt_N (t : Fin cfg0.N) : t.val < 32 := lt_of_lt_of_eq t.isLt N_0

variable (t : Fin cfg0.N)

theorem q_read (i : Fin 128) (j : Fin 1024) : iblk m c 0 t (ix2 i j) = inQ m c (ix2 ⟨t.val * 128 + i.val, by have := lt_N t; omega⟩ j) := by
  rw [← V_q m c]
  blk_ext [iblk, V, idx0 t]
theorem own_read (i : Fin 128) (j : Fin 256) : iblk m c 1 t (ix2 i j)
    = (V m c main_v2 : Vec Ideal S4096x256 .bf16) (ix2 ⟨t.val * 128 + i.val, by have := lt_N t; omega⟩ j) := by
  blk_ext [iblk, V, idx1 t]
theorem before_read (i : Fin 128) (j : Fin 256) : iblk m c 2 t (ix2 i j)
    = (V m c main_v2 : Vec Ideal S4096x256 .bf16) (ix2 ⟨(t.val - 1) * 128 + i.val, by have := lt_N t; omega⟩ j) := by
  blk_ext [iblk, V, idx2 t]
theorem s_read (i : Fin 16) : iblk m c 3 t (ix1 i) = inS m c (ix1 i) := by
  refine Eq.trans ?_ (congrFun (V_main_arg3 m c) _)
  blk_ext [iblk, V, idx3 t]

/-! ## A point's inputs -/

theorem given_q (g : Fin 2) (r : Fin 8) (b : Fin 128) (d : Fin 64) :
    (given m c t).q (head g r) (ix2 b d) = rowAt (inQ m c) ⟨t.val, lt_N t⟩ g r b d := by
  have h : (given m c t).q (head g r) (ix2 b d) = iblk m c 0 t (ix2 b ⟨64 * (8 * g.val + r.val) + d.val, by omega⟩) := by
    unfold given part head
    dsimp only
    simp only [View.readAt_eq_ld, Memref.IsWhole.read_unread]
    pointwise
  rw [h, q_read m c t]
  unfold rowAt
  exact congrArg (fun x => inQ m c (ix2 _ x)) (Fin.ext (by show 64 * (8 * g.val + r.val) + d.val = g.val * 512 + r.val * 64 + d.val; omega))

theorem given_kk (g : Fin 2) (l : Fin 256) (d : Fin 64) :
    (given m c t).kk g (ix2 l d) = keyAt (inK m c) ⟨t.val, lt_N t⟩ g l d := by
  unfold given both k0_pay6
  dsimp only
  simp only [View.readAt_eq_ld, Memref.IsWhole.read_unread]
  pointwise
  unfold keyAt
  by_cases h : l.val < 128
  · rw [dif_pos h, dif_pos h, before_read m c t, V_kv, dif_pos (by show 64 * g.val + d.val < 128; omega)]
    exact congrArg (fun x => inK m c (ix2 _ x)) (Fin.ext (by show 64 * g.val + d.val = g.val * 64 + d.val; omega))
  · rw [dif_neg h, dif_neg h, own_read m c t, V_kv, dif_pos (by show 64 * g.val + d.val < 128; omega)]
    exact congrArg (fun x => inK m c (ix2 _ x)) (Fin.ext (by show 64 * g.val + d.val = g.val * 64 + d.val; omega))

theorem given_vv (g : Fin 2) (l : Fin 256) (d : Fin 64) :
    (given m c t).vv g (ix2 l d) = keyAt (inV m c) ⟨t.val, lt_N t⟩ g l d := by
  unfold given both k0_pay6
  dsimp only
  simp only [View.readAt_eq_ld, Memref.IsWhole.read_unread]
  pointwise
  unfold keyAt
  by_cases h : l.val < 128
  · rw [dif_pos h, dif_pos h, before_read m c t, V_kv, dif_neg (by show ¬ 64 * (g.val + 2) + d.val < 128; omega)]
    exact congrArg (fun x => inV m c (ix2 _ x)) (Fin.ext (by show 64 * (g.val + 2) + d.val - 128 = g.val * 64 + d.val; omega))
  · rw [dif_neg h, dif_neg h, own_read m c t, V_kv, dif_neg (by show ¬ 64 * (g.val + 2) + d.val < 128; omega)]
    exact congrArg (fun x => inV m c (ix2 _ x)) (Fin.ext (by show 64 * (g.val + 2) + d.val - 128 = g.val * 64 + d.val; omega))

theorem given_s (g : Fin 2) (r : Fin 8) : (given m c t).s (head g r) = sinkAt (inS m c) g r := by
  unfold given sinkAt
  dsimp only
  simp only [View.readAt_eq_ld, Memref.IsWhole.read_unread]
  rw [← s_read m c t]
  refine congrArg (iblk m c 3 t) (funext fun a => Fin.ext ?_)
  match a with
  | ⟨0, _⟩ => exact (Nat.add_zero _ : (head g r).val + 1 * 0 = _)

theorem given_valid (l : Fin 256) (b : Fin 128) : (given m c t).valid (ix2 b l) = if Seen ⟨t.val, lt_N t⟩ b l then 1#1 else 0#1 := by
  unfold given k0_pay4 k0_pay3
  dsimp only
  rw [coords0 t]
  pointwise
  rw [near, there ⟨t.val, lt_N t⟩ l, andi_ite]
  rfl

theorem dist_at (b : Fin 128) (l : Fin 256) : k0_pay5 (F := Ideal) (ix2 b l) = dist b l := by
  rw [Cert.Swa.dist_eq]
  unfold k0_pay5 k0_pay3
  pointwise

theorem score_eq (g : Fin 2) (r : Fin 8) (b : Fin 128) :
    (given m c t).scoreRow g r b = scoreAt (inQ m c) (inK m c) ⟨t.val, lt_N t⟩ g r b := by
  funext l
  rw [Given.sc_at, given_valid m c t, dist_at]
  unfold scoreAt
  simp only [given_kk m c t, given_q m c t]
  by_cases h : Seen ⟨t.val, lt_N t⟩ b l
  · rw [if_pos h, if_pos h, Finset.sum_congr rfl fun x _ => mul_comm _ _]; rfl
  · rw [if_neg h, if_neg h]; rfl

/-! ## The array -/

/-- An output: the values weighted by the probabilities. -/
def outAt (q : Vec Ideal S4096x1024 .f32) (k v : Vec Ideal S4096x128 .f32) (s : Vec Ideal S16 .f32)
    (n : Fin 32) (g : Fin 2) (r : Fin 8) (b : Fin 128) (d : Fin 64) : EReal := ∑ l : Fin 256, pAt q k s n g r b l * keyAt v n g l d

/-- All of them. -/
def outOf (q : Vec Ideal S4096x1024 .f32) (k v : Vec Ideal S4096x128 .f32) (s : Vec Ideal S16 .f32) : Vec Ideal S4096x1024 .bf16 := fun y =>
  have h0 : (y 0).val < 4096 := (y 0).isLt
  have h1 : (y 1).val < 1024 := (y 1).isLt
  outAt q k v s ⟨(y 0).val / 128, by omega⟩ ⟨(y 1).val / 512, by omega⟩ ⟨(y 1).val / 64 % 8, by omega⟩ ⟨(y 0).val % 128, by omega⟩
    ⟨(y 1).val % 64, by omega⟩
theorem outOf_at (q : Vec Ideal S4096x1024 .f32) (k v : Vec Ideal S4096x128 .f32) (s : Vec Ideal S16 .f32) (i : Fin 4096) (j : Fin 1024) :
    outOf q k v s (ix2 i j) = outAt q k v s ⟨i.val / 128, by omega⟩ ⟨j.val / 512, by omega⟩ ⟨j.val / 64 % 8, by omega⟩ ⟨i.val % 128, by omega⟩
      ⟨j.val % 64, by omega⟩ := rfl

theorem oh_eq (g : Fin 2) (r : Fin 8) (b : Fin 128) (d : Fin 64) : (given m c t).oh g r (ix2 b d)
    = outAt (inQ m c) (inK m c) (inV m c) (inS m c) ⟨t.val, lt_N t⟩ g r b d := by
  rw [Given.oh_at]
  unfold outAt pAt
  simp only [score_eq m c t, given_s m c t, given_vv m c t]

abbrev outA : Vec Ideal S4096x1024 .bf16 := outOf (inQ m c) (inK m c) (inV m c) (inS m c)

theorem left : outsAt0 m c t = headsOf (given m c t).o := by
  unfold outsAt0 out0_A_4
  rw [View.read_writes_junk_eq_canon, pieces]
  exact funext (canon_heads _)

theorem block (i : Fin 128) (j : Fin 1024) :
    outsAt0 m c t (ix2 i j) = outA m c (ix2 ⟨t.val * 128 + i.val, by have := lt_N t; omega⟩ j) := by
  have ht := lt_N t
  rw [left]
  show (given m c t).oh ⟨(j.val / 64) / 8, _⟩ ⟨(j.val / 64) % 8, _⟩ (ix2 i ⟨j.val % 64, _⟩) = _
  rw [oh_eq m c t, outA, outOf_at]
  have e1 : (⟨(j.val / 64) / 8, by omega⟩ : Fin 2) = ⟨j.val / 512, by omega⟩ := Fin.ext (by show j.val / 64 / 8 = j.val / 512; omega)
  have e2 : (⟨(t.val * 128 + i.val) / 128, by omega⟩ : Fin 32) = ⟨t.val, ht⟩ := Fin.ext (by show (t.val * 128 + i.val) / 128 = t.val; omega)
  have e3 : (⟨(t.val * 128 + i.val) % 128, by omega⟩ : Fin 128) = i := Fin.ext (by show (t.val * 128 + i.val) % 128 = i.val; omega)
  rw [e1, e2, e3]

theorem array : (dats m 0 c).arrAt 4 cfg0.N = outA m c := by
  refine (dats m 0 c).arrAt_eq_of_covers 4 _ (by decide +kernel) fun t hf y => ?_
  blk_simp
  rw [after0_4]
  idx_vars y
  have hN := lt_N t
  have e : (win0_4.blk t).view.emb (ix2 y0 y1) = (ix2 ⟨t.val * 128 + y0.val, by omega⟩ y1 : S4096x1024.Idx) := by
    blk_ext [idx4 t]
  exact (block m c t y0 y1).trans (congrArg (outA m c) e).symm

/-! ## The reference -/

section Reference
open Cert.Reference4Ideal.Read

variable {q : Vec Ideal S4096x1024 .f32} {k v : Vec Ideal S4096x128 .f32} {s : Vec Ideal S16 .f32}

theorem same_probs : val_main_v96 (F := Ideal) q k s = Cert.Reference2Ideal.Read.val_main_v121 (F := Ideal) q k s := by sl_kernel_rfl
theorem same_values : val_main_v12 (F := Ideal) v = Cert.Reference2Ideal.Read.val_main_v14 (F := Ideal) v := by sl_kernel_rfl

theorem ref_out (hq : Finite q) (hk : Finite k) (hs : Finite s) : val_main_v100 (F := Ideal) q k v s = outOf q k v s := by
  funext y
  idx_vars y
  rw [outOf_at]
  pointwise [val_main_v97, val_main_v98, val_main_v99, val_main_v100]
  rw [same_probs, same_values]
  unfold outAt
  refine Finset.sum_congr rfl fun l _ => ?_
  rw [prob_at hq hk hs, ref_value, mul_comm]
  by_cases h : Seen ⟨y0.val / 128, by omega⟩ ⟨y0.val % 128, by omega⟩ l
  · rw [seenKey, if_pos h.2]
  · have hz : Finite (fun _ => 0 : Vec Ideal S4096x128 .f32) := fun _ => ⟨0, EReal.coe_zero.symm⟩
    have hz' : Finite (fun _ => 0 : Vec Ideal S4096x1024 .f32) := fun _ => ⟨0, EReal.coe_zero.symm⟩
    have e := ((row_at hq hk hz hs hz' _ ⟨y1.val / 512, by omega⟩ ⟨y1.val / 64 % 8, by omega⟩ _).2.2.2.2.2.2.2 l (score_unseen _ _ _ _ l h)).1
    rw [e, zero_mul, zero_mul]

end Reference

/-! ## The precondition, and the value -/

/-- The precondition's side conditions. -/
theorem pre_facts : Cert.Pre_finite4.Facts where
  bcast_S_S4096x1024 := by decide
  reducesTo_S4096x1024_S_d0_1 := by decide
  h_S_ := by decide
  bcast_S_S4096x128 := by decide
  reducesTo_S4096x128_S_d0_1 := by decide
  bcast_S_S16 := by decide
  reducesTo_S16_S_d0 := by decide

/-- The precondition: every entry of every argument is a real. -/
theorem finite_of_pre [Cert.Pre_finite4.Facts] (q : Vec Ideal Cert.Pre_finite4.S4096x1024 .f32) (k v : Vec Ideal Cert.Pre_finite4.S4096x128 .f32)
    (s : Vec Ideal Cert.Pre_finite4.S16 .f32)
    (h : Cert.Pre_finite4.fn (F := Ideal) q k v s = fun _ => 1#1) : Finite q ∧ Finite k ∧ Finite v ∧ Finite s := by
  have h := congrFun h ix0
  unfold Cert.Pre_finite4.fn Cert.Pre_finite4.fn_part1 at h
  dsimp only at h
  obtain ⟨h, h3⟩ := andi_left h
  obtain ⟨h, h2⟩ := andi_left h
  obtain ⟨h0, h1⟩ := andi_left h
  haveI : Subsingleton Cert.Pre_finite4.S_.Idx := ⟨fun a b => funext fun i => i.elim0⟩
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i), fun i => real_of_lt _ (Host.reduce_andi_all _ _ _ _ _ h3 i)⟩

theorem four {A B C D R : Type*} (f : A → B → C → D → R) {a a' : A} {b b' : B} {c c' : C} {d d' : D}
    (h0 : a = a') (h1 : b = b') (h2 : c = c') (h3 : d = d') : f a b c d = f a' b' c' d' := by rw [h0, h1, h2, h3]

/-- Of finite arguments kernel and reference leave the same array. -/
theorem equal : Cert.algebraic_Kernel4Ideal_Reference4Ideal_pre_finite4 (hPre_finite4 := pre_facts) := by
  haveI := pre_facts
  intro m g m' g' hpre hagree
  refine ⟨fun c => outA m c, ?_, ?_⟩
  · exact (θ_run _ _ _).mono (fun r h c => ⟨(h c).1.trans (array m c), (h c).2⟩) (Cert.Kernel4Ideal.Value.run_blocks (F := Ideal) m g)
  · refine (θ_run _ _ _).mono (fun r h c => ?_) (Cert.Reference4Ideal.Value.run (F := Ideal) m' g')
    obtain ⟨e0, e1, e2, e3⟩ := hagree c
    obtain ⟨hq, hk, hv, hs⟩ := finite_of_pre _ _ _ _ (hpre c)
    refine ⟨(h c).1.trans ((Cert.Reference4Ideal.Read.val_main_v100_eq ..).trans ?_), (h c).2⟩
    exact (four (Cert.Reference4Ideal.Read.val_main_v100 (F := Ideal)) e0 e1 e2 e3).trans (ref_out hq hk hs)

end Cert.Fwd

end
-- ==== Proof.NormRow.lean ====
/-
  One row of a layer norm over 1024 channels and its backward pass. The kernels write the backward pass in one line from the
  normalised row; the derivative taken mechanically goes through the mean and the variance. On reals the two are equal.
-/
module

public import proofs.«01_k».proof.Proof.SwaRow

@[expose] public section

noncomputable section

namespace Cert.Norm

open Idealize.ShloMosaic

/-- The number of channels, the number added to the variance, and the minus one half the derivative of `rsqrt` brings. -/
abbrev width : EReal := Ideal.ofBits .f32 1149239296#32
abbrev small : EReal := Ideal.ofBits .f32 925353388#32

/-! ## The row as the kernels write it -/

section Row
variable (x : Fin 1024 → EReal) (d h : Fin 1024 → EReal) (s : EReal)

/-- A row's mean, the row less it, -/
def mean : EReal := Ideal.div (∑ j, x j) width
def cen (j : Fin 1024) : EReal := x j - mean x
/-- the reciprocal of its deviation and the row normalised. -/
def rstd : EReal := Ideal.rsqrt (mean (fun j => cen x j * cen x j) + small)
def hat (j : Fin 1024) : EReal := cen x j * rstd x
/-- The gradient of the row, from the gradient `d` of the normalised row `h` and the reciprocal `s` of the deviation. -/
def back (j : Fin 1024) : EReal := s * (d j - mean d - h j * mean (fun j => d j * h j))

/-! ## The row as the mechanical derivative writes it -/

/-- The gradient with respect to the centred row's square, to the centred row, and to the row. -/
def gVar : EReal := (∑ j, cen x j * d j) * (Ideal.ofBits .f32 3204448256#32 * Ideal.div (rstd x) (mean (fun j => cen x j * cen x j) + small))
def gSq (j : Fin 1024) : EReal := Ideal.div (gVar x d) width * (Ideal.ofBits .f32 1073741824#32 * cen x j)
def gRow (j : Fin 1024) : EReal :=
  d j * rstd x + gSq x d j + Ideal.div ((∑ k, -(d k * rstd x)) + ∑ k, -(gSq x d k)) width

end Row

/-! ## The two are equal on reals -/

theorem width_eq : width = ((1024 : ℝ) : EReal) := by
  simp [width, Ideal.ofBits, Ideal.ieee, -EReal.coe_mul]; norm_num
theorem small_pos : ∃ e : ℝ, small = (e : EReal) ∧ 0 < e := by
  refine ⟨(10995116 : ℝ) * 2 ^ (-40 : ℤ), ?_, by positivity⟩
  simp [small, Ideal.ofBits, Ideal.ieee, -EReal.coe_mul]
theorem half_eq : Ideal.ofBits .f32 3204448256#32 = ((-1 / 2 : ℝ) : EReal) := by
  simp [Ideal.ofBits, Ideal.ieee, -EReal.coe_mul]; norm_num
theorem two_eq : Ideal.ofBits .f32 1073741824#32 = ((2 : ℝ) : EReal) := by
  simp [Ideal.ofBits, Ideal.ieee, -EReal.coe_mul]; norm_num

theorem div_width (a : ℝ) : Ideal.div (a : EReal) width = ((a / 1024 : ℝ) : EReal) := by
  rw [width_eq, Ideal.div_coe (by norm_num), ← EReal.coe_mul]; congr 1; ring

/-- The real row: its mean, the centred row, the variance with the small number, the reciprocal of the deviation. -/
def rmean (x : Fin 1024 → ℝ) : ℝ := (∑ j, x j) / 1024
def rcen (x : Fin 1024 → ℝ) (j : Fin 1024) : ℝ := x j - rmean x

theorem mean_coe (x : Fin 1024 → ℝ) : mean (fun j => (x j : EReal)) = (rmean x : EReal) := by
  unfold mean rmean; rw [Cert.Swa.sum_coe, div_width]
theorem cen_coe (x : Fin 1024 → ℝ) (j : Fin 1024) : cen (fun j => (x j : EReal)) j = (rcen x j : EReal) := by
  unfold cen rcen; rw [mean_coe, ← EReal.coe_sub]

/-- The variance with the small number is a positive real. -/
theorem var_coe (x : Fin 1024 → ℝ) : ∃ z : ℝ, 0 < z ∧
    mean (fun j => cen (fun j => (x j : EReal)) j * cen (fun j => (x j : EReal)) j) + small = (z : EReal) := by
  obtain ⟨e, he, hp⟩ := small_pos
  refine ⟨rmean (fun j => rcen x j * rcen x j) + e, ?_, ?_⟩
  · have : 0 ≤ rmean (fun j => rcen x j * rcen x j) :=
      div_nonneg (Finset.sum_nonneg fun j _ => mul_self_nonneg _) (by norm_num)
    linarith
  · rw [EReal.coe_add, ← mean_coe, he]
    simp only [cen_coe, EReal.coe_mul]

theorem rsqrt_pos {z : ℝ} (h : 0 < z) : Ideal.rsqrt (z : EReal) = (((Real.sqrt z)⁻¹ : ℝ) : EReal) := by
  rw [Ideal.rsqrt_coe, if_neg (not_lt.mpr h.le), if_neg h.ne']

/-- The centred row sums to zero. -/
theorem sum_rcen (x : Fin 1024 → ℝ) : ∑ j, rcen x j = 0 := by
  simp only [rcen, rmean, Finset.sum_sub_distrib, Finset.sum_const, Finset.card_univ, Fintype.card_fin, nsmul_eq_mul]
  push_cast; ring

/-- The reciprocal of the deviation is real, the normalised row too. -/
theorem rstd_real (x : Fin 1024 → ℝ) : ∃ s : ℝ, rstd (fun j => (x j : EReal)) = (s : EReal) := by
  obtain ⟨z, hz, h⟩ := var_coe x
  exact ⟨_, by unfold rstd; rw [h, rsqrt_pos hz]⟩
theorem hat_real (x : Fin 1024 → ℝ) (j : Fin 1024) : ∃ s : ℝ, hat (fun j => (x j : EReal)) j = (s : EReal) := by
  unfold hat; rw [cen_coe]; exact Cert.Swa.mul_real ⟨_, rfl⟩ (rstd_real x)

/-- The derivative taken mechanically is the kernels' line. -/
theorem gRow_coe (x d : Fin 1024 → ℝ) (j : Fin 1024) :
    gRow (fun j => (x j : EReal)) (fun j => (d j : EReal)) j
      = back (fun j => (d j : EReal)) (hat fun j => (x j : EReal)) (rstd fun j => (x j : EReal)) j := by
  obtain ⟨z, hz, hv⟩ := var_coe x
  have hr : rstd (fun j => (x j : EReal)) = (((Real.sqrt z)⁻¹ : ℝ) : EReal) := by unfold rstd; rw [hv, rsqrt_pos hz]
  have hh : ∀ j, hat (fun j => (x j : EReal)) j = ((rcen x j * (Real.sqrt z)⁻¹ : ℝ) : EReal) := fun j => by
    unfold hat; rw [hr, cen_coe, EReal.coe_mul]
  set s : ℝ := (Real.sqrt z)⁻¹ with hs
  have ss : s * s = 1 / z := by rw [hs, ← mul_inv, Real.mul_self_sqrt hz.le, one_div]
  have hg : gVar (fun j => (x j : EReal)) (fun j => (d j : EReal)) = (((∑ j, rcen x j * d j) * (-1 / 2 * (s * (1 / z))) : ℝ) : EReal) := by
    unfold gVar
    rw [hv, hr, half_eq, Ideal.div_coe hz.ne']
    simp only [cen_coe, ← EReal.coe_mul, Cert.Swa.sum_coe]
  have hq : ∀ j, gSq (fun j => (x j : EReal)) (fun j => (d j : EReal)) j
      = (((∑ j, rcen x j * d j) * (-1 / 2 * (s * (1 / z))) / 1024 * (2 * rcen x j) : ℝ) : EReal) := fun j => by
    unfold gSq; rw [hg, div_width, two_eq, cen_coe, ← EReal.coe_mul, ← EReal.coe_mul]
  unfold gRow back
  simp only [hq, hh, hr, ← EReal.coe_mul, ← EReal.coe_neg, Cert.Swa.sum_coe, ← EReal.coe_add, mean_coe, div_width, ← EReal.coe_sub]
  congr 1
  have e1 : ∑ k, -(d k * s) = -(s * ∑ k, d k) := by rw [Finset.sum_neg_distrib, Finset.mul_sum]; simp only [mul_comm]
  have e2 : ∑ k, -((∑ j, rcen x j * d j) * (-1 / 2 * (s * (1 / z))) / 1024 * (2 * rcen x k)) = 0 := by
    rw [Finset.sum_neg_distrib, ← Finset.mul_sum, ← Finset.mul_sum, sum_rcen]; ring
  have e3 : rmean (fun j => d j * (rcen x j * s)) = s * (∑ j, rcen x j * d j) / 1024 := by
    unfold rmean; rw [Finset.mul_sum]; congr 1; exact Finset.sum_congr rfl fun k _ => by ring
  rw [e1, e2, e3, ← ss]
  unfold rmean
  ring

/-- So for rows whose terms are all real. -/
theorem gRow_eq (x d : Fin 1024 → EReal) (hx : ∀ j, ∃ r : ℝ, x j = r) (hd : ∀ j, ∃ r : ℝ, d j = r) (j : Fin 1024) :
    gRow x d j = back d (hat x) (rstd x) j := by
  choose a ha using hx
  choose b hb using hd
  obtain rfl : x = fun j => (a j : EReal) := funext ha
  obtain rfl : d = fun j => (b j : EReal) := funext hb
  exact gRow_coe a b j

theorem hat_eq_real (x : Fin 1024 → EReal) (hx : ∀ j, ∃ r : ℝ, x j = r) (j : Fin 1024) : ∃ r : ℝ, hat x j = r := by
  choose a ha using hx
  obtain rfl : x = fun j => (a j : EReal) := funext ha
  exact hat_real a j

end Cert.Norm
-- ==== Proof.RowStore.lean ====
/-
  Stores of single rows into an eight-row accumulator, read back at an entry.
-/
module

public import Idealize.ShloMosaic.Lib.Pipeline.ValueKit
public import Idealize.ShloMosaic.Lib.Pipeline.ReadBack
public import Idealize.ShloMosaic.Lib.Pointwise

@[expose] public section

noncomputable section

namespace Cert.Row

open Idealize.ShloMosaic Idealize.ShloMosaic.TcCoe Idealize.SL.Sem

variable {sig : RefSig}

/-- The accumulator's shape and a row's. -/
abbrev Acc : Shape := ⟨2, ![8, 1024]⟩
abbrev One : Shape := ⟨2, ![1, 1024]⟩

/-- A row's store read at that row is the row stored, … -/
theorem hit (v : View sig .tc .vmem Acc .f32) (f : v.ty.Contents (Elt Ideal)) (k : ℕ) (h)
    (w : Vec Ideal One .f32) (L : List (View.Piece (Elt Ideal) Acc .f32)) (r : Fin 8) (j : Fin 1024) (hk : r.val = k) :
    v.read (Elt Ideal) (v.writes (Elt Ideal) f (⟨Rect.unit ![k, 0] ![1, 1024] h, w⟩ :: L)) (ix2 r j) = w (ix2 0 j) := by
  have e : (ix2 r j : Acc.Idx) = (Rect.unit (s := Acc) ![k, 0] ![1, 1024] h).emb (ix2 0 j) := funext fun a => Fin.ext (by
    match a with
    | ⟨0, _⟩ => show r.val = k + 1 * 0; omega
    | ⟨1, _⟩ => show j.val = 0 + 1 * j.val; omega)
  rw [View.read_writes_apply_eq_canon v f _ _ ⟨_, List.mem_cons_self .., by rw [e, ← Rect.map_emb_univ]; exact Finset.mem_map_of_mem _ (Finset.mem_univ _)⟩, e, View.canon_cons_emb]

/-- … and read at another row it is what was there before. -/
theorem miss (v : View sig .tc .vmem Acc .f32) (f : v.ty.Contents (Elt Ideal)) (k : ℕ) (h)
    (w : Vec Ideal One .f32) (L : List (View.Piece (Elt Ideal) Acc .f32)) (r : Fin 8) (j : Fin 1024) (hk : r.val ≠ k) :
    v.read (Elt Ideal) (v.writes (Elt Ideal) f (⟨Rect.unit ![k, 0] ![1, 1024] h, w⟩ :: L)) (ix2 r j) =
      v.read (Elt Ideal) (v.writes (Elt Ideal) f L) (ix2 r j) := by
  have hy : (ix2 r j : Acc.Idx) ∉ (Rect.unit (s := Acc) ![k, 0] ![1, 1024] h).set := fun hm => by
    have h0 := (Rect.mem_set_unit.mp hm) 0
    have h1 : k ≤ r.val := h0.1
    have h2 : r.val < k + 1 := h0.2
    omega
  rw [View.writes_cons, View.read_slice_write_of_not_mem _ _ _ _ (by rwa [Rect.map_emb_univ])]

/-- A store over the whole accumulator is what it reads. -/
theorem fill (v : View sig .tc .vmem Acc .f32) (f : v.ty.Contents (Elt Ideal)) (h)
    (w : Vec Ideal Acc .f32) (L : List (View.Piece (Elt Ideal) Acc .f32)) (r : Fin 8) (j : Fin 1024) :
    v.read (Elt Ideal) (v.writes (Elt Ideal) f (⟨Rect.unit ![0, 0] ![8, 1024] h, w⟩ :: L)) (ix2 r j) = w (ix2 r j) := by
  have e : (ix2 r j : Acc.Idx) = (Rect.unit (s := Acc) ![0, 0] ![8, 1024] h).emb (ix2 r j) := funext fun a => Fin.ext (by
    match a with
    | ⟨0, _⟩ => show r.val = 0 + 1 * r.val; omega
    | ⟨1, _⟩ => show j.val = 0 + 1 * j.val; omega)
  rw [View.read_writes_apply_eq_canon v f _ _ ⟨_, List.mem_cons_self .., by rw [e, ← Rect.map_emb_univ]; exact Finset.mem_map_of_mem _ (Finset.mem_univ _)⟩]
  conv_lhs => rw [e]
  rw [View.canon_cons_emb]

end Cert.Row

end
-- ==== Proof.LossBlock.lean ====
/-
  THE FEED-FORWARD, THE SECOND LAYER NORM AND THE LOSS: WHAT ONE GRID POINT COMPUTES. A point holds 512 rows of the MLP's input, of
  the normalised residual and of the target, and the whole of both weights. It runs the hidden layer in eight chunks of 512
  units, normalises, takes the loss and goes back to the gradient of the residual in one pass.
-/
module

public import proofs.«01_k».proof.Proof.Gen.Kernel5Ideal.Value
public import proofs.«01_k».proof.Proof.NormRow
public import proofs.«01_k».proof.Proof.RowStore
public import proofs.«01_k».proof.Proof.MlpBlock
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Loss

open Cert.Kernel5Ideal Cert.Kernel5Ideal.Gen Idealize.ShloMosaic Idealize.ShloMosaic.TcCoe Idealize.SL.Sem
open Idealize.ShloMosaic.Pipeline (Dat)
open Cert.Norm

/-! ## The formulas over one tile -/

section Tile
variable (x0 : Vec Ideal S512x1024 .bf16) (x1 : Vec Ideal S1024x4096 .bf16) (x2 : Vec Ideal S4096x1024 .bf16)
  (x3 x4 : Vec Ideal S512x1024 .f32) (x5 : Vec Ideal S8x1024 .f32) (x6 : Vec Ideal S1x4096 .f32)

/-- The hidden units and the feed-forward's output. -/
def relu (r : Fin 512) (l : Fin 4096) : EReal := max (∑ k : Fin 1024, x0 (ix2 r k) * x1 (ix2 k l) + x6 (ix2 0 l)) 0
def hid (r : Fin 512) (j : Fin 1024) : EReal :=
  x5 (ix2 5 j) + ∑ l : Fin 4096, relu x0 x1 x6 r l * relu x0 x1 x6 r l * x2 (ix2 l j)
/-- The residual, from a row of feed-forward's output. -/
def resOf (v f : Fin 1024 → EReal) (a b g : Fin 1024 → EReal) (j : Fin 1024) : EReal :=
  Ideal.ofBits .f32 0x3F9837F0#32 * (v j * a j + b j) + (1 + g j) * f j
def res (r : Fin 512) : Fin 1024 → EReal :=
  resOf (fun j => x3 (ix2 r j)) (hid x0 x1 x2 x5 x6 r) (fun j => x5 (ix2 0 j)) (fun j => x5 (ix2 1 j)) (fun j => x5 (ix2 2 j))
/-- The error, its gradient, and the gradient of the normalised row. -/
def err (r : Fin 512) (j : Fin 1024) : EReal := hat (res x0 x1 x2 x3 x5 x6 r) j * x5 (ix2 3 j) + x5 (ix2 4 j) - x4 (ix2 r j)
def dy (r : Fin 512) (j : Fin 1024) : EReal := err x0 x1 x2 x3 x4 x5 x6 r j * Ideal.ofBits .f32 0x3A800000#32
def dx (r : Fin 512) (j : Fin 1024) : EReal := dy x0 x1 x2 x3 x4 x5 x6 r j * x5 (ix2 3 j)
/-- The gradient of the residual. -/
def dr (r : Fin 512) : Fin 1024 → EReal :=
  back (dx x0 x1 x2 x3 x4 x5 x6 r) (hat (res x0 x1 x2 x3 x5 x6 r)) (rstd (res x0 x1 x2 x3 x5 x6 r))
/-- What a point adds to the three rows of sums and to the loss. -/
def part (k : Fin 8) (j : Fin 1024) : EReal :=
  if k.val = 0 then ∑ r : Fin 512, dy x0 x1 x2 x3 x4 x5 x6 r j * hat (res x0 x1 x2 x3 x5 x6 r) j
  else if k.val = 1 then ∑ r : Fin 512, dy x0 x1 x2 x3 x4 x5 x6 r j
  else if k.val = 2 then ∑ r : Fin 512, dr x0 x1 x2 x3 x4 x5 x6 r j * hid x0 x1 x2 x5 x6 r j
  else 0
def lossPart : EReal :=
  Ideal.ofBits .f32 0x3F000000#32 * ∑ r : Fin 512, mean fun j => err x0 x1 x2 x3 x4 x5 x6 r j * err x0 x1 x2 x3 x4 x5 x6 r j

/-- A sum over the hidden units chunk by chunk. -/
theorem sum_chunks (a : EReal) (f : Fin 4096 → EReal) :
    a + ∑ x : Fin 512, f ⟨x.val, by omega⟩ + ∑ x : Fin 512, f ⟨512 + x.val, by omega⟩ + ∑ x : Fin 512, f ⟨1024 + x.val, by omega⟩
      + ∑ x : Fin 512, f ⟨1536 + x.val, by omega⟩ + ∑ x : Fin 512, f ⟨2048 + x.val, by omega⟩ + ∑ x : Fin 512, f ⟨2560 + x.val, by omega⟩
      + ∑ x : Fin 512, f ⟨3072 + x.val, by omega⟩ + ∑ x : Fin 512, f ⟨3584 + x.val, by omega⟩ = a + ∑ l, f l := by
  rw [← Fin.sum_mul_add_fin (S := 8) (n := 512) (f := f)]
  simp only [Fin.sum_univ_castSucc (n := 7), Fin.sum_univ_castSucc (n := 6), Fin.sum_univ_castSucc (n := 5), Fin.sum_univ_castSucc (n := 4),
    Fin.sum_univ_castSucc (n := 3), Fin.sum_univ_castSucc (n := 2), Fin.sum_univ_castSucc (n := 1), Fin.sum_univ_castSucc (n := 0), Fin.sum_univ_zero]
  simp only [Fin.val_castSucc, Fin.val_last, Nat.reduceMul, Nat.zero_mul, zero_add, ← add_assoc]

set_option maxHeartbeats 2000000 in
/-- The feed-forward's output is what the last chunk leaves. -/
theorem hid_read (r : Fin 512) (j : Fin 1024) :
    k0_pay31 (F := Ideal)
      (k0_pay28 (k0_pay7 x0)
        (k0_pay23 (k0_pay7 x0)
          (k0_pay16 (k0_pay7 x0)
            (k0_pay10 x0 (View.ld x5 (Rect.unit ![5, 0] ![1, 1024] inb_S8x1024_S1x1024_5_0))
              (View.ld x1 (Rect.unit ![0, 0] ![1024, 512] inb_S1024x4096_S1024x512_0_0))
              (View.ld x6 (Rect.unit ![0, 0] ![1, 512] inb_S1x4096_S1x512_0_0))
              (View.ld x2 (Rect.unit ![0, 0] ![512, 1024] inb_S4096x1024_S512x1024_0_0)))
            (k0_pay11 x0 (View.ld x1 (Rect.unit ![0, 512] ![1024, 512] inb_S1024x4096_S1024x512_0_512))
              (View.ld x6 (Rect.unit ![0, 512] ![1, 512] inb_S1x4096_S1x512_0_512)))
            (View.ld x2 (Rect.unit ![512, 0] ![512, 1024] inb_S4096x1024_S512x1024_512_0))
            (View.ld x1 (Rect.unit ![0, 1024] ![1024, 512] inb_S1024x4096_S1024x512_0_1024))
            (View.ld x6 (Rect.unit ![0, 1024] ![1, 512] inb_S1x4096_S1x512_0_1024))
            (View.ld x2 (Rect.unit ![1024, 0] ![512, 1024] inb_S4096x1024_S512x1024_1024_0)))
          (k0_pay17 (k0_pay7 x0) (View.ld x1 (Rect.unit ![0, 1536] ![1024, 512] inb_S1024x4096_S1024x512_0_1536))
            (View.ld x6 (Rect.unit ![0, 1536] ![1, 512] inb_S1x4096_S1x512_0_1536)))
          k0_pay18 (View.ld x2 (Rect.unit ![1536, 0] ![512, 1024] inb_S4096x1024_S512x1024_1536_0))
          (View.ld x1 (Rect.unit ![0, 2048] ![1024, 512] inb_S1024x4096_S1024x512_0_2048))
          (View.ld x6 (Rect.unit ![0, 2048] ![1, 512] inb_S1x4096_S1x512_0_2048))
          (View.ld x2 (Rect.unit ![2048, 0] ![512, 1024] inb_S4096x1024_S512x1024_2048_0)))
        (k0_pay24 (k0_pay7 x0) (View.ld x1 (Rect.unit ![0, 2560] ![1024, 512] inb_S1024x4096_S1024x512_0_2560))
          (View.ld x6 (Rect.unit ![0, 2560] ![1, 512] inb_S1x4096_S1x512_0_2560)))
        (View.ld x2 (Rect.unit ![2560, 0] ![512, 1024] inb_S4096x1024_S512x1024_2560_0))
        (View.ld x1 (Rect.unit ![0, 3072] ![1024, 512] inb_S1024x4096_S1024x512_0_3072))
        (View.ld x6 (Rect.unit ![0, 3072] ![1, 512] inb_S1x4096_S1x512_0_3072))
        (View.ld x2 (Rect.unit ![3072, 0] ![512, 1024] inb_S4096x1024_S512x1024_3072_0)))
      (k0_pay29 (k0_pay7 x0) (View.ld x1 (Rect.unit ![0, 3584] ![1024, 512] inb_S1024x4096_S1024x512_0_3584))
        (View.ld x6 (Rect.unit ![0, 3584] ![1, 512] inb_S1x4096_S1x512_0_3584)))
      (View.ld x2 (Rect.unit ![3584, 0] ![512, 1024] inb_S4096x1024_S512x1024_3584_0)) (ix2 r j) = hid x0 x1 x2 x5 x6 r j := by
  unfold hid
  rw [← sum_chunks]
  unfold relu
  unfold_payloads
  pointwise

end Tile

/-! ## The later payloads, each over what goes into it -/

section Stages
variable (A : FVec Ideal S512x1024 .f32) (B : FVec Ideal S512x512 .f32) (C : Vec Ideal S512x1024 .bf16) (xh : Vec Ideal S512x1024 .f32)
  (a b g : Vec Ideal S1x1024 .f32) (h : FVec Ideal S512x1024 .f32) (t : Vec Ideal S512x1024 .f32) (q q' p : Vec Ideal S1x1024 .f32)

abbrev resid (r : Fin 512) : Fin 1024 → EReal :=
  resOf (fun j => xh (ix2 r j)) (fun j => k0_pay31 (F := Ideal) A B C (ix2 r j)) (fun j => a (ix2 0 j)) (fun j => b (ix2 0 j)) (fun j => g (ix2 0 j))

theorem pay32_at (r : Fin 512) (j : Fin 1024) : k0_pay32 (F := Ideal) A B C xh a b g (ix2 r j) = cen (resid A B C xh a b g r) j := by
  unfold k0_pay32 cen mean resid resOf width
  pointwise
theorem pay33_at (r : Fin 512) : k0_pay33 (F := Ideal) A B C xh a b g (ix2 r 0) = rstd (resid A B C xh a b g r) := by
  unfold k0_pay33 rstd mean width small
  simp only [← pay32_at]
  pointwise
theorem pay34_at (r : Fin 512) (j : Fin 1024) : k0_pay34 (F := Ideal) A B C xh a b g (ix2 r j) = hat (resid A B C xh a b g r) j := by
  unfold hat
  rw [← pay32_at, ← pay33_at]
  unfold k0_pay34
  pointwise
theorem pay35_at (r : Fin 512) (j : Fin 1024) : k0_pay35 (F := Ideal) h q p t (ix2 r j) = h (ix2 r j) * q (ix2 0 j) + p (ix2 0 j) - t (ix2 r j) := by
  unfold k0_pay35
  pointwise
theorem pay36_at (o : Vec Ideal S1x128 .f32) (j : Fin 128) : k0_pay36 (F := Ideal) h q p t o (ix2 0 j)
    = o (ix2 0 j) + Ideal.ofBits .f32 0x3F000000#32 * ∑ r : Fin 512, mean fun j => k0_pay35 (F := Ideal) h q p t (ix2 r j) * k0_pay35 (F := Ideal) h q p t (ix2 r j) := by
  unfold k0_pay36 mean width
  pointwise
  exact congrArg (fun z => o (ix2 0 j) + Ideal.ofBits .f32 0x3F000000#32 * z) (Finset.sum_congr rfl fun r _ => Fin.sum_univ_one _)
theorem pay37_at (r : Fin 512) (j : Fin 1024) : k0_pay37 (F := Ideal) h q p t (ix2 r j)
    = k0_pay35 (F := Ideal) h q p t (ix2 r j) * Ideal.ofBits .f32 0x3A800000#32 := by
  unfold k0_pay37
  pointwise
theorem pay38_at (r : Fin 512) (j : Fin 1024) : k0_pay38 (F := Ideal) h q p t q' (ix2 r j) = k0_pay37 (F := Ideal) h q p t (ix2 r j) * q' (ix2 0 j) := by
  unfold k0_pay38
  pointwise
theorem pay39_at (r : Fin 512) (j : Fin 1024) : k0_pay39 (F := Ideal) h q p t q' (ix2 r j)
    = k0_pay38 (F := Ideal) h q p t q' (ix2 r j) - mean fun j => k0_pay38 (F := Ideal) h q p t q' (ix2 r j) := by
  unfold k0_pay39 mean width
  pointwise
theorem pay40_at (r : Fin 512) : k0_pay40 (F := Ideal) h q p t q' (ix1 r) = ∑ j : Fin 1024, k0_pay38 (F := Ideal) h q p t q' (ix2 r j) * h (ix2 r j) := by
  unfold k0_pay40
  pointwise
variable (s : FVec Ideal S512x1 .f32) (d : FVec Ideal S512x1024 .f32) (e : FVec Ideal S512 .f32) (f : FVec Ideal S512x1024 .f32)
theorem pay1_at (r : Fin 512) (j : Fin 1024) : k0_pay1 (F := Ideal) s h d e (ix2 r j)
    = s (ix2 r 0) * (d (ix2 r j) - h (ix2 r j) * Ideal.div (e (ix1 r)) width) := by
  unfold k0_pay1 width
  pointwise
theorem pay2_at (j : Fin 1024) : k0_pay2 (F := Ideal) h d p (ix2 0 j) = p (ix2 0 j) + ∑ r : Fin 512, d (ix2 r j) * h (ix2 r j) := by
  unfold k0_pay2
  pointwise
theorem pay3_at (j : Fin 1024) : k0_pay3 (F := Ideal) d p (ix2 0 j) = p (ix2 0 j) + ∑ r : Fin 512, d (ix2 r j) := by
  unfold k0_pay3
  pointwise
theorem pay4_at (j : Fin 1024) : k0_pay4 (F := Ideal) f s h d e p (ix2 0 j)
    = p (ix2 0 j) + ∑ r : Fin 512, k0_pay1 (F := Ideal) s h d e (ix2 r j) * f (ix2 r j) := by
  unfold k0_pay4
  pointwise

end Stages

/-- A row of the stack of vectors. -/
def row (x : Vec Ideal S8x1024 .f32) (k : Fin 8) : Vec Ideal S1x1024 .f32 := fun y => x (ix2 k (y 1))

theorem ld_row (x : Vec Ideal S8x1024 .f32) (k : Fin 8) (hin) :
    View.ld x (Rect.unit ![k.val, 0] ![1, 1024] hin) = row x k := by
  funext y
  refine congrArg x (funext fun i => Fin.ext ?_)
  match i with
  | ⟨0, _⟩ => show k.val + 1 * (y 0).val = k.val; have : (y 0).val < 1 := (y 0).isLt; omega
  | ⟨1, _⟩ => show 0 + 1 * (y 1).val = (y 1).val; omega
theorem ld_row0 (x : Vec Ideal S8x1024 .f32) (hin) : View.ld x (Rect.unit ![0, 0] ![1, 1024] hin) = row x 0 := ld_row x 0 hin
theorem ld_row1 (x : Vec Ideal S8x1024 .f32) (hin) : View.ld x (Rect.unit ![1, 0] ![1, 1024] hin) = row x 1 := ld_row x 1 hin
theorem ld_row2 (x : Vec Ideal S8x1024 .f32) (hin) : View.ld x (Rect.unit ![2, 0] ![1, 1024] hin) = row x 2 := ld_row x 2 hin
theorem ld_row3 (x : Vec Ideal S8x1024 .f32) (hin) : View.ld x (Rect.unit ![3, 0] ![1, 1024] hin) = row x 3 := ld_row x 3 hin
theorem ld_row4 (x : Vec Ideal S8x1024 .f32) (hin) : View.ld x (Rect.unit ![4, 0] ![1, 1024] hin) = row x 4 := ld_row x 4 hin

variable (m : (ℓ : Loc nD τ sig) → Buf (Elt Ideal) ℓ)

set_option maxHeartbeats 2000000 in
/-- The gradient of the residual after any point. -/
theorem dr_block (c : Dev nD) (t : Fin cfg0.N) (r : Fin 512) (j : Fin 1024) :
    (outsAt0 m c t.val t.isLt).2.1 (ix2 r j)
      = dr (iblk m c 0 t) (iblk m c 1 t) (iblk m c 2 t) (iblk m c 3 t) (iblk m c 4 t) (iblk m c 5 t) (iblk m c 6 t) r j := by
  by_cases h : t.val % 8 = 0
  · rw [outsAt0_A m c t h]
    frame_open
    simp (disch := decide) only [View.read_writes_junk_eq_canon, View.canon_cons_unit_lit', View.readAt_eq_ld, View.ld_unit_lit', Memref.IsWhole.read_unread]
    simp only [pay1_at, pay33_at, pay34_at, pay35_at, pay37_at, pay38_at, pay39_at, pay40_at, resid, hid_read]
    rw [ld_row0, ld_row1, ld_row2, ld_row3, ld_row4]
    unfold dr back dx dy err res mean
    rfl
  · rw [outsAt0_B m c t h]
    frame_open
    simp (disch := decide) only [View.read_writes_junk_eq_canon, View.canon_cons_unit_lit', View.readAt_eq_ld, View.ld_unit_lit', Memref.IsWhole.read_unread]
    simp only [pay1_at, pay33_at, pay34_at, pay35_at, pay37_at, pay38_at, pay39_at, pay40_at, resid, hid_read]
    rw [ld_row0, ld_row1, ld_row2, ld_row3, ld_row4]
    unfold dr back dx dy err res mean
    rfl

set_option maxHeartbeats 1000000 in
/-- The sums after a point that is not the first. -/
theorem acc_later (c : Dev nD) (t : Fin cfg0.N) (h : ¬ t.val % 8 = 0) (k : Fin 8) (j : Fin 1024) :
    (outsAt0 m c t.val t.isLt).2.2.1 (ix2 k j)
      = (outsAt0 m c (t.val - 1) (Nat.lt_of_le_of_lt (Nat.sub_le _ _) t.isLt)).2.2.1 (ix2 k j)
        + part (iblk m c 0 t) (iblk m c 1 t) (iblk m c 2 t) (iblk m c 3 t) (iblk m c 4 t) (iblk m c 5 t) (iblk m c 6 t) k j := by
  rw [outsAt0_B m c t h]
  generalize outsAt0 m c (t.val - 1) (Nat.lt_of_le_of_lt (Nat.sub_le _ _) t.isLt) = P
  frame_open
  simp (disch := decide) only [↓ View.readCov_skip, ↓ View.readCov_cons_toLoadRect, ↓ View.readCov_fill]
  unfold part
  fin_cases k
  all_goals
    simp (disch := decide) only [↓ Cert.Row.hit, ↓ Cert.Row.miss, ↓ Cert.Row.fill]
    simp (maxSteps := 2000000) (disch := decide) only [View.readAt_eq_ld, View.ld_unit_lit', Memref.IsWhole.read_unread,
      Nat.reduceEqDiff, ↓reduceIte, View.writes_nil, add_zero]
  all_goals
    simp only [pay2_at, pay3_at, pay4_at, pay1_at, pay33_at, pay34_at, pay35_at, pay37_at, pay38_at, pay39_at, pay40_at, resid, hid_read]
    rw [ld_row0 (iblk m c 5 t), ld_row1 (iblk m c 5 t), ld_row2 (iblk m c 5 t), ld_row3 (iblk m c 5 t), ld_row4 (iblk m c 5 t)]
  · rw [ld_row0]
    unfold dy err res
    rfl
  · rw [ld_row1]
    unfold dy err res
    rfl
  · rw [ld_row2]
    unfold dr back dx dy err res mean
    rfl

/-- The sums start from zero. -/
theorem zero_at (k : Fin 8) (j : Fin 1024) : k0_pay5 (F := Ideal) (ix2 k j) = 0 := by
  unfold k0_pay5
  pointwise
theorem row_zero (k : Fin 8) (j : Fin 1024) : row (k0_pay5 (F := Ideal)) k (ix2 0 j) = 0 := zero_at k j

set_option maxHeartbeats 1000000 in
/-- The sums after the first point. -/
theorem acc_first (c : Dev nD) (t : Fin cfg0.N) (h : t.val % 8 = 0) (k : Fin 8) (j : Fin 1024) :
    (outsAt0 m c t.val t.isLt).2.2.1 (ix2 k j)
      = 0 + part (iblk m c 0 t) (iblk m c 1 t) (iblk m c 2 t) (iblk m c 3 t) (iblk m c 4 t) (iblk m c 5 t) (iblk m c 6 t) k j := by
  rw [outsAt0_A m c t h]
  frame_open
  simp (disch := decide) only [↓ View.readCov_skip, ↓ View.readCov_cons_toLoadRect, ↓ View.readCov_fill]
  unfold part
  fin_cases k
  all_goals
    simp (disch := decide) only [↓ Cert.Row.hit, ↓ Cert.Row.miss, ↓ Cert.Row.fill]
    simp (maxSteps := 2000000) (disch := decide) only [View.readAt_eq_ld, View.ld_unit_lit', Memref.IsWhole.read_unread,
      Nat.reduceEqDiff, ↓reduceIte, View.writes_nil, add_zero]
  all_goals
    try simp only [pay2_at, pay3_at, pay4_at, pay1_at, pay33_at, pay34_at, pay35_at, pay37_at, pay38_at, pay39_at, pay40_at, resid, hid_read]
  all_goals
    try rw [ld_row0 (iblk m c 5 t), ld_row1 (iblk m c 5 t), ld_row2 (iblk m c 5 t), ld_row3 (iblk m c 5 t), ld_row4 (iblk m c 5 t)]
  · rw [ld_row0, row_zero]
    unfold dy err res
    rfl
  · rw [ld_row1, row_zero]
    unfold dy err res
    rfl
  · rw [ld_row2, row_zero]
    unfold dr back dx dy err res mean
    rfl
  all_goals exact zero_at _ _

set_option maxHeartbeats 1000000 in
/-- The loss after a point that is not the first, … -/
theorem loss_later (c : Dev nD) (t : Fin cfg0.N) (h : ¬ t.val % 8 = 0) (j : Fin 128) :
    (outsAt0 m c t.val t.isLt).2.2.2 (ix2 0 j)
      = (outsAt0 m c (t.val - 1) (Nat.lt_of_le_of_lt (Nat.sub_le _ _) t.isLt)).2.2.2 (ix2 0 j)
        + lossPart (iblk m c 0 t) (iblk m c 1 t) (iblk m c 2 t) (iblk m c 3 t) (iblk m c 4 t) (iblk m c 5 t) (iblk m c 6 t) := by
  rw [outsAt0_B m c t h]
  generalize outsAt0 m c (t.val - 1) (Nat.lt_of_le_of_lt (Nat.sub_le _ _) t.isLt) = P
  frame_open
  simp (disch := decide) only [View.read_writes_junk_eq_canon, View.canon_cons_unit_lit', View.readAt_eq_ld, View.ld_unit_lit', Memref.IsWhole.read_unread]
  simp only [pay36_at, pay34_at, pay35_at, resid, hid_read]
  rw [ld_row0 (iblk m c 5 t), ld_row1 (iblk m c 5 t), ld_row2 (iblk m c 5 t), ld_row3 (iblk m c 5 t), ld_row4 (iblk m c 5 t)]
  unfold lossPart err res
  rfl

set_option maxHeartbeats 1000000 in
/-- … and after the first. -/
theorem loss_first (c : Dev nD) (t : Fin cfg0.N) (h : t.val % 8 = 0) (j : Fin 128) :
    (outsAt0 m c t.val t.isLt).2.2.2 (ix2 0 j)
      = 0 + lossPart (iblk m c 0 t) (iblk m c 1 t) (iblk m c 2 t) (iblk m c 3 t) (iblk m c 4 t) (iblk m c 5 t) (iblk m c 6 t) := by
  rw [outsAt0_A m c t h]
  frame_open
  simp (disch := decide) only [View.read_writes_junk_eq_canon, View.canon_cons_unit_lit', View.readCov_unit_lit', View.readCov_cons_unit_lit', View.readAt_eq_ld, View.ld_unit_lit', Memref.IsWhole.read_unread]
  simp only [pay36_at, pay34_at, pay35_at, resid, hid_read]
  rw [ld_row0 (iblk m c 5 t), ld_row1 (iblk m c 5 t), ld_row2 (iblk m c 5 t), ld_row3 (iblk m c 5 t), ld_row4 (iblk m c 5 t)]
  have e : k0_pay6 (F := Ideal) (ix2 0 j) = 0 := by
    unfold k0_pay6
    pointwise
  rw [e]
  unfold lossPart err res
  rfl

/-- The ReLU's block. -/
def reluV (x0 : Vec Ideal S512x1024 .bf16) (x1 : Vec Ideal S1024x4096 .bf16) (x6 : Vec Ideal S1x4096 .f32) : Vec Ideal S512x4096 .bf16 :=
  fun y => relu x0 x1 x6 (y 0) (y 1)

set_option maxHeartbeats 1000000 in
/-- The ReLU's block after any point. -/
theorem relu_block (c : Dev nD) (t : Fin cfg0.N) (y : S512x4096.Idx) :
    (outsAt0 m c t.val t.isLt).1 y = reluV (iblk m c 0 t) (iblk m c 1 t) (iblk m c 6 t) y := by
  by_cases h : t.val % 8 = 0
  · rw [outsAt0_A m c t h]
    dsimp only [out0_A_7]
    rw [View.read_writes_junk_eq_canon]
    refine View.canon_apply_of_pieces (reluV (iblk m c 0 t) (iblk m c 1 t) (iblk m c 6 t)) _
      (View.PiecesOf.mem ?_) _ (cover0_A_7 ..)
    frame_open
    refine ⟨?_, ?_, ?_, ?_, ?_, ?_, ?_, ?_, trivial⟩
    all_goals
      refine Cert.Mlp.chunk_of _ (by decide) _ fun r j hj => ?_
      unfold reluV relu
      unfold_payloads
      simp (disch := decide) only [View.readAt_eq_ld, View.ld_unit_lit', Memref.IsWhole.read_unread]
      pointwise
  · rw [outsAt0_B m c t h]
    dsimp only [out0_B_7]
    rw [View.read_writes_junk_eq_canon]
    refine View.canon_apply_of_pieces (reluV (iblk m c 0 t) (iblk m c 1 t) (iblk m c 6 t)) _
      (View.PiecesOf.mem ?_) _ (cover0_B_7 ..)
    frame_open
    refine ⟨?_, ?_, ?_, ?_, ?_, ?_, ?_, ?_, trivial⟩
    all_goals
      refine Cert.Mlp.chunk_of _ (by decide) _ fun r j hj => ?_
      unfold reluV relu
      unfold_payloads
      simp (disch := decide) only [View.readAt_eq_ld, View.ld_unit_lit', Memref.IsWhole.read_unread]
      pointwise

end Cert.Loss

end
-- ==== Proof.LossReference.lean ====
/-
  The feed-forward, the second layer norm and the loss over whole arrays, and that the reference's arrays are these functions: the
  gradient of the residual by the mechanical derivative of the layer norm, which on finite arguments is the kernel's line.
-/
module

public import proofs.«01_k».proof.Proof.LossBlock
public import proofs.«01_k».proof.Proof.Gen.Reference5Ideal.Run
public import proofs.«01_k».proof.Proof.Gen.Reference5Ideal.Read

@[expose] public section

set_option maxRecDepth 16384

noncomputable section

namespace Cert.Loss

open Cert.Reference5Ideal Cert.Reference5Ideal.Read
open Idealize.ShloMosaic Idealize.ShloMosaic.TcCoe Idealize.ShloMosaic.Tactic Idealize.ShloMosaic.Pointwise
open Cert.Norm
open Cert.Swa (mul_real sub_real sum_real ofBits_real)

/-- Every entry is a real. -/
def Finite {S : Shape} (x : Vec Ideal S .f32) : Prop := ∀ i, ∃ a : ℝ, x i = (a : EReal)

theorem add_real {x y : EReal} (hx : ∃ r : ℝ, x = r) (hy : ∃ r : ℝ, y = r) : ∃ r : ℝ, x + y = (r : EReal) := by
  obtain ⟨a, rfl⟩ := hx; obtain ⟨b, rfl⟩ := hy; exact ⟨a + b, (EReal.coe_add a b).symm⟩

section Arrays
variable (u xh : Vec Ideal S4096x1024 .f32) (a b : Vec Ideal S1024 .f32) (w1 : Vec Ideal S1024x4096 .f32) (b1 : Vec Ideal S4096 .f32)
  (w2 : Vec Ideal S4096x1024 .f32) (b2 g p q : Vec Ideal S1024 .f32) (tg : Vec Ideal S4096x1024 .f32)

def reluAt (i l : Fin 4096) : EReal := max (∑ k : Fin 1024, u (ix2 i k) * w1 (ix2 k l) + b1 (ix1 l)) 0
def hidAt (i : Fin 4096) (j : Fin 1024) : EReal := b2 (ix1 j) + ∑ l : Fin 4096, reluAt u w1 b1 i l * reluAt u w1 b1 i l * w2 (ix2 l j)
def resAt (i : Fin 4096) : Fin 1024 → EReal :=
  resOf (fun j => xh (ix2 i j)) (hidAt u w1 b1 w2 b2 i) (fun j => a (ix1 j)) (fun j => b (ix1 j)) (fun j => g (ix1 j))
def errAt (i : Fin 4096) (j : Fin 1024) : EReal :=
  hat (resAt u xh a b w1 b1 w2 b2 g i) j * p (ix1 j) + q (ix1 j) - tg (ix2 i j)
def dyAt (i : Fin 4096) (j : Fin 1024) : EReal := errAt u xh a b w1 b1 w2 b2 g p q tg i j * Ideal.ofBits .f32 0x3A800000#32
def dxAt (i : Fin 4096) (j : Fin 1024) : EReal := dyAt u xh a b w1 b1 w2 b2 g p q tg i j * p (ix1 j)
def drAt (i : Fin 4096) : Fin 1024 → EReal :=
  back (dxAt u xh a b w1 b1 w2 b2 g p q tg i) (hat (resAt u xh a b w1 b1 w2 b2 g i)) (rstd (resAt u xh a b w1 b1 w2 b2 g i))
/-- One row's part of the three sums over rows, and of the loss. -/
def termAt (k : Fin 8) (j : Fin 1024) (i : Fin 4096) : EReal :=
  if k.val = 0 then dyAt u xh a b w1 b1 w2 b2 g p q tg i j * hat (resAt u xh a b w1 b1 w2 b2 g i) j
  else if k.val = 1 then dyAt u xh a b w1 b1 w2 b2 g p q tg i j
  else if k.val = 2 then drAt u xh a b w1 b1 w2 b2 g p q tg i j * hidAt u w1 b1 w2 b2 i j
  else 0
def lossAt (i : Fin 4096) : EReal :=
  mean fun j => errAt u xh a b w1 b1 w2 b2 g p q tg i j * errAt u xh a b w1 b1 w2 b2 g p q tg i j

/-! ## On finite arguments all of this is real -/

theorem hid_real (hu : Finite u) (h1 : Finite w1) (h1' : Finite b1) (h2 : Finite w2) (h2' : Finite b2) (i : Fin 4096) (j : Fin 1024) :
    ∃ r : ℝ, hidAt u w1 b1 w2 b2 i j = r := by
  have hr : ∀ l, ∃ r : ℝ, reluAt u w1 b1 i l = r := fun l => by
    obtain ⟨s, hs⟩ := add_real (sum_real Finset.univ _ fun k => mul_real (hu (ix2 i k)) (h1 (ix2 k l))) (h1' (ix1 l))
    refine ⟨max s 0, ?_⟩
    unfold reluAt
    rw [hs]
    exact (EReal.coe_strictMono.monotone.map_max (a := s) (b := 0)).symm
  exact add_real (h2' _) (sum_real _ _ fun l => mul_real (mul_real (hr l) (hr l)) (h2 _))

theorem res_real (hu : Finite u) (hx : Finite xh) (ha : Finite a) (hb : Finite b) (h1 : Finite w1) (h1' : Finite b1) (h2 : Finite w2)
    (h2' : Finite b2) (hg : Finite g) (i : Fin 4096) (j : Fin 1024) : ∃ r : ℝ, resAt u xh a b w1 b1 w2 b2 g i j = r :=
  add_real (mul_real (ofBits_real _ (by decide)) (add_real (mul_real (hx _) (ha _)) (hb _)))
    (mul_real (add_real ⟨1, rfl⟩ (hg _)) (hid_real u w1 b1 w2 b2 hu h1 h1' h2 h2' i j))

theorem err_real (hu : Finite u) (hx : Finite xh) (ha : Finite a) (hb : Finite b) (h1 : Finite w1) (h1' : Finite b1) (h2 : Finite w2)
    (h2' : Finite b2) (hg : Finite g) (hp : Finite p) (hq : Finite q) (ht : Finite tg) (i : Fin 4096) (j : Fin 1024) :
    ∃ r : ℝ, errAt u xh a b w1 b1 w2 b2 g p q tg i j = r :=
  sub_real (add_real (mul_real (hat_eq_real _ (res_real u xh a b w1 b1 w2 b2 g hu hx ha hb h1 h1' h2 h2' hg i) j) (hp _)) (hq _)) (ht _)

/-! ## The reference's arrays -/

theorem ref_relu (i l : Fin 4096) : val_main_v4 (F := Ideal) u w1 b1 (ix2 i l) = reluAt u w1 b1 i l := by
  unfold reluAt
  pointwise [val_main_v0, val_main_v1, val_main_v2, val_main_v3, val_main_call0_cst, val_main_call0_v0, val_main_v4]
theorem ref_hid (i : Fin 4096) (j : Fin 1024) : val_main_v9 (F := Ideal) u w1 b1 w2 b2 (ix2 i j) = hidAt u w1 b1 w2 b2 i j := by
  unfold hidAt
  simp only [← ref_relu]
  rw [add_comm]
  pointwise [val_main_v5, val_main_v6, val_main_v7, val_main_v8, val_main_v9]
theorem ref_res (i : Fin 4096) (j : Fin 1024) : val_main_v23 (F := Ideal) u xh a b w1 b1 w2 b2 g (ix2 i j) = resAt u xh a b w1 b1 w2 b2 g i j := by
  unfold resAt resOf
  rw [← ref_hid]
  pointwise [val_main_v10, val_main_v11, val_main_v12, val_main_v13, val_main_v14, val_main_v15, val_main_cst, val_main_v16, val_main_v17,
    val_main_cst_0, val_main_v18, val_main_v19, val_main_v20, val_main_v21, val_main_v22, val_main_v23]

/-- The layer norm's pieces, over the residual. -/
theorem ref_hat' (i : Fin 4096) (j : Fin 1024) : val_main_v46 (F := Ideal) u xh a b w1 b1 w2 b2 g (ix2 i j)
    = hat (fun j => val_main_v23 (F := Ideal) u xh a b w1 b1 w2 b2 g (ix2 i j)) j := by
  unfold hat rstd cen mean width small
  pointwise [val_main_cst_1, val_main_v24, val_main_v25, val_main_cst_2, val_main_v26, val_main_v27, val_main_v28, val_main_v29, val_main_v30,
    val_main_cst_4, val_main_v33, val_main_v34, val_main_cst_5, val_main_v35, val_main_v36, val_main_v37, val_main_v38, val_main_cst_6,
    val_main_v39, val_main_v40, val_main_v41, val_main_v45, val_main_v46]
theorem ref_hat (i : Fin 4096) (j : Fin 1024) : val_main_v46 (F := Ideal) u xh a b w1 b1 w2 b2 g (ix2 i j)
    = hat (resAt u xh a b w1 b1 w2 b2 g i) j := by
  rw [ref_hat']
  simp only [ref_res]
theorem ref_err (i : Fin 4096) (j : Fin 1024) : val_main_v53 (F := Ideal) u xh a b w1 b1 w2 b2 g p q tg (ix2 i j)
    = errAt u xh a b w1 b1 w2 b2 g p q tg i j := by
  unfold errAt
  rw [← ref_hat]
  pointwise [val_main_v47, val_main_v48, val_main_v49, val_main_v50, val_main_v51, val_main_v52, val_main_v53]

/-- The mean's and the half's factors together are the kernel's one factor. -/
theorem factor (e : EReal) (he : ∃ r : ℝ, e = r) : Ideal.div (1 * Ideal.ofBits .f32 0x3F000000#32) width * (Ideal.ofBits .f32 1073741824#32 * e)
    = e * Ideal.ofBits .f32 0x3A800000#32 := by
  obtain ⟨r, rfl⟩ := he
  have h : Ideal.ofBits .f32 0x3F000000#32 = ((1 / 2 : ℝ) : EReal) := by
    simp [Ideal.ofBits, Ideal.ieee, -EReal.coe_mul]; norm_num
  have k : Ideal.ofBits .f32 0x3A800000#32 = ((1 / 1024 : ℝ) : EReal) := by
    simp [Ideal.ofBits, Ideal.ieee, -EReal.coe_mul]; norm_num
  rw [h, k, one_mul, div_width, two_eq, ← EReal.coe_mul, ← EReal.coe_mul, ← EReal.coe_mul]
  congr 1
  ring

theorem ref_dy' (i : Fin 4096) (j : Fin 1024) : val_main_v67 (F := Ideal) u xh a b w1 b1 w2 b2 g p q tg (ix2 i j)
    = Ideal.div (1 * Ideal.ofBits .f32 0x3F000000#32) width * (Ideal.ofBits .f32 1073741824#32 * val_main_v53 (F := Ideal) u xh a b w1 b1 w2 b2 g p q tg (ix2 i j)) := by
  unfold width
  pointwise [val_main_cst_8, val_main_v55, val_main_v56, val_main_cst_13, val_main_cst_14, val_main_v62, val_main_v63, val_main_cst_15, val_main_v64,
    val_main_v65, val_main_v66, val_main_v67]

/-- The gradient of the residual, over the residual and the gradient of the normalised row. -/
theorem ref_prod (i : Fin 4096) (j : Fin 1024) : val_main_v81 (F := Ideal) u xh a b w1 b1 w2 b2 g p q tg (ix2 i j)
    = val_main_v75 (F := Ideal) u xh a b w1 b1 w2 b2 g p q tg (ix2 i j)
        * rstd (fun j => val_main_v23 (F := Ideal) u xh a b w1 b1 w2 b2 g (ix2 i j)) := by
  unfold rstd cen mean width small
  pointwise [val_main_cst_1, val_main_v24, val_main_v25, val_main_cst_2, val_main_v26, val_main_v27, val_main_v28, val_main_v29, val_main_v30,
    val_main_cst_4, val_main_v33, val_main_v34, val_main_cst_5, val_main_v35, val_main_v36, val_main_cst_6, val_main_v39, val_main_v40,
    val_main_v41, val_main_v80, val_main_v81]
theorem ref_sq (i : Fin 4096) (j : Fin 1024) : val_main_v90 (F := Ideal) u xh a b w1 b1 w2 b2 g p q tg (ix2 i j)
    = gSq (fun j => val_main_v23 (F := Ideal) u xh a b w1 b1 w2 b2 g (ix2 i j))
        (fun j => val_main_v75 (F := Ideal) u xh a b w1 b1 w2 b2 g p q tg (ix2 i j)) j := by
  unfold gSq gVar rstd cen mean width small
  pointwise [val_main_cst_1, val_main_v24, val_main_v25, val_main_cst_2, val_main_v26, val_main_v27, val_main_v28, val_main_v29, val_main_v30,
    val_main_cst_3, val_main_v31, val_main_v32, val_main_cst_4, val_main_v33, val_main_v34, val_main_cst_5, val_main_v35, val_main_v36,
    val_main_v37, val_main_v38, val_main_cst_6, val_main_v39, val_main_v40, val_main_v41, val_main_v42, val_main_cst_7, val_main_v43,
    val_main_v44, val_main_v77, val_main_cst_20, val_main_v78, val_main_v79, val_main_v82, val_main_cst_22, val_main_v86, val_main_v87,
    val_main_cst_23, val_main_v88, val_main_v89, val_main_v90]
  simp only [Finset.univ_unique, Finset.sum_singleton]
theorem ref_dr' (i : Fin 4096) (j : Fin 1024) : val_main_v100 (F := Ideal) u xh a b w1 b1 w2 b2 g p q tg (ix2 i j)
    = gRow (fun j => val_main_v23 (F := Ideal) u xh a b w1 b1 w2 b2 g (ix2 i j))
        (fun j => val_main_v75 (F := Ideal) u xh a b w1 b1 w2 b2 g p q tg (ix2 i j)) j := by
  unfold gRow width
  simp only [← ref_sq]
  pointwise [val_main_v83, val_main_cst_21, val_main_v84, val_main_v85, val_main_v91, val_main_cst_24, val_main_v92, val_main_v93, val_main_v94,
    val_main_v95, val_main_cst_25, val_main_v96, val_main_v97, val_main_cst_26, val_main_v98, val_main_v99, val_main_v100]
  simp only [Finset.univ_unique, Finset.sum_singleton, ref_prod]
  try rfl

/-- The twelve arguments are finite. -/
structure Fins : Prop where
  u : Finite u
  xh : Finite xh
  a : Finite a
  b : Finite b
  w1 : Finite w1
  b1 : Finite b1
  w2 : Finite w2
  b2 : Finite b2
  g : Finite g
  p : Finite p
  q : Finite q
  tg : Finite tg

variable {u xh a b w1 b1 w2 b2 g p q tg}

section Real
variable (h : Fins u xh a b w1 b1 w2 b2 g p q tg)
include h

theorem real_err (i : Fin 4096) (j : Fin 1024) : ∃ r : ℝ, errAt u xh a b w1 b1 w2 b2 g p q tg i j = r :=
  err_real u xh a b w1 b1 w2 b2 g p q tg h.u h.xh h.a h.b h.w1 h.b1 h.w2 h.b2 h.g h.p h.q h.tg i j
theorem real_res (i : Fin 4096) (j : Fin 1024) : ∃ r : ℝ, resAt u xh a b w1 b1 w2 b2 g i j = r :=
  res_real u xh a b w1 b1 w2 b2 g h.u h.xh h.a h.b h.w1 h.b1 h.w2 h.b2 h.g i j
theorem real_dx (i : Fin 4096) (j : Fin 1024) : ∃ r : ℝ, dxAt u xh a b w1 b1 w2 b2 g p q tg i j = r :=
  mul_real (mul_real (real_err h i j) (ofBits_real _ (by decide))) (h.p _)
theorem real_loss (i : Fin 4096) : ∃ r : ℝ, lossAt u xh a b w1 b1 w2 b2 g p q tg i = r := by
  choose f hf using real_err h i
  refine ⟨rmean fun j => f j * f j, ?_⟩
  unfold lossAt
  simp only [hf, ← EReal.coe_mul]
  exact mean_coe _

theorem ref_dy (i : Fin 4096) (j : Fin 1024) : val_main_v67 (F := Ideal) u xh a b w1 b1 w2 b2 g p q tg (ix2 i j)
    = dyAt u xh a b w1 b1 w2 b2 g p q tg i j := by
  rw [ref_dy', ref_err]
  exact factor _ (real_err h i j)
theorem ref_dx (i : Fin 4096) (j : Fin 1024) : val_main_v75 (F := Ideal) u xh a b w1 b1 w2 b2 g p q tg (ix2 i j)
    = dxAt u xh a b w1 b1 w2 b2 g p q tg i j := by
  unfold dxAt
  rw [← ref_dy h]
  pointwise [val_main_v47, val_main_v74, val_main_v75]
theorem ref_dr (i : Fin 4096) (j : Fin 1024) : val_main_v100 (F := Ideal) u xh a b w1 b1 w2 b2 g p q tg (ix2 i j)
    = drAt u xh a b w1 b1 w2 b2 g p q tg i j := by
  rw [ref_dr']
  simp only [ref_res, ref_dx h]
  exact gRow_eq _ _ (real_res h i) (real_dx h i) j

/-- The sums over the rows, one beneath the other, and five rows of zeros. -/
theorem ref_acc (k : Fin 8) (j : Fin 1024) : val_main_v111 (F := Ideal) u xh a b w1 b1 w2 b2 g p q tg (ix2 k j)
    = ∑ i, termAt u xh a b w1 b1 w2 b2 g p q tg k j i := by
  unfold termAt
  simp only [← ref_dy h, ← ref_dr h, ← ref_hat, ← ref_hid]
  fin_cases k <;> (pointwise [val_main_cst_16, val_main_v68, val_main_v69, val_main_cst_17, val_main_v70, val_main_v71, val_main_cst_18, val_main_v72, val_main_v73,
    val_main_cst_19, val_main_v76, val_main_v101, val_main_cst_27, val_main_v102, val_main_v103, val_main_cst_28, val_main_v104,
    val_main_v106, val_main_v107, val_main_v108, val_main_v109, val_main_cst_29, val_main_v110, val_main_v111])
  all_goals simp only [Finset.univ_unique, Finset.sum_singleton, Finset.sum_const_zero]
  exact Finset.sum_congr rfl fun i _ => mul_comm _ _

theorem ref_loss (j : Fin 128) : val_main_v112 (F := Ideal) u xh a b w1 b1 w2 b2 g p q tg (ix2 0 j)
    = Ideal.ofBits .f32 0x3F000000#32 * ∑ i, lossAt u xh a b w1 b1 w2 b2 g p q tg i := by
  unfold lossAt mean width
  simp only [← ref_err]
  pointwise [val_main_v54, val_main_cst_9, val_main_v57, val_main_cst_10, val_main_v58, val_main_v59, val_main_cst_11, val_main_v60, val_main_cst_12,
    val_main_v61, val_main_v112]

end Real

end Arrays

end Cert.Loss

end
-- ==== Proof.LossValue.lean ====
/-
  The four arrays of the loss's call, each as one function of the arguments, and that on finite arguments the reference leaves the
  same ones.
-/
module

public import proofs.«01_k».proof.Defs
public import proofs.«01_k».proof.Proof.LossReference
public import proofs.«01_k».proof.Proof.SwaValue

@[expose] public section

set_option maxRecDepth 16384

noncomputable section

namespace Cert.Loss

open Cert.Kernel5Ideal Cert.Kernel5Ideal.Gen Idealize.ShloMosaic Idealize.ShloMosaic.TcCoe Idealize.SL.Sem Idealize.ShloMosaic.Pointwise
  Idealize.ShloMosaic.Tactic
open Idealize.ShloMosaic.Pipeline (Dat)
open Cert.Reference5Ideal.Read
open Cert.Norm
open Cert.Swa (real_of_lt andi_left ofBits_real)

section Kernel

variable (m : (ℓ : Loc nD τ sig) → Buf (Elt Ideal) ℓ) (c : Dev nD)

/-- The arguments. -/
abbrev inU : Vec Ideal S4096x1024 .f32 := m ((c : Thread nD τ).loc main_arg0)
abbrev inXh : Vec Ideal S4096x1024 .f32 := m ((c : Thread nD τ).loc main_arg1)
abbrev inA : Vec Ideal S1024 .f32 := m ((c : Thread nD τ).loc main_arg2)
abbrev inB : Vec Ideal S1024 .f32 := m ((c : Thread nD τ).loc main_arg3)
abbrev inW1 : Vec Ideal S1024x4096 .f32 := m ((c : Thread nD τ).loc main_arg4)
abbrev inB1 : Vec Ideal S4096 .f32 := m ((c : Thread nD τ).loc main_arg5)
abbrev inW2 : Vec Ideal S4096x1024 .f32 := m ((c : Thread nD τ).loc main_arg6)
abbrev inB2 : Vec Ideal S1024 .f32 := m ((c : Thread nD τ).loc main_arg7)
abbrev inG : Vec Ideal S1024 .f32 := m ((c : Thread nD τ).loc main_arg8)
abbrev inP : Vec Ideal S1024 .f32 := m ((c : Thread nD τ).loc main_arg9)
abbrev inQ : Vec Ideal S1024 .f32 := m ((c : Thread nD τ).loc main_arg10)
abbrev inT : Vec Ideal S4096x1024 .f32 := m ((c : Thread nD τ).loc main_arg11)

theorem V_u : (V m c main_v8 : Vec Ideal S4096x1024 .bf16) = inU m c := by
  unfold V hostOps0
  after_results
  rfl
theorem V_w1 : (V m c main_v9 : Vec Ideal S1024x4096 .bf16) = inW1 m c := by
  unfold V hostOps0
  after_results
  rfl
theorem V_w2 : (V m c main_v10 : Vec Ideal S4096x1024 .bf16) = inW2 m c := by
  unfold V hostOps0
  after_results
  rfl
theorem V_b1 (l : Fin 4096) : (V m c main_v11 : Vec Ideal S1x4096 .f32) (ix2 0 l) = inB1 m c (ix1 l) := by
  have e : (V m c main_v11 : Vec Ideal S1x4096 .f32) = shapeCast S1x4096 (inB1 m c) shapeCasts_S4096_S1x4096 := by
    unfold V hostOps0
    after_results
    rfl
  rw [e]
  pointwise

/-- A vector as one row. -/
abbrev oneRow (x : Vec Ideal S1024 .f32) : Vec Ideal S1x1024 .f32 := shapeCast S1x1024 x shapeCasts_S1024_S1x1024

/-- The six vectors, one beneath the other, and two rows of zeros. -/
theorem V_rows : (V m c main_v7 : Vec Ideal S8x1024 .f32) = concatenate S8x1024 0
    [⟨S1x1024, oneRow (inA m c)⟩, ⟨S1x1024, oneRow (inB m c)⟩, ⟨S1x1024, oneRow (inG m c)⟩, ⟨S1x1024, oneRow (inP m c)⟩,
      ⟨S1x1024, oneRow (inQ m c)⟩, ⟨S1x1024, oneRow (inB2 m c)⟩,
      ⟨S2x1024, (broadcastInDim S2x1024 ![] bcast_S_S2x1024 (constant (F := Ideal) S_ .f32 0x00000000#32 : Vec Ideal S_ .f32) : Vec Ideal S2x1024 .f32)⟩]
    concatenates_S1x1024_S1x1024_S1x1024_S1x1024_S1x1024_S1x1024_S2x1024_S8x1024_d0 := by
  unfold V hostOps0
  after_results
  rfl

theorem V_row0 (j : Fin 1024) : (V m c main_v7 : Vec Ideal S8x1024 .f32) (ix2 0 j) = inA m c (ix1 j) := by
  rw [V_rows]
  pointwise
theorem V_row1 (j : Fin 1024) : (V m c main_v7 : Vec Ideal S8x1024 .f32) (ix2 1 j) = inB m c (ix1 j) := by
  rw [V_rows]
  pointwise
theorem V_row2 (j : Fin 1024) : (V m c main_v7 : Vec Ideal S8x1024 .f32) (ix2 2 j) = inG m c (ix1 j) := by
  rw [V_rows]
  pointwise
theorem V_row3 (j : Fin 1024) : (V m c main_v7 : Vec Ideal S8x1024 .f32) (ix2 3 j) = inP m c (ix1 j) := by
  rw [V_rows]
  pointwise
theorem V_row4 (j : Fin 1024) : (V m c main_v7 : Vec Ideal S8x1024 .f32) (ix2 4 j) = inQ m c (ix1 j) := by
  rw [V_rows]
  pointwise
theorem V_row5 (j : Fin 1024) : (V m c main_v7 : Vec Ideal S8x1024 .f32) (ix2 5 j) = inB2 m c (ix1 j) := by
  rw [V_rows]
  pointwise

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![t.val, 0] := by decide +kernel
theorem idx8 : ∀ t : Fin grid0.N, win0_8.index t = ![t.val, 0] := by decide +kernel
theorem idx9 : ∀ t : Fin grid0.N, win0_9.index t = ![0, 0] := by decide +kernel
theorem idx10 : ∀ t : Fin grid0.N, win0_10.index t = ![0, 0] := by decide +kernel
theorem lt_N (t : Fin cfg0.N) : t.val < 8 := lt_of_lt_of_eq t.isLt N_0

variable (t : Fin cfg0.N)

theorem u_read (r : Fin 512) (j : Fin 1024) : iblk m c 0 t (ix2 r j) = inU m c (ix2 ⟨t.val * 512 + r.val, by have := lt_N t; omega⟩ j) := by
  rw [← V_u m c]
  blk_ext [iblk, V, idx0 t]
theorem w1_read (k : Fin 1024) (l : Fin 4096) : iblk m c 1 t (ix2 k l) = inW1 m c (ix2 k l) := by
  rw [← V_w1 m c]
  blk_ext [iblk, V, idx1 t]
theorem w2_read (l : Fin 4096) (j : Fin 1024) : iblk m c 2 t (ix2 l j) = inW2 m c (ix2 l j) := by
  rw [← V_w2 m c]
  blk_ext [iblk, V, idx2 t]
theorem xh_read (r : Fin 512) (j : Fin 1024) : iblk m c 3 t (ix2 r j) = inXh m c (ix2 ⟨t.val * 512 + r.val, by have := lt_N t; omega⟩ j) := by
  refine Eq.trans ?_ (congrFun (V_main_arg1 m c) _)
  blk_ext [iblk, V, idx3 t]
theorem tg_read (r : Fin 512) (j : Fin 1024) : iblk m c 4 t (ix2 r j) = inT m c (ix2 ⟨t.val * 512 + r.val, by have := lt_N t; omega⟩ j) := by
  refine Eq.trans ?_ (congrFun (V_main_arg11 m c) _)
  blk_ext [iblk, V, idx4 t]
theorem rows_read (k : Fin 8) (j : Fin 1024) : iblk m c 5 t (ix2 k j) = (V m c main_v7 : Vec Ideal S8x1024 .f32) (ix2 k j) := by
  blk_ext [iblk, V, idx5 t]
theorem b1_read (l : Fin 4096) : iblk m c 6 t (ix2 0 l) = inB1 m c (ix1 l) := by
  rw [← V_b1 m c]
  blk_ext [iblk, V, idx6 t]

/-! ## A tile's values are the arrays' -/

theorem relu_eq (r : Fin 512) (l : Fin 4096) : relu (iblk m c 0 t) (iblk m c 1 t) (iblk m c 6 t) r l = reluAt (inU m c) (inW1 m c) (inB1 m c) ⟨t.val * 512 + r.val, by have := lt_N t; omega⟩ l := by
  unfold relu reluAt
  simp only [u_read m c t, w1_read m c t, b1_read m c t]
theorem hid_eq (r : Fin 512) (j : Fin 1024) : hid (iblk m c 0 t) (iblk m c 1 t) (iblk m c 2 t) (iblk m c 5 t) (iblk m c 6 t) r j
    = hidAt (inU m c) (inW1 m c) (inB1 m c) (inW2 m c) (inB2 m c) ⟨t.val * 512 + r.val, by have := lt_N t; omega⟩ j := by
  unfold hid hidAt
  simp only [relu_eq m c t, w2_read m c t, rows_read m c t, V_row5 m c]
theorem res_eq (r : Fin 512) : res (iblk m c 0 t) (iblk m c 1 t) (iblk m c 2 t) (iblk m c 3 t) (iblk m c 5 t) (iblk m c 6 t) r
    = resAt (inU m c) (inXh m c) (inA m c) (inB m c) (inW1 m c) (inB1 m c) (inW2 m c) (inB2 m c) (inG m c) ⟨t.val * 512 + r.val, by have := lt_N t; omega⟩ := by
  unfold res resAt
  have e : hid (iblk m c 0 t) (iblk m c 1 t) (iblk m c 2 t) (iblk m c 5 t) (iblk m c 6 t) r = hidAt (inU m c) (inW1 m c) (inB1 m c) (inW2 m c) (inB2 m c) ⟨t.val * 512 + r.val, by have := lt_N t; omega⟩ := funext (hid_eq m c t r)
  simp only [e, xh_read m c t, rows_read m c t, V_row0 m c, V_row1 m c, V_row2 m c]
theorem err_eq (r : Fin 512) (j : Fin 1024) : err (iblk m c 0 t) (iblk m c 1 t) (iblk m c 2 t) (iblk m c 3 t) (iblk m c 4 t) (iblk m c 5 t) (iblk m c 6 t) r j
    = errAt (inU m c) (inXh m c) (inA m c) (inB m c) (inW1 m c) (inB1 m c) (inW2 m c) (inB2 m c) (inG m c) (inP m c) (inQ m c) (inT m c) ⟨t.val * 512 + r.val, by have := lt_N t; omega⟩ j := by
  unfold err errAt
  simp only [res_eq m c t, tg_read m c t, rows_read m c t, V_row3 m c, V_row4 m c]
theorem dy_eq (r : Fin 512) (j : Fin 1024) : dy (iblk m c 0 t) (iblk m c 1 t) (iblk m c 2 t) (iblk m c 3 t) (iblk m c 4 t) (iblk m c 5 t) (iblk m c 6 t) r j
    = dyAt (inU m c) (inXh m c) (inA m c) (inB m c) (inW1 m c) (inB1 m c) (inW2 m c) (inB2 m c) (inG m c) (inP m c) (inQ m c) (inT m c) ⟨t.val * 512 + r.val, by have := lt_N t; omega⟩ j := by
  unfold dy dyAt
  rw [err_eq m c t]
theorem dx_eq (r : Fin 512) : dx (iblk m c 0 t) (iblk m c 1 t) (iblk m c 2 t) (iblk m c 3 t) (iblk m c 4 t) (iblk m c 5 t) (iblk m c 6 t) r
    = dxAt (inU m c) (inXh m c) (inA m c) (inB m c) (inW1 m c) (inB1 m c) (inW2 m c) (inB2 m c) (inG m c) (inP m c) (inQ m c) (inT m c) ⟨t.val * 512 + r.val, by have := lt_N t; omega⟩ := by
  funext j
  unfold dx dxAt
  rw [dy_eq m c t, rows_read m c t, V_row3 m c]
theorem dr_eq (r : Fin 512) : dr (iblk m c 0 t) (iblk m c 1 t) (iblk m c 2 t) (iblk m c 3 t) (iblk m c 4 t) (iblk m c 5 t) (iblk m c 6 t) r
    = drAt (inU m c) (inXh m c) (inA m c) (inB m c) (inW1 m c) (inB1 m c) (inW2 m c) (inB2 m c) (inG m c) (inP m c) (inQ m c) (inT m c) ⟨t.val * 512 + r.val, by have := lt_N t; omega⟩ := by
  unfold dr drAt
  rw [dx_eq m c t, res_eq m c t]
theorem part_eq (k : Fin 8) (j : Fin 1024) : part (iblk m c 0 t) (iblk m c 1 t) (iblk m c 2 t) (iblk m c 3 t) (iblk m c 4 t) (iblk m c 5 t) (iblk m c 6 t) k j
    = ∑ r : Fin 512, termAt (inU m c) (inXh m c) (inA m c) (inB m c) (inW1 m c) (inB1 m c) (inW2 m c) (inB2 m c) (inG m c) (inP m c) (inQ m c) (inT m c) k j ⟨t.val * 512 + r.val, by have := lt_N t; omega⟩ := by
  unfold part termAt
  simp only [dr_eq m c t, dy_eq m c t, res_eq m c t, hid_eq m c t]
  split_ifs
  · rfl
  · rfl
  · rfl
  · exact Finset.sum_const_zero.symm
theorem lossPart_eq : lossPart (iblk m c 0 t) (iblk m c 1 t) (iblk m c 2 t) (iblk m c 3 t) (iblk m c 4 t) (iblk m c 5 t) (iblk m c 6 t)
    = Ideal.ofBits .f32 0x3F000000#32 * ∑ r : Fin 512, lossAt (inU m c) (inXh m c) (inA m c) (inB m c) (inW1 m c) (inB1 m c) (inW2 m c) (inB2 m c) (inG m c) (inP m c) (inQ m c) (inT m c) ⟨t.val * 512 + r.val, by have := lt_N t; omega⟩ := by
  unfold lossPart lossAt
  simp only [err_eq m c t]

/-- The four results. -/
abbrev reluA : Vec Ideal S4096x4096 .bf16 := fun y => reluAt (inU m c) (inW1 m c) (inB1 m c) (y 0) (y 1)
abbrev drA : Vec Ideal S4096x1024 .f32 := fun y => drAt (inU m c) (inXh m c) (inA m c) (inB m c) (inW1 m c) (inB1 m c) (inW2 m c) (inB2 m c) (inG m c) (inP m c) (inQ m c) (inT m c) (y 0) (y 1)
abbrev accA : Vec Ideal S8x1024 .f32 := fun y => ∑ i, termAt (inU m c) (inXh m c) (inA m c) (inB m c) (inW1 m c) (inB1 m c) (inW2 m c) (inB2 m c) (inG m c) (inP m c) (inQ m c) (inT m c) (y 0) (y 1) i
abbrev lossA : Vec Ideal S1x128 .f32 := fun _ => Ideal.ofBits .f32 0x3F000000#32 * ∑ i, lossAt (inU m c) (inXh m c) (inA m c) (inB m c) (inW1 m c) (inB1 m c) (inW2 m c) (inB2 m c) (inG m c) (inP m c) (inQ m c) (inT m c) i

theorem relu_array : (dats m 0 c).arrAt 7 cfg0.N = reluA m c := by
  refine (dats m 0 c).arrAt_eq_of_covers 7 _ (by decide +kernel) fun t hf y => ?_
  blk_simp
  rw [after0_7]
  idx_vars y
  have hN := lt_N t
  have e : (win0_7.blk t).view.emb (ix2 y0 y1) = (ix2 ⟨t.val * 512 + y0.val, by omega⟩ y1 : S4096x4096.Idx) := by
    blk_ext [idx7 t]
  exact ((relu_block m c t (ix2 y0 y1)).trans (relu_eq m c t y0 y1)).trans (congrArg (reluA m c) e).symm

theorem dr_array : (dats m 0 c).arrAt 8 cfg0.N = drA m c := by
  refine (dats m 0 c).arrAt_eq_of_covers 8 _ (by decide +kernel) fun t hf y => ?_
  blk_simp
  rw [after0_8]
  idx_vars y
  have hN := lt_N t
  have e : (win0_8.blk t).view.emb (ix2 y0 y1) = (ix2 ⟨t.val * 512 + y0.val, by omega⟩ y1 : S4096x1024.Idx) := by
    blk_ext [idx8 t]
  exact ((dr_block m c t y0 y1).trans (congrFun (dr_eq m c t y0) y1)).trans (congrArg (drA m c) e).symm

/-- The running sums after the last point. -/
theorem acc_last (ht : t.val % 8 = 7) (k : Fin 8) (j : Fin 1024) : (outsAt0 m c t.val t.isLt).2.2.1 (ix2 k j)
    = ∑ i, termAt (inU m c) (inXh m c) (inA m c) (inB m c) (inW1 m c) (inB1 m c) (inW2 m c) (inB2 m c) (inG m c) (inP m c) (inQ m c) (inT m c) k j i := by
  have hN := lt_N t
  have hs := Pipeline.eq_sum_fin_of_reset_step_apply_last (N := cfg0.N) (fun n h => fun j : Fin 1024 => (outsAt0 m c n h).2.2.1 (ix2 k j)) 8 (fun _ => 0)
    (fun t j => part (iblk m c 0 t) (iblk m c 1 t) (iblk m c 2 t) (iblk m c 3 t) (iblk m c 4 t) (iblk m c 5 t) (iblk m c 6 t) k j)
    (fun t h j => acc_first m c t h k j) (fun t h j => acc_later m c t h k j) (le_of_eq N_0) t (by have h8 : cfg0.N = 8 := N_0; omega) j
  simp only [zero_add, part_eq] at hs
  exact hs.trans (Fin.sum_mul_add_fin (S := 8) (n := 512) (f := fun i => termAt (inU m c) (inXh m c) (inA m c) (inB m c) (inW1 m c) (inB1 m c) (inW2 m c) (inB2 m c) (inG m c) (inP m c) (inQ m c) (inT m c) k j i))

theorem acc_array : (dats m 0 c).arrAt 9 cfg0.N = accA m c := by
  refine (dats m 0 c).arrAt_eq_of_covers 9 _ (by decide +kernel) fun t hf y => ?_
  blk_simp
  rw [after0_9]
  idx_vars y
  have e : (win0_9.blk t).view.emb (ix2 y0 y1) = (ix2 y0 y1 : S8x1024.Idx) := by
    blk_ext [idx9 t]
  exact (acc_last m c t ((flush0_9 t).mp hf) y0 y1).trans (congrArg (accA m c) e).symm

/-- Of reals a half of the sum is the sum of the tiles' halves. -/
theorem half_tiles (f : Fin 4096 → EReal) (hf : ∀ i, ∃ a : ℝ, f i = a) :
    ∑ s : Fin 8, Ideal.ofBits .f32 0x3F000000#32 * ∑ r : Fin 512, f ⟨s.val * 512 + r.val, by omega⟩
      = Ideal.ofBits .f32 0x3F000000#32 * ∑ i, f i := by
  choose g hg using hf
  obtain rfl : f = fun i => (g i : EReal) := funext hg
  obtain ⟨k, hk⟩ := ofBits_real 0x3F000000#32 (by decide)
  rw [hk]
  simp only [Cert.Swa.sum_coe, ← EReal.coe_mul]
  rw [← Finset.mul_sum, Fin.sum_mul_add_fin (S := 8) (n := 512) (f := g)]

/-- The loss after the last point. -/
theorem loss_last (h : Fins (inU m c) (inXh m c) (inA m c) (inB m c) (inW1 m c) (inB1 m c) (inW2 m c) (inB2 m c) (inG m c) (inP m c) (inQ m c) (inT m c)) (ht : t.val % 8 = 7) (j : Fin 128) :
    (outsAt0 m c t.val t.isLt).2.2.2 (ix2 0 j)
      = Ideal.ofBits .f32 0x3F000000#32 * ∑ i, lossAt (inU m c) (inXh m c) (inA m c) (inB m c) (inW1 m c) (inB1 m c) (inW2 m c) (inB2 m c) (inG m c) (inP m c) (inQ m c) (inT m c) i := by
  have hN := lt_N t
  have hs := Pipeline.eq_sum_fin_of_reset_step_apply_last (N := cfg0.N) (fun n h => fun j : Fin 128 => (outsAt0 m c n h).2.2.2 (ix2 0 j)) 8 (fun _ => 0)
    (fun t _ => lossPart (iblk m c 0 t) (iblk m c 1 t) (iblk m c 2 t) (iblk m c 3 t) (iblk m c 4 t) (iblk m c 5 t) (iblk m c 6 t))
    (fun t h j => loss_first m c t h j) (fun t h j => loss_later m c t h j) (le_of_eq N_0) t (by have h8 : cfg0.N = 8 := N_0; omega) j
  simp only [zero_add, lossPart_eq] at hs
  exact hs.trans (half_tiles _ (real_loss h))

theorem loss_array (h : Fins (inU m c) (inXh m c) (inA m c) (inB m c) (inW1 m c) (inB1 m c) (inW2 m c) (inB2 m c) (inG m c) (inP m c) (inQ m c) (inT m c)) : (dats m 0 c).arrAt 10 cfg0.N = lossA m c := by
  refine (dats m 0 c).arrAt_eq_of_covers 10 _ (by decide +kernel) fun t hf y => ?_
  blk_simp
  rw [after0_10]
  idx_vars y
  obtain rfl : y0 = 0 := Subsingleton.elim _ _
  exact loss_last m c t h ((flush0_10 t).mp hf) y1

end Kernel

/-! ## The precondition, and the value -/

/-- The precondition's side conditions. -/
theorem pre_facts : Cert.Pre_finite5.Facts where
  bcast_S_S4096x1024 := by decide
  reducesTo_S4096x1024_S_d0_1 := by decide
  h_S_ := by decide
  bcast_S_S1024 := by decide
  reducesTo_S1024_S_d0 := by decide
  bcast_S_S1024x4096 := by decide
  reducesTo_S1024x4096_S_d0_1 := by decide
  bcast_S_S4096 := by decide
  reducesTo_S4096_S_d0 := by decide

/-- The precondition: every entry of every argument is a real. -/
theorem finite_of_pre [Cert.Pre_finite5.Facts] (x0 x1 : Vec Ideal S4096x1024 .f32) (x2 x3 : Vec Ideal S1024 .f32) (x4 : Vec Ideal S1024x4096 .f32)
    (x5 : Vec Ideal S4096 .f32) (x6 : Vec Ideal S4096x1024 .f32) (x7 x8 x9 x10 : Vec Ideal S1024 .f32) (x11 : Vec Ideal S4096x1024 .f32)
    (h : Cert.Pre_finite5.fn (F := Ideal) x0 x1 x2 x3 x4 x5 x6 x7 x8 x9 x10 x11 = fun _ => 1#1) : Fins x0 x1 x2 x3 x4 x5 x6 x7 x8 x9 x10 x11 := by
  have h := congrFun h ix0
  unfold Cert.Pre_finite5.fn Cert.Pre_finite5.fn_part1 Cert.Pre_finite5.fn_part2 Cert.Pre_finite5.fn_part3 at h
  dsimp only at h
  obtain ⟨h, h11⟩ := andi_left h
  obtain ⟨h, h10⟩ := andi_left h
  obtain ⟨h, h9⟩ := andi_left h
  obtain ⟨h, h8⟩ := andi_left h
  obtain ⟨h, h7⟩ := andi_left h
  obtain ⟨h, h6⟩ := andi_left h
  obtain ⟨h, h5⟩ := andi_left h
  obtain ⟨h, h4⟩ := andi_left h
  obtain ⟨h, h3⟩ := andi_left h
  obtain ⟨h, h2⟩ := andi_left h
  obtain ⟨h0, h1⟩ := andi_left h
  haveI : Subsingleton Cert.Pre_finite5.S_.Idx := ⟨fun a b => funext fun i => i.elim0⟩
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i), fun i => real_of_lt _ (Host.reduce_andi_all _ _ _ _ _ h3 i),
    fun i => real_of_lt _ (Host.reduce_andi_all _ _ _ _ _ h4 i), fun i => real_of_lt _ (Host.reduce_andi_all _ _ _ _ _ h5 i),
    fun i => real_of_lt _ (Host.reduce_andi_all _ _ _ _ _ h6 i), fun i => real_of_lt _ (Host.reduce_andi_all _ _ _ _ _ h7 i),
    fun i => real_of_lt _ (Host.reduce_andi_all _ _ _ _ _ h8 i), fun i => real_of_lt _ (Host.reduce_andi_all _ _ _ _ _ h9 i),
    fun i => real_of_lt _ (Host.reduce_andi_all _ _ _ _ _ h10 i), fun i => real_of_lt _ (Host.reduce_andi_all _ _ _ _ _ h11 i)⟩

theorem three {A B C R : Type*} (f : A → B → C → R) {a a' : A} {b b' : B} {c c' : C} (h0 : a = a') (h1 : b = b') (h2 : c = c') :
    f a b c = f a' b' c' := by rw [h0, h1, h2]
theorem twelve {A B C D E G H I J K L M R : Type*} (f : A → B → C → D → E → G → H → I → J → K → L → M → R)
    {a a' : A} {b b' : B} {c c' : C} {d d' : D} {e e' : E} {g g' : G} {h h' : H} {i i' : I} {j j' : J} {k k' : K} {l l' : L} {m m' : M}
    (h0 : a = a') (h1 : b = b') (h2 : c = c') (h3 : d = d') (h4 : e = e') (h5 : g = g') (h6 : h = h') (h7 : i = i') (h8 : j = j')
    (h9 : k = k') (h10 : l = l') (h11 : m = m') : f a b c d e g h i j k l m = f a' b' c' d' e' g' h' i' j' k' l' m' := by
  rw [h0, h1, h2, h3, h4, h5, h6, h7, h8, h9, h10, h11]

/-- Of finite arguments kernel and reference leave the same four arrays. -/
theorem equal : Cert.algebraic_Kernel5Ideal_Reference5Ideal_pre_finite5 (hPre_finite5 := pre_facts) := by
  haveI := pre_facts
  intro m g m' g' hpre hagree
  refine ⟨fun c => reluA m c, fun c => drA m c, fun c => accA m c, fun c => lossA m c, ?_, ?_⟩
  · exact (θ_run _ _ _).mono (fun r h c => ⟨(h c).1.trans (relu_array m c), (h c).2.1.trans (dr_array m c), (h c).2.2.1.trans (acc_array m c),
      (h c).2.2.2.1.trans (loss_array m c (finite_of_pre _ _ _ _ _ _ _ _ _ _ _ _ (hpre c))), (h c).2.2.2.2⟩)
      (Cert.Kernel5Ideal.Value.run_blocks (F := Ideal) m g)
  · refine (θ_run _ _ _).mono (fun r h c => ?_) (Cert.Reference5Ideal.Value.run (F := Ideal) m' g')
    obtain ⟨e0, e1, e2, e3, e4, e5, e6, e7, e8, e9, e10, e11⟩ := hagree c
    have hp := finite_of_pre _ _ _ _ _ _ _ _ _ _ _ _ (hpre c)
    refine ⟨(h c).1.trans ((val_main_v105_eq ..).trans ?_), (h c).2.1.trans ((val_main_v100_eq ..).trans ?_),
      (h c).2.2.1.trans ((val_main_v111_eq ..).trans ?_), (h c).2.2.2.1.trans ((val_main_v112_eq ..).trans ?_), (h c).2.2.2.2⟩
    · exact (three (val_main_v105 (F := Ideal)) e0 e4 e5).trans (funext fun y => by idx_vars y; exact ref_relu _ _ _ y0 y1)
    · exact (twelve (val_main_v100 (F := Ideal)) e0 e1 e2 e3 e4 e5 e6 e7 e8 e9 e10 e11).trans (funext fun y => by idx_vars y; exact ref_dr hp y0 y1)
    · exact (twelve (val_main_v111 (F := Ideal)) e0 e1 e2 e3 e4 e5 e6 e7 e8 e9 e10 e11).trans (funext fun y => by idx_vars y; exact ref_acc hp y0 y1)
    · exact (twelve (val_main_v112 (F := Ideal)) e0 e1 e2 e3 e4 e5 e6 e7 e8 e9 e10 e11).trans (funext fun y => by
        idx_vars y
        obtain rfl : y0 = 0 := Subsingleton.elim _ _
        exact ref_loss hp y1)

end Cert.Loss

end
-- ==== Proof.InBlock.lean ====
/-
  THE INPUT PROJECTION'S BACKWARD PASS: WHAT ONE GRID POINT COMPUTES. A point holds 512 rows of the five gradients of the projection's
  parts, of the normalised input and of the other gradient of the norm's output. It multiplies back by the weight, adds up the four rows of
  parameter gradients, and goes back through the norm in one pass. The call before it leaves the normalised input and the
  reciprocals of the deviations.
-/
module

public import proofs.«01_k».proof.Proof.Gen.Kernel7Ideal.Frame
public import proofs.«01_k».proof.Proof.LossBlock

@[expose] public section

set_option maxRecDepth 16384

noncomputable section

namespace Cert.In

open Cert.Kernel7Ideal Cert.Kernel7Ideal.Gen Idealize.ShloMosaic Idealize.ShloMosaic.TcCoe Idealize.SL.Sem Idealize.ShloMosaic.Pointwise
  Idealize.ShloMosaic.Tactic
open Idealize.ShloMosaic.Pipeline (Dat)
open Cert.Norm
open Cert.Loss (row ld_row0 ld_row1 ld_row2 ld_row3)

/-! ## The formulas of one row -/

section Row
variable (a : Fin 1024 → EReal) (b : Fin 1536 → EReal) (q : Fin 1024 → EReal) (kv : Fin 256 → EReal) (dt : Fin 128 → EReal)
  (w : Fin 3856 → Fin 1024 → EReal) (u xh d0 g be p : Fin 1024 → EReal)

/-- The gradient of the projection's input: each part's gradient by its rows of the weight. -/
def du (j : Fin 1024) : EReal :=
  ∑ k : Fin 1024, a k * w ⟨k.val, by omega⟩ j + ∑ k : Fin 1536, b k * w ⟨1024 + k.val, by omega⟩ j
    + ∑ k : Fin 1024, q k * w ⟨2576 + k.val, by omega⟩ j + ∑ k : Fin 256, kv k * w ⟨3600 + k.val, by omega⟩ j
    + ∑ k : Fin 128, dt k * w ⟨2560 + k.val, by omega⟩ j
/-- From it, `u`, the gradient of the norm's output and of the normalised row, -/
def dh (j : Fin 1024) : EReal := d0 j + u j * (1 + p j)
def dn (j : Fin 1024) : EReal := dh u d0 p j * g j
/-- and the row's part of the four parameter gradients. -/
def term (k : Fin 8) (j : Fin 1024) : EReal :=
  if k.val = 0 then u j * (xh j * g j + be j) else if k.val = 1 then u j
  else if k.val = 2 then dh u d0 p j * xh j else if k.val = 3 then dh u d0 p j else 0
end Row

/-! ## The formulas over one tile -/

section Tile
variable (x0 : Vec Ideal S512x1024 .bf16) (x1 : Vec Ideal S512x1536 .bf16) (x2 : Vec Ideal S512x1024 .bf16) (x3 : Vec Ideal S512x256 .f32)
  (x4 : Vec Ideal S512x128 .f32) (x5 : Vec Ideal S3856x1024 .bf16) (x6 : Vec Ideal S512x1024 .f32) (x7 : Vec Ideal S512x1 .f32)
  (x8 : Vec Ideal S512x1024 .f32) (x9 : Vec Ideal S8x1024 .f32)

def duT (r : Fin 512) : Fin 1024 → EReal :=
  du (fun k => x0 (ix2 r k)) (fun k => x1 (ix2 r k)) (fun k => x2 (ix2 r k)) (fun k => x3 (ix2 r k)) (fun k => x4 (ix2 r k)) fun k j => x5 (ix2 k j)
def gxT (r : Fin 512) : Fin 1024 → EReal :=
  back (dn (duT x0 x1 x2 x3 x4 x5 r) (fun j => x8 (ix2 r j)) (fun j => x9 (ix2 0 j)) fun j => x9 (ix2 2 j)) (fun j => x6 (ix2 r j)) (x7 (ix2 r 0))
def termT (r : Fin 512) : Fin 8 → Fin 1024 → EReal :=
  term (duT x0 x1 x2 x3 x4 x5 r) (fun j => x6 (ix2 r j)) (fun j => x8 (ix2 r j)) (fun j => x9 (ix2 0 j)) (fun j => x9 (ix2 1 j)) fun j => x9 (ix2 2 j)

theorem du_read (r : Fin 512) (j : Fin 1024) :
    k1_pay7 (F := Ideal)
      (k1_pay5 x0 (View.ld x5 (Rect.unit ![0, 0] ![1024, 1024] inb_S3856x1024_S1024x1024_0_0)) x1
        (View.ld x5 (Rect.unit ![1024, 0] ![1536, 1024] inb_S3856x1024_S1536x1024_1024_0)) x2
        (View.ld x5 (Rect.unit ![2576, 0] ![1024, 1024] inb_S3856x1024_S1024x1024_2576_0)) x3
        (View.ld x5 (Rect.unit ![3600, 0] ![256, 1024] inb_S3856x1024_S256x1024_3600_0)))
      (k1_pay6 x4 (View.ld x5 (Rect.unit ![2560, 0] ![128, 1024] inb_S3856x1024_S128x1024_2560_0))) (ix2 r j)
      = duT x0 x1 x2 x3 x4 x5 r j := by
  unfold duT du
  unfold_payloads
  pointwise
end Tile

/-! ## The payloads, each over what goes into it -/

section Stages
variable (A B C D E : Vec Ideal S512x1024 .f32) (o p q : Vec Ideal S1x1024 .f32) (s : Vec Ideal S512x1 .f32)

theorem pay9_at (j : Fin 1024) : k1_pay9 (F := Ideal) A B C p q o (ix2 0 j)
    = o (ix2 0 j) + ∑ r : Fin 512, k1_pay7 (F := Ideal) A B (ix2 r j) * (C (ix2 r j) * p (ix2 0 j) + q (ix2 0 j)) := by
  unfold k1_pay9 k1_pay8
  pointwise
theorem pay10_at (j : Fin 1024) : k1_pay10 (F := Ideal) A B o (ix2 0 j) = o (ix2 0 j) + ∑ r : Fin 512, k1_pay7 (F := Ideal) A B (ix2 r j) := by
  unfold k1_pay10
  pointwise
theorem pay11_at (r : Fin 512) (j : Fin 1024) : k1_pay11 (F := Ideal) A B D p (ix2 r j)
    = D (ix2 r j) + k1_pay7 (F := Ideal) A B (ix2 r j) * (1 + p (ix2 0 j)) := by
  unfold k1_pay11
  pointwise
theorem pay13_at (r : Fin 512) (j : Fin 1024) : k1_pay13 (F := Ideal) A B C D p (ix2 r j) = k1_pay11 (F := Ideal) A B D p (ix2 r j) * C (ix2 r j) := by
  unfold k1_pay13 k1_pay8
  pointwise
theorem pay1_at (j : Fin 1024) : k1_pay1 (F := Ideal) (k1_pay12 o) E (ix2 0 j) = o (ix2 0 j) + ∑ r : Fin 512, E (ix2 r j) := by
  unfold k1_pay1 k1_pay12
  pointwise
theorem pay2_at (j : Fin 1024) : k1_pay2 (F := Ideal) E o (ix2 0 j) = o (ix2 0 j) + ∑ r : Fin 512, E (ix2 r j) := by
  unfold k1_pay2
  pointwise
theorem pay3_at (r : Fin 512) (j : Fin 1024) : k1_pay3 (F := Ideal) (k1_pay8 C) E p s (ix2 r j)
    = back (fun j => E (ix2 r j) * p (ix2 0 j)) (fun j => C (ix2 r j)) (s (ix2 r 0)) j := by
  unfold k1_pay3 k1_pay8 back mean width
  pointwise
/-- The sums start from zero. -/
theorem zero_at (k : Fin 8) (j : Fin 1024) : k1_pay4 (F := Ideal) (ix2 k j) = 0 := by
  unfold k1_pay4
  pointwise
theorem row_zero (k : Fin 8) (j : Fin 1024) : row (k1_pay4 (F := Ideal)) k (ix2 0 j) = 0 := zero_at k j
/-- What the call before leaves of a row. -/
theorem hat_at (r : Fin 512) (j : Fin 1024) : k0_pay9 (F := Ideal) C (ix2 r j) = hat (fun j => C (ix2 r j)) j := by
  unfold hat rstd cen mean width small k0_pay9 k0_pay8 k0_pay7
  pointwise
theorem rstd_at (r : Fin 512) : k0_pay8 (F := Ideal) C (ix2 r 0) = rstd fun j => C (ix2 r j) := by
  unfold rstd cen mean width small k0_pay8 k0_pay7
  pointwise
end Stages

variable (V : (c : Dev nD) → (b : Ref sig .tc) → Buf (Elt Ideal) ((c : Thread nD τ).loc b))

set_option maxHeartbeats 2000000 in
/-- The gradient of the input after any point. -/
theorem gx_block (c : Dev nD) (t : Fin cfg1.N) (r : Fin 512) (j : Fin 1024) :
    (outsAt1 V c t.val t.isLt).1 (ix2 r j) = gxT (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) r j := by
  by_cases h : t.val % 8 = 0
  · rw [outsAt1_A V c t h]
    frame_open
    simp (disch := decide) only [View.read_writes_junk_eq_canon, View.canon_cons_unit_lit', View.readAt_eq_ld, View.ld_unit_lit', Memref.IsWhole.read_unread]
    simp only [pay3_at, pay11_at, du_read]
    rw [ld_row0, ld_row2]
    rfl
  · rw [outsAt1_B V c t h]
    frame_open
    simp (disch := decide) only [View.read_writes_junk_eq_canon, View.canon_cons_unit_lit', View.readAt_eq_ld, View.ld_unit_lit', Memref.IsWhole.read_unread]
    simp only [pay3_at, pay11_at, du_read]
    rw [ld_row0, ld_row2]
    rfl

set_option maxHeartbeats 1000000 in
/-- The sums after a point that is not the first. -/
theorem acc_later (c : Dev nD) (t : Fin cfg1.N) (h : ¬ t.val % 8 = 0) (k : Fin 8) (j : Fin 1024) :
    (outsAt1 V c t.val t.isLt).2 (ix2 k j)
      = (outsAt1 V c (t.val - 1) (Nat.lt_of_le_of_lt (Nat.sub_le _ _) t.isLt)).2 (ix2 k j)
        + ∑ r : Fin 512, termT (iblk1 V c 0 t) (iblk1 V c 1 t) (iblk1 V c 2 t) (iblk1 V c 3 t) (iblk1 V c 4 t) (iblk1 V c 5 t) (iblk1 V c 6 t) (iblk1 V c 8 t) (iblk1 V c 9 t) r k j := by
  rw [outsAt1_B V c t h]
  generalize outsAt1 V c (t.val - 1) (Nat.lt_of_le_of_lt (Nat.sub_le _ _) t.isLt) = P
  frame_open
  simp (disch := decide) only [↓ View.readCov_skip, ↓ View.readCov_cons_toLoadRect, ↓ View.readCov_fill]
  unfold termT term
  fin_cases k
  all_goals
    simp (disch := decide) only [↓ Cert.Row.hit, ↓ Cert.Row.miss, ↓ Cert.Row.fill]
    simp (maxSteps := 2000000) (disch := decide) only [View.readAt_eq_ld, View.ld_unit_lit', Memref.IsWhole.read_unread,
      Nat.reduceEqDiff, ↓reduceIte, View.writes_nil, Finset.sum_const_zero, add_zero]
  all_goals
    simp only [pay9_at, pay10_at, pay13_at, pay11_at, pay1_at, pay2_at, du_read]
  · rw [ld_row0 (iblk1 V c 9 t), ld_row1 (iblk1 V c 9 t), ld_row0]
    rfl
  · rw [ld_row1]
    rfl
  · rw [ld_row2 (iblk1 V c 9 t), ld_row2]
    rfl
  · rw [ld_row2 (iblk1 V c 9 t), ld_row3]
    rfl

set_option maxHeartbeats 1000000 in
/-- The sums after the first point. -/
theorem acc_first (c : Dev nD) (t : Fin cfg1.N) (h : t.val % 8 = 0) (k : Fin 8) (j : Fin 1024) :
    (outsAt1 V c t.val t.isLt).2 (ix2 k j) = 0 + ∑ r : Fin 512, termT (iblk1 V c 0 t) (iblk1 V c 1 t) (iblk1 V c 2 t) (iblk1 V c 3 t) (iblk1 V c 4 t) (iblk1 V c 5 t) (iblk1 V c 6 t) (iblk1 V c 8 t) (iblk1 V c 9 t) r k j := by
  rw [outsAt1_A V c t h]
  frame_open
  simp (disch := decide) only [↓ View.readCov_skip, ↓ View.readCov_cons_toLoadRect, ↓ View.readCov_fill]
  unfold termT term
  fin_cases k
  all_goals
    simp (disch := decide) only [↓ Cert.Row.hit, ↓ Cert.Row.miss, ↓ Cert.Row.fill]
    simp (maxSteps := 2000000) (disch := decide) only [View.readAt_eq_ld, View.ld_unit_lit', Memref.IsWhole.read_unread,
      Nat.reduceEqDiff, ↓reduceIte, View.writes_nil, Finset.sum_const_zero, add_zero]
  all_goals
    try simp only [pay9_at, pay10_at, pay13_at, pay11_at, pay1_at, pay2_at, du_read]
  · rw [ld_row0 (iblk1 V c 9 t), ld_row1 (iblk1 V c 9 t), ld_row0, row_zero]
    rfl
  · rw [ld_row1, row_zero]
  · rw [ld_row2 (iblk1 V c 9 t), ld_row2, row_zero]
    rfl
  · rw [ld_row2 (iblk1 V c 9 t), ld_row3, row_zero]
    rfl
  all_goals exact zero_at _ _

end Cert.In

end
-- ==== Proof.InArray.lean ====
/-
  The arrays the two calls leave, as functions of the arrays they find.
-/
module

public import proofs.«01_k».proof.Proof.InBlock

@[expose] public section

set_option maxRecDepth 16384

noncomputable section

namespace Cert.In

open Cert.Kernel7Ideal Cert.Kernel7Ideal.Gen Idealize.ShloMosaic Idealize.ShloMosaic.TcCoe Idealize.SL.Sem Idealize.ShloMosaic.Pointwise
  Idealize.ShloMosaic.Tactic
open Idealize.ShloMosaic.Pipeline (Dat)
open Cert.Norm

section Arrays
variable (dz : Vec Ideal S4096x1024 .f32) (dxbc : Vec Ideal S4096x1536 .f32) (dq : Vec Ideal S4096x1024 .f32) (dkv : Vec Ideal S4096x256 .f32)
  (ddt : Vec Ideal S4096x128 .f32) (w : Fin 3856 → Fin 1024 → EReal) (xh : Fin 4096 → Fin 1024 → EReal) (rs : Fin 4096 → EReal)
  (dh0 : Vec Ideal S4096x1024 .f32) (g be p : Fin 1024 → EReal)

def duAt (i : Fin 4096) : Fin 1024 → EReal :=
  du (fun k => dz (ix2 i k)) (fun k => dxbc (ix2 i k)) (fun k => dq (ix2 i k)) (fun k => dkv (ix2 i k)) (fun k => ddt (ix2 i k)) w
def gxAt (i : Fin 4096) : Fin 1024 → EReal := back (dn (duAt dz dxbc dq dkv ddt w i) (fun j => dh0 (ix2 i j)) g p) (xh i) (rs i)
def termAt (i : Fin 4096) : Fin 8 → Fin 1024 → EReal := term (duAt dz dxbc dq dkv ddt w i) (xh i) (fun j => dh0 (ix2 i j)) g be p
end Arrays

variable (V : (c : Dev nD) → (b : Ref sig .tc) → Buf (Elt Ideal) ((c : Thread nD τ).loc b)) (c : Dev nD)

theorem lt_N0 (t : Fin cfg0.N) : t.val < 8 := lt_of_lt_of_eq t.isLt N_0
theorem lt_N1 (t : Fin cfg1.N) : t.val < 8 := lt_of_lt_of_eq t.isLt N_1

/-! ## The call before: the rows normalised and the reciprocals of their deviations -/

theorem idx0_0 : ∀ t : Fin grid0.N, win0_0.index t = ![t.val, 0] := by decide +kernel
theorem idx0_6 : ∀ t : Fin grid0.N, win0_6.index t = ![t.val, 0] := by decide +kernel
theorem idx0_7 : ∀ t : Fin grid0.N, win0_7.index t = ![t.val, 0] := by decide +kernel

theorem x_read (t : Fin cfg0.N) (r : Fin 512) (j : Fin 1024) :
    iblk0 V c 0 t (ix2 r j) = (V c main_arg0 : Vec Ideal S4096x1024 .f32) (ix2 ⟨t.val * 512 + r.val, by have := lt_N0 t; omega⟩ j) := by
  blk_ext [iblk0, idx0_0 t]

/-- A row of the input. -/
abbrev rowOf (x : Vec Ideal S4096x1024 .f32) (i : Fin 4096) : Fin 1024 → EReal := fun j => x (ix2 i j)

theorem hat_array : (dat0 V c).arrAt 6 cfg0.N = (fun y => hat (rowOf (V c main_arg0) (y 0)) (y 1) : Vec Ideal S4096x1024 .f32) := by
  refine (dat0 V c).arrAt_eq_of_covers 6 _ (by decide +kernel) fun t hf y => ?_
  blk_simp
  rw [after0_6]
  unfold_out out0_6
  simp (disch := decide) only [View.canon_cons_unit_lit', View.ld_unit_lit']
  idx_vars y
  have hN := lt_N0 t
  have e : (win0_6.blk t).view.emb (ix2 y0 y1) = (ix2 ⟨t.val * 512 + y0.val, by omega⟩ y1 : S4096x1024.Idx) := by
    blk_ext [idx0_6 t]
  refine (hat_at (iblk0 V c 0 t) y0 y1).trans ?_
  simp only [x_read]
  exact (congrArg (fun y => hat (rowOf (V c main_arg0) (y 0)) (y 1) : Vec Ideal S4096x1024 .f32) e).symm

theorem rstd_array : (dat0 V c).arrAt 7 cfg0.N = (fun y => rstd (rowOf (V c main_arg0) (y 0)) : Vec Ideal S4096x1 .f32) := by
  refine (dat0 V c).arrAt_eq_of_covers 7 _ (by decide +kernel) fun t hf y => ?_
  blk_simp
  rw [after0_7]
  unfold_out out0_7
  simp (disch := decide) only [View.canon_cons_unit_lit', View.ld_unit_lit']
  idx_vars y
  obtain rfl : y1 = 0 := Subsingleton.elim _ _
  have hN := lt_N0 t
  have e : (win0_7.blk t).view.emb (ix2 y0 0) = (ix2 ⟨t.val * 512 + y0.val, by omega⟩ 0 : S4096x1.Idx) := by
    blk_ext [idx0_7 t]
  refine (rstd_at (iblk0 V c 0 t) y0).trans ?_
  simp only [x_read]
  exact (congrArg (fun y => rstd (rowOf (V c main_arg0) (y 0)) : Vec Ideal S4096x1 .f32) e).symm

/-! ## The backward call -/

theorem idx1_0 : ∀ t : Fin grid1.N, win1_0.index t = ![t.val, 0] := by decide +kernel
theorem idx1_1 : ∀ t : Fin grid1.N, win1_1.index t = ![t.val, 0] := by decide +kernel
theorem idx1_2 : ∀ t : Fin grid1.N, win1_2.index t = ![t.val, 0] := by decide +kernel
theorem idx1_3 : ∀ t : Fin grid1.N, win1_3.index t = ![t.val, 0] := by decide +kernel
theorem idx1_4 : ∀ t : Fin grid1.N, win1_4.index t = ![t.val, 0] := by decide +kernel
theorem idx1_5 : ∀ t : Fin grid1.N, win1_5.index t = ![0, 0] := by decide +kernel
theorem idx1_6 : ∀ t : Fin grid1.N, win1_6.index t = ![t.val, 0] := by decide +kernel
theorem idx1_7 : ∀ t : Fin grid1.N, win1_7.index t = ![t.val, 0] := by decide +kernel
theorem idx1_8 : ∀ t : Fin grid1.N, win1_8.index t = ![t.val, 0] := by decide +kernel
theorem idx1_9 : ∀ t : Fin grid1.N, win1_9.index t = ![0, 0] := by decide +kernel
theorem idx1_10 : ∀ t : Fin grid1.N, win1_10.index t = ![t.val, 0] := by decide +kernel
theorem idx1_11 : ∀ t : Fin grid1.N, win1_11.index t = ![0, 0] := by decide +kernel

section Reads
variable (t : Fin cfg1.N)

theorem dz_read (r : Fin 512) (j : Fin 1024) : iblk1 V c 0 t (ix2 r j) = (V c main_v12 : Vec Ideal S4096x1024 .bf16) (ix2 ⟨t.val * 512 + r.val, by have := lt_N1 t; omega⟩ j) := by
  blk_ext [iblk1, idx1_0 t]
theorem dxbc_read (r : Fin 512) (j : Fin 1536) : iblk1 V c 1 t (ix2 r j) = (V c main_v13 : Vec Ideal S4096x1536 .bf16) (ix2 ⟨t.val * 512 + r.val, by have := lt_N1 t; omega⟩ j) := by
  blk_ext [iblk1, idx1_1 t]
theorem dq_read (r : Fin 512) (j : Fin 1024) : iblk1 V c 2 t (ix2 r j) = (V c main_v14 : Vec Ideal S4096x1024 .bf16) (ix2 ⟨t.val * 512 + r.val, by have := lt_N1 t; omega⟩ j) := by
  blk_ext [iblk1, idx1_2 t]
theorem dkv_read (r : Fin 512) (j : Fin 256) : iblk1 V c 3 t (ix2 r j) = (V c main_arg10 : Vec Ideal S4096x256 .f32) (ix2 ⟨t.val * 512 + r.val, by have := lt_N1 t; omega⟩ j) := by
  blk_ext [iblk1, idx1_3 t]
theorem ddt_read (r : Fin 512) (j : Fin 128) : iblk1 V c 4 t (ix2 r j) = (V c main_arg8 : Vec Ideal S4096x128 .f32) (ix2 ⟨t.val * 512 + r.val, by have := lt_N1 t; omega⟩ j) := by
  blk_ext [iblk1, idx1_4 t]
theorem w_read (k : Fin 3856) (j : Fin 1024) : iblk1 V c 5 t (ix2 k j) = (V c main_v1 : Vec Ideal S3856x1024 .bf16) (ix2 k j) := by
  blk_ext [iblk1, idx1_5 t]
theorem xh_read (r : Fin 512) (j : Fin 1024) : iblk1 V c 6 t (ix2 r j) = (V c main_v6_0 : Vec Ideal S4096x1024 .f32) (ix2 ⟨t.val * 512 + r.val, by have := lt_N1 t; omega⟩ j) := by
  blk_ext [iblk1, idx1_6 t]
theorem rs_read (r : Fin 512) : iblk1 V c 7 t (ix2 r 0) = (V c main_v6_1 : Vec Ideal S4096x1 .f32) (ix2 ⟨t.val * 512 + r.val, by have := lt_N1 t; omega⟩ 0) := by
  blk_ext [iblk1, idx1_7 t]
theorem dh0_read (r : Fin 512) (j : Fin 1024) : iblk1 V c 8 t (ix2 r j) = (V c main_arg11 : Vec Ideal S4096x1024 .f32) (ix2 ⟨t.val * 512 + r.val, by have := lt_N1 t; omega⟩ j) := by
  blk_ext [iblk1, idx1_8 t]
theorem rows_read (k : Fin 8) (j : Fin 1024) : iblk1 V c 9 t (ix2 k j) = (V c main_v11 : Vec Ideal S8x1024 .f32) (ix2 k j) := by
  blk_ext [iblk1, idx1_9 t]
end Reads

/-- The two results over the arrays found. -/
abbrev duV (i : Fin 4096) : Fin 1024 → EReal :=
  duAt (V c main_v12) (V c main_v13) (V c main_v14) (V c main_arg10) (V c main_arg8) (fun k j => (V c main_v1 : Vec Ideal S3856x1024 .bf16) (ix2 k j)) i
abbrev gxV (i : Fin 4096) : Fin 1024 → EReal :=
  gxAt (V c main_v12) (V c main_v13) (V c main_v14) (V c main_arg10) (V c main_arg8) (fun k j => (V c main_v1 : Vec Ideal S3856x1024 .bf16) (ix2 k j))
    (fun i j => (V c main_v6_0 : Vec Ideal S4096x1024 .f32) (ix2 i j)) (fun i => (V c main_v6_1 : Vec Ideal S4096x1 .f32) (ix2 i 0)) (V c main_arg11)
    (fun j => (V c main_v11 : Vec Ideal S8x1024 .f32) (ix2 0 j)) (fun j => (V c main_v11 : Vec Ideal S8x1024 .f32) (ix2 2 j)) i
abbrev termV (i : Fin 4096) : Fin 8 → Fin 1024 → EReal :=
  termAt (V c main_v12) (V c main_v13) (V c main_v14) (V c main_arg10) (V c main_arg8) (fun k j => (V c main_v1 : Vec Ideal S3856x1024 .bf16) (ix2 k j))
    (fun i j => (V c main_v6_0 : Vec Ideal S4096x1024 .f32) (ix2 i j)) (V c main_arg11) (fun j => (V c main_v11 : Vec Ideal S8x1024 .f32) (ix2 0 j))
    (fun j => (V c main_v11 : Vec Ideal S8x1024 .f32) (ix2 1 j)) (fun j => (V c main_v11 : Vec Ideal S8x1024 .f32) (ix2 2 j)) i

section Tiles
variable (t : Fin cfg1.N)

theorem du_eq (r : Fin 512) : duT (iblk1 V c 0 t) (iblk1 V c 1 t) (iblk1 V c 2 t) (iblk1 V c 3 t) (iblk1 V c 4 t) (iblk1 V c 5 t) r
    = duV V c ⟨t.val * 512 + r.val, by have := lt_N1 t; omega⟩ := by
  unfold duT duV duAt
  simp only [dz_read, dxbc_read, dq_read, dkv_read, ddt_read, w_read]
theorem gx_eq (r : Fin 512) : gxT (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) r
    = gxV V c ⟨t.val * 512 + r.val, by have := lt_N1 t; omega⟩ := by
  unfold gxT gxV gxAt
  simp only [du_eq, xh_read, rs_read, dh0_read, rows_read]
theorem term_eq (r : Fin 512) : termT (iblk1 V c 0 t) (iblk1 V c 1 t) (iblk1 V c 2 t) (iblk1 V c 3 t) (iblk1 V c 4 t) (iblk1 V c 5 t) (iblk1 V c 6 t) (iblk1 V c 8 t) (iblk1 V c 9 t) r
    = termV V c ⟨t.val * 512 + r.val, by have := lt_N1 t; omega⟩ := by
  unfold termT termV termAt
  simp only [du_eq, xh_read, dh0_read, rows_read]

/-- The running sums after the last point. -/
theorem acc_last (ht : t.val % 8 = 7) (k : Fin 8) (j : Fin 1024) : (outsAt1 V c t.val t.isLt).2 (ix2 k j) = ∑ i, termV V c i k j := by
  have hN := lt_N1 t
  have hs := Pipeline.eq_sum_fin_of_reset_step_apply_last (N := cfg1.N) (fun n h => fun j : Fin 1024 => (outsAt1 V c n h).2 (ix2 k j)) 8 (fun _ => 0)
    (fun t j => ∑ r : Fin 512, termT (iblk1 V c 0 t) (iblk1 V c 1 t) (iblk1 V c 2 t) (iblk1 V c 3 t) (iblk1 V c 4 t) (iblk1 V c 5 t) (iblk1 V c 6 t) (iblk1 V c 8 t) (iblk1 V c 9 t) r k j)
    (fun t h j => acc_first V c t h k j) (fun t h j => acc_later V c t h k j) (le_of_eq N_1) t (by have h8 : cfg1.N = 8 := N_1; omega) j
  simp only [zero_add, term_eq] at hs
  exact hs.trans (Fin.sum_mul_add_fin (S := 8) (n := 512) (f := fun i => termV V c i k j))
end Tiles

theorem gx_array : (dat1 V c).arrAt 10 cfg1.N = (fun y => gxV V c (y 0) (y 1) : Vec Ideal S4096x1024 .f32) := by
  refine (dat1 V c).arrAt_eq_of_covers 10 _ (by decide +kernel) fun t hf y => ?_
  blk_simp
  rw [after1_10]
  idx_vars y
  have hN := lt_N1 t
  have e : (win1_10.blk t).view.emb (ix2 y0 y1) = (ix2 ⟨t.val * 512 + y0.val, by omega⟩ y1 : S4096x1024.Idx) := by
    blk_ext [idx1_10 t]
  exact ((gx_block V c t y0 y1).trans (congrFun (gx_eq V c t y0) y1)).trans
    (congrArg (fun y => gxV V c (y 0) (y 1) : Vec Ideal S4096x1024 .f32) e).symm

theorem acc_array : (dat1 V c).arrAt 11 cfg1.N = (fun y => ∑ i, termV V c i (y 0) (y 1) : Vec Ideal S8x1024 .f32) := by
  refine (dat1 V c).arrAt_eq_of_covers 11 _ (by decide +kernel) fun t hf y => ?_
  blk_simp
  rw [after1_11]
  idx_vars y
  have e : (win1_11.blk t).view.emb (ix2 y0 y1) = (ix2 y0 y1 : S8x1024.Idx) := by
    blk_ext [idx1_11 t]
  exact (acc_last V c t ((flush1_11 t).mp hf) y0 y1).trans
    (congrArg (fun y => ∑ i, termV V c i (y 0) (y 1) : Vec Ideal S8x1024 .f32) e).symm

end Cert.In

end
-- ==== Proof.InReference.lean ====
/-
  The reference of the input projection's backward pass: its arrays are the same functions. The gradients of the projection's parts, laid side by
  side or padded to the projection's width and added, are multiplied back by the whole weight at once; on finite arguments that
  product is the sum of the parts' products.
-/
module

public import proofs.«01_k».proof.Proof.InArray
public import proofs.«01_k».proof.Proof.LossReference
public import proofs.«01_k».proof.Proof.Gen.Reference7Ideal.Run
public import proofs.«01_k».proof.Proof.Gen.Reference7Ideal.Read

@[expose] public section

set_option maxRecDepth 16384

noncomputable section

namespace Cert.In

open Cert.Reference7Ideal Cert.Reference7Ideal.Read
open Idealize.ShloMosaic Idealize.ShloMosaic.TcCoe Idealize.ShloMosaic.Tactic Idealize.ShloMosaic.Pointwise
open Cert.Norm
open Cert.Loss (Finite add_real)
open Cert.Swa (mul_real sum_real)

section Arrays
variable (x : Vec Ideal S4096x1024 .f32) (g be p : Vec Ideal S1024 .f32) (w : Vec Ideal S1024x3856 .f32) (dz : Vec Ideal S4096x1024 .f32)
  (dxbc : Vec Ideal S4096x1536 .f32) (ddt : Vec Ideal S4096x128 .f32) (dq : Vec Ideal S4096x1024 .f32) (dkv : Vec Ideal S4096x256 .f32)
  (dh0 : Vec Ideal S4096x1024 .f32)

/-- The results over the arguments: the gradient of the projection's input, of the input, and a row's part of the parameters' gradients. -/
abbrev duA (i : Fin 4096) : Fin 1024 → EReal := duAt dz dxbc dq dkv ddt (fun k j => w (ix2 j k)) i
abbrev gxA (i : Fin 4096) : Fin 1024 → EReal :=
  gxAt dz dxbc dq dkv ddt (fun k j => w (ix2 j k)) (fun i => hat (rowOf x i)) (fun i => rstd (rowOf x i)) dh0 (fun j => g (ix1 j)) (fun j => p (ix1 j)) i
abbrev termA (i : Fin 4096) : Fin 8 → Fin 1024 → EReal :=
  termAt dz dxbc dq dkv ddt (fun k j => w (ix2 j k)) (fun i => hat (rowOf x i)) dh0 (fun j => g (ix1 j)) (fun j => be (ix1 j)) (fun j => p (ix1 j)) i

/-- The arguments the gradients depend on are finite. -/
structure Fins : Prop where
  x : Finite x
  g : Finite g
  p : Finite p
  w : Finite w
  dz : Finite dz
  dxbc : Finite dxbc
  ddt : Finite ddt
  dq : Finite dq
  dkv : Finite dkv
  dh0 : Finite dh0

/-! ## The product with the whole weight -/

/-- A sum in two parts. -/
theorem cut {n : ℕ} (a b : ℕ) (h : n = a + b) (f : Fin n → EReal) :
    ∑ x, f x = ∑ k : Fin a, f ⟨k.val, by omega⟩ + ∑ k : Fin b, f ⟨a + k.val, by omega⟩ := by
  subst h
  exact Fin.sum_univ_add f

theorem ref_whole (i : Fin 4096) (j : Fin 1024) : val_main_v48 (F := Ideal) w dz dxbc ddt dq dkv (ix2 i j)
    = ∑ k : Fin 3856, (val_main_v44 (F := Ideal) ddt (ix2 i k) + val_main_v46 (F := Ideal) dz dxbc dq dkv (ix2 i k)) * w (ix2 j k) := by
  pointwise [val_main_v47, val_main_v48]
theorem ref_pad (i : Fin 4096) (j : Fin 1024) : ∑ k : Fin 3856, val_main_v44 (F := Ideal) ddt (ix2 i k) * w (ix2 j k)
    = ∑ k : Fin 128, ddt (ix2 i k) * w (ix2 j ⟨2560 + k.val, by omega⟩) := by
  pointwise [val_main_cst_7, val_main_v44]
  rw [cut 2560 1296 rfl, cut 128 1168 rfl]
  rw [Finset.sum_eq_zero fun k _ => ?_, zero_add, Finset.sum_eq_zero (s := (Finset.univ : Finset (Fin 1168))) fun k _ => ?_, add_zero]
  · refine Finset.sum_congr rfl fun k _ => ?_
    dsimp only
    split_ifs
    · exact congrArg (fun q => ddt (ix2 i q) * _) (Fin.ext (by dsimp only; omega))
    · exfalso
      omega
  all_goals
    dsimp only
    split_ifs
    · exfalso
      omega
    · exact zero_mul _
theorem ref_cat (i : Fin 4096) (j : Fin 1024) : ∑ k : Fin 3856, val_main_v46 (F := Ideal) dz dxbc dq dkv (ix2 i k) * w (ix2 j k)
    = ∑ k : Fin 1024, dz (ix2 i k) * w (ix2 j ⟨k.val, by omega⟩) + ∑ k : Fin 1536, dxbc (ix2 i k) * w (ix2 j ⟨1024 + k.val, by omega⟩)
      + ∑ k : Fin 1024, dq (ix2 i k) * w (ix2 j ⟨2576 + k.val, by omega⟩) + ∑ k : Fin 256, dkv (ix2 i k) * w (ix2 j ⟨3600 + k.val, by omega⟩) := by
  pointwise [val_main_cst_8, val_main_v45, val_main_v46]
  rw [cut 1024 2832 rfl, cut (n := 2832) 1536 1296 rfl, cut (n := 1296) 16 1280 rfl, cut (n := 1280) 1024 256 rfl,
    Finset.sum_eq_zero (s := (Finset.univ : Finset (Fin 16))) fun k _ => ?_, zero_add, ← add_assoc, ← add_assoc]
  · refine congrArg₂ (· + ·) (congrArg₂ (· + ·) (congrArg₂ (· + ·) ?_ ?_) ?_) ?_ <;> refine Finset.sum_congr rfl fun k _ => ?_
    all_goals
      have := k.isLt
      dsimp only
      split_ifs
      all_goals first
        | (exfalso; omega)
        | exact congrArg₂ (· * ·) (congrArg (fun q => dz (ix2 i q)) (Fin.ext (by dsimp only; try omega))) (congrArg (fun q => w (ix2 j q)) (Fin.ext (by dsimp only; try omega)))
        | exact congrArg₂ (· * ·) (congrArg (fun q => dxbc (ix2 i q)) (Fin.ext (by dsimp only; try omega))) (congrArg (fun q => w (ix2 j q)) (Fin.ext (by dsimp only; try omega)))
        | exact congrArg₂ (· * ·) (congrArg (fun q => dq (ix2 i q)) (Fin.ext (by dsimp only; try omega))) (congrArg (fun q => w (ix2 j q)) (Fin.ext (by dsimp only; try omega)))
        | exact congrArg₂ (· * ·) (congrArg (fun q => dkv (ix2 i q)) (Fin.ext (by dsimp only; try omega))) (congrArg (fun q => w (ix2 j q)) (Fin.ext (by dsimp only; try omega)))
  · have := k.isLt
    dsimp only
    split_ifs
    all_goals first
      | (exfalso; omega)
      | exact zero_mul _

theorem add_mul_real {a b c : EReal} (ha : ∃ r : ℝ, a = r) (hb : ∃ r : ℝ, b = r) (hc : ∃ r : ℝ, c = r) : (a + b) * c = a * c + b * c := by
  obtain ⟨a, rfl⟩ := ha
  obtain ⟨b, rfl⟩ := hb
  obtain ⟨c, rfl⟩ := hc
  rw [← EReal.coe_add, ← EReal.coe_mul, ← EReal.coe_mul, ← EReal.coe_mul, ← EReal.coe_add, add_mul]

/-! ## The norm's pieces -/

theorem ref_hat (i : Fin 4096) (j : Fin 1024) : val_main_v22 (F := Ideal) x (ix2 i j) = hat (rowOf x i) j := by
  unfold rowOf hat rstd cen mean width small
  pointwise [val_main_cst, val_main_v0, val_main_v1, val_main_cst_0, val_main_v2, val_main_v3, val_main_v4, val_main_v5, val_main_v6, val_main_cst_2,
    val_main_v9, val_main_v10, val_main_cst_3, val_main_v11, val_main_v12, val_main_v13, val_main_v14, val_main_cst_4, val_main_v15,
    val_main_v16, val_main_v17, val_main_v21, val_main_v22]
theorem ref_dn' (i : Fin 4096) (j : Fin 1024) : val_main_v67 (F := Ideal) g p w dz dxbc ddt dq dkv dh0 (ix2 i j)
    = (dh0 (ix2 i j) + val_main_v48 (F := Ideal) w dz dxbc ddt dq dkv (ix2 i j) * (1 + p (ix1 j))) * g (ix1 j) := by
  pointwise [val_main_v23, val_main_cst_6, val_main_v29, val_main_v30, val_main_v31, val_main_v55, val_main_v56, val_main_v57, val_main_v59,
    val_main_v66, val_main_v67]
theorem ref_prod (i : Fin 4096) (j : Fin 1024) : val_main_v73 (F := Ideal) x g p w dz dxbc ddt dq dkv dh0 (ix2 i j)
    = val_main_v67 (F := Ideal) g p w dz dxbc ddt dq dkv dh0 (ix2 i j) * rstd (rowOf x i) := by
  unfold rowOf rstd cen mean width small
  pointwise [val_main_cst, val_main_v0, val_main_v1, val_main_cst_0, val_main_v2, val_main_v3, val_main_v4, val_main_v5, val_main_v6, val_main_cst_2,
    val_main_v9, val_main_v10, val_main_cst_3, val_main_v11, val_main_v12, val_main_cst_4, val_main_v15, val_main_v16, val_main_v17,
    val_main_v72, val_main_v73]
theorem ref_sq (i : Fin 4096) (j : Fin 1024) : val_main_v82 (F := Ideal) x g p w dz dxbc ddt dq dkv dh0 (ix2 i j)
    = gSq (rowOf x i) (fun j => val_main_v67 (F := Ideal) g p w dz dxbc ddt dq dkv dh0 (ix2 i j)) j := by
  unfold rowOf gSq gVar rstd cen mean width small
  pointwise [val_main_cst, val_main_v0, val_main_v1, val_main_cst_0, val_main_v2, val_main_v3, val_main_v4, val_main_v5, val_main_v6, val_main_cst_1,
    val_main_v7, val_main_v8, val_main_cst_2, val_main_v9, val_main_v10, val_main_cst_3, val_main_v11, val_main_v12, val_main_v13,
    val_main_v14, val_main_cst_4, val_main_v15, val_main_v16, val_main_v17, val_main_v18, val_main_cst_5, val_main_v19, val_main_v20,
    val_main_v69, val_main_cst_17, val_main_v70, val_main_v71, val_main_v74, val_main_cst_19, val_main_v78, val_main_v79, val_main_cst_20,
    val_main_v80, val_main_v81, val_main_v82]
  simp only [Finset.univ_unique, Finset.sum_singleton]
theorem ref_gx' (i : Fin 4096) (j : Fin 1024) : val_main_v92 (F := Ideal) x g p w dz dxbc ddt dq dkv dh0 (ix2 i j)
    = gRow (rowOf x i) (fun j => val_main_v67 (F := Ideal) g p w dz dxbc ddt dq dkv dh0 (ix2 i j)) j := by
  unfold gRow width
  simp only [← ref_sq]
  pointwise [val_main_v75, val_main_cst_18, val_main_v76, val_main_v77, val_main_v83, val_main_cst_21, val_main_v84, val_main_v85, val_main_v86,
    val_main_v87, val_main_cst_22, val_main_v88, val_main_v89, val_main_cst_23, val_main_v90, val_main_v91, val_main_v92]
  simp only [Finset.univ_unique, Finset.sum_singleton, ref_prod]
  try rfl

variable {x g be p w dz dxbc ddt dq dkv dh0}

/-! ## On finite arguments -/

section Real
variable (h : Fins x g p w dz dxbc ddt dq dkv dh0)
include h

theorem real_pad (i : Fin 4096) (k : Fin 3856) : ∃ r : ℝ, val_main_v44 (F := Ideal) ddt (ix2 i k) = r := by
  pointwise [val_main_cst_7, val_main_v44]
  split_ifs
  all_goals first | exact h.ddt _ | exact ⟨0, rfl⟩
theorem real_cat (i : Fin 4096) (k : Fin 3856) : ∃ r : ℝ, val_main_v46 (F := Ideal) dz dxbc dq dkv (ix2 i k) = r := by
  pointwise [val_main_cst_8, val_main_v45, val_main_v46]
  split_ifs
  all_goals first | exact h.dz _ | exact h.dxbc _ | exact h.dq _ | exact h.dkv _ | exact ⟨0, rfl⟩
theorem ref_du (i : Fin 4096) (j : Fin 1024) : val_main_v48 (F := Ideal) w dz dxbc ddt dq dkv (ix2 i j) = duA w dz dxbc ddt dq dkv i j := by
  rw [ref_whole, Finset.sum_congr rfl fun k _ => add_mul_real (real_pad h i k) (real_cat h i k) (h.w (ix2 j k)), Finset.sum_add_distrib, ref_pad, ref_cat, add_comm]
  rfl
theorem real_du (i : Fin 4096) (j : Fin 1024) : ∃ r : ℝ, duA w dz dxbc ddt dq dkv i j = r :=
  add_real (add_real (add_real (add_real (sum_real _ _ fun _ => mul_real (h.dz _) (h.w _)) (sum_real _ _ fun _ => mul_real (h.dxbc _) (h.w _)))
    (sum_real _ _ fun _ => mul_real (h.dq _) (h.w _))) (sum_real _ _ fun _ => mul_real (h.dkv _) (h.w _)))
    (sum_real _ _ fun _ => mul_real (h.ddt _) (h.w _))
theorem ref_gx (i : Fin 4096) (j : Fin 1024) : val_main_v92 (F := Ideal) x g p w dz dxbc ddt dq dkv dh0 (ix2 i j)
    = gxA x g p w dz dxbc ddt dq dkv dh0 i j := by
  rw [ref_gx']
  simp only [ref_dn', ref_du h]
  exact gRow_eq _ _ (fun j => h.x (ix2 i j))
    (fun j => mul_real (add_real (h.dh0 _) (mul_real (real_du h i j) (add_real ⟨1, rfl⟩ (h.p _)))) (h.g _)) j

/-- The sums over the rows, one beneath the other, and four rows of zeros. -/
theorem ref_acc (k : Fin 8) (j : Fin 1024) : val_main_v99 (F := Ideal) x g be p w dz dxbc ddt dq dkv dh0 (ix2 k j)
    = ∑ i, termA x g be p w dz dxbc ddt dq dkv dh0 i k j := by
  unfold termA termAt term dh
  simp only [← ref_du h, ← ref_hat]
  fin_cases k <;> (pointwise [val_main_v23, val_main_v24, val_main_v25, val_main_v26, val_main_v27, val_main_v28, val_main_cst_6, val_main_v29, val_main_v30,
    val_main_v31, val_main_cst_9, val_main_v49, val_main_v50, val_main_cst_10, val_main_v51, val_main_v52, val_main_cst_11, val_main_v53,
    val_main_v54, val_main_v55, val_main_v56, val_main_v57, val_main_cst_12, val_main_v58, val_main_v59, val_main_cst_13, val_main_v60,
    val_main_v61, val_main_cst_14, val_main_v62, val_main_v63, val_main_cst_15, val_main_v64, val_main_v65, val_main_cst_16, val_main_v68,
    val_main_v93, val_main_v94, val_main_v95, val_main_v96, val_main_v97, val_main_cst_24, val_main_v98, val_main_v99])
  all_goals simp only [Finset.univ_unique, Finset.sum_singleton, Finset.sum_const_zero]
  all_goals exact Finset.sum_congr rfl fun i _ => mul_comm _ _

end Real

end Arrays

end Cert.In

end
-- ==== Proof.InRun.lean ====
/-
  THE INPUT PROJECTION'S TWO CALLS RUN: every execution ends with the two results at what the second call's write-backs leave and the
  arguments as launched. The launch is the frame's; only what is read off the last state is more.
-/
module

public import proofs.«01_k».proof.Proof.Gen.Kernel7Ideal.Frame

@[expose] public section

set_option maxRecDepth 16384

namespace Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- After any execution every buffer is at the last boundary's contents. -/
theorem run_last : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

/-- The two results and the arguments after any execution. -/
theorem run_results : θ_run defs (onTc (τ := τ) (main (F := F))) ⟨m, fun _ => 0, ρ⟩ (fun r => ∀ c : Dev nD,
      r.2.mem ((c.tc : Thread nD τ).loc main_v15_0) = (dat1 (V3 m ρ) c).arrAt 10 cfg1.N
      ∧ r.2.mem ((c.tc : Thread nD τ).loc main_v15_1) = (dat1 (V3 m ρ) c).arrAt 11 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run _ _ _).mono (fun r h c =>
      ⟨(h c _ (mem_uc main_v15_0 (by decide))).trans (W4_arr m ρ c 10),
       (h c _ (mem_uc main_v15_1 (by decide))).trans (W4_arr m ρ c 11),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)
    (run_last m ρ)

end Cert.Kernel7Ideal.Gen
-- ==== Proof.InValue.lean ====
/-
  The two arrays of the input projection's backward pass, each as one function of the arguments, and that on finite arguments the
  reference leaves the same ones.
-/
module

public import proofs.«01_k».proof.Defs
public import proofs.«01_k».proof.Proof.SwaValue
public import proofs.«01_k».proof.Proof.InReference
public import proofs.«01_k».proof.Proof.InRun

@[expose] public section

set_option maxRecDepth 16384

noncomputable section

namespace Cert.In

open Cert.Kernel7Ideal Cert.Kernel7Ideal.Gen Idealize.ShloMosaic Idealize.ShloMosaic.TcCoe Idealize.SL.Sem Idealize.ShloMosaic.Pointwise
  Idealize.ShloMosaic.Tactic
open Idealize.ShloMosaic.Pipeline (Dat)
open Cert.Reference7Ideal.Read
open Cert.Norm
open Cert.Swa (real_of_lt andi_left)

section Kernel

variable (m : (ℓ : Loc nD τ sig) → Buf (Elt Ideal) ℓ) (ρ : Dev nD → PrngReg) (c : Dev nD)

/-- The arguments. -/
abbrev inX : Vec Ideal S4096x1024 .f32 := m ((c : Thread nD τ).loc main_arg0)
abbrev inG : Vec Ideal S1024 .f32 := m ((c : Thread nD τ).loc main_arg1)
abbrev inBe : Vec Ideal S1024 .f32 := m ((c : Thread nD τ).loc main_arg2)
abbrev inP : Vec Ideal S1024 .f32 := m ((c : Thread nD τ).loc main_arg3)
abbrev inW : Vec Ideal S1024x3856 .f32 := m ((c : Thread nD τ).loc main_arg5)
abbrev inDz : Vec Ideal S4096x1024 .f32 := m ((c : Thread nD τ).loc main_arg6)
abbrev inDxbc : Vec Ideal S4096x1536 .f32 := m ((c : Thread nD τ).loc main_arg7)
abbrev inDdt : Vec Ideal S4096x128 .f32 := m ((c : Thread nD τ).loc main_arg8)
abbrev inDq : Vec Ideal S4096x1024 .f32 := m ((c : Thread nD τ).loc main_arg9)
abbrev inDkv : Vec Ideal S4096x256 .f32 := m ((c : Thread nD τ).loc main_arg10)
abbrev inDh0 : Vec Ideal S4096x1024 .f32 := m ((c : Thread nD τ).loc main_arg11)

/-! ## What the second call finds in its operands -/

theorem V3_dz : (V3 m ρ c main_v12 : Vec Ideal S4096x1024 .bf16) = inDz m c := by
  have e : (V3 m ρ c main_v12 : Vec Ideal S4096x1024 .bf16) = (truncf (F := Ideal) .bf16 (W2 m ρ c (Proc.devRef .tc main_arg6) : Vec Ideal S4096x1024 .f32) bitsLt_bf16_f32 : Vec Ideal S4096x1024 .bf16) := by
    unfold V3 W3 hostOps1
    after_results
    try rfl
  rw [e, W2_args m ρ c main_arg6 (by decide)]
  rfl
theorem V3_dxbc : (V3 m ρ c main_v13 : Vec Ideal S4096x1536 .bf16) = inDxbc m c := by
  have e : (V3 m ρ c main_v13 : Vec Ideal S4096x1536 .bf16) = (truncf (F := Ideal) .bf16 (W2 m ρ c (Proc.devRef .tc main_arg7) : Vec Ideal S4096x1536 .f32) bitsLt_bf16_f32 : Vec Ideal S4096x1536 .bf16) := by
    unfold V3 W3 hostOps1
    after_results
    try rfl
  rw [e, W2_args m ρ c main_arg7 (by decide)]
  rfl
theorem V3_dq : (V3 m ρ c main_v14 : Vec Ideal S4096x1024 .bf16) = inDq m c := by
  have e : (V3 m ρ c main_v14 : Vec Ideal S4096x1024 .bf16) = (truncf (F := Ideal) .bf16 (W2 m ρ c (Proc.devRef .tc main_arg9) : Vec Ideal S4096x1024 .f32) bitsLt_bf16_f32 : Vec Ideal S4096x1024 .bf16) := by
    unfold V3 W3 hostOps1
    after_results
    try rfl
  rw [e, W2_args m ρ c main_arg9 (by decide)]
  rfl
theorem V3_dkv : (V3 m ρ c main_arg10 : Vec Ideal S4096x256 .f32) = inDkv m c := W3_args m ρ c main_arg10 (by decide)
theorem V3_ddt : (V3 m ρ c main_arg8 : Vec Ideal S4096x128 .f32) = inDdt m c := W3_args m ρ c main_arg8 (by decide)
theorem V3_dh0 : (V3 m ρ c main_arg11 : Vec Ideal S4096x1024 .f32) = inDh0 m c := W3_args m ρ c main_arg11 (by decide)
theorem V3_w (k : Fin 3856) (j : Fin 1024) : (V3 m ρ c main_v1 : Vec Ideal S3856x1024 .bf16) (ix2 k j) = inW m c (ix2 j k) := by
  have e1 : (V3 m ρ c main_v1 : Vec Ideal S3856x1024 .bf16) = W1 m ρ c (Proc.devRef .tc main_v1) :=
    (W3_of m ρ c main_v1 (by decide)).trans (W2_of m ρ c main_v1 (by decide))
  have e : (W1 m ρ c (Proc.devRef .tc main_v1) : Vec Ideal S3856x1024 .bf16)
      = (truncf (F := Ideal) .bf16 (transpose S3856x1024 [1, 0] (inW m c) transposes_S1024x3856_S3856x1024_1_0) bitsLt_bf16_f32 : Vec Ideal S3856x1024 .bf16) := by
    unfold W1 hostOps0
    after_results
  rw [e1, e]
  pointwise
theorem V1_x : (V1 m ρ c main_arg0 : Vec Ideal S4096x1024 .f32) = inX m c := W1_args m ρ c main_arg0 (by decide)
theorem V3_hat (i : Fin 4096) (j : Fin 1024) : (V3 m ρ c main_v6_0 : Vec Ideal S4096x1024 .f32) (ix2 i j) = hat (rowOf (inX m c) i) j := by
  have e : (V3 m ρ c main_v6_0 : Vec Ideal S4096x1024 .f32) = (dat0 (V1 m ρ) c).arrAt 6 cfg0.N :=
    (W3_of m ρ c main_v6_0 (by decide)).trans (W2_arr m ρ c 6)
  rw [e, hat_array, V1_x]
  rfl
theorem V3_rstd (i : Fin 4096) : (V3 m ρ c main_v6_1 : Vec Ideal S4096x1 .f32) (ix2 i 0) = rstd (rowOf (inX m c) i) := by
  have e : (V3 m ρ c main_v6_1 : Vec Ideal S4096x1 .f32) = (dat0 (V1 m ρ) c).arrAt 7 cfg0.N :=
    (W3_of m ρ c main_v6_1 (by decide)).trans (W2_arr m ρ c 7)
  rw [e, rstd_array, V1_x]
  rfl

/-- A vector as one row. -/
abbrev oneRow (x : Vec Ideal S1024 .f32) : Vec Ideal S1x1024 .f32 := shapeCast S1x1024 x shapeCasts_S1024_S1x1024

/-- The three vectors, one beneath the other, and five rows of zeros. -/
theorem V3_rows : (V3 m ρ c main_v11 : Vec Ideal S8x1024 .f32) = concatenate S8x1024 0
    [⟨S1x1024, oneRow (inG m c)⟩, ⟨S1x1024, oneRow (inBe m c)⟩, ⟨S1x1024, oneRow (inP m c)⟩,
      ⟨S5x1024, (broadcastInDim S5x1024 ![] bcast_S_S5x1024 (constant (F := Ideal) S_ .f32 0x00000000#32 : Vec Ideal S_ .f32) : Vec Ideal S5x1024 .f32)⟩]
    concatenates_S1x1024_S1x1024_S1x1024_S5x1024_S8x1024_d0 := by
  have e : (V3 m ρ c main_v11 : Vec Ideal S8x1024 .f32) = concatenate S8x1024 0
      [⟨S1x1024, oneRow (W2 m ρ c (Proc.devRef .tc main_arg1))⟩, ⟨S1x1024, oneRow (W2 m ρ c (Proc.devRef .tc main_arg2))⟩,
        ⟨S1x1024, oneRow (W2 m ρ c (Proc.devRef .tc main_arg3))⟩,
        ⟨S5x1024, (broadcastInDim S5x1024 ![] bcast_S_S5x1024 (constant (F := Ideal) S_ .f32 0x00000000#32 : Vec Ideal S_ .f32) : Vec Ideal S5x1024 .f32)⟩]
      concatenates_S1x1024_S1x1024_S1x1024_S5x1024_S8x1024_d0 := by
    unfold V3 W3 hostOps1
    after_results
    rfl
  rw [e, W2_args m ρ c main_arg1 (by decide), W2_args m ρ c main_arg2 (by decide), W2_args m ρ c main_arg3 (by decide)]

theorem V3_row0 (j : Fin 1024) : (V3 m ρ c main_v11 : Vec Ideal S8x1024 .f32) (ix2 0 j) = inG m c (ix1 j) := by
  rw [V3_rows]
  pointwise
theorem V3_row1 (j : Fin 1024) : (V3 m ρ c main_v11 : Vec Ideal S8x1024 .f32) (ix2 1 j) = inBe m c (ix1 j) := by
  rw [V3_rows]
  pointwise
theorem V3_row2 (j : Fin 1024) : (V3 m ρ c main_v11 : Vec Ideal S8x1024 .f32) (ix2 2 j) = inP m c (ix1 j) := by
  rw [V3_rows]
  pointwise

/-- The two results. -/
abbrev gxOut : Vec Ideal S4096x1024 .f32 := fun y =>
  gxA (inX m c) (inG m c) (inP m c) (inW m c) (inDz m c) (inDxbc m c) (inDdt m c) (inDq m c) (inDkv m c) (inDh0 m c) (y 0) (y 1)
abbrev accOut : Vec Ideal S8x1024 .f32 := fun y =>
  ∑ i, termA (inX m c) (inG m c) (inBe m c) (inP m c) (inW m c) (inDz m c) (inDxbc m c) (inDdt m c) (inDq m c) (inDkv m c) (inDh0 m c) i (y 0) (y 1)

theorem gxV_eq (i : Fin 4096) : gxV (V3 m ρ) c i
    = gxA (inX m c) (inG m c) (inP m c) (inW m c) (inDz m c) (inDxbc m c) (inDdt m c) (inDq m c) (inDkv m c) (inDh0 m c) i := by
  unfold gxV gxA
  simp only [V3_dz m ρ c, V3_dxbc m ρ c, V3_dq m ρ c, V3_dkv m ρ c, V3_ddt m ρ c, V3_dh0 m ρ c, V3_w m ρ c, V3_hat m ρ c, V3_rstd m ρ c,
    V3_row0 m ρ c, V3_row2 m ρ c]
theorem termV_eq (i : Fin 4096) : termV (V3 m ρ) c i
    = termA (inX m c) (inG m c) (inBe m c) (inP m c) (inW m c) (inDz m c) (inDxbc m c) (inDdt m c) (inDq m c) (inDkv m c) (inDh0 m c) i := by
  unfold termV termA
  simp only [V3_dz m ρ c, V3_dxbc m ρ c, V3_dq m ρ c, V3_dkv m ρ c, V3_ddt m ρ c, V3_dh0 m ρ c, V3_w m ρ c, V3_hat m ρ c,
    V3_row0 m ρ c, V3_row1 m ρ c, V3_row2 m ρ c]
theorem gx_out : (dat1 (V3 m ρ) c).arrAt 10 cfg1.N = gxOut m c :=
  (gx_array (V3 m ρ) c).trans (funext fun y => congrFun (gxV_eq m ρ c (y 0)) (y 1))
theorem acc_out : (dat1 (V3 m ρ) c).arrAt 11 cfg1.N = accOut m c :=
  (acc_array (V3 m ρ) c).trans (funext fun y => Finset.sum_congr rfl fun i _ => congrFun (congrFun (termV_eq m ρ c i) (y 0)) (y 1))

end Kernel

/-! ## The precondition, and the value -/

/-- The precondition's side conditions. -/
theorem pre_facts : Cert.Pre_finite7.Facts where
  bcast_S_S4096x1024 := by decide
  reducesTo_S4096x1024_S_d0_1 := by decide
  h_S_ := by decide
  bcast_S_S1024 := by decide
  reducesTo_S1024_S_d0 := by decide
  bcast_S_S1024x3856 := by decide
  reducesTo_S1024x3856_S_d0_1 := by decide
  bcast_S_S4096x1536 := by decide
  reducesTo_S4096x1536_S_d0_1 := by decide
  bcast_S_S4096x128 := by decide
  reducesTo_S4096x128_S_d0_1 := by decide
  bcast_S_S4096x256 := by decide
  reducesTo_S4096x256_S_d0_1 := by decide

/-- The precondition: every entry of the arguments the gradients depend on is a real. -/
theorem finite_of_pre [Cert.Pre_finite7.Facts] (x : Vec Ideal S4096x1024 .f32) (g be p sh : Vec Ideal S1024 .f32) (w : Vec Ideal S1024x3856 .f32)
    (dz : Vec Ideal S4096x1024 .f32) (dxbc : Vec Ideal S4096x1536 .f32) (ddt : Vec Ideal S4096x128 .f32) (dq : Vec Ideal S4096x1024 .f32)
    (dkv : Vec Ideal S4096x256 .f32) (dh0 : Vec Ideal S4096x1024 .f32)
    (h : Cert.Pre_finite7.fn (F := Ideal) x g be p sh w dz dxbc ddt dq dkv dh0 = fun _ => 1#1) : Fins x g p w dz dxbc ddt dq dkv dh0 := by
  have h := congrFun h ix0
  unfold Cert.Pre_finite7.fn Cert.Pre_finite7.fn_part1 Cert.Pre_finite7.fn_part2 at h
  dsimp only at h
  obtain ⟨h, h9⟩ := andi_left h
  obtain ⟨h, h8⟩ := andi_left h
  obtain ⟨h, h7⟩ := andi_left h
  obtain ⟨h, h6⟩ := andi_left h
  obtain ⟨h, h5⟩ := andi_left h
  obtain ⟨h, h4⟩ := andi_left h
  obtain ⟨h, h3⟩ := andi_left h
  obtain ⟨h, h2⟩ := andi_left h
  obtain ⟨h0, h1⟩ := andi_left h
  haveI : Subsingleton Cert.Pre_finite7.S_.Idx := ⟨fun a b => funext fun i => i.elim0⟩
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i), fun i => real_of_lt _ (Host.reduce_andi_all _ _ _ _ _ h3 i),
    fun i => real_of_lt _ (Host.reduce_andi_all _ _ _ _ _ h4 i), fun i => real_of_lt _ (Host.reduce_andi_all _ _ _ _ _ h5 i),
    fun i => real_of_lt _ (Host.reduce_andi_all _ _ _ _ _ h6 i), fun i => real_of_lt _ (Host.reduce_andi_all _ _ _ _ _ h7 i),
    fun i => real_of_lt _ (Host.reduce_andi_all _ _ _ _ _ h8 i), fun i => real_of_lt _ (Host.reduce_andi_all _ _ _ _ _ h9 i)⟩

theorem ten {A B C D E G H I J K R : Type*} (f : A → B → C → D → E → G → H → I → J → K → R)
    {a a' : A} {b b' : B} {c c' : C} {d d' : D} {e e' : E} {g g' : G} {h h' : H} {i i' : I} {j j' : J} {k k' : K}
    (h0 : a = a') (h1 : b = b') (h2 : c = c') (h3 : d = d') (h4 : e = e') (h5 : g = g') (h6 : h = h') (h7 : i = i') (h8 : j = j')
    (h9 : k = k') : f a b c d e g h i j k = f a' b' c' d' e' g' h' i' j' k' := by
  rw [h0, h1, h2, h3, h4, h5, h6, h7, h8, h9]

/-- Of finite arguments kernel and reference leave the same two arrays. -/
theorem equal : Cert.algebraic_Kernel7Ideal_Reference7Ideal_pre_finite7 (hPre_finite7 := pre_facts) := by
  haveI := pre_facts
  intro m g m' g' hpre hagree
  refine ⟨fun c => gxOut m c, fun c => accOut m c, ?_, ?_⟩
  · exact (θ_run _ _ _).mono (fun r h c => ⟨(h c).1.trans (gx_out m g c), (h c).2.1.trans (acc_out m g c), (h c).2.2⟩) (run_results (F := Ideal) m g)
  · refine (θ_run _ _ _).mono (fun r h c => ?_) (Cert.Reference7Ideal.Value.run (F := Ideal) m' g')
    obtain ⟨e0, e1, e2, e3, e4, e5, e6, e7, e8, e9, e10, e11⟩ := hagree c
    have hp := finite_of_pre _ _ _ _ _ _ _ _ _ _ _ _ (hpre c)
    refine ⟨(h c).1.trans ((val_main_v92_eq ..).trans ?_), (h c).2.1.trans ((val_main_v99_eq ..).trans ?_), (h c).2.2⟩
    · exact (ten (val_main_v92 (F := Ideal)) e0 e1 e3 e5 e6 e7 e8 e9 e10 e11).trans (funext fun y => by idx_vars y; exact ref_gx hp y0 y1)
    · refine (congrArg (fun b => val_main_v99 (F := Ideal) _ _ b _ _ _ _ _ _ _ _) e2).trans ?_
      exact (ten (fun a b d f g h i j k l => val_main_v99 (F := Ideal) a b (inBe m c) d f g h i j k l) e0 e1 e3 e5 e6 e7 e8 e9 e10 e11).trans
        (funext fun y => by idx_vars y; exact ref_acc hp y0 y1)

end Cert.In

end
-- ==== Proof.MidBlock.lean ====
/-
  THE MIDDLE OF THE LAYER, FORWARD AND BACK: WHAT ONE GRID POINT COMPUTES. The first call projects 512 rows of the two mixers' outputs, adds the
  scaled residual and normalises. The second takes the gradients that come back from the rows and from the hidden layer through the
  second projection's input, the norm and the projection, and adds up five rows of parameter gradients.
-/
module

public import proofs.«01_k».proof.Proof.Gen.Kernel6Ideal.Frame
public import proofs.«01_k».proof.Proof.LossBlock

@[expose] public section

set_option maxRecDepth 16384

noncomputable section

namespace Cert.Mid

open Cert.Kernel6Ideal Cert.Kernel6Ideal.Gen Idealize.ShloMosaic Idealize.ShloMosaic.TcCoe Idealize.SL.Sem Idealize.ShloMosaic.Pointwise
  Idealize.ShloMosaic.Tactic
open Idealize.ShloMosaic.Pipeline (Dat)
open Cert.Norm
open Cert.Loss (row ld_row ld_row0 ld_row1 ld_row2 ld_row3 ld_row4)

/-! ## The formulas of one row -/

/-- The residual's scale, as the programs hold it. -/
abbrev scale : EReal := Ideal.ofBits .f32 0x3F9837F0#32

section Row
variable (y o : Fin 1024 → EReal) (wo : Fin 2048 → Fin 1024 → EReal) (x0 g0 b0 p1 : Fin 1024 → EReal)
  (da : Fin 4096 → EReal) (w1 : Fin 1024 → Fin 4096 → EReal) (u d2 xh g b p2 mx : Fin 1024 → EReal) (rs : EReal)

/-- The projected row and the row the norm takes. -/
def mix (j : Fin 1024) : EReal := ∑ k : Fin 1024, y k * wo ⟨k.val, by omega⟩ j + ∑ k : Fin 1024, o k * wo ⟨1024 + k.val, by omega⟩ j
def resid (j : Fin 1024) : EReal := scale * (x0 j * g0 j + b0 j) + (1 + p1 j) * mix y o wo j
/-- The gradient of the hidden layer's input; from it, `u`, the gradient of the norm's output, -/
def du (j : Fin 1024) : EReal := ∑ k : Fin 4096, da k * w1 j k
def dh (j : Fin 1024) : EReal := scale * d2 j + u j * (1 + p2 j)
/-- of the norm's input and of the projected row, -/
def dr : Fin 1024 → EReal := back (fun j => dh u d2 p2 j * g j) xh rs
def dmix (j : Fin 1024) : EReal := (1 + p1 j) * dr u d2 xh g p2 rs j
/-- and the row's part of the five parameter gradients. -/
def term (k : Fin 8) (j : Fin 1024) : EReal :=
  if k.val = 0 then u j * (xh j * g j + b j) else if k.val = 1 then u j
  else if k.val = 2 then dh u d2 p2 j * xh j else if k.val = 3 then dh u d2 p2 j
  else if k.val = 4 then dr u d2 xh g p2 rs j * mx j else 0
end Row

/-! ## The first call's payloads -/

section First
variable (x0 x1 : Vec Ideal S512x1024 .bf16) (x2 : Vec Ideal S2048x1024 .bf16) (x3 : Vec Ideal S512x1024 .f32) (o p q : Vec Ideal S1x1024 .f32)
  (v0 v5 : Vec Ideal S512x1024 .bf16) (v2 v7 : Vec Ideal S1024x1024 .bf16)

theorem mix_at (r : Fin 512) (j : Fin 1024) :
    k0_pay5 (F := Ideal) x0 (View.ld x2 (Rect.unit ![0, 0] ![1024, 1024] inb_S2048x1024_S1024x1024_0_0)) x1
      (View.ld x2 (Rect.unit ![1024, 0] ![1024, 1024] inb_S2048x1024_S1024x1024_1024_0)) (ix2 r j)
      = mix (fun k => x0 (ix2 r k)) (fun k => x1 (ix2 r k)) (fun k j => x2 (ix2 k j)) j := by
  unfold mix k0_pay5
  pointwise
theorem resid_at (r : Fin 512) (j : Fin 1024) : k0_pay6 (F := Ideal) v0 v2 v5 v7 x3 o p q (ix2 r j)
    = scale * (x3 (ix2 r j) * o (ix2 0 j) + p (ix2 0 j)) + (1 + q (ix2 0 j)) * k0_pay5 (F := Ideal) v0 v2 v5 v7 (ix2 r j) := by
  unfold scale k0_pay6
  pointwise
theorem hat_at (r : Fin 512) (j : Fin 1024) : k0_pay3 (F := Ideal) (k0_pay6 v0 v2 v5 v7 x3 o p q) (k0_pay7 v0 v2 v5 v7 x3 o p q) (ix2 r j)
    = hat (fun j => k0_pay6 (F := Ideal) v0 v2 v5 v7 x3 o p q (ix2 r j)) j := by
  unfold hat rstd cen mean width small k0_pay3 k0_pay2 k0_pay1 k0_pay7
  pointwise
theorem rstd_at (r : Fin 512) : k0_pay2 (F := Ideal) (k0_pay6 v0 v2 v5 v7 x3 o p q) (k0_pay7 v0 v2 v5 v7 x3 o p q) (ix2 r 0)
    = rstd fun j => k0_pay6 (F := Ideal) v0 v2 v5 v7 x3 o p q (ix2 r j) := by
  unfold rstd cen mean width small k0_pay2 k0_pay1 k0_pay7
  pointwise
end First

/-! ## The second call's payloads, each over what goes into it -/

section Second
variable (x0 : Vec Ideal S512x4096 .bf16) (x1 : Vec Ideal S1024x4096 .bf16) (A C D E M : Vec Ideal S512x1024 .f32) (N : Vec Ideal S512 .f32)
  (B : Vec Ideal S512x1024 .bf16) (W : Vec Ideal S1024x1024 .bf16) (o p q : Vec Ideal S1x1024 .f32) (s : Vec Ideal S512x1 .f32)

theorem pay3_at (r : Fin 512) (j : Fin 1024) : k1_pay3 (F := Ideal) x0 x1 (ix2 r j) = du (fun k => x0 (ix2 r k)) (fun j k => x1 (ix2 j k)) j := by
  unfold du k1_pay3
  pointwise
theorem pay5_at (j : Fin 1024) : k1_pay5 (F := Ideal) x0 x1 C p q o (ix2 0 j)
    = o (ix2 0 j) + ∑ r : Fin 512, k1_pay3 (F := Ideal) x0 x1 (ix2 r j) * (C (ix2 r j) * p (ix2 0 j) + q (ix2 0 j)) := by
  unfold k1_pay5 k1_pay4
  pointwise
theorem pay6_at (j : Fin 1024) : k1_pay6 (F := Ideal) x0 x1 o (ix2 0 j) = o (ix2 0 j) + ∑ r : Fin 512, k1_pay3 (F := Ideal) x0 x1 (ix2 r j) := by
  unfold k1_pay6
  pointwise
theorem pay7_at (r : Fin 512) (j : Fin 1024) : k1_pay7 (F := Ideal) A D p (ix2 r j) = scale * D (ix2 r j) + A (ix2 r j) * (1 + p (ix2 0 j)) := by
  unfold scale k1_pay7
  pointwise
theorem pay8_at (j : Fin 1024) : k1_pay8 (F := Ideal) A (k1_pay4 C) D p o (ix2 0 j)
    = o (ix2 0 j) + ∑ r : Fin 512, k1_pay7 (F := Ideal) A D p (ix2 r j) * C (ix2 r j) := by
  unfold k1_pay8 k1_pay4
  pointwise
theorem pay9_at (j : Fin 1024) : k1_pay9 (F := Ideal) A D p o (ix2 0 j) = o (ix2 0 j) + ∑ r : Fin 512, k1_pay7 (F := Ideal) A D p (ix2 r j) := by
  unfold k1_pay9
  pointwise
theorem pay14_at (r : Fin 512) (j : Fin 1024) :
    k1_pay14 (F := Ideal) (k1_pay4 C) (k1_pay11 s) (k1_pay12 A D p q) (k1_pay13 A (k1_pay4 C) D p q) (ix2 r j)
      = back (fun j => k1_pay7 (F := Ideal) A D p (ix2 r j) * q (ix2 0 j)) (fun j => C (ix2 r j)) (s (ix2 r 0)) j := by
  unfold back mean width k1_pay14 k1_pay13 k1_pay12 k1_pay11 k1_pay10 k1_pay4
  pointwise
theorem pay15_at (j : Fin 1024) : k1_pay15 (F := Ideal) C s E N o M (ix2 0 j)
    = o (ix2 0 j) + ∑ r : Fin 512, k1_pay14 (F := Ideal) C s E N (ix2 r j) * M (ix2 r j) := by
  unfold k1_pay15
  pointwise
theorem pay16_at (r : Fin 512) (j : Fin 1024) : k1_pay16 (F := Ideal) C s E N (ix2 r j) = scale * k1_pay14 (F := Ideal) C s E N (ix2 r j) := by
  unfold scale k1_pay16
  pointwise
theorem pay17_at (r : Fin 512) (j : Fin 1024) : k1_pay17 (F := Ideal) C s E N o (ix2 r j)
    = (1 + o (ix2 0 j)) * k1_pay14 (F := Ideal) C s E N (ix2 r j) := by
  unfold k1_pay17
  pointwise
theorem pay18_at (r : Fin 512) (j : Fin 1024) : k1_pay18 (F := Ideal) C s E N o W (ix2 r j)
    = ∑ k : Fin 1024, k1_pay17 (F := Ideal) C s E N o (ix2 r k) * W (ix2 j k) := by
  unfold k1_pay18
  pointwise
theorem pay1_at (r : Fin 512) (j : Fin 1024) : k1_pay1 (F := Ideal) B W (ix2 r j) = ∑ k : Fin 1024, B (ix2 r k) * W (ix2 j k) := by
  unfold k1_pay1
  pointwise
/-- The sums start from zero. -/
theorem zero_at (k : Fin 8) (j : Fin 1024) : k1_pay2 (F := Ideal) (ix2 k j) = 0 := by
  unfold k1_pay2
  pointwise
theorem row_zero (k : Fin 8) (j : Fin 1024) : row (k1_pay2 (F := Ideal)) k (ix2 0 j) = 0 := zero_at k j
/-- The two halves of the projection. -/
theorem ld_top (x : Vec Ideal S2048x1024 .bf16) (k j : Fin 1024) :
    View.ld x (Rect.unit ![0, 0] ![1024, 1024] inb_S2048x1024_S1024x1024_0_0) (ix2 k j) = x (ix2 ⟨k.val, by omega⟩ j) := by
  pointwise
theorem ld_bottom (x : Vec Ideal S2048x1024 .bf16) (k j : Fin 1024) :
    View.ld x (Rect.unit ![1024, 0] ![1024, 1024] inb_S2048x1024_S1024x1024_1024_0) (ix2 k j) = x (ix2 ⟨1024 + k.val, by omega⟩ j) := by
  pointwise
end Second

/-! ## The formulas over one tile -/

section Tile
variable (x0 : Vec Ideal S512x4096 .bf16) (x1 : Vec Ideal S1024x4096 .bf16) (x2 x3 : Vec Ideal S512x1024 .f32) (x4 : Vec Ideal S512x1 .f32)
  (x5 : Vec Ideal S512x1024 .f32) (x6 : Vec Ideal S2048x1024 .bf16) (x7 : Vec Ideal S8x1024 .f32)

def duT (r : Fin 512) : Fin 1024 → EReal := du (fun k => x0 (ix2 r k)) fun j k => x1 (ix2 j k)
def drT (r : Fin 512) : Fin 1024 → EReal :=
  dr (duT x0 x1 r) (fun j => x2 (ix2 r j)) (fun j => x3 (ix2 r j)) (fun j => x7 (ix2 0 j)) (fun j => x7 (ix2 2 j)) (x4 (ix2 r 0))
def dmixT (r : Fin 512) : Fin 1024 → EReal :=
  dmix (fun j => x7 (ix2 3 j)) (duT x0 x1 r) (fun j => x2 (ix2 r j)) (fun j => x3 (ix2 r j)) (fun j => x7 (ix2 0 j)) (fun j => x7 (ix2 2 j)) (x4 (ix2 r 0))
def termT (r : Fin 512) : Fin 8 → Fin 1024 → EReal :=
  term (duT x0 x1 r) (fun j => x2 (ix2 r j)) (fun j => x3 (ix2 r j)) (fun j => x7 (ix2 0 j)) (fun j => x7 (ix2 1 j)) (fun j => x7 (ix2 2 j))
    (fun j => x5 (ix2 r j)) (x4 (ix2 r 0))
end Tile

variable (V : (c : Dev nD) → (b : Ref sig .tc) → Buf (Elt Ideal) ((c : Thread nD τ).loc b))

set_option maxHeartbeats 2000000 in
/-- The gradient of the projected rows after any point. -/
theorem dmix_block (c : Dev nD) (t : Fin cfg1.N) (r : Fin 512) (j : Fin 1024) :
    (outsAt1 V c t.val t.isLt).1 (ix2 r j) = dmixT (iblk1 V c 0 t) (iblk1 V c 1 t) (iblk1 V c 2 t) (iblk1 V c 3 t) (iblk1 V c 4 t) (iblk1 V c 7 t) r j := by
  by_cases h : t.val % 8 = 0
  · rw [outsAt1_A V c t h]
    frame_open
    simp (disch := decide) only [View.read_writes_junk_eq_canon, View.canon_cons_unit_lit', View.readAt_eq_ld, View.ld_unit_lit', Memref.IsWhole.read_unread]
    simp only [pay17_at, pay14_at, pay7_at, pay3_at]
    rw [ld_row0, ld_row2, ld_row3]
    rfl
  · rw [outsAt1_B V c t h]
    frame_open
    simp (disch := decide) only [View.read_writes_junk_eq_canon, View.canon_cons_unit_lit', View.readAt_eq_ld, View.ld_unit_lit', Memref.IsWhole.read_unread]
    simp only [pay17_at, pay14_at, pay7_at, pay3_at]
    rw [ld_row0, ld_row2, ld_row3]
    rfl

set_option maxHeartbeats 2000000 in
/-- The gradient of the residual after any point. -/
theorem dh0_block (c : Dev nD) (t : Fin cfg1.N) (r : Fin 512) (j : Fin 1024) :
    (outsAt1 V c t.val t.isLt).2.1 (ix2 r j) = scale * drT (iblk1 V c 0 t) (iblk1 V c 1 t) (iblk1 V c 2 t) (iblk1 V c 3 t) (iblk1 V c 4 t) (iblk1 V c 7 t) r j := by
  by_cases h : t.val % 8 = 0
  · rw [outsAt1_A V c t h]
    frame_open
    simp (disch := decide) only [View.read_writes_junk_eq_canon, View.canon_cons_unit_lit', View.readAt_eq_ld, View.ld_unit_lit', Memref.IsWhole.read_unread]
    simp only [pay16_at, pay14_at, pay7_at, pay3_at]
    rw [ld_row0, ld_row2]
    rfl
  · rw [outsAt1_B V c t h]
    frame_open
    simp (disch := decide) only [View.read_writes_junk_eq_canon, View.canon_cons_unit_lit', View.readAt_eq_ld, View.ld_unit_lit', Memref.IsWhole.read_unread]
    simp only [pay16_at, pay14_at, pay7_at, pay3_at]
    rw [ld_row0, ld_row2]
    rfl

set_option maxHeartbeats 2000000 in
/-- The gradient of the first mixer's output after any point. -/
theorem dyn_block (c : Dev nD) (t : Fin cfg1.N) (r : Fin 512) (j : Fin 1024) :
    (outsAt1 V c t.val t.isLt).2.2.1 (ix2 r j) = ∑ k : Fin 1024, dmixT (iblk1 V c 0 t) (iblk1 V c 1 t) (iblk1 V c 2 t) (iblk1 V c 3 t) (iblk1 V c 4 t) (iblk1 V c 7 t) r k * iblk1 V c 6 t (ix2 ⟨j.val, by omega⟩ k) := by
  by_cases h : t.val % 8 = 0
  · rw [outsAt1_A V c t h]
    frame_open
    simp (disch := decide) only [View.read_writes_junk_eq_canon, View.canon_cons_unit_lit', View.readAt_eq_ld, View.ld_unit_lit', Memref.IsWhole.read_unread]
    simp only [pay18_at, pay17_at, pay14_at, pay7_at, pay3_at]
    rw [ld_row0, ld_row2, ld_row3]
    exact Finset.sum_congr rfl fun k _ => congrArg₂ (· * ·) rfl (ld_top (iblk1 V c 6 t) j k)
  · rw [outsAt1_B V c t h]
    frame_open
    simp (disch := decide) only [View.read_writes_junk_eq_canon, View.canon_cons_unit_lit', View.readAt_eq_ld, View.ld_unit_lit', Memref.IsWhole.read_unread]
    simp only [pay18_at, pay17_at, pay14_at, pay7_at, pay3_at]
    rw [ld_row0, ld_row2, ld_row3]
    exact Finset.sum_congr rfl fun k _ => congrArg₂ (· * ·) rfl (ld_top (iblk1 V c 6 t) j k)

set_option maxHeartbeats 2000000 in
/-- The gradient of the second mixer's output after any point. -/
theorem do_block (c : Dev nD) (t : Fin cfg1.N) (r : Fin 512) (j : Fin 1024) :
    (outsAt1 V c t.val t.isLt).2.2.2.1 (ix2 r j) = ∑ k : Fin 1024, dmixT (iblk1 V c 0 t) (iblk1 V c 1 t) (iblk1 V c 2 t) (iblk1 V c 3 t) (iblk1 V c 4 t) (iblk1 V c 7 t) r k * iblk1 V c 6 t (ix2 ⟨1024 + j.val, by omega⟩ k) := by
  by_cases h : t.val % 8 = 0
  · rw [outsAt1_A V c t h]
    frame_open
    simp (disch := decide) only [View.read_writes_junk_eq_canon, View.canon_cons_unit_lit', View.readAt_eq_ld, View.ld_unit_lit', Memref.IsWhole.read_unread]
    simp only [pay1_at, pay17_at, pay14_at, pay7_at, pay3_at]
    rw [ld_row0, ld_row2, ld_row3]
    exact Finset.sum_congr rfl fun k _ => congrArg₂ (· * ·) rfl (ld_bottom (iblk1 V c 6 t) j k)
  · rw [outsAt1_B V c t h]
    frame_open
    simp (disch := decide) only [View.read_writes_junk_eq_canon, View.canon_cons_unit_lit', View.readAt_eq_ld, View.ld_unit_lit', Memref.IsWhole.read_unread]
    simp only [pay1_at, pay17_at, pay14_at, pay7_at, pay3_at]
    rw [ld_row0, ld_row2, ld_row3]
    exact Finset.sum_congr rfl fun k _ => congrArg₂ (· * ·) rfl (ld_bottom (iblk1 V c 6 t) j k)

set_option maxHeartbeats 1000000 in
/-- The sums after a point that is not the first. -/
theorem acc_later (c : Dev nD) (t : Fin cfg1.N) (h : ¬ t.val % 8 = 0) (k : Fin 8) (j : Fin 1024) :
    (outsAt1 V c t.val t.isLt).2.2.2.2 (ix2 k j)
      = (outsAt1 V c (t.val - 1) (Nat.lt_of_le_of_lt (Nat.sub_le _ _) t.isLt)).2.2.2.2 (ix2 k j)
        + ∑ r : Fin 512, termT (iblk1 V c 0 t) (iblk1 V c 1 t) (iblk1 V c 2 t) (iblk1 V c 3 t) (iblk1 V c 4 t) (iblk1 V c 5 t) (iblk1 V c 7 t) r k j := by
  rw [outsAt1_B V c t h]
  generalize outsAt1 V c (t.val - 1) (Nat.lt_of_le_of_lt (Nat.sub_le _ _) t.isLt) = P
  frame_open
  simp (disch := decide) only [↓ View.readCov_skip, ↓ View.readCov_cons_toLoadRect, ↓ View.readCov_fill]
  unfold termT term dr dh duT
  fin_cases k
  all_goals
    simp (disch := decide) only [↓ Cert.Row.hit, ↓ Cert.Row.miss, ↓ Cert.Row.fill]
    simp (maxSteps := 2000000) (disch := decide) only [View.readAt_eq_ld, View.ld_unit_lit', Memref.IsWhole.read_unread,
      Nat.reduceEqDiff, ↓reduceIte, View.writes_nil, Finset.sum_const_zero, add_zero]
  all_goals
    simp only [pay5_at, pay6_at, pay8_at, pay9_at, pay15_at, pay14_at, pay7_at, pay3_at]
  · rw [ld_row0 (iblk1 V c 7 t), ld_row1 (iblk1 V c 7 t), ld_row0]
    rfl
  · rw [ld_row1]
    rfl
  · rw [ld_row2 (iblk1 V c 7 t), ld_row2]
    rfl
  · rw [ld_row2 (iblk1 V c 7 t), ld_row3]
    rfl
  · rw [ld_row0 (iblk1 V c 7 t), ld_row2 (iblk1 V c 7 t), ld_row4]
    rfl

set_option maxHeartbeats 1000000 in
/-- The sums after the first point. -/
theorem acc_first (c : Dev nD) (t : Fin cfg1.N) (h : t.val % 8 = 0) (k : Fin 8) (j : Fin 1024) :
    (outsAt1 V c t.val t.isLt).2.2.2.2 (ix2 k j) = 0 + ∑ r : Fin 512, termT (iblk1 V c 0 t) (iblk1 V c 1 t) (iblk1 V c 2 t) (iblk1 V c 3 t) (iblk1 V c 4 t) (iblk1 V c 5 t) (iblk1 V c 7 t) r k j := by
  rw [outsAt1_A V c t h]
  frame_open
  simp (disch := decide) only [↓ View.readCov_skip, ↓ View.readCov_cons_toLoadRect, ↓ View.readCov_fill]
  unfold termT term dr dh duT
  fin_cases k
  all_goals
    simp (disch := decide) only [↓ Cert.Row.hit, ↓ Cert.Row.miss, ↓ Cert.Row.fill]
    simp (maxSteps := 2000000) (disch := decide) only [View.readAt_eq_ld, View.ld_unit_lit', Memref.IsWhole.read_unread,
      Nat.reduceEqDiff, ↓reduceIte, View.writes_nil, Finset.sum_const_zero, add_zero]
  all_goals
    try simp only [pay5_at, pay6_at, pay8_at, pay9_at, pay15_at, pay14_at, pay7_at, pay3_at]
  · rw [ld_row0 (iblk1 V c 7 t), ld_row1 (iblk1 V c 7 t), ld_row0, row_zero]
    rfl
  · rw [ld_row1, row_zero]
  · rw [ld_row2 (iblk1 V c 7 t), ld_row2, row_zero]
    rfl
  · rw [ld_row2 (iblk1 V c 7 t), ld_row3, row_zero]
    rfl
  · rw [ld_row0 (iblk1 V c 7 t), ld_row2 (iblk1 V c 7 t), ld_row4, row_zero]
    rfl
  all_goals exact zero_at _ _

end Cert.Mid

end
-- ==== Proof.MidArray.lean ====
/-
  The arrays the two calls of the layer's middle leave, as functions of the arrays they find.
-/
module

public import proofs.«01_k».proof.Proof.MidBlock

@[expose] public section

set_option maxRecDepth 16384

noncomputable section

namespace Cert.Mid

open Cert.Kernel6Ideal Cert.Kernel6Ideal.Gen Idealize.ShloMosaic Idealize.ShloMosaic.TcCoe Idealize.SL.Sem Idealize.ShloMosaic.Pointwise
  Idealize.ShloMosaic.Tactic
open Idealize.ShloMosaic.Pipeline (Dat)
open Cert.Norm

variable (V : (c : Dev nD) → (b : Ref sig .tc) → Buf (Elt Ideal) ((c : Thread nD τ).loc b)) (c : Dev nD)

theorem lt_N0 (t : Fin cfg0.N) : t.val < 8 := lt_of_lt_of_eq t.isLt N_0
theorem lt_N1 (t : Fin cfg1.N) : t.val < 8 := lt_of_lt_of_eq t.isLt N_1

/-! ## The first call -/

theorem idx0_0 : ∀ t : Fin grid0.N, win0_0.index t = ![t.val, 0] := by decide +kernel
theorem idx0_1 : ∀ t : Fin grid0.N, win0_1.index t = ![t.val, 0] := by decide +kernel
theorem idx0_3 : ∀ t : Fin grid0.N, win0_3.index t = ![t.val, 0] := by decide +kernel
theorem idx0_5 : ∀ t : Fin grid0.N, win0_5.index t = ![t.val, 0] := by decide +kernel
theorem idx0_6 : ∀ t : Fin grid0.N, win0_6.index t = ![t.val, 0] := by decide +kernel
theorem idx0_7 : ∀ t : Fin grid0.N, win0_7.index t = ![t.val, 0] := by decide +kernel
theorem idx0_2 : ∀ t : Fin grid0.N, win0_2.index t = ![0, 0] := by decide +kernel
theorem idx0_4 : ∀ t : Fin grid0.N, win0_4.index t = ![0, 0] := by decide +kernel

section Reads
variable (t : Fin cfg0.N)

theorem y_read (r : Fin 512) (j : Fin 1024) : iblk0 V c 0 t (ix2 r j) = (V c main_v10 : Vec Ideal S4096x1024 .bf16) (ix2 ⟨t.val * 512 + r.val, by have := lt_N0 t; omega⟩ j) := by
  blk_ext [iblk0, idx0_0 t]
theorem o_read (r : Fin 512) (j : Fin 1024) : iblk0 V c 1 t (ix2 r j) = (V c main_v11 : Vec Ideal S4096x1024 .bf16) (ix2 ⟨t.val * 512 + r.val, by have := lt_N0 t; omega⟩ j) := by
  blk_ext [iblk0, idx0_1 t]
theorem wo_read (r : Fin 2048) (j : Fin 1024) : iblk0 V c 2 t (ix2 r j) = (V c main_v0 : Vec Ideal S2048x1024 .bf16) (ix2 r j) := by
  blk_ext [iblk0, idx0_2 t]
theorem x0_read (r : Fin 512) (j : Fin 1024) : iblk0 V c 3 t (ix2 r j) = (V c main_arg3 : Vec Ideal S4096x1024 .f32) (ix2 ⟨t.val * 512 + r.val, by have := lt_N0 t; omega⟩ j) := by
  blk_ext [iblk0, idx0_3 t]
theorem first_rows (r : Fin 8) (j : Fin 1024) : iblk0 V c 4 t (ix2 r j) = (V c main_v9 : Vec Ideal S8x1024 .f32) (ix2 r j) := by
  blk_ext [iblk0, idx0_4 t]
end Reads

/-- The projected rows and the rows the norm takes, over the arrays found. -/
abbrev mixV (i : Fin 4096) : Fin 1024 → EReal :=
  mix (fun k => (V c main_v10 : Vec Ideal S4096x1024 .bf16) (ix2 i k)) (fun k => (V c main_v11 : Vec Ideal S4096x1024 .bf16) (ix2 i k)) (fun k j => (V c main_v0 : Vec Ideal S2048x1024 .bf16) (ix2 k j))
abbrev residV (i : Fin 4096) : Fin 1024 → EReal :=
  resid (fun k => (V c main_v10 : Vec Ideal S4096x1024 .bf16) (ix2 i k)) (fun k => (V c main_v11 : Vec Ideal S4096x1024 .bf16) (ix2 i k)) (fun k j => (V c main_v0 : Vec Ideal S2048x1024 .bf16) (ix2 k j))
    (fun j => (V c main_arg3 : Vec Ideal S4096x1024 .f32) (ix2 i j)) (fun j => (V c main_v9 : Vec Ideal S8x1024 .f32) (ix2 0 j)) (fun j => (V c main_v9 : Vec Ideal S8x1024 .f32) (ix2 1 j)) (fun j => (V c main_v9 : Vec Ideal S8x1024 .f32) (ix2 2 j))

section Tiles
variable (t : Fin cfg0.N)
theorem mix_tile (r : Fin 512) (j : Fin 1024) : mix (fun k => iblk0 V c 0 t (ix2 r k)) (fun k => iblk0 V c 1 t (ix2 r k)) (fun k j => iblk0 V c 2 t (ix2 k j)) j
    = mixV V c ⟨t.val * 512 + r.val, by have := lt_N0 t; omega⟩ j := by
  simp only [y_read, o_read, wo_read]
theorem resid_tile (r : Fin 512) (h0 h1 h2 h3 h4) :
    (fun j : Fin 1024 => k0_pay6 (F := Ideal) (iblk0 V c 0 t) (View.ld (iblk0 V c 2 t) (Rect.unit ![0, 0] ![1024, 1024] h3)) (iblk0 V c 1 t)
      (View.ld (iblk0 V c 2 t) (Rect.unit ![1024, 0] ![1024, 1024] h4)) (iblk0 V c 3 t) (View.ld (iblk0 V c 4 t) (Rect.unit ![0, 0] ![1, 1024] h0))
      (View.ld (iblk0 V c 4 t) (Rect.unit ![1, 0] ![1, 1024] h1)) (View.ld (iblk0 V c 4 t) (Rect.unit ![2, 0] ![1, 1024] h2)) (ix2 r j))
    = residV V c ⟨t.val * 512 + r.val, by have := lt_N0 t; omega⟩ := by
  funext j
  exact (resid_at _ _ _ _ _ _ _ _ r j).trans (congrArg₂ (· + ·)
    (congrArg (scale * ·) (congrArg₂ (· + ·)
      (congrArg₂ (· * ·) (x0_read V c t r j) ((congrFun (Cert.Loss.ld_row0 (iblk0 V c 4 t) h0) (ix2 0 j)).trans (first_rows V c t 0 j)))
      ((congrFun (Cert.Loss.ld_row1 (iblk0 V c 4 t) h1) (ix2 0 j)).trans (first_rows V c t 1 j))))
    (congrArg₂ (· * ·) (congrArg (1 + ·) ((congrFun (Cert.Loss.ld_row2 (iblk0 V c 4 t) h2) (ix2 0 j)).trans (first_rows V c t 2 j)))
      ((mix_at _ _ _ r j).trans (mix_tile V c t r j))))
end Tiles

theorem mix_array : (dat0 V c).arrAt 5 cfg0.N = (fun y => mixV V c (y 0) (y 1) : Vec Ideal S4096x1024 .f32) := by
  refine (dat0 V c).arrAt_eq_of_covers 5 _ (by decide +kernel) fun t hf y => ?_
  blk_simp
  rw [after0_5]
  unfold_out out0_5
  simp (disch := decide) only [View.canon_cons_unit_lit', View.ld_unit_lit']
  idx_vars y
  have hN := lt_N0 t
  have e : (win0_5.blk t).view.emb (ix2 y0 y1) = (ix2 ⟨t.val * 512 + y0.val, by omega⟩ y1 : S4096x1024.Idx) := by
    blk_ext [idx0_5 t]
  refine Eq.trans ?_ (congrArg (fun y => mixV V c (y 0) (y 1) : Vec Ideal S4096x1024 .f32) e).symm
  exact (mix_at _ _ _ y0 y1).trans (mix_tile V c t y0 y1)

theorem hat_array : (dat0 V c).arrAt 6 cfg0.N = (fun y => hat (residV V c (y 0)) (y 1) : Vec Ideal S4096x1024 .f32) := by
  refine (dat0 V c).arrAt_eq_of_covers 6 _ (by decide +kernel) fun t hf y => ?_
  blk_simp
  rw [after0_6]
  unfold_out out0_6
  simp (disch := decide) only [View.canon_cons_unit_lit', View.ld_unit_lit']
  idx_vars y
  have hN := lt_N0 t
  have e : (win0_6.blk t).view.emb (ix2 y0 y1) = (ix2 ⟨t.val * 512 + y0.val, by omega⟩ y1 : S4096x1024.Idx) := by
    blk_ext [idx0_6 t]
  refine Eq.trans ?_ (congrArg (fun y => hat (residV V c (y 0)) (y 1) : Vec Ideal S4096x1024 .f32) e).symm
  exact (hat_at _ _ _ _ _ _ _ _ y0 y1).trans (congrFun (congrArg hat (resid_tile V c t y0 _ _ _ _ _)) y1)

theorem rstd_array : (dat0 V c).arrAt 7 cfg0.N = (fun y => rstd (residV V c (y 0)) : Vec Ideal S4096x1 .f32) := by
  refine (dat0 V c).arrAt_eq_of_covers 7 _ (by decide +kernel) fun t hf y => ?_
  blk_simp
  rw [after0_7]
  unfold_out out0_7
  simp (disch := decide) only [View.canon_cons_unit_lit', View.ld_unit_lit']
  idx_vars y
  obtain rfl : y1 = 0 := Subsingleton.elim _ _
  have hN := lt_N0 t
  have e : (win0_7.blk t).view.emb (ix2 y0 0) = (ix2 ⟨t.val * 512 + y0.val, by omega⟩ 0 : S4096x1.Idx) := by
    blk_ext [idx0_7 t]
  refine Eq.trans ?_ (congrArg (fun y => rstd (residV V c (y 0)) : Vec Ideal S4096x1 .f32) e).symm
  exact (rstd_at _ _ _ _ _ _ _ _ y0).trans (congrArg rstd (resid_tile V c t y0 _ _ _ _ _))

/-! ## The second call -/

theorem idx1_0 : ∀ t : Fin grid1.N, win1_0.index t = ![t.val, 0] := by decide +kernel
theorem idx1_2 : ∀ t : Fin grid1.N, win1_2.index t = ![t.val, 0] := by decide +kernel
theorem idx1_3 : ∀ t : Fin grid1.N, win1_3.index t = ![t.val, 0] := by decide +kernel
theorem idx1_4 : ∀ t : Fin grid1.N, win1_4.index t = ![t.val, 0] := by decide +kernel
theorem idx1_5 : ∀ t : Fin grid1.N, win1_5.index t = ![t.val, 0] := by decide +kernel
theorem idx1_8 : ∀ t : Fin grid1.N, win1_8.index t = ![t.val, 0] := by decide +kernel
theorem idx1_9 : ∀ t : Fin grid1.N, win1_9.index t = ![t.val, 0] := by decide +kernel
theorem idx1_10 : ∀ t : Fin grid1.N, win1_10.index t = ![t.val, 0] := by decide +kernel
theorem idx1_11 : ∀ t : Fin grid1.N, win1_11.index t = ![t.val, 0] := by decide +kernel
theorem idx1_1 : ∀ t : Fin grid1.N, win1_1.index t = ![0, 0] := by decide +kernel
theorem idx1_6 : ∀ t : Fin grid1.N, win1_6.index t = ![0, 0] := by decide +kernel
theorem idx1_7 : ∀ t : Fin grid1.N, win1_7.index t = ![0, 0] := by decide +kernel
theorem idx1_12 : ∀ t : Fin grid1.N, win1_12.index t = ![0, 0] := by decide +kernel

section Reads
variable (t : Fin cfg1.N)

theorem da_read (r : Fin 512) (j : Fin 4096) : iblk1 V c 0 t (ix2 r j) = (V c main_v19 : Vec Ideal S4096x4096 .bf16) (ix2 ⟨t.val * 512 + r.val, by have := lt_N1 t; omega⟩ j) := by
  blk_ext [iblk1, idx1_0 t]
theorem w1_read (r : Fin 1024) (j : Fin 4096) : iblk1 V c 1 t (ix2 r j) = (V c main_v20 : Vec Ideal S1024x4096 .bf16) (ix2 r j) := by
  blk_ext [iblk1, idx1_1 t]
theorem d2_read (r : Fin 512) (j : Fin 1024) : iblk1 V c 2 t (ix2 r j) = (V c main_arg12 : Vec Ideal S4096x1024 .f32) (ix2 ⟨t.val * 512 + r.val, by have := lt_N1 t; omega⟩ j) := by
  blk_ext [iblk1, idx1_2 t]
theorem xh_read (r : Fin 512) (j : Fin 1024) : iblk1 V c 3 t (ix2 r j) = (V c main_v12_1 : Vec Ideal S4096x1024 .f32) (ix2 ⟨t.val * 512 + r.val, by have := lt_N1 t; omega⟩ j) := by
  blk_ext [iblk1, idx1_3 t]
theorem rs_read (r : Fin 512) : iblk1 V c 4 t (ix2 r 0) = (V c main_v12_2 : Vec Ideal S4096x1 .f32) (ix2 ⟨t.val * 512 + r.val, by have := lt_N1 t; omega⟩ 0) := by
  blk_ext [iblk1, idx1_4 t]
theorem mx_read (r : Fin 512) (j : Fin 1024) : iblk1 V c 5 t (ix2 r j) = (V c main_v12_0 : Vec Ideal S4096x1024 .f32) (ix2 ⟨t.val * 512 + r.val, by have := lt_N1 t; omega⟩ j) := by
  blk_ext [iblk1, idx1_5 t]
theorem wo_read1 (r : Fin 2048) (j : Fin 1024) : iblk1 V c 6 t (ix2 r j) = (V c main_v0 : Vec Ideal S2048x1024 .bf16) (ix2 r j) := by
  blk_ext [iblk1, idx1_6 t]
theorem rows_read (r : Fin 8) (j : Fin 1024) : iblk1 V c 7 t (ix2 r j) = (V c main_v18 : Vec Ideal S8x1024 .f32) (ix2 r j) := by
  blk_ext [iblk1, idx1_7 t]
end Reads

/-- The gradients over the arrays found. -/
abbrev duV (i : Fin 4096) : Fin 1024 → EReal :=
  du (fun k => (V c main_v19 : Vec Ideal S4096x4096 .bf16) (ix2 i k)) fun j k => (V c main_v20 : Vec Ideal S1024x4096 .bf16) (ix2 j k)
abbrev drV (i : Fin 4096) : Fin 1024 → EReal :=
  dr (duV V c i) (fun j => (V c main_arg12 : Vec Ideal S4096x1024 .f32) (ix2 i j)) (fun j => (V c main_v12_1 : Vec Ideal S4096x1024 .f32) (ix2 i j)) (fun j => (V c main_v18 : Vec Ideal S8x1024 .f32) (ix2 0 j))
    (fun j => (V c main_v18 : Vec Ideal S8x1024 .f32) (ix2 2 j)) ((V c main_v12_2 : Vec Ideal S4096x1 .f32) (ix2 i 0))
abbrev dmixV (i : Fin 4096) : Fin 1024 → EReal :=
  dmix (fun j => (V c main_v18 : Vec Ideal S8x1024 .f32) (ix2 3 j)) (duV V c i) (fun j => (V c main_arg12 : Vec Ideal S4096x1024 .f32) (ix2 i j)) (fun j => (V c main_v12_1 : Vec Ideal S4096x1024 .f32) (ix2 i j))
    (fun j => (V c main_v18 : Vec Ideal S8x1024 .f32) (ix2 0 j)) (fun j => (V c main_v18 : Vec Ideal S8x1024 .f32) (ix2 2 j)) ((V c main_v12_2 : Vec Ideal S4096x1 .f32) (ix2 i 0))
def dynV (i : Fin 4096) (j : Fin 1024) : EReal := ∑ k : Fin 1024, dmixV V c i k * (V c main_v0 : Vec Ideal S2048x1024 .bf16) (ix2 ⟨j.val, by omega⟩ k)
def doV (i : Fin 4096) (j : Fin 1024) : EReal := ∑ k : Fin 1024, dmixV V c i k * (V c main_v0 : Vec Ideal S2048x1024 .bf16) (ix2 ⟨1024 + j.val, by omega⟩ k)
abbrev termV (i : Fin 4096) : Fin 8 → Fin 1024 → EReal :=
  term (duV V c i) (fun j => (V c main_arg12 : Vec Ideal S4096x1024 .f32) (ix2 i j)) (fun j => (V c main_v12_1 : Vec Ideal S4096x1024 .f32) (ix2 i j)) (fun j => (V c main_v18 : Vec Ideal S8x1024 .f32) (ix2 0 j))
    (fun j => (V c main_v18 : Vec Ideal S8x1024 .f32) (ix2 1 j)) (fun j => (V c main_v18 : Vec Ideal S8x1024 .f32) (ix2 2 j)) (fun j => (V c main_v12_0 : Vec Ideal S4096x1024 .f32) (ix2 i j)) ((V c main_v12_2 : Vec Ideal S4096x1 .f32) (ix2 i 0))

section Tiles
variable (t : Fin cfg1.N)

theorem du_eq (r : Fin 512) : duT (iblk1 V c 0 t) (iblk1 V c 1 t) r = duV V c ⟨t.val * 512 + r.val, by have := lt_N1 t; omega⟩ := by
  unfold duT duV
  simp only [da_read, w1_read]
theorem dr_eq (r : Fin 512) : drT (iblk1 V c 0 t) (iblk1 V c 1 t) (iblk1 V c 2 t) (iblk1 V c 3 t) (iblk1 V c 4 t) (iblk1 V c 7 t) r = drV V c ⟨t.val * 512 + r.val, by have := lt_N1 t; omega⟩ := by
  unfold drT drV
  simp only [du_eq, d2_read, xh_read, rs_read, rows_read]
theorem dmix_eq (r : Fin 512) : dmixT (iblk1 V c 0 t) (iblk1 V c 1 t) (iblk1 V c 2 t) (iblk1 V c 3 t) (iblk1 V c 4 t) (iblk1 V c 7 t) r = dmixV V c ⟨t.val * 512 + r.val, by have := lt_N1 t; omega⟩ := by
  unfold dmixT dmixV
  simp only [du_eq, d2_read, xh_read, rs_read, rows_read]
theorem term_eq (r : Fin 512) : termT (iblk1 V c 0 t) (iblk1 V c 1 t) (iblk1 V c 2 t) (iblk1 V c 3 t) (iblk1 V c 4 t) (iblk1 V c 5 t) (iblk1 V c 7 t) r = termV V c ⟨t.val * 512 + r.val, by have := lt_N1 t; omega⟩ := by
  unfold termT termV
  simp only [du_eq, d2_read, xh_read, rs_read, rows_read, mx_read]

/-- The running sums after the last point. -/
theorem acc_last (ht : t.val % 8 = 7) (k : Fin 8) (j : Fin 1024) : (outsAt1 V c t.val t.isLt).2.2.2.2 (ix2 k j) = ∑ i, termV V c i k j := by
  have hN := lt_N1 t
  have hs := Pipeline.eq_sum_fin_of_reset_step_apply_last (N := cfg1.N) (fun n h => fun j : Fin 1024 => (outsAt1 V c n h).2.2.2.2 (ix2 k j)) 8 (fun _ => 0)
    (fun t j => ∑ r : Fin 512, termT (iblk1 V c 0 t) (iblk1 V c 1 t) (iblk1 V c 2 t) (iblk1 V c 3 t) (iblk1 V c 4 t) (iblk1 V c 5 t) (iblk1 V c 7 t) r k j)
    (fun t h j => acc_first V c t h k j) (fun t h j => acc_later V c t h k j) (le_of_eq N_1) t (by have h8 : cfg1.N = 8 := N_1; omega) j
  simp only [zero_add, term_eq] at hs
  exact hs.trans (Fin.sum_mul_add_fin (S := 8) (n := 512) (f := fun i => termV V c i k j))
end Tiles

theorem dmix_array : (dat1 V c).arrAt 8 cfg1.N = (fun y => dmixV V c (y 0) (y 1) : Vec Ideal S4096x1024 .bf16) := by
  refine (dat1 V c).arrAt_eq_of_covers 8 _ (by decide +kernel) fun t hf y => ?_
  blk_simp
  rw [after1_8]
  idx_vars y
  have hN := lt_N1 t
  have e : (win1_8.blk t).view.emb (ix2 y0 y1) = (ix2 ⟨t.val * 512 + y0.val, by omega⟩ y1 : S4096x1024.Idx) := by
    blk_ext [idx1_8 t]
  refine Eq.trans ?_ (congrArg (fun y => dmixV V c (y 0) (y 1) : Vec Ideal S4096x1024 .bf16) e).symm
  exact (dmix_block V c t y0 y1).trans (congrFun (dmix_eq V c t y0) y1)

theorem dh0_array : (dat1 V c).arrAt 9 cfg1.N = (fun y => scale * drV V c (y 0) (y 1) : Vec Ideal S4096x1024 .f32) := by
  refine (dat1 V c).arrAt_eq_of_covers 9 _ (by decide +kernel) fun t hf y => ?_
  blk_simp
  rw [after1_9]
  idx_vars y
  have hN := lt_N1 t
  have e : (win1_9.blk t).view.emb (ix2 y0 y1) = (ix2 ⟨t.val * 512 + y0.val, by omega⟩ y1 : S4096x1024.Idx) := by
    blk_ext [idx1_9 t]
  refine Eq.trans ?_ (congrArg (fun y => scale * drV V c (y 0) (y 1) : Vec Ideal S4096x1024 .f32) e).symm
  exact (dh0_block V c t y0 y1).trans (congrArg (scale * ·) (congrFun (dr_eq V c t y0) y1))

theorem dyn_array : (dat1 V c).arrAt 10 cfg1.N = (fun y => dynV V c (y 0) (y 1) : Vec Ideal S4096x1024 .f32) := by
  refine (dat1 V c).arrAt_eq_of_covers 10 _ (by decide +kernel) fun t hf y => ?_
  blk_simp
  rw [after1_10]
  idx_vars y
  have hN := lt_N1 t
  have e : (win1_10.blk t).view.emb (ix2 y0 y1) = (ix2 ⟨t.val * 512 + y0.val, by omega⟩ y1 : S4096x1024.Idx) := by
    blk_ext [idx1_10 t]
  refine Eq.trans ?_ (congrArg (fun y => dynV V c (y 0) (y 1) : Vec Ideal S4096x1024 .f32) e).symm
  exact (dyn_block V c t y0 y1).trans (Finset.sum_congr rfl fun k _ => congrArg₂ (· * ·) (congrFun (dmix_eq V c t y0) k) (wo_read1 V c t ⟨y1.val, by omega⟩ k))

theorem do_array : (dat1 V c).arrAt 11 cfg1.N = (fun y => doV V c (y 0) (y 1) : Vec Ideal S4096x1024 .bf16) := by
  refine (dat1 V c).arrAt_eq_of_covers 11 _ (by decide +kernel) fun t hf y => ?_
  blk_simp
  rw [after1_11]
  idx_vars y
  have hN := lt_N1 t
  have e : (win1_11.blk t).view.emb (ix2 y0 y1) = (ix2 ⟨t.val * 512 + y0.val, by omega⟩ y1 : S4096x1024.Idx) := by
    blk_ext [idx1_11 t]
  refine Eq.trans ?_ (congrArg (fun y => doV V c (y 0) (y 1) : Vec Ideal S4096x1024 .bf16) e).symm
  exact (do_block V c t y0 y1).trans (Finset.sum_congr rfl fun k _ => congrArg₂ (· * ·) (congrFun (dmix_eq V c t y0) k) (wo_read1 V c t ⟨1024 + y1.val, by omega⟩ k))

theorem acc_array : (dat1 V c).arrAt 12 cfg1.N = (fun y => ∑ i, termV V c i (y 0) (y 1) : Vec Ideal S8x1024 .f32) := by
  refine (dat1 V c).arrAt_eq_of_covers 12 _ (by decide +kernel) fun t hf y => ?_
  blk_simp
  rw [after1_12]
  idx_vars y
  have hN := lt_N1 t
  have e : (win1_12.blk t).view.emb (ix2 y0 y1) = (ix2 y0 y1 : S8x1024.Idx) := by
    blk_ext [idx1_12 t]
  refine Eq.trans ?_ (congrArg (fun y => ∑ i, termV V c i (y 0) (y 1) : Vec Ideal S8x1024 .f32) e).symm
  exact acc_last V c t ((flush1_12 t).mp hf) y0 y1

end Cert.Mid

end
-- ==== Proof.MidReference.lean ====
/-
  The reference of the layer's middle: its arrays are the same functions. The two mixers' outputs lie side by side before the projection,
  and the gradients come mechanically from the forward lines; on finite arguments the norm's part is the kernel's one line.
-/
module

public import proofs.«01_k».proof.Proof.MidBlock
public import proofs.«01_k».proof.Proof.LossReference
public import proofs.«01_k».proof.Proof.Gen.Reference6Ideal.Run
public import proofs.«01_k».proof.Proof.Gen.Reference6Ideal.Read

@[expose] public section

set_option maxRecDepth 16384

noncomputable section

namespace Cert.Mid

open Cert.Reference6Ideal Cert.Reference6Ideal.Read
open Idealize.ShloMosaic Idealize.ShloMosaic.TcCoe Idealize.ShloMosaic.Tactic Idealize.ShloMosaic.Pointwise
open Cert.Norm
open Cert.Loss (Finite add_real)
open Cert.Swa (mul_real sum_real ofBits_real)

section Arrays
variable (y o : Vec Ideal S4096x1024 .f32) (wo : Vec Ideal S2048x1024 .f32) (x0 : Vec Ideal S4096x1024 .f32) (g0 b0 p1 g b p2 : Vec Ideal S1024 .f32)
  (w1 : Vec Ideal S1024x4096 .f32) (d2 : Vec Ideal S4096x1024 .f32) (da : Vec Ideal S4096x4096 .f32)

/-- The results over the arguments. -/
abbrev mixA (i : Fin 4096) : Fin 1024 → EReal := mix (fun k => y (ix2 i k)) (fun k => o (ix2 i k)) fun k j => wo (ix2 k j)
abbrev residA (i : Fin 4096) : Fin 1024 → EReal :=
  resid (fun k => y (ix2 i k)) (fun k => o (ix2 i k)) (fun k j => wo (ix2 k j)) (fun j => x0 (ix2 i j)) (fun j => g0 (ix1 j)) (fun j => b0 (ix1 j)) fun j => p1 (ix1 j)
abbrev duA (i : Fin 4096) : Fin 1024 → EReal := du (fun k => da (ix2 i k)) fun j k => w1 (ix2 j k)
abbrev drA (i : Fin 4096) : Fin 1024 → EReal :=
  dr (duA w1 da i) (fun j => d2 (ix2 i j)) (hat (residA y o wo x0 g0 b0 p1 i)) (fun j => g (ix1 j)) (fun j => p2 (ix1 j)) (rstd (residA y o wo x0 g0 b0 p1 i))
abbrev dmixA (i : Fin 4096) : Fin 1024 → EReal :=
  dmix (fun j => p1 (ix1 j)) (duA w1 da i) (fun j => d2 (ix2 i j)) (hat (residA y o wo x0 g0 b0 p1 i)) (fun j => g (ix1 j)) (fun j => p2 (ix1 j))
    (rstd (residA y o wo x0 g0 b0 p1 i))
abbrev termA (i : Fin 4096) : Fin 8 → Fin 1024 → EReal :=
  term (duA w1 da i) (fun j => d2 (ix2 i j)) (hat (residA y o wo x0 g0 b0 p1 i)) (fun j => g (ix1 j)) (fun j => b (ix1 j)) (fun j => p2 (ix1 j))
    (mixA y o wo i) (rstd (residA y o wo x0 g0 b0 p1 i))

/-- The arguments the gradients depend on are finite. -/
structure Fins : Prop where
  y : Finite y
  o : Finite o
  wo : Finite wo
  x0 : Finite x0
  g0 : Finite g0
  b0 : Finite b0
  p1 : Finite p1
  g : Finite g
  p2 : Finite p2
  w1 : Finite w1
  d2 : Finite d2
  da : Finite da

/-! ## The forward lines -/

theorem ref_mix (i : Fin 4096) (j : Fin 1024) : val_main_v7 (F := Ideal) y o wo (ix2 i j) = mixA y o wo i j := by
  unfold mixA mix
  pointwise [val_main_v6, val_main_v7]
theorem ref_resid (i : Fin 4096) (j : Fin 1024) : val_main_v15 (F := Ideal) y o wo x0 g0 b0 p1 (ix2 i j) = residA y o wo x0 g0 b0 p1 i j := by
  have e := ref_mix y o wo i j
  unfold mixA at e
  unfold residA resid scale
  rw [← e]
  pointwise [val_main_v0, val_main_v1, val_main_v2, val_main_v3, val_main_v4, val_main_v5, val_main_cst, val_main_v8, val_main_v9, val_main_cst_0,
    val_main_v10, val_main_v11, val_main_v12, val_main_v13, val_main_v14, val_main_v15]
theorem ref_hat (i : Fin 4096) (j : Fin 1024) : val_main_v38 (F := Ideal) y o wo x0 g0 b0 p1 (ix2 i j)
    = hat (fun j => val_main_v15 (F := Ideal) y o wo x0 g0 b0 p1 (ix2 i j)) j := by
  unfold hat rstd cen mean width small
  pointwise [val_main_cst_1, val_main_v16, val_main_v17, val_main_cst_2, val_main_v18, val_main_v19, val_main_v20, val_main_v21, val_main_v22,
    val_main_cst_4, val_main_v25, val_main_v26, val_main_cst_5, val_main_v27, val_main_v28, val_main_v29, val_main_v30, val_main_cst_6,
    val_main_v31, val_main_v32, val_main_v33, val_main_v37, val_main_v38]

/-! ## The gradients -/

theorem ref_du (i : Fin 4096) (j : Fin 1024) : val_main_v56 (F := Ideal) w1 da (ix2 i j) = duA w1 da i j := by
  unfold duA du
  pointwise [val_main_v56]
theorem ref_dh (i : Fin 4096) (j : Fin 1024) : val_main_v67 (F := Ideal) p2 w1 d2 da (ix2 i j)
    = dh (duA w1 da i) (fun j => d2 (ix2 i j)) (fun j => p2 (ix1 j)) j := by
  unfold dh scale
  rw [← ref_du]
  pointwise [val_main_cst_8, val_main_v45, val_main_v46, val_main_v47, val_main_cst_10, val_main_v57, val_main_v58, val_main_v65, val_main_v66,
    val_main_v67]
theorem ref_dn (i : Fin 4096) (j : Fin 1024) : val_main_v76 (F := Ideal) g p2 w1 d2 da (ix2 i j)
    = val_main_v67 (F := Ideal) p2 w1 d2 da (ix2 i j) * g (ix1 j) := by
  pointwise [val_main_v39, val_main_v75, val_main_v76]
theorem ref_prod (i : Fin 4096) (j : Fin 1024) : val_main_v82 (F := Ideal) y o wo x0 g0 b0 p1 g p2 w1 d2 da (ix2 i j)
    = val_main_v76 (F := Ideal) g p2 w1 d2 da (ix2 i j) * rstd (fun j => val_main_v15 (F := Ideal) y o wo x0 g0 b0 p1 (ix2 i j)) := by
  unfold rstd cen mean width small
  pointwise [val_main_cst_1, val_main_v16, val_main_v17, val_main_cst_2, val_main_v18, val_main_v19, val_main_v20, val_main_v21, val_main_v22,
    val_main_cst_4, val_main_v25, val_main_v26, val_main_cst_5, val_main_v27, val_main_v28, val_main_cst_6, val_main_v31, val_main_v32,
    val_main_v33, val_main_v81, val_main_v82]
theorem ref_sq (i : Fin 4096) (j : Fin 1024) : val_main_v91 (F := Ideal) y o wo x0 g0 b0 p1 g p2 w1 d2 da (ix2 i j)
    = gSq (fun j => val_main_v15 (F := Ideal) y o wo x0 g0 b0 p1 (ix2 i j)) (fun j => val_main_v76 (F := Ideal) g p2 w1 d2 da (ix2 i j)) j := by
  unfold gSq gVar rstd cen mean width small
  pointwise [val_main_cst_1, val_main_v16, val_main_v17, val_main_cst_2, val_main_v18, val_main_v19, val_main_v20, val_main_v21, val_main_v22,
    val_main_cst_3, val_main_v23, val_main_v24, val_main_cst_4, val_main_v25, val_main_v26, val_main_cst_5, val_main_v27, val_main_v28,
    val_main_v29, val_main_v30, val_main_cst_6, val_main_v31, val_main_v32, val_main_v33, val_main_v34, val_main_cst_7, val_main_v35,
    val_main_v36, val_main_v78, val_main_cst_19, val_main_v79, val_main_v80, val_main_v83, val_main_cst_21, val_main_v87, val_main_v88,
    val_main_cst_22, val_main_v89, val_main_v90, val_main_v91]
  simp only [Finset.univ_unique, Finset.sum_singleton]
theorem ref_dr' (i : Fin 4096) (j : Fin 1024) : val_main_v101 (F := Ideal) y o wo x0 g0 b0 p1 g p2 w1 d2 da (ix2 i j)
    = gRow (fun j => val_main_v15 (F := Ideal) y o wo x0 g0 b0 p1 (ix2 i j)) (fun j => val_main_v76 (F := Ideal) g p2 w1 d2 da (ix2 i j)) j := by
  unfold gRow width
  simp only [← ref_sq]
  pointwise [val_main_v84, val_main_cst_20, val_main_v85, val_main_v86, val_main_v92, val_main_cst_23, val_main_v93, val_main_v94, val_main_v95,
    val_main_v96, val_main_cst_24, val_main_v97, val_main_v98, val_main_cst_25, val_main_v99, val_main_v100, val_main_v101]
  simp only [Finset.univ_unique, Finset.sum_singleton, ref_prod]
  try rfl
theorem ref_dmix' (i : Fin 4096) (j : Fin 1024) : val_main_v103 (F := Ideal) y o wo x0 g0 b0 p1 g p2 w1 d2 da (ix2 i j)
    = (1 + p1 (ix1 j)) * val_main_v101 (F := Ideal) y o wo x0 g0 b0 p1 g p2 w1 d2 da (ix2 i j) := by
  pointwise [val_main_cst_0, val_main_v10, val_main_v11, val_main_v12, val_main_v102, val_main_v103]
theorem ref_dh0' (i : Fin 4096) (j : Fin 1024) : val_main_v109 (F := Ideal) y o wo x0 g0 b0 p1 g p2 w1 d2 da (ix2 i j)
    = scale * val_main_v101 (F := Ideal) y o wo x0 g0 b0 p1 g p2 w1 d2 da (ix2 i j) := by
  unfold scale
  pointwise [val_main_cst_28, val_main_v108, val_main_v109]
theorem ref_dyn' (i : Fin 4096) (j : Fin 1024) : val_main_v111 (F := Ideal) y o wo x0 g0 b0 p1 g p2 w1 d2 da (ix2 i j)
    = ∑ k : Fin 1024, val_main_v103 (F := Ideal) y o wo x0 g0 b0 p1 g p2 w1 d2 da (ix2 i k) * wo (ix2 ⟨j.val, by omega⟩ k) := by
  pointwise [val_main_v110, val_main_v111]
theorem ref_do' (i : Fin 4096) (j : Fin 1024) : val_main_v114 (F := Ideal) y o wo x0 g0 b0 p1 g p2 w1 d2 da (ix2 i j)
    = ∑ k : Fin 1024, val_main_v103 (F := Ideal) y o wo x0 g0 b0 p1 g p2 w1 d2 da (ix2 i k) * wo (ix2 ⟨1024 + j.val, by omega⟩ k) := by
  pointwise [val_main_v110, val_main_v112, val_main_v114]
/-- The sums over the rows, one beneath the other, and three rows of zeros. -/
theorem ref_rows (k : Fin 8) (j : Fin 1024) : val_main_v122 (F := Ideal) y o wo x0 g0 b0 p1 g b p2 w1 d2 da (ix2 k j)
    = ∑ i : Fin 4096, if k.val = 0 then (val_main_v38 (F := Ideal) y o wo x0 g0 b0 p1 (ix2 i j) * g (ix1 j) + b (ix1 j)) * val_main_v56 (F := Ideal) w1 da (ix2 i j)
      else if k.val = 1 then val_main_v56 (F := Ideal) w1 da (ix2 i j)
      else if k.val = 2 then val_main_v38 (F := Ideal) y o wo x0 g0 b0 p1 (ix2 i j) * val_main_v67 (F := Ideal) p2 w1 d2 da (ix2 i j)
      else if k.val = 3 then val_main_v67 (F := Ideal) p2 w1 d2 da (ix2 i j)
      else if k.val = 4 then val_main_v101 (F := Ideal) y o wo x0 g0 b0 p1 g p2 w1 d2 da (ix2 i j) * val_main_v7 (F := Ideal) y o wo (ix2 i j) else 0 := by
  fin_cases k <;> (pointwise [val_main_v39, val_main_v40, val_main_v41, val_main_v42, val_main_v43, val_main_v44, val_main_cst_11, val_main_v59, val_main_v60,
    val_main_cst_12, val_main_v61, val_main_v62, val_main_cst_13, val_main_v63, val_main_v64, val_main_cst_14, val_main_v68, val_main_cst_15,
    val_main_v69, val_main_v70, val_main_cst_16, val_main_v71, val_main_v72, val_main_cst_17, val_main_v73, val_main_v74, val_main_cst_18,
    val_main_v77, val_main_v104, val_main_cst_26, val_main_v105, val_main_v106, val_main_cst_27, val_main_v107, val_main_v115, val_main_v116,
    val_main_v117, val_main_v118, val_main_v119, val_main_v120, val_main_cst_29, val_main_v121, val_main_v122])
  all_goals simp only [Finset.univ_unique, Finset.sum_singleton, Finset.sum_const_zero]

/-! ## On finite arguments -/

section Real
variable {y o wo x0 g0 b0 p1 g p2 w1 d2 da}
variable (h : Fins y o wo x0 g0 b0 p1 g p2 w1 d2 da)
include h

theorem real_resid (i : Fin 4096) (j : Fin 1024) : ∃ r : ℝ, residA y o wo x0 g0 b0 p1 i j = r :=
  add_real (mul_real (ofBits_real _ (by decide)) (add_real (mul_real (h.x0 _) (h.g0 _)) (h.b0 _)))
    (mul_real (add_real ⟨1, rfl⟩ (h.p1 _)) (add_real (sum_real _ _ fun _ => mul_real (h.y _) (h.wo _)) (sum_real _ _ fun _ => mul_real (h.o _) (h.wo _))))
theorem real_dh (i : Fin 4096) (j : Fin 1024) : ∃ r : ℝ, dh (duA w1 da i) (fun j => d2 (ix2 i j)) (fun j => p2 (ix1 j)) j = r :=
  add_real (mul_real (ofBits_real _ (by decide)) (h.d2 _)) (mul_real (sum_real _ _ fun _ => mul_real (h.da _) (h.w1 _)) (add_real ⟨1, rfl⟩ (h.p2 _)))
theorem ref_dr (i : Fin 4096) (j : Fin 1024) : val_main_v101 (F := Ideal) y o wo x0 g0 b0 p1 g p2 w1 d2 da (ix2 i j) = drA y o wo x0 g0 b0 p1 g p2 w1 d2 da i j := by
  rw [ref_dr']
  simp only [ref_dn, ref_dh, ref_resid]
  exact gRow_eq _ _ (real_resid h i) (fun j => mul_real (real_dh h i j) (h.g _)) j
theorem ref_dmix (i : Fin 4096) (j : Fin 1024) : val_main_v103 (F := Ideal) y o wo x0 g0 b0 p1 g p2 w1 d2 da (ix2 i j) = dmixA y o wo x0 g0 b0 p1 g p2 w1 d2 da i j := by
  rw [ref_dmix', ref_dr h]
  rfl
theorem ref_out (i : Fin 4096) (j : Fin 1024) : val_main_v113 (F := Ideal) y o wo x0 g0 b0 p1 g p2 w1 d2 da (ix2 i j) = dmixA y o wo x0 g0 b0 p1 g p2 w1 d2 da i j :=
  ref_dmix h i j
theorem ref_dh0 (i : Fin 4096) (j : Fin 1024) : val_main_v109 (F := Ideal) y o wo x0 g0 b0 p1 g p2 w1 d2 da (ix2 i j) = scale * drA y o wo x0 g0 b0 p1 g p2 w1 d2 da i j := by
  rw [ref_dh0', ref_dr h]
theorem ref_dyn (i : Fin 4096) (j : Fin 1024) : val_main_v111 (F := Ideal) y o wo x0 g0 b0 p1 g p2 w1 d2 da (ix2 i j)
    = ∑ k : Fin 1024, dmixA y o wo x0 g0 b0 p1 g p2 w1 d2 da i k * wo (ix2 ⟨j.val, by omega⟩ k) := by
  rw [ref_dyn']
  simp only [ref_dmix h]
theorem ref_do (i : Fin 4096) (j : Fin 1024) : val_main_v114 (F := Ideal) y o wo x0 g0 b0 p1 g p2 w1 d2 da (ix2 i j)
    = ∑ k : Fin 1024, dmixA y o wo x0 g0 b0 p1 g p2 w1 d2 da i k * wo (ix2 ⟨1024 + j.val, by omega⟩ k) := by
  rw [ref_do']
  simp only [ref_dmix h]
theorem ref_acc (k : Fin 8) (j : Fin 1024) : val_main_v122 (F := Ideal) y o wo x0 g0 b0 p1 g b p2 w1 d2 da (ix2 k j)
    = ∑ i, termA y o wo x0 g0 b0 p1 g b p2 w1 d2 da i k j := by
  rw [ref_rows]
  refine Finset.sum_congr rfl fun i _ => ?_
  unfold termA term
  simp only [ref_hat, ref_resid, ref_du, ref_dh, ref_mix, ref_dr h]
  rw [mul_comm (duA w1 da i j), mul_comm (dh (duA w1 da i) (fun j => d2 (ix2 i j)) (fun j => p2 (ix1 j)) j)]

end Real

end Arrays

end Cert.Mid

end
-- ==== Proof.MidRun.lean ====
/-
  THE TWO CALLS OF THE LAYER'S MIDDLE RUN: every execution ends with the five results at what the second call's write-backs leave and the
  arguments as launched. The launch is the frame's; only what is read off the last state is more.
-/
module

public import proofs.«01_k».proof.Proof.Gen.Kernel6Ideal.Frame

@[expose] public section

set_option maxRecDepth 16384

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- After any execution every buffer is at the last boundary's contents. -/
theorem run_last : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

/-- The five results and the arguments after any execution. -/
theorem run_results : θ_run defs (onTc (τ := τ) (main (F := F))) ⟨m, fun _ => 0, ρ⟩ (fun r => ∀ c : Dev nD,
      r.2.mem ((c.tc : Thread nD τ).loc main_v21_0) = (dat1 (V3 m ρ) c).arrAt 8 cfg1.N
      ∧ r.2.mem ((c.tc : Thread nD τ).loc main_v21_1) = (dat1 (V3 m ρ) c).arrAt 9 cfg1.N
      ∧ r.2.mem ((c.tc : Thread nD τ).loc main_v21_2) = (dat1 (V3 m ρ) c).arrAt 10 cfg1.N
      ∧ r.2.mem ((c.tc : Thread nD τ).loc main_v21_3) = (dat1 (V3 m ρ) c).arrAt 11 cfg1.N
      ∧ r.2.mem ((c.tc : Thread nD τ).loc main_v21_4) = (dat1 (V3 m ρ) c).arrAt 12 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run _ _ _).mono (fun r h c =>
      ⟨(h c _ (mem_uc main_v21_0 (by decide))).trans (W4_arr m ρ c 8),
       (h c _ (mem_uc main_v21_1 (by decide))).trans (W4_arr m ρ c 9),
       (h c _ (mem_uc main_v21_2 (by decide))).trans (W4_arr m ρ c 10),
       (h c _ (mem_uc main_v21_3 (by decide))).trans (W4_arr m ρ c 11),
       (h c _ (mem_uc main_v21_4 (by decide))).trans (W4_arr m ρ c 12),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c)⟩)
    (run_last m ρ)

end Cert.Kernel6Ideal.Gen
-- ==== Proof.MidValue.lean ====
/-
  The five arrays of the backward pass through the layer's middle, each as one function of the arguments, and that on finite arguments the
  reference leaves the same ones.
-/
module

public import proofs.«01_k».proof.Defs
public import proofs.«01_k».proof.Proof.SwaValue
public import proofs.«01_k».proof.Proof.MidArray
public import proofs.«01_k».proof.Proof.MidReference
public import proofs.«01_k».proof.Proof.MidRun

@[expose] public section

set_option maxRecDepth 16384

noncomputable section

namespace Cert.Mid

open Cert.Kernel6Ideal Cert.Kernel6Ideal.Gen Idealize.ShloMosaic Idealize.ShloMosaic.TcCoe Idealize.SL.Sem Idealize.ShloMosaic.Pointwise
  Idealize.ShloMosaic.Tactic
open Idealize.ShloMosaic.Pipeline (Dat)
open Cert.Reference6Ideal.Read
open Cert.Norm
open Cert.Swa (real_of_lt andi_left)

section Kernel

variable (m : (ℓ : Loc nD τ sig) → Buf (Elt Ideal) ℓ) (ρ : Dev nD → PrngReg) (c : Dev nD)

/-- The arguments. -/
abbrev inY : Vec Ideal S4096x1024 .f32 := m ((c : Thread nD τ).loc main_arg0)
abbrev inO : Vec Ideal S4096x1024 .f32 := m ((c : Thread nD τ).loc main_arg1)
abbrev inWo : Vec Ideal S2048x1024 .f32 := m ((c : Thread nD τ).loc main_arg2)
abbrev inX : Vec Ideal S4096x1024 .f32 := m ((c : Thread nD τ).loc main_arg3)
abbrev inG0 : Vec Ideal S1024 .f32 := m ((c : Thread nD τ).loc main_arg4)
abbrev inB0 : Vec Ideal S1024 .f32 := m ((c : Thread nD τ).loc main_arg5)
abbrev inP1 : Vec Ideal S1024 .f32 := m ((c : Thread nD τ).loc main_arg6)
abbrev inG : Vec Ideal S1024 .f32 := m ((c : Thread nD τ).loc main_arg7)
abbrev inB : Vec Ideal S1024 .f32 := m ((c : Thread nD τ).loc main_arg8)
abbrev inP2 : Vec Ideal S1024 .f32 := m ((c : Thread nD τ).loc main_arg9)
abbrev inW1 : Vec Ideal S1024x4096 .f32 := m ((c : Thread nD τ).loc main_arg11)
abbrev inD2 : Vec Ideal S4096x1024 .f32 := m ((c : Thread nD τ).loc main_arg12)
abbrev inDa : Vec Ideal S4096x4096 .f32 := m ((c : Thread nD τ).loc main_arg13)

/-- A vector as one row. -/
abbrev oneRow (x : Vec Ideal S1024 .f32) : Vec Ideal S1x1024 .f32 := shapeCast S1x1024 x shapeCasts_S1024_S1x1024

/-! ## What the first call finds in its operands -/

theorem V1_wo : (V1 m ρ c main_v0 : Vec Ideal S2048x1024 .bf16) = inWo m c := by
  have e : (V1 m ρ c main_v0 : Vec Ideal S2048x1024 .bf16) = (truncf (F := Ideal) .bf16 (inWo m c) bitsLt_bf16_f32 : Vec Ideal S2048x1024 .bf16) := by
    unfold V1 W1 hostOps0
    after_results
    try rfl
  rw [e]
  rfl
theorem V1_y : (V1 m ρ c main_v10 : Vec Ideal S4096x1024 .bf16) = inY m c := by
  have e : (V1 m ρ c main_v10 : Vec Ideal S4096x1024 .bf16) = (truncf (F := Ideal) .bf16 (inY m c) bitsLt_bf16_f32 : Vec Ideal S4096x1024 .bf16) := by
    unfold V1 W1 hostOps0
    after_results
    try rfl
  rw [e]
  rfl
theorem V1_o : (V1 m ρ c main_v11 : Vec Ideal S4096x1024 .bf16) = inO m c := by
  have e : (V1 m ρ c main_v11 : Vec Ideal S4096x1024 .bf16) = (truncf (F := Ideal) .bf16 (inO m c) bitsLt_bf16_f32 : Vec Ideal S4096x1024 .bf16) := by
    unfold V1 W1 hostOps0
    after_results
    try rfl
  rw [e]
  rfl
theorem V1_x : (V1 m ρ c main_arg3 : Vec Ideal S4096x1024 .f32) = inX m c := W1_args m ρ c main_arg3 (by decide)
/-- The vectors, one beneath the other. -/
theorem V1_rows : (V1 m ρ c main_v9 : Vec Ideal S8x1024 .f32) = concatenate S8x1024 0
    [⟨S1x1024, oneRow (m ((c : Thread nD τ).loc main_arg4))⟩, ⟨S1x1024, oneRow (m ((c : Thread nD τ).loc main_arg5))⟩, ⟨S1x1024, oneRow (m ((c : Thread nD τ).loc main_arg6))⟩, ⟨S1x1024, oneRow (m ((c : Thread nD τ).loc main_arg7))⟩,
      ⟨S1x1024, oneRow (m ((c : Thread nD τ).loc main_arg8))⟩, ⟨S1x1024, oneRow (m ((c : Thread nD τ).loc main_arg9))⟩, ⟨S1x1024, oneRow (m ((c : Thread nD τ).loc main_arg10))⟩,
      ⟨S1x1024, (broadcastInDim S1x1024 ![] bcast_S_S1x1024 (constant (F := Ideal) S_ .f32 0x00000000#32 : Vec Ideal S_ .f32) : Vec Ideal S1x1024 .f32)⟩]
    concatenates_S1x1024_S1x1024_S1x1024_S1x1024_S1x1024_S1x1024_S1x1024_S1x1024_S8x1024_d0 := by
  unfold V1 W1 hostOps0
  after_results
  try rfl
theorem V1_row0 (j : Fin 1024) : (V1 m ρ c main_v9 : Vec Ideal S8x1024 .f32) (ix2 0 j) = inG0 m c (ix1 j) := by
  rw [V1_rows]
  pointwise
theorem V1_row1 (j : Fin 1024) : (V1 m ρ c main_v9 : Vec Ideal S8x1024 .f32) (ix2 1 j) = inB0 m c (ix1 j) := by
  rw [V1_rows]
  pointwise
theorem V1_row2 (j : Fin 1024) : (V1 m ρ c main_v9 : Vec Ideal S8x1024 .f32) (ix2 2 j) = inP1 m c (ix1 j) := by
  rw [V1_rows]
  pointwise
theorem mixV_eq (i : Fin 4096) : mixV (V1 m ρ) c i = mixA (inY m c) (inO m c) (inWo m c) i := by
  unfold mixV mixA
  simp only [V1_y m ρ c, V1_o m ρ c, V1_wo m ρ c]
theorem residV_eq (i : Fin 4096) : residV (V1 m ρ) c i = residA (inY m c) (inO m c) (inWo m c) (inX m c) (inG0 m c) (inB0 m c) (inP1 m c) i := by
  unfold residV residA
  simp only [V1_y m ρ c, V1_o m ρ c, V1_wo m ρ c, V1_x m ρ c, V1_row0 m ρ c, V1_row1 m ρ c, V1_row2 m ρ c]

/-! ## What the second call finds in its operands -/

theorem V3_da : (V3 m ρ c main_v19 : Vec Ideal S4096x4096 .bf16) = inDa m c := by
  have e : (V3 m ρ c main_v19 : Vec Ideal S4096x4096 .bf16) = (truncf (F := Ideal) .bf16 (W2 m ρ c (Proc.devRef .tc main_arg13) : Vec Ideal S4096x4096 .f32) bitsLt_bf16_f32 : Vec Ideal S4096x4096 .bf16) := by
    unfold V3 W3 hostOps1
    after_results
    try rfl
  rw [e, W2_args m ρ c main_arg13 (by decide)]
  rfl
theorem V3_w1 : (V3 m ρ c main_v20 : Vec Ideal S1024x4096 .bf16) = inW1 m c := by
  have e : (V3 m ρ c main_v20 : Vec Ideal S1024x4096 .bf16) = (truncf (F := Ideal) .bf16 (W2 m ρ c (Proc.devRef .tc main_arg11) : Vec Ideal S1024x4096 .f32) bitsLt_bf16_f32 : Vec Ideal S1024x4096 .bf16) := by
    unfold V3 W3 hostOps1
    after_results
    try rfl
  rw [e, W2_args m ρ c main_arg11 (by decide)]
  rfl
theorem V3_d2 : (V3 m ρ c main_arg12 : Vec Ideal S4096x1024 .f32) = inD2 m c := W3_args m ρ c main_arg12 (by decide)
theorem V3_wo : (V3 m ρ c main_v0 : Vec Ideal S2048x1024 .bf16) = inWo m c :=
  ((W3_of m ρ c main_v0 (by decide)).trans (W2_of m ρ c main_v0 (by decide))).trans (V1_wo m ρ c)
theorem V3_mix (i : Fin 4096) (j : Fin 1024) : (V3 m ρ c main_v12_0 : Vec Ideal S4096x1024 .f32) (ix2 i j) = mixA (inY m c) (inO m c) (inWo m c) i j := by
  have e : (V3 m ρ c main_v12_0 : Vec Ideal S4096x1024 .f32) = (dat0 (V1 m ρ) c).arrAt 5 cfg0.N :=
    (W3_of m ρ c main_v12_0 (by decide)).trans (W2_arr m ρ c 5)
  rw [e, mix_array]
  exact congrFun (mixV_eq m ρ c i) j
theorem V3_hat (i : Fin 4096) (j : Fin 1024) : (V3 m ρ c main_v12_1 : Vec Ideal S4096x1024 .f32) (ix2 i j) = hat (residA (inY m c) (inO m c) (inWo m c) (inX m c) (inG0 m c) (inB0 m c) (inP1 m c) i) j := by
  have e : (V3 m ρ c main_v12_1 : Vec Ideal S4096x1024 .f32) = (dat0 (V1 m ρ) c).arrAt 6 cfg0.N :=
    (W3_of m ρ c main_v12_1 (by decide)).trans (W2_arr m ρ c 6)
  rw [e, hat_array]
  exact congrArg (hat · j) (residV_eq m ρ c i)
theorem V3_rstd (i : Fin 4096) : (V3 m ρ c main_v12_2 : Vec Ideal S4096x1 .f32) (ix2 i 0) = rstd (residA (inY m c) (inO m c) (inWo m c) (inX m c) (inG0 m c) (inB0 m c) (inP1 m c) i) := by
  have e : (V3 m ρ c main_v12_2 : Vec Ideal S4096x1 .f32) = (dat0 (V1 m ρ) c).arrAt 7 cfg0.N :=
    (W3_of m ρ c main_v12_2 (by decide)).trans (W2_arr m ρ c 7)
  rw [e, rstd_array]
  exact congrArg rstd (residV_eq m ρ c i)
/-- Four of the vectors, one beneath the other, and four rows of zeros. -/
theorem V3_rows : (V3 m ρ c main_v18 : Vec Ideal S8x1024 .f32) = concatenate S8x1024 0
    [⟨S1x1024, oneRow (inG m c)⟩, ⟨S1x1024, oneRow (inB m c)⟩, ⟨S1x1024, oneRow (inP2 m c)⟩, ⟨S1x1024, oneRow (inP1 m c)⟩,
      ⟨S4x1024, (broadcastInDim S4x1024 ![] bcast_S_S4x1024 (constant (F := Ideal) S_ .f32 0x00000000#32 : Vec Ideal S_ .f32) : Vec Ideal S4x1024 .f32)⟩]
    concatenates_S1x1024_S1x1024_S1x1024_S1x1024_S4x1024_S8x1024_d0 := by
  have e : (V3 m ρ c main_v18 : Vec Ideal S8x1024 .f32) = concatenate S8x1024 0
    [⟨S1x1024, oneRow (W2 m ρ c (Proc.devRef .tc main_arg7))⟩, ⟨S1x1024, oneRow (W2 m ρ c (Proc.devRef .tc main_arg8))⟩, ⟨S1x1024, oneRow (W2 m ρ c (Proc.devRef .tc main_arg9))⟩, ⟨S1x1024, oneRow (W2 m ρ c (Proc.devRef .tc main_arg6))⟩,
      ⟨S4x1024, (broadcastInDim S4x1024 ![] bcast_S_S4x1024 (constant (F := Ideal) S_ .f32 0x00000000#32 : Vec Ideal S_ .f32) : Vec Ideal S4x1024 .f32)⟩]
    concatenates_S1x1024_S1x1024_S1x1024_S1x1024_S4x1024_S8x1024_d0 := by
    unfold V3 W3 hostOps1
    after_results
    try rfl
  rw [e, W2_args m ρ c main_arg7 (by decide), W2_args m ρ c main_arg8 (by decide), W2_args m ρ c main_arg9 (by decide), W2_args m ρ c main_arg6 (by decide)]
theorem V3_row0 (j : Fin 1024) : (V3 m ρ c main_v18 : Vec Ideal S8x1024 .f32) (ix2 0 j) = inG m c (ix1 j) := by
  rw [V3_rows]
  pointwise
theorem V3_row1 (j : Fin 1024) : (V3 m ρ c main_v18 : Vec Ideal S8x1024 .f32) (ix2 1 j) = inB m c (ix1 j) := by
  rw [V3_rows]
  pointwise
theorem V3_row2 (j : Fin 1024) : (V3 m ρ c main_v18 : Vec Ideal S8x1024 .f32) (ix2 2 j) = inP2 m c (ix1 j) := by
  rw [V3_rows]
  pointwise
theorem V3_row3 (j : Fin 1024) : (V3 m ρ c main_v18 : Vec Ideal S8x1024 .f32) (ix2 3 j) = inP1 m c (ix1 j) := by
  rw [V3_rows]
  pointwise

/-! ## The results -/

abbrev dmixOut : Vec Ideal S4096x1024 .bf16 := fun y => dmixA (inY m c) (inO m c) (inWo m c) (inX m c) (inG0 m c) (inB0 m c) (inP1 m c) (inG m c) (inP2 m c) (inW1 m c) (inD2 m c) (inDa m c) (y 0) (y 1)
abbrev dh0Out : Vec Ideal S4096x1024 .f32 := fun y => scale * drA (inY m c) (inO m c) (inWo m c) (inX m c) (inG0 m c) (inB0 m c) (inP1 m c) (inG m c) (inP2 m c) (inW1 m c) (inD2 m c) (inDa m c) (y 0) (y 1)
abbrev dynOut : Vec Ideal S4096x1024 .f32 := fun y =>
  ∑ k : Fin 1024, dmixA (inY m c) (inO m c) (inWo m c) (inX m c) (inG0 m c) (inB0 m c) (inP1 m c) (inG m c) (inP2 m c) (inW1 m c) (inD2 m c) (inDa m c) (y 0) k * inWo m c (ix2 ⟨(y 1).val, lt_of_lt_of_le (y 1).isLt (by decide)⟩ k)
abbrev doOut : Vec Ideal S4096x1024 .bf16 := fun y =>
  ∑ k : Fin 1024, dmixA (inY m c) (inO m c) (inWo m c) (inX m c) (inG0 m c) (inB0 m c) (inP1 m c) (inG m c) (inP2 m c) (inW1 m c) (inD2 m c) (inDa m c) (y 0) k * inWo m c (ix2 ⟨1024 + (y 1).val, Nat.add_lt_add_left (y 1).isLt 1024⟩ k)
abbrev accOut : Vec Ideal S8x1024 .f32 := fun y => ∑ i, termA (inY m c) (inO m c) (inWo m c) (inX m c) (inG0 m c) (inB0 m c) (inP1 m c) (inG m c) (inB m c) (inP2 m c) (inW1 m c) (inD2 m c) (inDa m c) i (y 0) (y 1)

theorem drV_eq (i : Fin 4096) : drV (V3 m ρ) c i = drA (inY m c) (inO m c) (inWo m c) (inX m c) (inG0 m c) (inB0 m c) (inP1 m c) (inG m c) (inP2 m c) (inW1 m c) (inD2 m c) (inDa m c) i := by
  unfold drV duV drA duA
  simp only [V3_da m ρ c, V3_w1 m ρ c, V3_d2 m ρ c, V3_hat m ρ c, V3_rstd m ρ c, V3_row0 m ρ c, V3_row2 m ρ c]
theorem dmixV_eq (i : Fin 4096) : dmixV (V3 m ρ) c i = dmixA (inY m c) (inO m c) (inWo m c) (inX m c) (inG0 m c) (inB0 m c) (inP1 m c) (inG m c) (inP2 m c) (inW1 m c) (inD2 m c) (inDa m c) i := by
  unfold dmixV duV dmixA duA
  simp only [V3_da m ρ c, V3_w1 m ρ c, V3_d2 m ρ c, V3_hat m ρ c, V3_rstd m ρ c, V3_row0 m ρ c, V3_row2 m ρ c, V3_row3 m ρ c]
theorem termV_eq (i : Fin 4096) : termV (V3 m ρ) c i = termA (inY m c) (inO m c) (inWo m c) (inX m c) (inG0 m c) (inB0 m c) (inP1 m c) (inG m c) (inB m c) (inP2 m c) (inW1 m c) (inD2 m c) (inDa m c) i := by
  unfold termV duV termA duA
  simp only [V3_da m ρ c, V3_w1 m ρ c, V3_d2 m ρ c, V3_hat m ρ c, V3_rstd m ρ c, V3_mix m ρ c, V3_row0 m ρ c, V3_row1 m ρ c, V3_row2 m ρ c]
theorem dmix_out : (dat1 (V3 m ρ) c).arrAt 8 cfg1.N = dmixOut m c :=
  (dmix_array (V3 m ρ) c).trans (funext fun y => congrFun (dmixV_eq m ρ c (y 0)) (y 1))
theorem dh0_out : (dat1 (V3 m ρ) c).arrAt 9 cfg1.N = dh0Out m c :=
  (dh0_array (V3 m ρ) c).trans (funext fun y => congrArg (scale * ·) (congrFun (drV_eq m ρ c (y 0)) (y 1)))
theorem dyn_out : (dat1 (V3 m ρ) c).arrAt 10 cfg1.N = dynOut m c :=
  (dyn_array (V3 m ρ) c).trans (funext fun y => Finset.sum_congr rfl fun k _ =>
    congrArg₂ (· * ·) (congrFun (dmixV_eq m ρ c (y 0)) k) (congrFun (V3_wo m ρ c) _))
theorem do_out : (dat1 (V3 m ρ) c).arrAt 11 cfg1.N = doOut m c :=
  (do_array (V3 m ρ) c).trans (funext fun y => Finset.sum_congr rfl fun k _ =>
    congrArg₂ (· * ·) (congrFun (dmixV_eq m ρ c (y 0)) k) (congrFun (V3_wo m ρ c) _))
theorem acc_out : (dat1 (V3 m ρ) c).arrAt 12 cfg1.N = accOut m c :=
  (acc_array (V3 m ρ) c).trans (funext fun y => Finset.sum_congr rfl fun i _ => congrFun (congrFun (termV_eq m ρ c i) (y 0)) (y 1))

end Kernel

/-! ## The precondition, and the value -/

/-- The precondition's side conditions. -/
theorem pre_facts : Cert.Pre_finite6.Facts where
  bcast_S_S4096x1024 := by decide
  reducesTo_S4096x1024_S_d0_1 := by decide
  h_S_ := by decide
  bcast_S_S2048x1024 := by decide
  reducesTo_S2048x1024_S_d0_1 := by decide
  bcast_S_S1024 := by decide
  reducesTo_S1024_S_d0 := by decide
  bcast_S_S1024x4096 := by decide
  reducesTo_S1024x4096_S_d0_1 := by decide
  bcast_S_S4096x4096 := by decide
  reducesTo_S4096x4096_S_d0_1 := by decide

/-- The precondition: every entry of the arguments the gradients depend on is a real. -/
theorem finite_of_pre [Cert.Pre_finite6.Facts] (y o : Vec Ideal S4096x1024 .f32) (wo : Vec Ideal S2048x1024 .f32) (x0 : Vec Ideal S4096x1024 .f32)
    (g0 b0 p1 g b p2 sh : Vec Ideal S1024 .f32) (w1 : Vec Ideal S1024x4096 .f32) (d2 : Vec Ideal S4096x1024 .f32) (da : Vec Ideal S4096x4096 .f32)
    (h : Cert.Pre_finite6.fn (F := Ideal) y o wo x0 g0 b0 p1 g b p2 sh w1 d2 da = fun _ => 1#1) : Fins y o wo x0 g0 b0 p1 g p2 w1 d2 da := by
  have h := congrFun h ix0
  unfold Cert.Pre_finite6.fn Cert.Pre_finite6.fn_part1 Cert.Pre_finite6.fn_part2 Cert.Pre_finite6.fn_part3 at h
  dsimp only at h
  obtain ⟨h, h11⟩ := andi_left h
  obtain ⟨h, h10⟩ := andi_left h
  obtain ⟨h, h9⟩ := andi_left h
  obtain ⟨h, h8⟩ := andi_left h
  obtain ⟨h, h7⟩ := andi_left h
  obtain ⟨h, h6⟩ := andi_left h
  obtain ⟨h, h5⟩ := andi_left h
  obtain ⟨h, h4⟩ := andi_left h
  obtain ⟨h, h3⟩ := andi_left h
  obtain ⟨h, h2⟩ := andi_left h
  obtain ⟨h0, h1⟩ := andi_left h
  haveI : Subsingleton Cert.Pre_finite6.S_.Idx := ⟨fun a b => funext fun i => i.elim0⟩
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i), fun i => real_of_lt _ (Host.reduce_andi_all _ _ _ _ _ h3 i),
    fun i => real_of_lt _ (Host.reduce_andi_all _ _ _ _ _ h4 i), fun i => real_of_lt _ (Host.reduce_andi_all _ _ _ _ _ h5 i),
    fun i => real_of_lt _ (Host.reduce_andi_all _ _ _ _ _ h6 i), fun i => real_of_lt _ (Host.reduce_andi_all _ _ _ _ _ h7 i),
    fun i => real_of_lt _ (Host.reduce_andi_all _ _ _ _ _ h8 i), fun i => real_of_lt _ (Host.reduce_andi_all _ _ _ _ _ h9 i),
    fun i => real_of_lt _ (Host.reduce_andi_all _ _ _ _ _ h10 i), fun i => real_of_lt _ (Host.reduce_andi_all _ _ _ _ _ h11 i)⟩

/-- The reference's arguments agree with the kernel's, so a function of them has one value. -/
theorem shared {A B C D E G H I J K L M R : Type*} (f : A → B → C → D → E → G → H → I → J → K → L → M → R)
    {a a' : A} {b b' : B} {c c' : C} {d d' : D} {e e' : E} {g g' : G} {h h' : H} {i i' : I} {j j' : J} {k k' : K} {l l' : L} {n n' : M}
    (h0 : a = a') (h1 : b = b') (h2 : c = c') (h3 : d = d') (h4 : e = e') (h5 : g = g') (h6 : h = h') (h7 : i = i') (h8 : j = j')
    (h9 : k = k') (h10 : l = l') (h11 : n = n') : f a b c d e g h i j k l n = f a' b' c' d' e' g' h' i' j' k' l' n' := by
  rw [h0, h1, h2, h3, h4, h5, h6, h7, h8, h9, h10, h11]

/-- Of finite arguments kernel and reference leave the same five arrays. -/
theorem equal : Cert.algebraic_Kernel6Ideal_Reference6Ideal_pre_finite6 (hPre_finite6 := pre_facts) := by
  haveI := pre_facts
  intro m g m' g' hpre hagree
  refine ⟨fun c => dmixOut m c, fun c => dh0Out m c, fun c => dynOut m c, fun c => doOut m c, fun c => accOut m c, ?_, ?_⟩
  · exact (θ_run _ _ _).mono (fun r h c => ⟨(h c).1.trans (dmix_out m g c), (h c).2.1.trans (dh0_out m g c), (h c).2.2.1.trans (dyn_out m g c),
      (h c).2.2.2.1.trans (do_out m g c), (h c).2.2.2.2.1.trans (acc_out m g c), (h c).2.2.2.2.2⟩) (run_results (F := Ideal) m g)
  · refine (θ_run _ _ _).mono (fun r h c => ?_) (Cert.Reference6Ideal.Value.run (F := Ideal) m' g')
    obtain ⟨e0, e1, e2, e3, e4, e5, e6, e7, e8, e9, e10, e11, e12, e13⟩ := hagree c
    have hp := finite_of_pre _ _ _ _ _ _ _ _ _ _ _ _ _ _ (hpre c)
    refine ⟨(h c).1.trans ((val_main_v113_eq ..).trans ?_), (h c).2.1.trans ((val_main_v109_eq ..).trans ?_),
      (h c).2.2.1.trans ((val_main_v111_eq ..).trans ?_), (h c).2.2.2.1.trans ((val_main_v114_eq ..).trans ?_),
      (h c).2.2.2.2.1.trans ((val_main_v122_eq ..).trans ?_), (h c).2.2.2.2.2⟩
    · exact (shared (val_main_v113 (F := Ideal)) e0 e1 e2 e3 e4 e5 e6 e7 e9 e11 e12 e13).trans (funext fun y => by idx_vars y; exact ref_out hp y0 y1)
    · exact (shared (val_main_v109 (F := Ideal)) e0 e1 e2 e3 e4 e5 e6 e7 e9 e11 e12 e13).trans (funext fun y => by idx_vars y; exact ref_dh0 hp y0 y1)
    · exact (shared (val_main_v111 (F := Ideal)) e0 e1 e2 e3 e4 e5 e6 e7 e9 e11 e12 e13).trans (funext fun y => by idx_vars y; exact ref_dyn hp y0 y1)
    · exact (shared (val_main_v114 (F := Ideal)) e0 e1 e2 e3 e4 e5 e6 e7 e9 e11 e12 e13).trans (funext fun y => by idx_vars y; exact ref_do hp y0 y1)
    · refine (congrArg (fun b => val_main_v122 (F := Ideal) _ _ _ _ _ _ _ _ b _ _ _ _) e8).trans ?_
      exact (shared (fun a b d f g h i j k l n o => val_main_v122 (F := Ideal) a b d f g h i j (inB m c) k l n o) e0 e1 e2 e3 e4 e5 e6 e7 e9 e11 e12 e13).trans
        (funext fun y => by idx_vars y; exact ref_acc _ hp y0 y1)

end Cert.Mid

end
-- ==== Proof.OutValue.lean ====
/-
  The output projection with the first layer norm, forward: the four arrays the call leaves, each as one function of the arguments, and
  that the reference leaves the same ones. The kernel adds two products with the halves of the weight; the reference takes one product
  of the two mixers' outputs side by side.
-/
module

public import proofs.«01_k».proof.Defs
public import proofs.«01_k».proof.Proof.MidBlock
public import proofs.«01_k».proof.Proof.Gen.Kernel8Ideal.Value
public import proofs.«01_k».proof.Proof.Gen.Reference8Ideal.Run
public import proofs.«01_k».proof.Proof.Gen.Reference8Ideal.Read

@[expose] public section

set_option maxRecDepth 16384

noncomputable section

namespace Cert.Out

open Cert.Kernel8Ideal Cert.Kernel8Ideal.Gen Idealize.ShloMosaic Idealize.ShloMosaic.TcCoe Idealize.SL.Sem Idealize.ShloMosaic.Pointwise
  Idealize.ShloMosaic.Tactic
open Idealize.ShloMosaic.Pipeline (Dat)
open Cert.Reference8Ideal.Read
open Cert.Norm
open Cert.Mid (mix resid scale)

/-- A normalised row, scaled, shifted and modulated. -/
def modul (h g b p s : Fin 1024 → EReal) (j : Fin 1024) : EReal := (h j * g j + b j) * (1 + p j) + s j

/-! ## The arrays as functions of the arguments -/

section Arrays
variable (y o : Vec Ideal S4096x1024 .f32) (wo : Vec Ideal S2048x1024 .f32) (x : Vec Ideal S4096x1024 .f32) (g0 b0 p1 g b p2 s2 : Vec Ideal S1024 .f32)

abbrev mixA (i : Fin 4096) : Fin 1024 → EReal := mix (fun k => y (ix2 i k)) (fun k => o (ix2 i k)) fun k j => wo (ix2 k j)
abbrev residA (i : Fin 4096) : Fin 1024 → EReal :=
  resid (fun k => y (ix2 i k)) (fun k => o (ix2 i k)) (fun k j => wo (ix2 k j)) (fun j => x (ix2 i j)) (fun j => g0 (ix1 j)) (fun j => b0 (ix1 j)) fun j => p1 (ix1 j)
abbrev mixOf : Vec Ideal S4096x1024 .f32 := fun z => mixA y o wo (z 0) (z 1)
abbrev hatOf : Vec Ideal S4096x1024 .f32 := fun z => hat (residA y o wo x g0 b0 p1 (z 0)) (z 1)
abbrev rstdOf : Vec Ideal S4096x1 .f32 := fun z => rstd (residA y o wo x g0 b0 p1 (z 0))
abbrev modOf : Vec Ideal S4096x1024 .bf16 := fun z =>
  modul (hat (residA y o wo x g0 b0 p1 (z 0))) (fun j => g (ix1 j)) (fun j => b (ix1 j)) (fun j => p2 (ix1 j)) (fun j => s2 (ix1 j)) (z 1)

/-! ## The reference -/

theorem ref_mix (i : Fin 4096) (j : Fin 1024) : val_main_v1 (F := Ideal) y o wo (ix2 i j) = mixA y o wo i j := by
  unfold mixA mix
  pointwise [val_main_v0, val_main_v1]
theorem ref_resid (i : Fin 4096) (j : Fin 1024) : val_main_v15 (F := Ideal) y o wo x g0 b0 p1 (ix2 i j) = residA y o wo x g0 b0 p1 i j := by
  have e := ref_mix y o wo i j
  unfold mixA at e
  unfold residA resid scale
  rw [← e]
  pointwise [val_main_v2, val_main_v3, val_main_v4, val_main_v5, val_main_v6, val_main_v7, val_main_cst, val_main_v8, val_main_v9, val_main_cst_0,
    val_main_v10, val_main_v11, val_main_v12, val_main_v13, val_main_v14, val_main_v15]
theorem ref_hat' (i : Fin 4096) (j : Fin 1024) : val_main_v33 (F := Ideal) y o wo x g0 b0 p1 (ix2 i j)
    = hat (fun j => val_main_v15 (F := Ideal) y o wo x g0 b0 p1 (ix2 i j)) j := by
  unfold hat rstd cen mean width small
  pointwise [val_main_cst_1, val_main_v16, val_main_v17, val_main_cst_2, val_main_v18, val_main_v19, val_main_v20, val_main_v21, val_main_v22,
    val_main_cst_3, val_main_v23, val_main_v24, val_main_cst_4, val_main_v25, val_main_v26, val_main_cst_5, val_main_v27, val_main_v28,
    val_main_v29, val_main_v30, val_main_v31, val_main_v32, val_main_v33]
theorem ref_rstd' (i : Fin 4096) : val_main_v29 (F := Ideal) y o wo x g0 b0 p1 (ix2 i 0)
    = rstd (fun j => val_main_v15 (F := Ideal) y o wo x g0 b0 p1 (ix2 i j)) := by
  unfold rstd cen mean width small
  pointwise [val_main_cst_1, val_main_v16, val_main_v17, val_main_cst_2, val_main_v18, val_main_v19, val_main_v20, val_main_v21, val_main_v22,
    val_main_cst_3, val_main_v23, val_main_v24, val_main_cst_4, val_main_v25, val_main_v26, val_main_cst_5, val_main_v27, val_main_v28,
    val_main_v29]
theorem ref_hat (i : Fin 4096) (j : Fin 1024) : val_main_v33 (F := Ideal) y o wo x g0 b0 p1 (ix2 i j) = hat (residA y o wo x g0 b0 p1 i) j :=
  (ref_hat' y o wo x g0 b0 p1 i j).trans (congrArg (hat · j) (funext (ref_resid y o wo x g0 b0 p1 i)))
theorem ref_rstd (i : Fin 4096) : val_main_v29 (F := Ideal) y o wo x g0 b0 p1 (ix2 i 0) = rstd (residA y o wo x g0 b0 p1 i) :=
  (ref_rstd' y o wo x g0 b0 p1 i).trans (congrArg rstd (funext (ref_resid y o wo x g0 b0 p1 i)))
theorem ref_mod (i : Fin 4096) (j : Fin 1024) : val_main_v48 (F := Ideal) y o wo x g0 b0 p1 g b p2 s2 (ix2 i j)
    = modOf y o wo x g0 b0 p1 g b p2 s2 (ix2 i j) := by
  show _ = modul (hat (residA y o wo x g0 b0 p1 i)) _ _ _ _ j
  have e := ref_hat y o wo x g0 b0 p1 i j
  unfold modul
  rw [← e]
  pointwise [val_main_v34, val_main_v35, val_main_v36, val_main_v37, val_main_v38, val_main_v39, val_main_cst_6, val_main_v40, val_main_v41,
    val_main_v42, val_main_v43, val_main_v44, val_main_v45, val_main_v46, val_main_v47, val_main_v48]

end Arrays

/-! ## The kernel's payloads -/

section Tile
variable (x0 x1 : Vec Ideal S512x1024 .bf16) (x2 : Vec Ideal S2048x1024 .bf16) (x3 : Vec Ideal S512x1024 .f32) (x4 : Vec Ideal S8x1024 .f32)
  (v0 v5 : Vec Ideal S512x1024 .bf16) (v2 v7 : Vec Ideal S1024x1024 .bf16) (o p q : Vec Ideal S1x1024 .f32) (A : Vec Ideal S512x1024 .f32)
  (B : Vec Ideal S512x1 .f32) (o' : Vec Ideal S1x1024 .f32)

theorem mix_at (r : Fin 512) (j : Fin 1024) :
    k0_pay5 (F := Ideal) x0 (View.ld x2 (Rect.unit ![0, 0] ![1024, 1024] inb_S2048x1024_S1024x1024_0_0)) x1
      (View.ld x2 (Rect.unit ![1024, 0] ![1024, 1024] inb_S2048x1024_S1024x1024_1024_0)) (ix2 r j)
      = mix (fun k => x0 (ix2 r k)) (fun k => x1 (ix2 r k)) (fun k j => x2 (ix2 k j)) j := by
  unfold mix k0_pay5
  pointwise
theorem resid_at (r : Fin 512) (j : Fin 1024) : k0_pay6 (F := Ideal) v0 v2 v5 v7 x3 o p q (ix2 r j)
    = scale * (x3 (ix2 r j) * o (ix2 0 j) + p (ix2 0 j)) + (1 + q (ix2 0 j)) * k0_pay5 (F := Ideal) v0 v2 v5 v7 (ix2 r j) := by
  unfold scale k0_pay6
  pointwise
theorem hat_at (r : Fin 512) (j : Fin 1024) : k0_pay3 (F := Ideal) (k0_pay6 v0 v2 v5 v7 x3 o p q) (k0_pay7 v0 v2 v5 v7 x3 o p q) (ix2 r j)
    = hat (fun j => k0_pay6 (F := Ideal) v0 v2 v5 v7 x3 o p q (ix2 r j)) j := by
  unfold hat rstd cen mean width small k0_pay3 k0_pay2 k0_pay1 k0_pay7
  pointwise
theorem rstd_at (r : Fin 512) : k0_pay2 (F := Ideal) (k0_pay6 v0 v2 v5 v7 x3 o p q) (k0_pay7 v0 v2 v5 v7 x3 o p q) (ix2 r 0)
    = rstd fun j => k0_pay6 (F := Ideal) v0 v2 v5 v7 x3 o p q (ix2 r j) := by
  unfold rstd cen mean width small k0_pay2 k0_pay1 k0_pay7
  pointwise
theorem mod_at (r : Fin 512) (j : Fin 1024) : k0_pay4 (F := Ideal) A B o p q o' (ix2 r j)
    = modul (fun j => k0_pay3 (F := Ideal) A B (ix2 r j)) (fun j => o (ix2 0 j)) (fun j => p (ix2 0 j)) (fun j => q (ix2 0 j)) (fun j => o' (ix2 0 j)) j := by
  unfold modul k0_pay4
  pointwise
/-- A row of the packed vectors. -/
theorem ld_row (k : Fin 8) (h) (j : Fin 1024) : View.ld x4 (Rect.unit ![k.val, 0] ![1, 1024] h) (ix2 0 j) = x4 (ix2 k j) := by
  revert h
  fin_cases k <;> intro h <;> pointwise
end Tile

/-! ## The arrays the kernel leaves -/

section Kernel

variable (m : (ℓ : Loc nD τ sig) → Buf (Elt Ideal) ℓ) (c : Dev nD)

/-- The arguments. -/
abbrev inY : Vec Ideal S4096x1024 .f32 := m ((c : Thread nD τ).loc main_arg0)
abbrev inO : Vec Ideal S4096x1024 .f32 := m ((c : Thread nD τ).loc main_arg1)
abbrev inWo : Vec Ideal S2048x1024 .f32 := m ((c : Thread nD τ).loc main_arg2)
abbrev inX : Vec Ideal S4096x1024 .f32 := m ((c : Thread nD τ).loc main_arg3)
abbrev inG0 : Vec Ideal S1024 .f32 := m ((c : Thread nD τ).loc main_arg4)
abbrev inB0 : Vec Ideal S1024 .f32 := m ((c : Thread nD τ).loc main_arg5)
abbrev inP1 : Vec Ideal S1024 .f32 := m ((c : Thread nD τ).loc main_arg6)
abbrev inG : Vec Ideal S1024 .f32 := m ((c : Thread nD τ).loc main_arg7)
abbrev inB : Vec Ideal S1024 .f32 := m ((c : Thread nD τ).loc main_arg8)
abbrev inP2 : Vec Ideal S1024 .f32 := m ((c : Thread nD τ).loc main_arg9)
abbrev inS2 : Vec Ideal S1024 .f32 := m ((c : Thread nD τ).loc main_arg10)

/-- A vector as one row. -/
abbrev oneRow (x : Vec Ideal S1024 .f32) : Vec Ideal S1x1024 .f32 := shapeCast S1x1024 x shapeCasts_S1024_S1x1024

theorem V_y : (V m c main_v9 : Vec Ideal S4096x1024 .bf16) = inY m c := by
  unfold V hostOps0
  after_results
  rfl
theorem V_o : (V m c main_v10 : Vec Ideal S4096x1024 .bf16) = inO m c := by
  unfold V hostOps0
  after_results
  rfl
theorem V_wo : (V m c main_v11 : Vec Ideal S2048x1024 .bf16) = inWo m c := by
  unfold V hostOps0
  after_results
  rfl
/-- The vectors, one beneath the other. -/
theorem V_rows : (V m c main_v8 : Vec Ideal S8x1024 .f32) = concatenate S8x1024 0
    [⟨S1x1024, oneRow (inG0 m c)⟩, ⟨S1x1024, oneRow (inB0 m c)⟩, ⟨S1x1024, oneRow (inP1 m c)⟩, ⟨S1x1024, oneRow (inG m c)⟩,
      ⟨S1x1024, oneRow (inB m c)⟩, ⟨S1x1024, oneRow (inP2 m c)⟩, ⟨S1x1024, oneRow (inS2 m c)⟩,
      ⟨S1x1024, (broadcastInDim S1x1024 ![] bcast_S_S1x1024 (constant (F := Ideal) S_ .f32 0x00000000#32 : Vec Ideal S_ .f32) : Vec Ideal S1x1024 .f32)⟩]
    concatenates_S1x1024_S1x1024_S1x1024_S1x1024_S1x1024_S1x1024_S1x1024_S1x1024_S8x1024_d0 := by
  unfold V hostOps0
  after_results
  try rfl

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![0, 0] := by decide +kernel
theorem idx3 : ∀ t : Fin grid0.N, win0_3.index t = ![t.val, 0] := by decide +kernel
theorem idx4 : ∀ t : Fin grid0.N, win0_4.index t = ![0, 0] := by decide +kernel
theorem idx5 : ∀ t : Fin grid0.N, win0_5.index t = ![t.val, 0] := by decide +kernel
theorem idx6 : ∀ t : Fin grid0.N, win0_6.index t = ![t.val, 0] := by decide +kernel
theorem idx7 : ∀ t : Fin grid0.N, win0_7.index t = ![t.val, 0] := by decide +kernel
theorem idx8 : ∀ t : Fin grid0.N, win0_8.index t = ![t.val, 0] := by decide +kernel
theorem lt_N (t : Fin cfg0.N) : t.val < 8 := lt_of_lt_of_eq t.isLt N_0

section Reads
variable (t : Fin cfg0.N)

theorem y_read (r : Fin 512) (j : Fin 1024) : iblk m c 0 t (ix2 r j) = inY m c (ix2 ⟨t.val * 512 + r.val, by have := lt_N t; omega⟩ j) := by
  rw [← V_y m c]
  blk_ext [iblk, V, idx0 t]
theorem o_read (r : Fin 512) (j : Fin 1024) : iblk m c 1 t (ix2 r j) = inO m c (ix2 ⟨t.val * 512 + r.val, by have := lt_N t; omega⟩ j) := by
  rw [← V_o m c]
  blk_ext [iblk, V, idx1 t]
theorem wo_read (r : Fin 2048) (j : Fin 1024) : iblk m c 2 t (ix2 r j) = inWo m c (ix2 r j) := by
  rw [← V_wo m c]
  blk_ext [iblk, V, idx2 t]
theorem x_read (r : Fin 512) (j : Fin 1024) : iblk m c 3 t (ix2 r j) = inX m c (ix2 ⟨t.val * 512 + r.val, by have := lt_N t; omega⟩ j) := by
  refine Eq.trans ?_ (congrFun (V_main_arg3 m c) _)
  blk_ext [iblk, V, idx3 t]
theorem rows_read (r : Fin 8) (j : Fin 1024) : iblk m c 4 t (ix2 r j) = (V m c main_v8 : Vec Ideal S8x1024 .f32) (ix2 r j) := by
  blk_ext [iblk, V, idx4 t]
theorem row0 (h) (j : Fin 1024) : View.ld (iblk m c 4 t) (Rect.unit (s := S8x1024) ![0, 0] ![1, 1024] h) (ix2 0 j) = inG0 m c (ix1 j) :=
  ((ld_row (iblk m c 4 t) 0 h j).trans (rows_read m c t 0 j)).trans (by rw [V_rows]; pointwise)
theorem row1 (h) (j : Fin 1024) : View.ld (iblk m c 4 t) (Rect.unit (s := S8x1024) ![1, 0] ![1, 1024] h) (ix2 0 j) = inB0 m c (ix1 j) :=
  ((ld_row (iblk m c 4 t) 1 h j).trans (rows_read m c t 1 j)).trans (by rw [V_rows]; pointwise)
theorem row2 (h) (j : Fin 1024) : View.ld (iblk m c 4 t) (Rect.unit (s := S8x1024) ![2, 0] ![1, 1024] h) (ix2 0 j) = inP1 m c (ix1 j) :=
  ((ld_row (iblk m c 4 t) 2 h j).trans (rows_read m c t 2 j)).trans (by rw [V_rows]; pointwise)
theorem row3 (h) (j : Fin 1024) : View.ld (iblk m c 4 t) (Rect.unit (s := S8x1024) ![3, 0] ![1, 1024] h) (ix2 0 j) = inG m c (ix1 j) :=
  ((ld_row (iblk m c 4 t) 3 h j).trans (rows_read m c t 3 j)).trans (by rw [V_rows]; pointwise)
theorem row4 (h) (j : Fin 1024) : View.ld (iblk m c 4 t) (Rect.unit (s := S8x1024) ![4, 0] ![1, 1024] h) (ix2 0 j) = inB m c (ix1 j) :=
  ((ld_row (iblk m c 4 t) 4 h j).trans (rows_read m c t 4 j)).trans (by rw [V_rows]; pointwise)
theorem row5 (h) (j : Fin 1024) : View.ld (iblk m c 4 t) (Rect.unit (s := S8x1024) ![5, 0] ![1, 1024] h) (ix2 0 j) = inP2 m c (ix1 j) :=
  ((ld_row (iblk m c 4 t) 5 h j).trans (rows_read m c t 5 j)).trans (by rw [V_rows]; pointwise)
theorem row6 (h) (j : Fin 1024) : View.ld (iblk m c 4 t) (Rect.unit (s := S8x1024) ![6, 0] ![1, 1024] h) (ix2 0 j) = inS2 m c (ix1 j) :=
  ((ld_row (iblk m c 4 t) 6 h j).trans (rows_read m c t 6 j)).trans (by rw [V_rows]; pointwise)

theorem mix_tile (r : Fin 512) (j : Fin 1024) : mix (fun k => iblk m c 0 t (ix2 r k)) (fun k => iblk m c 1 t (ix2 r k)) (fun k j => iblk m c 2 t (ix2 k j)) j
    = mixA (inY m c) (inO m c) (inWo m c) ⟨t.val * 512 + r.val, by have := lt_N t; omega⟩ j := by
  simp only [y_read, o_read, wo_read]
theorem resid_tile (r : Fin 512) (h0 h1 h2 h3 h4) :
    (fun j : Fin 1024 => k0_pay6 (F := Ideal) (iblk m c 0 t) (View.ld (iblk m c 2 t) (Rect.unit ![0, 0] ![1024, 1024] h3)) (iblk m c 1 t)
      (View.ld (iblk m c 2 t) (Rect.unit ![1024, 0] ![1024, 1024] h4)) (iblk m c 3 t) (View.ld (iblk m c 4 t) (Rect.unit ![0, 0] ![1, 1024] h0))
      (View.ld (iblk m c 4 t) (Rect.unit ![1, 0] ![1, 1024] h1)) (View.ld (iblk m c 4 t) (Rect.unit ![2, 0] ![1, 1024] h2)) (ix2 r j))
    = residA (inY m c) (inO m c) (inWo m c) (inX m c) (inG0 m c) (inB0 m c) (inP1 m c) ⟨t.val * 512 + r.val, by have := lt_N t; omega⟩ := by
  funext j
  exact (resid_at _ _ _ _ _ _ _ _ r j).trans (congrArg₂ (· + ·)
    (congrArg (scale * ·) (congrArg₂ (· + ·) (congrArg₂ (· * ·) (x_read m c t r j) (row0 m c t h0 j)) (row1 m c t h1 j)))
    (congrArg₂ (· * ·) (congrArg (1 + ·) (row2 m c t h2 j)) ((mix_at _ _ _ r j).trans (mix_tile m c t r j))))
end Reads

/-- The four results. -/
abbrev mixOut : Vec Ideal S4096x1024 .f32 := mixOf (inY m c) (inO m c) (inWo m c)
abbrev hatOut : Vec Ideal S4096x1024 .f32 := hatOf (inY m c) (inO m c) (inWo m c) (inX m c) (inG0 m c) (inB0 m c) (inP1 m c)
abbrev rstdOut : Vec Ideal S4096x1 .f32 := rstdOf (inY m c) (inO m c) (inWo m c) (inX m c) (inG0 m c) (inB0 m c) (inP1 m c)
abbrev modOut : Vec Ideal S4096x1024 .bf16 :=
  modOf (inY m c) (inO m c) (inWo m c) (inX m c) (inG0 m c) (inB0 m c) (inP1 m c) (inG m c) (inB m c) (inP2 m c) (inS2 m c)

theorem mix_array : (dats m 0 c).arrAt 5 cfg0.N = mixOut m c := by
  refine (dats m 0 c).arrAt_eq_of_covers 5 _ (by decide +kernel) fun t hf y => ?_
  blk_simp
  rw [after0_5]
  unfold_out out0_5
  simp (disch := decide) only [View.canon_cons_unit_lit', View.ld_unit_lit']
  idx_vars y
  have hN := lt_N t
  have e : (win0_5.blk t).view.emb (ix2 y0 y1) = (ix2 ⟨t.val * 512 + y0.val, by omega⟩ y1 : S4096x1024.Idx) := by
    blk_ext [idx5 t]
  refine Eq.trans ?_ (congrArg (mixOut m c) e).symm
  exact (mix_at _ _ _ y0 y1).trans (mix_tile m c t y0 y1)

theorem hat_array : (dats m 0 c).arrAt 6 cfg0.N = hatOut m c := by
  refine (dats m 0 c).arrAt_eq_of_covers 6 _ (by decide +kernel) fun t hf y => ?_
  blk_simp
  rw [after0_6]
  unfold_out out0_6
  simp (disch := decide) only [View.canon_cons_unit_lit', View.ld_unit_lit']
  idx_vars y
  have hN := lt_N t
  have e : (win0_6.blk t).view.emb (ix2 y0 y1) = (ix2 ⟨t.val * 512 + y0.val, by omega⟩ y1 : S4096x1024.Idx) := by
    blk_ext [idx6 t]
  refine Eq.trans ?_ (congrArg (hatOut m c) e).symm
  exact (hat_at _ _ _ _ _ _ _ _ y0 y1).trans (congrFun (congrArg hat (resid_tile m c t y0 _ _ _ _ _)) y1)

theorem rstd_array : (dats m 0 c).arrAt 7 cfg0.N = rstdOut m c := by
  refine (dats m 0 c).arrAt_eq_of_covers 7 _ (by decide +kernel) fun t hf y => ?_
  blk_simp
  rw [after0_7]
  unfold_out out0_7
  simp (disch := decide) only [View.canon_cons_unit_lit', View.ld_unit_lit']
  idx_vars y
  obtain rfl : y1 = 0 := Subsingleton.elim _ _
  have hN := lt_N t
  have e : (win0_7.blk t).view.emb (ix2 y0 0) = (ix2 ⟨t.val * 512 + y0.val, by omega⟩ 0 : S4096x1.Idx) := by
    blk_ext [idx7 t]
  refine Eq.trans ?_ (congrArg (rstdOut m c) e).symm
  exact (rstd_at _ _ _ _ _ _ _ _ y0).trans (congrArg rstd (resid_tile m c t y0 _ _ _ _ _))

/-- The modulation, piece by piece. -/
theorem modul_congr {h h' g g' b b' p p' s s' : Fin 1024 → EReal} (e0 : ∀ j, h j = h' j) (e1 : ∀ j, g j = g' j) (e2 : ∀ j, b j = b' j)
    (e3 : ∀ j, p j = p' j) (e4 : ∀ j, s j = s' j) (j : Fin 1024) : modul h g b p s j = modul h' g' b' p' s' j := by
  unfold modul
  rw [e0, e1, e2, e3, e4]

theorem mod_array : (dats m 0 c).arrAt 8 cfg0.N = modOut m c := by
  refine (dats m 0 c).arrAt_eq_of_covers 8 _ (by decide +kernel) fun t hf y => ?_
  blk_simp
  rw [after0_8]
  unfold_out out0_8
  simp (disch := decide) only [View.canon_cons_unit_lit', View.ld_unit_lit']
  idx_vars y
  have hN := lt_N t
  have e : (win0_8.blk t).view.emb (ix2 y0 y1) = (ix2 ⟨t.val * 512 + y0.val, by omega⟩ y1 : S4096x1024.Idx) := by
    blk_ext [idx8 t]
  refine Eq.trans ?_ (congrArg (modOut m c) e).symm
  refine (mod_at _ _ _ _ _ _ y0 y1).trans (modul_congr ?_ (row3 m c t _) (row4 m c t _) (row5 m c t _) (row6 m c t _) y1)
  exact fun j => (hat_at _ _ _ _ _ _ _ _ y0 j).trans (congrFun (congrArg hat (resid_tile m c t y0 _ _ _ _ _)) j)

end Kernel

/-- Kernel and reference leave the same four arrays, whatever the arguments. -/
theorem equal : Cert.algebraic_Kernel8Ideal_Reference8Ideal := by
  intro m g m' g' _ hagree
  refine ⟨fun c => mixOut m c, fun c => hatOut m c, fun c => rstdOut m c, fun c => modOut m c, ?_, ?_⟩
  · exact (θ_run _ _ _).mono (fun r h c => ⟨(h c).1.trans (mix_array m c), (h c).2.1.trans (hat_array m c), (h c).2.2.1.trans (rstd_array m c),
      (h c).2.2.2.1.trans (mod_array m c), (h c).2.2.2.2⟩) (Cert.Kernel8Ideal.Value.run_blocks (F := Ideal) m g)
  · refine (θ_run _ _ _).mono (fun r h c => ?_) (Cert.Reference8Ideal.Value.run (F := Ideal) m' g')
    obtain ⟨e0, e1, e2, e3, e4, e5, e6, e7, e8, e9, e10⟩ := hagree c
    have h := h c
    refine ⟨h.1.trans ((val_main_v1_eq ..).trans ?_), h.2.1.trans ((val_main_v33_eq ..).trans ?_),
      h.2.2.1.trans ((val_main_v29_eq ..).trans ?_), h.2.2.2.1.trans ((val_main_v48_eq ..).trans ?_), h.2.2.2.2⟩
    · rw [e0, e1, e2]; funext y; idx_vars y; exact ref_mix _ _ _ y0 y1
    · rw [e0, e1, e2, e3, e4, e5, e6]; funext y; idx_vars y; exact ref_hat _ _ _ _ _ _ _ y0 y1
    · rw [e0, e1, e2, e3, e4, e5, e6]; funext y; idx_vars y
      obtain rfl : y1 = 0 := Subsingleton.elim _ _
      exact ref_rstd _ _ _ _ _ _ _ y0
    · rw [e0, e1, e2, e3, e4, e5, e6, e7, e8, e9, e10]; funext y; idx_vars y; exact ref_mod _ _ _ _ _ _ _ _ _ _ _ y0 y1

end Cert.Out

end
-- ==== Proof.ProjValue.lean ====
/-
  The first layer norm with the input projection, forward: the eight arrays the call leaves, each as one function of the arguments, and
  that the reference leaves the same ones. The kernel takes five products, each with some rows of the transposed weight; the reference
  takes one product and cuts it.
-/
module

public import proofs.«01_k».proof.Defs
public import proofs.«01_k».proof.Proof.OutValue
public import proofs.«01_k».proof.Proof.Gen.Kernel9Ideal.Value
public import proofs.«01_k».proof.Proof.Gen.Reference9Ideal.Run
public import proofs.«01_k».proof.Proof.Gen.Reference9Ideal.Read

@[expose] public section

set_option maxRecDepth 16384

noncomputable section

namespace Cert.Proj

open Cert.Kernel9Ideal Cert.Kernel9Ideal.Gen Idealize.ShloMosaic Idealize.ShloMosaic.TcCoe Idealize.SL.Sem Idealize.ShloMosaic.Pointwise
  Idealize.ShloMosaic.Tactic
open Idealize.ShloMosaic.Pipeline (Dat)
open Cert.Reference9Ideal.Read
open Cert.Norm
open Cert.Out (modul modul_congr)

/-! ## The arrays as functions of the arguments -/

section Arrays
variable (x : Vec Ideal S4096x1024 .f32) (g b p s : Vec Ideal S1024 .f32) (w : Vec Ideal S1024x3856 .f32)

/-- One column of a cut of the projection. -/
abbrev col (off wd : Nat) (h : off + wd ≤ 3856) (j : Fin wd) : Fin 3856 := ⟨off + j.val, by omega⟩
/-- The modulated row. -/
abbrev modA (i : Fin 4096) : Fin 1024 → EReal :=
  modul (hat fun j => x (ix2 i j)) (fun j => g (ix1 j)) (fun j => b (ix1 j)) (fun j => p (ix1 j)) fun j => s (ix1 j)
/-- One entry of the projection. -/
abbrev projA (i : Fin 4096) (n : Fin 3856) : EReal := ∑ k, modA x g b p s i k * w (ix2 k n)
abbrev hatOf : Vec Ideal S4096x1024 .f32 := fun z => hat (fun j => x (ix2 (z 0) j)) (z 1)
abbrev rstdOf : Vec Ideal S4096x1 .f32 := fun z => rstd fun j => x (ix2 (z 0) j)
abbrev modOf : Vec Ideal S4096x1024 .bf16 := fun z => modA x g b p s (z 0) (z 1)
abbrev zOf : Vec Ideal S4096x1024 .f32 := fun z => projA x g b p s w (z 0) (col 0 1024 (by decide) (z 1))
abbrev xbcOf : Vec Ideal S4096x1536 .f32 := fun z => projA x g b p s w (z 0) (col 1024 1536 (by decide) (z 1))
abbrev qOf : Vec Ideal S4096x1024 .bf16 := fun z => projA x g b p s w (z 0) (col 2576 1024 (by decide) (z 1))
abbrev kvOf : Vec Ideal S4096x256 .bf16 := fun z => projA x g b p s w (z 0) (col 3600 256 (by decide) (z 1))
abbrev dtOf : Vec Ideal S4096x128 .f32 := fun z => projA x g b p s w (z 0) (col 2560 128 (by decide) (z 1))

/-! ## The reference -/

theorem ref_hat (i : Fin 4096) (j : Fin 1024) : val_main_v17 (F := Ideal) x (ix2 i j) = hat (fun j => x (ix2 i j)) j := by
  unfold hat rstd cen mean width small
  pointwise [val_main_cst, val_main_v0, val_main_v1, val_main_cst_0, val_main_v2, val_main_v3, val_main_v4, val_main_v5, val_main_v6, val_main_cst_1,
    val_main_v7, val_main_v8, val_main_cst_2, val_main_v9, val_main_v10, val_main_cst_3, val_main_v11, val_main_v12, val_main_v13,
    val_main_v14, val_main_v15, val_main_v16, val_main_v17]
theorem ref_rstd (i : Fin 4096) : val_main_v13 (F := Ideal) x (ix2 i 0) = rstd fun j => x (ix2 i j) := by
  unfold rstd cen mean width small
  pointwise [val_main_cst, val_main_v0, val_main_v1, val_main_cst_0, val_main_v2, val_main_v3, val_main_v4, val_main_v5, val_main_v6, val_main_cst_1,
    val_main_v7, val_main_v8, val_main_cst_2, val_main_v9, val_main_v10, val_main_cst_3, val_main_v11, val_main_v12, val_main_v13]
theorem ref_mod32 (i : Fin 4096) (j : Fin 1024) : val_main_v31 (F := Ideal) x g b p s (ix2 i j) = modA x g b p s i j := by
  have e := ref_hat x i j
  unfold modA modul
  rw [← e]
  pointwise [val_main_v18, val_main_v19, val_main_v20, val_main_v21, val_main_v22, val_main_v23, val_main_cst_4, val_main_v24, val_main_v25,
    val_main_v26, val_main_v27, val_main_v28, val_main_v29, val_main_v30, val_main_v31]
theorem ref_mod (i : Fin 4096) (j : Fin 1024) : val_main_v38 (F := Ideal) x g b p s (ix2 i j) = modOf x g b p s (ix2 i j) := by
  refine Eq.trans ?_ (ref_mod32 x g b p s i j)
  pointwise [val_main_v38]
theorem ref_proj (i : Fin 4096) (n : Fin 3856) : val_main_v32 (F := Ideal) x g b p s w (ix2 i n) = projA x g b p s w i n := by
  unfold projA
  simp only [← ref_mod32]
  pointwise [val_main_v32]
theorem ref_z (i : Fin 4096) (j : Fin 1024) : val_main_v33 (F := Ideal) x g b p s w (ix2 i j) = zOf x g b p s w (ix2 i j) := by
  refine Eq.trans ?_ (ref_proj x g b p s w i (col 0 1024 (by decide) j))
  pointwise [val_main_v33]
  exact congrArg (fun n => val_main_v32 x g b p s w (ix2 i n)) (Fin.ext (Nat.zero_add j.val).symm)
theorem ref_xbc (i : Fin 4096) (j : Fin 1536) : val_main_v34 (F := Ideal) x g b p s w (ix2 i j) = xbcOf x g b p s w (ix2 i j) := by
  refine Eq.trans ?_ (ref_proj x g b p s w i (col 1024 1536 (by decide) j))
  pointwise [val_main_v34]
theorem ref_q (i : Fin 4096) (j : Fin 1024) : val_main_v39 (F := Ideal) x g b p s w (ix2 i j) = qOf x g b p s w (ix2 i j) := by
  refine Eq.trans ?_ (ref_proj x g b p s w i (col 2576 1024 (by decide) j))
  pointwise [val_main_v36, val_main_v39]
theorem ref_kv (i : Fin 4096) (j : Fin 256) : val_main_v40 (F := Ideal) x g b p s w (ix2 i j) = kvOf x g b p s w (ix2 i j) := by
  refine Eq.trans ?_ (ref_proj x g b p s w i (col 3600 256 (by decide) j))
  pointwise [val_main_v37, val_main_v40]
theorem ref_dt (i : Fin 4096) (j : Fin 128) : val_main_v41 (F := Ideal) x g b p s w (ix2 i j) = dtOf x g b p s w (ix2 i j) := by
  refine Eq.trans ?_ (ref_proj x g b p s w i (col 2560 128 (by decide) j))
  pointwise [val_main_v41]

end Arrays

/-! ## The kernel's payloads -/

section Tile
variable (C : Vec Ideal S512x1024 .f32) (o p q t : Vec Ideal S1x1024 .f32) (U : Vec Ideal S512x1024 .f32) (x5 : Vec Ideal S3856x1024 .bf16)

theorem hat_at (r : Fin 512) (j : Fin 1024) : k0_pay9 (F := Ideal) C (ix2 r j) = hat (fun j => C (ix2 r j)) j := by
  unfold hat rstd cen mean width small k0_pay9 k0_pay8 k0_pay7
  pointwise
theorem rstd_at (r : Fin 512) : k0_pay8 (F := Ideal) C (ix2 r 0) = rstd fun j => C (ix2 r j) := by
  unfold rstd cen mean width small k0_pay8 k0_pay7
  pointwise
theorem mod_at (r : Fin 512) (j : Fin 1024) : k0_pay10 (F := Ideal) C o p q t (ix2 r j)
    = modul (fun j => k0_pay9 (F := Ideal) C (ix2 r j)) (fun j => o (ix2 0 j)) (fun j => p (ix2 0 j)) (fun j => q (ix2 0 j)) (fun j => t (ix2 0 j)) j := by
  unfold modul k0_pay10
  pointwise
theorem round_at (r : Fin 512) (j : Fin 1024) : k0_pay1 (F := Ideal) U (ix2 r j) = U (ix2 r j) := by
  unfold k0_pay1
  pointwise
theorem z_at (r : Fin 512) (j : Fin 1024) (h) : k0_pay2 (F := Ideal) U (View.ld x5 (Rect.unit ![0, 0] ![1024, 1024] h)) (ix2 r j)
    = ∑ k, U (ix2 r k) * x5 (ix2 (col 0 1024 (by decide) j) k) := by
  unfold k0_pay2 k0_pay1
  pointwise
  exact Finset.sum_congr rfl fun k _ => congrArg (fun n => U (ix2 r k) * x5 (ix2 n k)) (Fin.ext (Nat.zero_add j.val).symm)
theorem xbc_at (r : Fin 512) (j : Fin 1536) (h) : k0_pay3 (F := Ideal) U (View.ld x5 (Rect.unit ![1024, 0] ![1536, 1024] h)) (ix2 r j)
    = ∑ k, U (ix2 r k) * x5 (ix2 (col 1024 1536 (by decide) j) k) := by
  unfold k0_pay3 k0_pay1
  pointwise
theorem q_at (r : Fin 512) (j : Fin 1024) (h) : k0_pay4 (F := Ideal) U (View.ld x5 (Rect.unit ![2576, 0] ![1024, 1024] h)) (ix2 r j)
    = ∑ k, U (ix2 r k) * x5 (ix2 (col 2576 1024 (by decide) j) k) := by
  unfold k0_pay4 k0_pay1
  pointwise
theorem kv_at (r : Fin 512) (j : Fin 256) (h) : k0_pay5 (F := Ideal) U (View.ld x5 (Rect.unit ![3600, 0] ![256, 1024] h)) (ix2 r j)
    = ∑ k, U (ix2 r k) * x5 (ix2 (col 3600 256 (by decide) j) k) := by
  unfold k0_pay5 k0_pay1
  pointwise
theorem dt_at (r : Fin 512) (j : Fin 128) (h) : k0_pay6 (F := Ideal) U (View.ld x5 (Rect.unit ![2560, 0] ![128, 1024] h)) (ix2 r j)
    = ∑ k, U (ix2 r k) * x5 (ix2 (col 2560 128 (by decide) j) k) := by
  unfold k0_pay6 k0_pay1
  pointwise
end Tile

/-! ## The arrays the kernel leaves -/

section Kernel

variable (m : (ℓ : Loc nD τ sig) → Buf (Elt Ideal) ℓ) (c : Dev nD)

/-- The arguments. -/
abbrev inX : Vec Ideal S4096x1024 .f32 := m ((c : Thread nD τ).loc main_arg0)
abbrev inG : Vec Ideal S1024 .f32 := m ((c : Thread nD τ).loc main_arg1)
abbrev inB : Vec Ideal S1024 .f32 := m ((c : Thread nD τ).loc main_arg2)
abbrev inP : Vec Ideal S1024 .f32 := m ((c : Thread nD τ).loc main_arg3)
abbrev inS : Vec Ideal S1024 .f32 := m ((c : Thread nD τ).loc main_arg4)
abbrev inW : Vec Ideal S1024x3856 .f32 := m ((c : Thread nD τ).loc main_arg5)

theorem V_g (j : Fin 1024) : (V m c main_v0 : Vec Ideal S1x1024 .f32) (ix2 0 j) = inG m c (ix1 j) := by
  have e : (V m c main_v0 : Vec Ideal S1x1024 .f32) = shapeCast S1x1024 (inG m c) shapeCasts_S1024_S1x1024 := by
    unfold V hostOps0
    after_results
    try rfl
  rw [e]
  pointwise
theorem V_b (j : Fin 1024) : (V m c main_v1 : Vec Ideal S1x1024 .f32) (ix2 0 j) = inB m c (ix1 j) := by
  have e : (V m c main_v1 : Vec Ideal S1x1024 .f32) = shapeCast S1x1024 (inB m c) shapeCasts_S1024_S1x1024 := by
    unfold V hostOps0
    after_results
    try rfl
  rw [e]
  pointwise
theorem V_p (j : Fin 1024) : (V m c main_v2 : Vec Ideal S1x1024 .f32) (ix2 0 j) = inP m c (ix1 j) := by
  have e : (V m c main_v2 : Vec Ideal S1x1024 .f32) = shapeCast S1x1024 (inP m c) shapeCasts_S1024_S1x1024 := by
    unfold V hostOps0
    after_results
    try rfl
  rw [e]
  pointwise
theorem V_s (j : Fin 1024) : (V m c main_v3 : Vec Ideal S1x1024 .f32) (ix2 0 j) = inS m c (ix1 j) := by
  have e : (V m c main_v3 : Vec Ideal S1x1024 .f32) = shapeCast S1x1024 (inS m c) shapeCasts_S1024_S1x1024 := by
    unfold V hostOps0
    after_results
    try rfl
  rw [e]
  pointwise
theorem V_w (n : Fin 3856) (k : Fin 1024) : (V m c main_v5 : Vec Ideal S3856x1024 .bf16) (ix2 n k) = inW m c (ix2 k n) := by
  have e : (V m c main_v5 : Vec Ideal S3856x1024 .bf16)
      = (truncf (F := Ideal) .bf16 (transpose S3856x1024 [1, 0] (inW m c) transposes_S1024x3856_S3856x1024_1_0) bitsLt_bf16_f32 : Vec Ideal S3856x1024 .bf16) := by
    unfold V hostOps0
    after_results
    try rfl
  rw [e]
  pointwise

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![t.val, 0] := by decide +kernel
theorem idx7 : ∀ t : Fin grid0.N, win0_7.index t = ![t.val, 0] := by decide +kernel
theorem idx8 : ∀ t : Fin grid0.N, win0_8.index t = ![t.val, 0] := by decide +kernel
theorem idx9 : ∀ t : Fin grid0.N, win0_9.index t = ![t.val, 0] := by decide +kernel
theorem idx10 : ∀ t : Fin grid0.N, win0_10.index t = ![t.val, 0] := by decide +kernel
theorem idx11 : ∀ t : Fin grid0.N, win0_11.index t = ![t.val, 0] := by decide +kernel
theorem idx12 : ∀ t : Fin grid0.N, win0_12.index t = ![t.val, 0] := by decide +kernel
theorem idx13 : ∀ t : Fin grid0.N, win0_13.index t = ![t.val, 0] := by decide +kernel
theorem lt_N (t : Fin cfg0.N) : t.val < 8 := lt_of_lt_of_eq t.isLt N_0

section Reads
variable (t : Fin cfg0.N)

theorem x_read (r : Fin 512) (j : Fin 1024) : iblk m c 0 t (ix2 r j) = inX m c (ix2 ⟨t.val * 512 + r.val, by have := lt_N t; omega⟩ j) := by
  refine Eq.trans ?_ (congrFun (V_main_arg0 m c) _)
  blk_ext [iblk, V, idx0 t]
theorem g_read (j : Fin 1024) : iblk m c 1 t (ix2 0 j) = inG m c (ix1 j) := by
  rw [← V_g m c j]
  blk_ext [iblk, V, idx1 t]
theorem b_read (j : Fin 1024) : iblk m c 2 t (ix2 0 j) = inB m c (ix1 j) := by
  rw [← V_b m c j]
  blk_ext [iblk, V, idx2 t]
theorem p_read (j : Fin 1024) : iblk m c 3 t (ix2 0 j) = inP m c (ix1 j) := by
  rw [← V_p m c j]
  blk_ext [iblk, V, idx3 t]
theorem s_read (j : Fin 1024) : iblk m c 4 t (ix2 0 j) = inS m c (ix1 j) := by
  rw [← V_s m c j]
  blk_ext [iblk, V, idx4 t]
theorem w_read (n : Fin 3856) (k : Fin 1024) : iblk m c 5 t (ix2 n k) = inW m c (ix2 k n) := by
  rw [← V_w m c n k]
  blk_ext [iblk, V, idx5 t]

theorem hat_tile (r : Fin 512) (j : Fin 1024) : k0_pay9 (F := Ideal) (iblk m c 0 t) (ix2 r j)
    = hat (fun j => inX m c (ix2 ⟨t.val * 512 + r.val, by have := lt_N t; omega⟩ j)) j :=
  (hat_at _ r j).trans (congrFun (congrArg hat (funext fun j => x_read m c t r j)) j)
theorem mod_tile (r : Fin 512) (j : Fin 1024) :
    k0_pay10 (F := Ideal) (iblk m c 0 t) (iblk m c 1 t) (iblk m c 2 t) (iblk m c 3 t) (iblk m c 4 t) (ix2 r j)
    = modA (inX m c) (inG m c) (inB m c) (inP m c) (inS m c) ⟨t.val * 512 + r.val, by have := lt_N t; omega⟩ j :=
  (mod_at _ _ _ _ _ r j).trans (modul_congr (hat_tile m c t r) (g_read m c t) (b_read m c t) (p_read m c t) (s_read m c t) j)
/-- A product with one row of the transposed weight. -/
theorem proj_tile (r : Fin 512) (n : Fin 3856) :
    ∑ k, k0_pay10 (F := Ideal) (iblk m c 0 t) (iblk m c 1 t) (iblk m c 2 t) (iblk m c 3 t) (iblk m c 4 t) (ix2 r k) * iblk m c 5 t (ix2 n k)
    = projA (inX m c) (inG m c) (inB m c) (inP m c) (inS m c) (inW m c) ⟨t.val * 512 + r.val, by have := lt_N t; omega⟩ n :=
  Finset.sum_congr rfl fun k _ => congrArg₂ (· * ·) (mod_tile m c t r k) (w_read m c t n k)
end Reads

/-- The eight results. -/
abbrev hatOut : Vec Ideal S4096x1024 .f32 := hatOf (inX m c)
abbrev rstdOut : Vec Ideal S4096x1 .f32 := rstdOf (inX m c)
abbrev modOut : Vec Ideal S4096x1024 .bf16 := modOf (inX m c) (inG m c) (inB m c) (inP m c) (inS m c)
abbrev zOut : Vec Ideal S4096x1024 .f32 := zOf (inX m c) (inG m c) (inB m c) (inP m c) (inS m c) (inW m c)
abbrev xbcOut : Vec Ideal S4096x1536 .f32 := xbcOf (inX m c) (inG m c) (inB m c) (inP m c) (inS m c) (inW m c)
abbrev qOut : Vec Ideal S4096x1024 .bf16 := qOf (inX m c) (inG m c) (inB m c) (inP m c) (inS m c) (inW m c)
abbrev kvOut : Vec Ideal S4096x256 .bf16 := kvOf (inX m c) (inG m c) (inB m c) (inP m c) (inS m c) (inW m c)
abbrev dtOut : Vec Ideal S4096x128 .f32 := dtOf (inX m c) (inG m c) (inB m c) (inP m c) (inS m c) (inW m c)

theorem hat_array : (dats m 0 c).arrAt 6 cfg0.N = hatOut m c := by
  refine (dats m 0 c).arrAt_eq_of_covers 6 _ (by decide +kernel) fun t hf y => ?_
  blk_simp
  rw [after0_6]
  unfold_out out0_6
  simp (disch := decide) only [View.canon_cons_unit_lit', View.ld_unit_lit']
  idx_vars y
  have hN := lt_N t
  have e : (win0_6.blk t).view.emb (ix2 y0 y1) = (ix2 ⟨t.val * 512 + y0.val, by omega⟩ y1 : S4096x1024.Idx) := by
    blk_ext [idx6 t]
  refine Eq.trans ?_ (congrArg (hatOut m c) e).symm
  exact hat_tile m c t y0 y1

theorem rstd_array : (dats m 0 c).arrAt 7 cfg0.N = rstdOut m c := by
  refine (dats m 0 c).arrAt_eq_of_covers 7 _ (by decide +kernel) fun t hf y => ?_
  blk_simp
  rw [after0_7]
  unfold_out out0_7
  simp (disch := decide) only [View.canon_cons_unit_lit', View.ld_unit_lit']
  idx_vars y
  obtain rfl : y1 = 0 := Subsingleton.elim _ _
  have hN := lt_N t
  have e : (win0_7.blk t).view.emb (ix2 y0 0) = (ix2 ⟨t.val * 512 + y0.val, by omega⟩ 0 : S4096x1.Idx) := by
    blk_ext [idx7 t]
  refine Eq.trans ?_ (congrArg (rstdOut m c) e).symm
  exact (rstd_at _ y0).trans (congrArg rstd (funext fun j => x_read m c t y0 j))

theorem mod_array : (dats m 0 c).arrAt 8 cfg0.N = modOut m c := by
  refine (dats m 0 c).arrAt_eq_of_covers 8 _ (by decide +kernel) fun t hf y => ?_
  blk_simp
  rw [after0_8]
  unfold_out out0_8
  simp (disch := decide) only [View.canon_cons_unit_lit', View.ld_unit_lit']
  idx_vars y
  have hN := lt_N t
  have e : (win0_8.blk t).view.emb (ix2 y0 y1) = (ix2 ⟨t.val * 512 + y0.val, by omega⟩ y1 : S4096x1024.Idx) := by
    blk_ext [idx8 t]
  refine Eq.trans ?_ (congrArg (modOut m c) e).symm
  exact (round_at _ y0 y1).trans (mod_tile m c t y0 y1)

theorem z_array : (dats m 0 c).arrAt 9 cfg0.N = zOut m c := by
  refine (dats m 0 c).arrAt_eq_of_covers 9 _ (by decide +kernel) fun t hf y => ?_
  blk_simp
  rw [after0_9]
  unfold_out out0_9
  simp (disch := decide) only [View.canon_cons_unit_lit', View.ld_unit_lit']
  idx_vars y
  have hN := lt_N t
  have e : (win0_9.blk t).view.emb (ix2 y0 y1) = (ix2 ⟨t.val * 512 + y0.val, by omega⟩ y1 : S4096x1024.Idx) := by
    blk_ext [idx9 t]
  refine Eq.trans ?_ (congrArg (zOut m c) e).symm
  exact (z_at _ _ y0 y1 _).trans (proj_tile m c t y0 (col 0 1024 (by decide) y1))

theorem xbc_array : (dats m 0 c).arrAt 10 cfg0.N = xbcOut m c := by
  refine (dats m 0 c).arrAt_eq_of_covers 10 _ (by decide +kernel) fun t hf y => ?_
  blk_simp
  rw [after0_10]
  unfold_out out0_10
  simp (disch := decide) only [View.canon_cons_unit_lit', View.ld_unit_lit']
  idx_vars y
  have hN := lt_N t
  have e : (win0_10.blk t).view.emb (ix2 y0 y1) = (ix2 ⟨t.val * 512 + y0.val, by omega⟩ y1 : S4096x1536.Idx) := by
    blk_ext [idx10 t]
  refine Eq.trans ?_ (congrArg (xbcOut m c) e).symm
  exact (xbc_at _ _ y0 y1 _).trans (proj_tile m c t y0 (col 1024 1536 (by decide) y1))

theorem q_array : (dats m 0 c).arrAt 11 cfg0.N = qOut m c := by
  refine (dats m 0 c).arrAt_eq_of_covers 11 _ (by decide +kernel) fun t hf y => ?_
  blk_simp
  rw [after0_11]
  unfold_out out0_11
  simp (disch := decide) only [View.canon_cons_unit_lit', View.ld_unit_lit']
  idx_vars y
  have hN := lt_N t
  have e : (win0_11.blk t).view.emb (ix2 y0 y1) = (ix2 ⟨t.val * 512 + y0.val, by omega⟩ y1 : S4096x1024.Idx) := by
    blk_ext [idx11 t]
  refine Eq.trans ?_ (congrArg (qOut m c) e).symm
  exact (q_at _ _ y0 y1 _).trans (proj_tile m c t y0 (col 2576 1024 (by decide) y1))

theorem kv_array : (dats m 0 c).arrAt 12 cfg0.N = kvOut m c := by
  refine (dats m 0 c).arrAt_eq_of_covers 12 _ (by decide +kernel) fun t hf y => ?_
  blk_simp
  rw [after0_12]
  unfold_out out0_12
  simp (disch := decide) only [View.canon_cons_unit_lit', View.ld_unit_lit']
  idx_vars y
  have hN := lt_N t
  have e : (win0_12.blk t).view.emb (ix2 y0 y1) = (ix2 ⟨t.val * 512 + y0.val, by omega⟩ y1 : S4096x256.Idx) := by
    blk_ext [idx12 t]
  refine Eq.trans ?_ (congrArg (kvOut m c) e).symm
  exact (kv_at _ _ y0 y1 _).trans (proj_tile m c t y0 (col 3600 256 (by decide) y1))

theorem dt_array : (dats m 0 c).arrAt 13 cfg0.N = dtOut m c := by
  refine (dats m 0 c).arrAt_eq_of_covers 13 _ (by decide +kernel) fun t hf y => ?_
  blk_simp
  rw [after0_13]
  unfold_out out0_13
  simp (disch := decide) only [View.canon_cons_unit_lit', View.ld_unit_lit']
  idx_vars y
  have hN := lt_N t
  have e : (win0_13.blk t).view.emb (ix2 y0 y1) = (ix2 ⟨t.val * 512 + y0.val, by omega⟩ y1 : S4096x128.Idx) := by
    blk_ext [idx13 t]
  refine Eq.trans ?_ (congrArg (dtOut m c) e).symm
  exact (dt_at _ _ y0 y1 _).trans (proj_tile m c t y0 (col 2560 128 (by decide) y1))

end Kernel

/-- Kernel and reference leave the same eight arrays, whatever the arguments. -/
theorem equal : Cert.algebraic_Kernel9Ideal_Reference9Ideal := by
  intro m g m' g' _ hagree
  refine ⟨fun c => hatOut m c, fun c => rstdOut m c, fun c => modOut m c, fun c => zOut m c, fun c => xbcOut m c, fun c => qOut m c, fun c => kvOut m c, fun c => dtOut m c, ?_, ?_⟩
  · exact (θ_run _ _ _).mono (fun r h c => ⟨(h c).1.trans (hat_array m c),
      (h c).2.1.trans (rstd_array m c),
      (h c).2.2.1.trans (mod_array m c),
      (h c).2.2.2.1.trans (z_array m c),
      (h c).2.2.2.2.1.trans (xbc_array m c),
      (h c).2.2.2.2.2.1.trans (q_array m c),
      (h c).2.2.2.2.2.2.1.trans (kv_array m c),
      (h c).2.2.2.2.2.2.2.1.trans (dt_array m c),
      (h c).2.2.2.2.2.2.2.2⟩) (Cert.Kernel9Ideal.Value.run_blocks (F := Ideal) m g)
  · refine (θ_run _ _ _).mono (fun r h c => ?_) (Cert.Reference9Ideal.Value.run (F := Ideal) m' g')
    obtain ⟨e0, e1, e2, e3, e4, e5⟩ := hagree c
    have h := h c
    refine ⟨h.1.trans ((val_main_v17_eq ..).trans ?_),
      h.2.1.trans ((val_main_v13_eq ..).trans ?_),
      h.2.2.1.trans ((val_main_v38_eq ..).trans ?_),
      h.2.2.2.1.trans ((val_main_v33_eq ..).trans ?_),
      h.2.2.2.2.1.trans ((val_main_v34_eq ..).trans ?_),
      h.2.2.2.2.2.1.trans ((val_main_v39_eq ..).trans ?_),
      h.2.2.2.2.2.2.1.trans ((val_main_v40_eq ..).trans ?_),
      h.2.2.2.2.2.2.2.1.trans ((val_main_v41_eq ..).trans ?_),
      h.2.2.2.2.2.2.2.2⟩
    · rw [e0]; funext y; idx_vars y; exact ref_hat _ y0 y1
    · rw [e0]; funext y; idx_vars y
      obtain rfl : y1 = 0 := Subsingleton.elim _ _
      exact ref_rstd _ y0
    · rw [e0, e1, e2, e3, e4]; funext y; idx_vars y; exact ref_mod _ _ _ _ _ y0 y1
    · rw [e0, e1, e2, e3, e4, e5]; funext y; idx_vars y; exact ref_z _ _ _ _ _ _ y0 y1
    · rw [e0, e1, e2, e3, e4, e5]; funext y; idx_vars y; exact ref_xbc _ _ _ _ _ _ y0 y1
    · rw [e0, e1, e2, e3, e4, e5]; funext y; idx_vars y; exact ref_q _ _ _ _ _ _ y0 y1
    · rw [e0, e1, e2, e3, e4, e5]; funext y; idx_vars y; exact ref_kv _ _ _ _ _ _ y0 y1
    · rw [e0, e1, e2, e3, e4, e5]; funext y; idx_vars y; exact ref_dt _ _ _ _ _ _ y0 y1

end Cert.Proj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Kernel2
public import proofs.«01_k».proof.Proof.Gen.Kernel2Ideal
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.ReferenceIdeal.Run
public import proofs.«01_k».proof.Proof.Gen.ReferenceIdeal.Read
public import proofs.«01_k».proof.Proof.ConvReference
public import proofs.«01_k».proof.Proof.SwaValue
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.MlpValue
public import proofs.«01_k».proof.Proof.FwdValue
public import proofs.«01_k».proof.Proof.LossValue
public import proofs.«01_k».proof.Proof.InValue
public import proofs.«01_k».proof.Proof.MidValue
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.OutValue
public import proofs.«01_k».proof.Proof.ProjValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference ends with the arguments unchanged; it declares no semaphore. -/
theorem reference_frame : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- Kernel and reference leave the same two arrays. -/
theorem conv_equal : Cert.algebraic_KernelIdeal_ReferenceIdeal := by
  intro m g m' g' _ hagree
  refine ⟨fun c => Cert.Conv.duOf (m ((c.tc : Thread _ _).loc Cert.KernelIdeal.main_arg1)) (m ((c.tc : Thread _ _).loc Cert.KernelIdeal.main_arg3)),
    fun c => Cert.Conv.accOf (m ((c.tc : Thread _ _).loc Cert.KernelIdeal.main_arg0)) (m ((c.tc : Thread _ _).loc Cert.KernelIdeal.main_arg3)), ?_, ?_⟩
  · exact (θ_run _ _ _).mono (fun r h c => ⟨(h c).1.trans (Cert.Conv.du_array m c), (h c).2.1.trans (Cert.Conv.acc_array m c), (h c).2.2⟩)
      (Cert.KernelIdeal.Value.run_blocks (F := Ideal) m g)
  · refine (θ_run _ _ _).mono (fun r h c => ⟨(h c).1.trans ?_, (h c).2.1.trans ?_, (h c).2.2⟩) (Cert.ReferenceIdeal.Value.run (F := Ideal) m' g')
    · obtain ⟨h0, h1, h2, h3⟩ := hagree c
      exact (Cert.ReferenceIdeal.Read.val_main_v81_eq _ _).trans ((Cert.Conv.ref_du _ _).trans (congrArg₂ Cert.Conv.duOf h1 h3))
    · obtain ⟨h0, h1, h2, h3⟩ := hagree c
      exact (Cert.ReferenceIdeal.Read.val_main_v84_eq _ _).trans ((Cert.Conv.ref_acc _ _).trans (congrArg₂ Cert.Conv.accOf h0 h3))

/-- The same of the further references. -/
theorem reference3_frame : Cert.quiescent_Reference3Ideal := fun m ρ _ =>
  (θ_run Cert.Reference3Ideal.defs _ _).mono (fun r h => ⟨fun c => (h c).2.2.2.2,
      Idealize.ShloMosaic.sem_eq_zero_of_no_sems (by decide) r.2⟩)
    (Cert.Reference3Ideal.Value.run (F := Ideal) m ρ)

theorem reference4_frame : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

theorem reference5_frame : Cert.quiescent_Reference5Ideal := fun m ρ _ =>
  (θ_run Cert.Reference5Ideal.defs _ _).mono (fun r h => ⟨fun c => (h c).2.2.2.2,
      Idealize.ShloMosaic.sem_eq_zero_of_no_sems (by decide) r.2⟩)
    (Cert.Reference5Ideal.Value.run (F := Ideal) m ρ)

theorem reference6_frame : Cert.quiescent_Reference6Ideal := fun m ρ _ =>
  (θ_run Cert.Reference6Ideal.defs _ _).mono (fun r h => ⟨fun c => (h c).2.2.2.2.2,
      Idealize.ShloMosaic.sem_eq_zero_of_no_sems (by decide) r.2⟩)
    (Cert.Reference6Ideal.Value.run (F := Ideal) m ρ)

theorem reference7_frame : Cert.quiescent_Reference7Ideal := fun m ρ _ =>
  (θ_run Cert.Reference7Ideal.defs _ _).mono (fun r h => ⟨fun c => (h c).2.2,
      Idealize.ShloMosaic.sem_eq_zero_of_no_sems (by decide) r.2⟩)
    (Cert.Reference7Ideal.Value.run (F := Ideal) m ρ)

theorem reference8_frame : Cert.quiescent_Reference8Ideal := fun m ρ _ =>
  (θ_run Cert.Reference8Ideal.defs _ _).mono (fun r h => ⟨fun c => (h c).2.2.2.2,
      Idealize.ShloMosaic.sem_eq_zero_of_no_sems (by decide) r.2⟩)
    (Cert.Reference8Ideal.Value.run (F := Ideal) m ρ)

theorem reference9_frame : Cert.quiescent_Reference9Ideal := fun m ρ _ =>
  (θ_run Cert.Reference9Ideal.defs _ _).mono (fun r h => ⟨fun c => (h c).2.2.2.2.2.2.2.2,
      Idealize.ShloMosaic.sem_eq_zero_of_no_sems (by decide) r.2⟩)
    (Cert.Reference9Ideal.Value.run (F := Ideal) m ρ)

/-- Every named mask of the forward attention is read as −∞. -/
theorem masks4 : Cert.preserves_Kernel4_Kernel4Ideal :=
  IdealRules.named_const.statement _ _ _ _ _ rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Swa.pre_facts, Cert.Fwd.pre_facts, Cert.Loss.pre_facts, Cert.Mid.pre_facts, Cert.In.pre_facts, by
  exact ⟨fun m ρ _ => Cert.Kernel.Gen.frame m ρ, fun m ρ _ => Cert.KernelIdeal.Gen.frame m ρ, reference_frame,
    Cert.Swa.frame_words, Cert.Swa.frame_ideal, fun m ρ _ => Cert.Swa.frame_ideal m ρ trivial, Cert.Swa.frame_reference,
    fun m ρ _ => Cert.Swa.frame_reference m ρ trivial,
    fun m ρ _ => Cert.Kernel3.Gen.frame m ρ, fun m ρ _ => Cert.Kernel3Ideal.Gen.frame m ρ, reference3_frame,
    fun m ρ _ => Cert.Kernel4.Gen.frame m ρ, fun m ρ _ => Cert.Kernel4Ideal.Gen.frame m ρ, fun m ρ _ => Cert.Kernel4Ideal.Gen.frame m ρ,
    reference4_frame, fun m ρ _ => reference4_frame m ρ trivial,
    fun m ρ _ => Cert.Kernel5.Gen.frame m ρ, fun m ρ _ => Cert.Kernel5Ideal.Gen.frame m ρ, fun m ρ _ => Cert.Kernel5Ideal.Gen.frame m ρ,
    reference5_frame, fun m ρ _ => reference5_frame m ρ trivial,
    fun m ρ _ => Cert.Kernel6.Gen.frame m ρ, fun m ρ _ => Cert.Kernel6Ideal.Gen.frame m ρ, fun m ρ _ => Cert.Kernel6Ideal.Gen.frame m ρ,
    reference6_frame, fun m ρ _ => reference6_frame m ρ trivial,
    fun m ρ _ => Cert.Kernel7.Gen.frame m ρ, fun m ρ _ => Cert.Kernel7Ideal.Gen.frame m ρ, fun m ρ _ => Cert.Kernel7Ideal.Gen.frame m ρ,
    reference7_frame, fun m ρ _ => reference7_frame m ρ trivial,
    fun m ρ _ => Cert.Kernel8.Gen.frame m ρ, fun m ρ _ => Cert.Kernel8Ideal.Gen.frame m ρ, reference8_frame,
    fun m ρ _ => Cert.Kernel9.Gen.frame m ρ, fun m ρ _ => Cert.Kernel9Ideal.Gen.frame m ρ, reference9_frame,
    trivial, conv_equal, Cert.Swa.masks, Cert.Swa.equal, trivial, Cert.Mlp.equal, masks4, Cert.Fwd.equal, trivial, Cert.Loss.equal,
    trivial, Cert.Mid.equal, trivial, Cert.In.equal,
    trivial, Cert.Out.equal, trivial, Cert.Proj.equal⟩⟩

end Cert.Proof

end
